-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2.2 = (fun _ => 1#1)

def Pre_Experts (m : (ℓ : Loc Cert.Experts.nD Cert.Experts.τ Cert.Experts.sig) → Buf (Elt Bits) ℓ) : Prop :=
  True

def Pre_ExpertsIdeal (m : (ℓ : Loc Cert.ExpertsIdeal.nD Cert.ExpertsIdeal.τ Cert.ExpertsIdeal.sig) → Buf (Elt Ideal) ℓ) : Prop :=
  True

def Pre_ExpertsRefIdeal (m : (ℓ : Loc Cert.ExpertsRefIdeal.nD Cert.ExpertsRefIdeal.τ Cert.ExpertsRefIdeal.sig) → Buf (Elt Ideal) ℓ) : Prop :=
  True

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectRefIdeal (m : (ℓ : Loc Cert.ProjectRefIdeal.nD Cert.ProjectRefIdeal.τ Cert.ProjectRefIdeal.sig) → Buf (Elt Ideal) ℓ) : Prop :=
  True

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombineRefIdeal (m : (ℓ : Loc Cert.CombineRefIdeal.nD Cert.CombineRefIdeal.τ Cert.CombineRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjIdeal_finite_inputs [hPre_finite_inputs : Cert.Pre_finite_inputs.Facts] (m : (ℓ : Loc Cert.OutProjIdeal.nD Cert.OutProjIdeal.τ Cert.OutProjIdeal.sig) → Buf (Elt Ideal) ℓ) : Prop :=
  ∀ c : Dev Cert.OutProjIdeal.nD,
    (Cert.Pre_finite_inputs.fn (F := Ideal) (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)) (m ((c.tc : Thread Cert.OutProjIdeal.nD Cert.OutProjIdeal.τ).loc Cert.OutProjIdeal.main_arg2)) (m ((c.tc : Thread Cert.OutProjIdeal.nD Cert.OutProjIdeal.τ).loc Cert.OutProjIdeal.main_arg3)) (m ((c.tc : Thread Cert.OutProjIdeal.nD Cert.OutProjIdeal.τ).loc Cert.OutProjIdeal.main_arg4)) (m ((c.tc : Thread Cert.OutProjIdeal.nD Cert.OutProjIdeal.τ).loc Cert.OutProjIdeal.main_arg5)) (m ((c.tc : Thread Cert.OutProjIdeal.nD Cert.OutProjIdeal.τ).loc Cert.OutProjIdeal.main_arg6))).1 = (fun _ => 1#1)
    ∧ (Cert.Pre_finite_inputs.fn (F := Ideal) (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)) (m ((c.tc : Thread Cert.OutProjIdeal.nD Cert.OutProjIdeal.τ).loc Cert.OutProjIdeal.main_arg2)) (m ((c.tc : Thread Cert.OutProjIdeal.nD Cert.OutProjIdeal.τ).loc Cert.OutProjIdeal.main_arg3)) (m ((c.tc : Thread Cert.OutProjIdeal.nD Cert.OutProjIdeal.τ).loc Cert.OutProjIdeal.main_arg4)) (m ((c.tc : Thread Cert.OutProjIdeal.nD Cert.OutProjIdeal.τ).loc Cert.OutProjIdeal.main_arg5)) (m ((c.tc : Thread Cert.OutProjIdeal.nD Cert.OutProjIdeal.τ).loc Cert.OutProjIdeal.main_arg6))).2.1 = (fun _ => 1#1)
    ∧ (Cert.Pre_finite_inputs.fn (F := Ideal) (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)) (m ((c.tc : Thread Cert.OutProjIdeal.nD Cert.OutProjIdeal.τ).loc Cert.OutProjIdeal.main_arg2)) (m ((c.tc : Thread Cert.OutProjIdeal.nD Cert.OutProjIdeal.τ).loc Cert.OutProjIdeal.main_arg3)) (m ((c.tc : Thread Cert.OutProjIdeal.nD Cert.OutProjIdeal.τ).loc Cert.OutProjIdeal.main_arg4)) (m ((c.tc : Thread Cert.OutProjIdeal.nD Cert.OutProjIdeal.τ).loc Cert.OutProjIdeal.main_arg5)) (m ((c.tc : Thread Cert.OutProjIdeal.nD Cert.OutProjIdeal.τ).loc Cert.OutProjIdeal.main_arg6))).2.2.1 = (fun _ => 1#1)
    ∧ (Cert.Pre_finite_inputs.fn (F := Ideal) (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)) (m ((c.tc : Thread Cert.OutProjIdeal.nD Cert.OutProjIdeal.τ).loc Cert.OutProjIdeal.main_arg2)) (m ((c.tc : Thread Cert.OutProjIdeal.nD Cert.OutProjIdeal.τ).loc Cert.OutProjIdeal.main_arg3)) (m ((c.tc : Thread Cert.OutProjIdeal.nD Cert.OutProjIdeal.τ).loc Cert.OutProjIdeal.main_arg4)) (m ((c.tc : Thread Cert.OutProjIdeal.nD Cert.OutProjIdeal.τ).loc Cert.OutProjIdeal.main_arg5)) (m ((c.tc : Thread Cert.OutProjIdeal.nD Cert.OutProjIdeal.τ).loc Cert.OutProjIdeal.main_arg6))).2.2.2.1 = (fun _ => 1#1)
    ∧ (Cert.Pre_finite_inputs.fn (F := Ideal) (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)) (m ((c.tc : Thread Cert.OutProjIdeal.nD Cert.OutProjIdeal.τ).loc Cert.OutProjIdeal.main_arg2)) (m ((c.tc : Thread Cert.OutProjIdeal.nD Cert.OutProjIdeal.τ).loc Cert.OutProjIdeal.main_arg3)) (m ((c.tc : Thread Cert.OutProjIdeal.nD Cert.OutProjIdeal.τ).loc Cert.OutProjIdeal.main_arg4)) (m ((c.tc : Thread Cert.OutProjIdeal.nD Cert.OutProjIdeal.τ).loc Cert.OutProjIdeal.main_arg5)) (m ((c.tc : Thread Cert.OutProjIdeal.nD Cert.OutProjIdeal.τ).loc Cert.OutProjIdeal.main_arg6))).2.2.2.2.1 = (fun _ => 1#1)
    ∧ (Cert.Pre_finite_inputs.fn (F := Ideal) (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)) (m ((c.tc : Thread Cert.OutProjIdeal.nD Cert.OutProjIdeal.τ).loc Cert.OutProjIdeal.main_arg2)) (m ((c.tc : Thread Cert.OutProjIdeal.nD Cert.OutProjIdeal.τ).loc Cert.OutProjIdeal.main_arg3)) (m ((c.tc : Thread Cert.OutProjIdeal.nD Cert.OutProjIdeal.τ).loc Cert.OutProjIdeal.main_arg4)) (m ((c.tc : Thread Cert.OutProjIdeal.nD Cert.OutProjIdeal.τ).loc Cert.OutProjIdeal.main_arg5)) (m ((c.tc : Thread Cert.OutProjIdeal.nD Cert.OutProjIdeal.τ).loc Cert.OutProjIdeal.main_arg6))).2.2.2.2.2.1 = (fun _ => 1#1)
    ∧ (Cert.Pre_finite_inputs.fn (F := Ideal) (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)) (m ((c.tc : Thread Cert.OutProjIdeal.nD Cert.OutProjIdeal.τ).loc Cert.OutProjIdeal.main_arg2)) (m ((c.tc : Thread Cert.OutProjIdeal.nD Cert.OutProjIdeal.τ).loc Cert.OutProjIdeal.main_arg3)) (m ((c.tc : Thread Cert.OutProjIdeal.nD Cert.OutProjIdeal.τ).loc Cert.OutProjIdeal.main_arg4)) (m ((c.tc : Thread Cert.OutProjIdeal.nD Cert.OutProjIdeal.τ).loc Cert.OutProjIdeal.main_arg5)) (m ((c.tc : Thread Cert.OutProjIdeal.nD Cert.OutProjIdeal.τ).loc Cert.OutProjIdeal.main_arg6))).2.2.2.2.2.2 = (fun _ => 1#1)

def Pre_OutProjRefIdeal (m : (ℓ : Loc Cert.OutProjRefIdeal.nD Cert.OutProjRefIdeal.τ Cert.OutProjRefIdeal.sig) → Buf (Elt Ideal) ℓ) : Prop :=
  True

def Pre_OutProjRefIdeal_finite_inputs [hPre_finite_inputs : Cert.Pre_finite_inputs.Facts] (m : (ℓ : Loc Cert.OutProjRefIdeal.nD Cert.OutProjRefIdeal.τ Cert.OutProjRefIdeal.sig) → Buf (Elt Ideal) ℓ) : Prop :=
  ∀ c : Dev Cert.OutProjRefIdeal.nD,
    (Cert.Pre_finite_inputs.fn (F := Ideal) (m ((c.tc : Thread Cert.OutProjRefIdeal.nD Cert.OutProjRefIdeal.τ).loc Cert.OutProjRefIdeal.main_arg0)) (m ((c.tc : Thread Cert.OutProjRefIdeal.nD Cert.OutProjRefIdeal.τ).loc Cert.OutProjRefIdeal.main_arg1)) (m ((c.tc : Thread Cert.OutProjRefIdeal.nD Cert.OutProjRefIdeal.τ).loc Cert.OutProjRefIdeal.main_arg2)) (m ((c.tc : Thread Cert.OutProjRefIdeal.nD Cert.OutProjRefIdeal.τ).loc Cert.OutProjRefIdeal.main_arg3)) (m ((c.tc : Thread Cert.OutProjRefIdeal.nD Cert.OutProjRefIdeal.τ).loc Cert.OutProjRefIdeal.main_arg4)) (m ((c.tc : Thread Cert.OutProjRefIdeal.nD Cert.OutProjRefIdeal.τ).loc Cert.OutProjRefIdeal.main_arg5)) (m ((c.tc : Thread Cert.OutProjRefIdeal.nD Cert.OutProjRefIdeal.τ).loc Cert.OutProjRefIdeal.main_arg6))).1 = (fun _ => 1#1)
    ∧ (Cert.Pre_finite_inputs.fn (F := Ideal) (m ((c.tc : Thread Cert.OutProjRefIdeal.nD Cert.OutProjRefIdeal.τ).loc Cert.OutProjRefIdeal.main_arg0)) (m ((c.tc : Thread Cert.OutProjRefIdeal.nD Cert.OutProjRefIdeal.τ).loc Cert.OutProjRefIdeal.main_arg1)) (m ((c.tc : Thread Cert.OutProjRefIdeal.nD Cert.OutProjRefIdeal.τ).loc Cert.OutProjRefIdeal.main_arg2)) (m ((c.tc : Thread Cert.OutProjRefIdeal.nD Cert.OutProjRefIdeal.τ).loc Cert.OutProjRefIdeal.main_arg3)) (m ((c.tc : Thread Cert.OutProjRefIdeal.nD Cert.OutProjRefIdeal.τ).loc Cert.OutProjRefIdeal.main_arg4)) (m ((c.tc : Thread Cert.OutProjRefIdeal.nD Cert.OutProjRefIdeal.τ).loc Cert.OutProjRefIdeal.main_arg5)) (m ((c.tc : Thread Cert.OutProjRefIdeal.nD Cert.OutProjRefIdeal.τ).loc Cert.OutProjRefIdeal.main_arg6))).2.1 = (fun _ => 1#1)
    ∧ (Cert.Pre_finite_inputs.fn (F := Ideal) (m ((c.tc : Thread Cert.OutProjRefIdeal.nD Cert.OutProjRefIdeal.τ).loc Cert.OutProjRefIdeal.main_arg0)) (m ((c.tc : Thread Cert.OutProjRefIdeal.nD Cert.OutProjRefIdeal.τ).loc Cert.OutProjRefIdeal.main_arg1)) (m ((c.tc : Thread Cert.OutProjRefIdeal.nD Cert.OutProjRefIdeal.τ).loc Cert.OutProjRefIdeal.main_arg2)) (m ((c.tc : Thread Cert.OutProjRefIdeal.nD Cert.OutProjRefIdeal.τ).loc Cert.OutProjRefIdeal.main_arg3)) (m ((c.tc : Thread Cert.OutProjRefIdeal.nD Cert.OutProjRefIdeal.τ).loc Cert.OutProjRefIdeal.main_arg4)) (m ((c.tc : Thread Cert.OutProjRefIdeal.nD Cert.OutProjRefIdeal.τ).loc Cert.OutProjRefIdeal.main_arg5)) (m ((c.tc : Thread Cert.OutProjRefIdeal.nD Cert.OutProjRefIdeal.τ).loc Cert.OutProjRefIdeal.main_arg6))).2.2.1 = (fun _ => 1#1)
    ∧ (Cert.Pre_finite_inputs.fn (F := Ideal) (m ((c.tc : Thread Cert.OutProjRefIdeal.nD Cert.OutProjRefIdeal.τ).loc Cert.OutProjRefIdeal.main_arg0)) (m ((c.tc : Thread Cert.OutProjRefIdeal.nD Cert.OutProjRefIdeal.τ).loc Cert.OutProjRefIdeal.main_arg1)) (m ((c.tc : Thread Cert.OutProjRefIdeal.nD Cert.OutProjRefIdeal.τ).loc Cert.OutProjRefIdeal.main_arg2)) (m ((c.tc : Thread Cert.OutProjRefIdeal.nD Cert.OutProjRefIdeal.τ).loc Cert.OutProjRefIdeal.main_arg3)) (m ((c.tc : Thread Cert.OutProjRefIdeal.nD Cert.OutProjRefIdeal.τ).loc Cert.OutProjRefIdeal.main_arg4)) (m ((c.tc : Thread Cert.OutProjRefIdeal.nD Cert.OutProjRefIdeal.τ).loc Cert.OutProjRefIdeal.main_arg5)) (m ((c.tc : Thread Cert.OutProjRefIdeal.nD Cert.OutProjRefIdeal.τ).loc Cert.OutProjRefIdeal.main_arg6))).2.2.2.1 = (fun _ => 1#1)
    ∧ (Cert.Pre_finite_inputs.fn (F := Ideal) (m ((c.tc : Thread Cert.OutProjRefIdeal.nD Cert.OutProjRefIdeal.τ).loc Cert.OutProjRefIdeal.main_arg0)) (m ((c.tc : Thread Cert.OutProjRefIdeal.nD Cert.OutProjRefIdeal.τ).loc Cert.OutProjRefIdeal.main_arg1)) (m ((c.tc : Thread Cert.OutProjRefIdeal.nD Cert.OutProjRefIdeal.τ).loc Cert.OutProjRefIdeal.main_arg2)) (m ((c.tc : Thread Cert.OutProjRefIdeal.nD Cert.OutProjRefIdeal.τ).loc Cert.OutProjRefIdeal.main_arg3)) (m ((c.tc : Thread Cert.OutProjRefIdeal.nD Cert.OutProjRefIdeal.τ).loc Cert.OutProjRefIdeal.main_arg4)) (m ((c.tc : Thread Cert.OutProjRefIdeal.nD Cert.OutProjRefIdeal.τ).loc Cert.OutProjRefIdeal.main_arg5)) (m ((c.tc : Thread Cert.OutProjRefIdeal.nD Cert.OutProjRefIdeal.τ).loc Cert.OutProjRefIdeal.main_arg6))).2.2.2.2.1 = (fun _ => 1#1)
    ∧ (Cert.Pre_finite_inputs.fn (F := Ideal) (m ((c.tc : Thread Cert.OutProjRefIdeal.nD Cert.OutProjRefIdeal.τ).loc Cert.OutProjRefIdeal.main_arg0)) (m ((c.tc : Thread Cert.OutProjRefIdeal.nD Cert.OutProjRefIdeal.τ).loc Cert.OutProjRefIdeal.main_arg1)) (m ((c.tc : Thread Cert.OutProjRefIdeal.nD Cert.OutProjRefIdeal.τ).loc Cert.OutProjRefIdeal.main_arg2)) (m ((c.tc : Thread Cert.OutProjRefIdeal.nD Cert.OutProjRefIdeal.τ).loc Cert.OutProjRefIdeal.main_arg3)) (m ((c.tc : Thread Cert.OutProjRefIdeal.nD Cert.OutProjRefIdeal.τ).loc Cert.OutProjRefIdeal.main_arg4)) (m ((c.tc : Thread Cert.OutProjRefIdeal.nD Cert.OutProjRefIdeal.τ).loc Cert.OutProjRefIdeal.main_arg5)) (m ((c.tc : Thread Cert.OutProjRefIdeal.nD Cert.OutProjRefIdeal.τ).loc Cert.OutProjRefIdeal.main_arg6))).2.2.2.2.2.1 = (fun _ => 1#1)
    ∧ (Cert.Pre_finite_inputs.fn (F := Ideal) (m ((c.tc : Thread Cert.OutProjRefIdeal.nD Cert.OutProjRefIdeal.τ).loc Cert.OutProjRefIdeal.main_arg0)) (m ((c.tc : Thread Cert.OutProjRefIdeal.nD Cert.OutProjRefIdeal.τ).loc Cert.OutProjRefIdeal.main_arg1)) (m ((c.tc : Thread Cert.OutProjRefIdeal.nD Cert.OutProjRefIdeal.τ).loc Cert.OutProjRefIdeal.main_arg2)) (m ((c.tc : Thread Cert.OutProjRefIdeal.nD Cert.OutProjRefIdeal.τ).loc Cert.OutProjRefIdeal.main_arg3)) (m ((c.tc : Thread Cert.OutProjRefIdeal.nD Cert.OutProjRefIdeal.τ).loc Cert.OutProjRefIdeal.main_arg4)) (m ((c.tc : Thread Cert.OutProjRefIdeal.nD Cert.OutProjRefIdeal.τ).loc Cert.OutProjRefIdeal.main_arg5)) (m ((c.tc : Thread Cert.OutProjRefIdeal.nD Cert.OutProjRefIdeal.τ).loc Cert.OutProjRefIdeal.main_arg6))).2.2.2.2.2.2 = (fun _ => 1#1)

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeRefIdeal (m : (ℓ : Loc Cert.RopeRefIdeal.nD Cert.RopeRefIdeal.τ Cert.RopeRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Inverse (m : (ℓ : Loc Cert.Inverse.nD Cert.Inverse.τ Cert.Inverse.sig) → Buf (Elt Bits) ℓ) : Prop :=
  True

def Pre_InverseIdeal (m : (ℓ : Loc Cert.InverseIdeal.nD Cert.InverseIdeal.τ Cert.InverseIdeal.sig) → Buf (Elt Ideal) ℓ) : Prop :=
  True

def Pre_InverseRefIdeal (m : (ℓ : Loc Cert.InverseRefIdeal.nD Cert.InverseRefIdeal.τ Cert.InverseRefIdeal.sig) → Buf (Elt Ideal) ℓ) : Prop :=
  True

def Pre_Forward (m : (ℓ : Loc Cert.Forward.nD Cert.Forward.τ Cert.Forward.sig) → Buf (Elt Bits) ℓ) : Prop :=
  True

def Pre_ForwardIdeal (m : (ℓ : Loc Cert.ForwardIdeal.nD Cert.ForwardIdeal.τ Cert.ForwardIdeal.sig) → Buf (Elt Ideal) ℓ) : Prop :=
  True

def Pre_ForwardRefIdeal (m : (ℓ : Loc Cert.ForwardRefIdeal.nD Cert.ForwardRefIdeal.τ Cert.ForwardRefIdeal.sig) → Buf (Elt Ideal) ℓ) : Prop :=
  True

def Pre_Latent (m : (ℓ : Loc Cert.Latent.nD Cert.Latent.τ Cert.Latent.sig) → Buf (Elt Bits) ℓ) : Prop :=
  True

def Pre_LatentIdeal (m : (ℓ : Loc Cert.LatentIdeal.nD Cert.LatentIdeal.τ Cert.LatentIdeal.sig) → Buf (Elt Ideal) ℓ) : Prop :=
  True

def Pre_LatentRefIdeal (m : (ℓ : Loc Cert.LatentRefIdeal.nD Cert.LatentRefIdeal.τ Cert.LatentRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Experts [hExperts : Cert.Experts.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3))
      ∧ r.2.sem = fun _ => 0)

def quiescent_ExpertsIdeal [hExpertsIdeal : Cert.ExpertsIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1))
      ∧ r.2.sem = fun _ => 0)

def quiescent_ProjectRefIdeal [hProjectRefIdeal : Cert.ProjectRefIdeal.Facts] : Prop :=
  ∀ (m : (ℓ : Loc Cert.ProjectRefIdeal.nD Cert.ProjectRefIdeal.τ Cert.ProjectRefIdeal.sig) → Buf (Elt Ideal) ℓ) (g : Dev Cert.ProjectRefIdeal.nD → PrngReg), Pre_ProjectRefIdeal m →
    θ_run (Cert.ProjectRefIdeal.defs (F := Ideal)) (onTc (τ := Cert.ProjectRefIdeal.τ) (Cert.ProjectRefIdeal.main (F := Ideal))) ⟨m, fun _ => 0, g⟩ (fun r => (∀ c : Dev Cert.ProjectRefIdeal.nD,
      r.2.mem ((c.tc : Thread Cert.ProjectRefIdeal.nD Cert.ProjectRefIdeal.τ).loc Cert.ProjectRefIdeal.main_arg0) = m ((c.tc : Thread Cert.ProjectRefIdeal.nD Cert.ProjectRefIdeal.τ).loc Cert.ProjectRefIdeal.main_arg0)
      ∧ r.2.mem ((c.tc : Thread Cert.ProjectRefIdeal.nD Cert.ProjectRefIdeal.τ).loc Cert.ProjectRefIdeal.main_arg1) = m ((c.tc : Thread Cert.ProjectRefIdeal.nD Cert.ProjectRefIdeal.τ).loc Cert.ProjectRefIdeal.main_arg1))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3)
      ∧ r.2.mem ((c.tc : Thread Cert.Combine.nD Cert.Combine.τ).loc Cert.Combine.main_arg4) = m ((c.tc : Thread Cert.Combine.nD Cert.Combine.τ).loc Cert.Combine.main_arg4)
      ∧ r.2.mem ((c.tc : Thread Cert.Combine.nD Cert.Combine.τ).loc Cert.Combine.main_arg5) = m ((c.tc : Thread Cert.Combine.nD Cert.Combine.τ).loc Cert.Combine.main_arg5))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
      ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5))
      ∧ r.2.sem = fun _ => 0)

def quiescent_CombineRefIdeal [hCombineRefIdeal : Cert.CombineRefIdeal.Facts] : Prop :=
  ∀ (m : (ℓ : Loc Cert.CombineRefIdeal.nD Cert.CombineRefIdeal.τ Cert.CombineRefIdeal.sig) → Buf (Elt Ideal) ℓ) (g : Dev Cert.CombineRefIdeal.nD → PrngReg), Pre_CombineRefIdeal m →
    θ_run (Cert.CombineRefIdeal.defs (F := Ideal)) (onTc (τ := Cert.CombineRefIdeal.τ) (Cert.CombineRefIdeal.main (F := Ideal))) ⟨m, fun _ => 0, g⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
      ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1)
      ∧ r.2.mem ((c.tc : Thread Cert.CombineRefIdeal.nD Cert.CombineRefIdeal.τ).loc Cert.CombineRefIdeal.main_arg2) = m ((c.tc : Thread Cert.CombineRefIdeal.nD Cert.CombineRefIdeal.τ).loc Cert.CombineRefIdeal.main_arg2)
      ∧ r.2.mem ((c.tc : Thread Cert.CombineRefIdeal.nD Cert.CombineRefIdeal.τ).loc Cert.CombineRefIdeal.main_arg3) = m ((c.tc : Thread Cert.CombineRefIdeal.nD Cert.CombineRefIdeal.τ).loc Cert.CombineRefIdeal.main_arg3)
      ∧ r.2.mem ((c.tc : Thread Cert.CombineRefIdeal.nD Cert.CombineRefIdeal.τ).loc Cert.CombineRefIdeal.main_arg4) = m ((c.tc : Thread Cert.CombineRefIdeal.nD Cert.CombineRefIdeal.τ).loc Cert.CombineRefIdeal.main_arg4)
      ∧ r.2.mem ((c.tc : Thread Cert.CombineRefIdeal.nD Cert.CombineRefIdeal.τ).loc Cert.CombineRefIdeal.main_arg5) = m ((c.tc : Thread Cert.CombineRefIdeal.nD Cert.CombineRefIdeal.τ).loc Cert.CombineRefIdeal.main_arg5))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ r.2.sem = fun _ => 0)

def quiescent_OutProjIdeal_pre_finite_inputs [hOutProjIdeal : Cert.OutProjIdeal.Facts] [hPre_finite_inputs : Cert.Pre_finite_inputs.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal_finite_inputs m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6))
      ∧ r.2.sem = fun _ => 0)

def quiescent_OutProjRefIdeal_pre_finite_inputs [hOutProjRefIdeal : Cert.OutProjRefIdeal.Facts] [hPre_finite_inputs : Cert.Pre_finite_inputs.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal_finite_inputs m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0)
      ∧ r.2.mem ((c.tc : Thread Cert.Rope.nD Cert.Rope.τ).loc Cert.Rope.main_arg1) = m ((c.tc : Thread Cert.Rope.nD Cert.Rope.τ).loc Cert.Rope.main_arg1)
      ∧ r.2.mem ((c.tc : Thread Cert.Rope.nD Cert.Rope.τ).loc Cert.Rope.main_arg2) = m ((c.tc : Thread Cert.Rope.nD Cert.Rope.τ).loc Cert.Rope.main_arg2)
      ∧ r.2.mem ((c.tc : Thread Cert.Rope.nD Cert.Rope.τ).loc Cert.Rope.main_arg3) = m ((c.tc : Thread Cert.Rope.nD Cert.Rope.τ).loc Cert.Rope.main_arg3))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
      ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1)
      ∧ r.2.mem ((c.tc : Thread Cert.RopeIdeal.nD Cert.RopeIdeal.τ).loc Cert.RopeIdeal.main_arg2) = m ((c.tc : Thread Cert.RopeIdeal.nD Cert.RopeIdeal.τ).loc Cert.RopeIdeal.main_arg2)
      ∧ r.2.mem ((c.tc : Thread Cert.RopeIdeal.nD Cert.RopeIdeal.τ).loc Cert.RopeIdeal.main_arg3) = m ((c.tc : Thread Cert.RopeIdeal.nD Cert.RopeIdeal.τ).loc Cert.RopeIdeal.main_arg3))
      ∧ r.2.sem = fun _ => 0)

def quiescent_RopeRefIdeal [hRopeRefIdeal : Cert.RopeRefIdeal.Facts] : Prop :=
  ∀ (m : (ℓ : Loc Cert.RopeRefIdeal.nD Cert.RopeRefIdeal.τ Cert.RopeRefIdeal.sig) → Buf (Elt Ideal) ℓ) (g : Dev Cert.RopeRefIdeal.nD → PrngReg), Pre_RopeRefIdeal m →
    θ_run (Cert.RopeRefIdeal.defs (F := Ideal)) (onTc (τ := Cert.RopeRefIdeal.τ) (Cert.RopeRefIdeal.main (F := Ideal))) ⟨m, fun _ => 0, g⟩ (fun r => (∀ c : Dev Cert.RopeRefIdeal.nD,
      r.2.mem ((c.tc : Thread Cert.RopeRefIdeal.nD Cert.RopeRefIdeal.τ).loc Cert.RopeRefIdeal.main_arg0) = m ((c.tc : Thread Cert.RopeRefIdeal.nD Cert.RopeRefIdeal.τ).loc Cert.RopeRefIdeal.main_arg0)
      ∧ r.2.mem ((c.tc : Thread Cert.RopeRefIdeal.nD Cert.RopeRefIdeal.τ).loc Cert.RopeRefIdeal.main_arg1) = m ((c.tc : Thread Cert.RopeRefIdeal.nD Cert.RopeRefIdeal.τ).loc Cert.RopeRefIdeal.main_arg1)
      ∧ r.2.mem ((c.tc : Thread Cert.RopeRefIdeal.nD Cert.RopeRefIdeal.τ).loc Cert.RopeRefIdeal.main_arg2) = m ((c.tc : Thread Cert.RopeRefIdeal.nD Cert.RopeRefIdeal.τ).loc Cert.RopeRefIdeal.main_arg2)
      ∧ r.2.mem ((c.tc : Thread Cert.RopeRefIdeal.nD Cert.RopeRefIdeal.τ).loc Cert.RopeRefIdeal.main_arg3) = m ((c.tc : Thread Cert.RopeRefIdeal.nD Cert.RopeRefIdeal.τ).loc Cert.RopeRefIdeal.main_arg3))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3))
      ∧ r.2.sem = fun _ => 0)

def quiescent_Inverse [hInverse : Cert.Inverse.Facts] : Prop :=
  ∀ (m : (ℓ : Loc Cert.Inverse.nD Cert.Inverse.τ Cert.Inverse.sig) → Buf (Elt Bits) ℓ) (g : Dev Cert.Inverse.nD → PrngReg), Pre_Inverse m →
    θ_run (Cert.Inverse.defs (F := Bits)) (onTc (τ := Cert.Inverse.τ) (Cert.Inverse.main (F := Bits))) ⟨m, fun _ => 0, g⟩ (fun r => (∀ c : Dev Cert.Inverse.nD,
      r.2.mem ((c.tc : Thread Cert.Inverse.nD Cert.Inverse.τ).loc Cert.Inverse.main_arg0) = m ((c.tc : Thread Cert.Inverse.nD Cert.Inverse.τ).loc Cert.Inverse.main_arg0)
      ∧ r.2.mem ((c.tc : Thread Cert.Inverse.nD Cert.Inverse.τ).loc Cert.Inverse.main_arg1) = m ((c.tc : Thread Cert.Inverse.nD Cert.Inverse.τ).loc Cert.Inverse.main_arg1)
      ∧ r.2.mem ((c.tc : Thread Cert.Inverse.nD Cert.Inverse.τ).loc Cert.Inverse.main_arg2) = m ((c.tc : Thread Cert.Inverse.nD Cert.Inverse.τ).loc Cert.Inverse.main_arg2)
      ∧ r.2.mem ((c.tc : Thread Cert.Inverse.nD Cert.Inverse.τ).loc Cert.Inverse.main_arg3) = m ((c.tc : Thread Cert.Inverse.nD Cert.Inverse.τ).loc Cert.Inverse.main_arg3)
      ∧ r.2.mem ((c.tc : Thread Cert.Inverse.nD Cert.Inverse.τ).loc Cert.Inverse.main_arg4) = m ((c.tc : Thread Cert.Inverse.nD Cert.Inverse.τ).loc Cert.Inverse.main_arg4)
      ∧ r.2.mem ((c.tc : Thread Cert.Inverse.nD Cert.Inverse.τ).loc Cert.Inverse.main_arg5) = m ((c.tc : Thread Cert.Inverse.nD Cert.Inverse.τ).loc Cert.Inverse.main_arg5))
      ∧ r.2.sem = fun _ => 0)

def quiescent_InverseIdeal [hInverseIdeal : Cert.InverseIdeal.Facts] : Prop :=
  ∀ (m : (ℓ : Loc Cert.InverseIdeal.nD Cert.InverseIdeal.τ Cert.InverseIdeal.sig) → Buf (Elt Ideal) ℓ) (g : Dev Cert.InverseIdeal.nD → PrngReg), Pre_InverseIdeal m →
    θ_run (Cert.InverseIdeal.defs (F := Ideal)) (onTc (τ := Cert.InverseIdeal.τ) (Cert.InverseIdeal.main (F := Ideal))) ⟨m, fun _ => 0, g⟩ (fun r => (∀ c : Dev Cert.InverseIdeal.nD,
      r.2.mem ((c.tc : Thread Cert.InverseIdeal.nD Cert.InverseIdeal.τ).loc Cert.InverseIdeal.main_arg0) = m ((c.tc : Thread Cert.InverseIdeal.nD Cert.InverseIdeal.τ).loc Cert.InverseIdeal.main_arg0)
      ∧ r.2.mem ((c.tc : Thread Cert.InverseIdeal.nD Cert.InverseIdeal.τ).loc Cert.InverseIdeal.main_arg1) = m ((c.tc : Thread Cert.InverseIdeal.nD Cert.InverseIdeal.τ).loc Cert.InverseIdeal.main_arg1)
      ∧ r.2.mem ((c.tc : Thread Cert.InverseIdeal.nD Cert.InverseIdeal.τ).loc Cert.InverseIdeal.main_arg2) = m ((c.tc : Thread Cert.InverseIdeal.nD Cert.InverseIdeal.τ).loc Cert.InverseIdeal.main_arg2)
      ∧ r.2.mem ((c.tc : Thread Cert.InverseIdeal.nD Cert.InverseIdeal.τ).loc Cert.InverseIdeal.main_arg3) = m ((c.tc : Thread Cert.InverseIdeal.nD Cert.InverseIdeal.τ).loc Cert.InverseIdeal.main_arg3)
      ∧ r.2.mem ((c.tc : Thread Cert.InverseIdeal.nD Cert.InverseIdeal.τ).loc Cert.InverseIdeal.main_arg4) = m ((c.tc : Thread Cert.InverseIdeal.nD Cert.InverseIdeal.τ).loc Cert.InverseIdeal.main_arg4)
      ∧ r.2.mem ((c.tc : Thread Cert.InverseIdeal.nD Cert.InverseIdeal.τ).loc Cert.InverseIdeal.main_arg5) = m ((c.tc : Thread Cert.InverseIdeal.nD Cert.InverseIdeal.τ).loc Cert.InverseIdeal.main_arg5))
      ∧ r.2.sem = fun _ => 0)

def quiescent_InverseRefIdeal [hInverseRefIdeal : Cert.InverseRefIdeal.Facts] : Prop :=
  ∀ (m : (ℓ : Loc Cert.InverseRefIdeal.nD Cert.InverseRefIdeal.τ Cert.InverseRefIdeal.sig) → Buf (Elt Ideal) ℓ) (g : Dev Cert.InverseRefIdeal.nD → PrngReg), Pre_InverseRefIdeal m →
    θ_run (Cert.InverseRefIdeal.defs (F := Ideal)) (onTc (τ := Cert.InverseRefIdeal.τ) (Cert.InverseRefIdeal.main (F := Ideal))) ⟨m, fun _ => 0, g⟩ (fun r => (∀ c : Dev Cert.InverseRefIdeal.nD,
      r.2.mem ((c.tc : Thread Cert.InverseRefIdeal.nD Cert.InverseRefIdeal.τ).loc Cert.InverseRefIdeal.main_arg0) = m ((c.tc : Thread Cert.InverseRefIdeal.nD Cert.InverseRefIdeal.τ).loc Cert.InverseRefIdeal.main_arg0)
      ∧ r.2.mem ((c.tc : Thread Cert.InverseRefIdeal.nD Cert.InverseRefIdeal.τ).loc Cert.InverseRefIdeal.main_arg1) = m ((c.tc : Thread Cert.InverseRefIdeal.nD Cert.InverseRefIdeal.τ).loc Cert.InverseRefIdeal.main_arg1)
      ∧ r.2.mem ((c.tc : Thread Cert.InverseRefIdeal.nD Cert.InverseRefIdeal.τ).loc Cert.InverseRefIdeal.main_arg2) = m ((c.tc : Thread Cert.InverseRefIdeal.nD Cert.InverseRefIdeal.τ).loc Cert.InverseRefIdeal.main_arg2)
      ∧ r.2.mem ((c.tc : Thread Cert.InverseRefIdeal.nD Cert.InverseRefIdeal.τ).loc Cert.InverseRefIdeal.main_arg3) = m ((c.tc : Thread Cert.InverseRefIdeal.nD Cert.InverseRefIdeal.τ).loc Cert.InverseRefIdeal.main_arg3)
      ∧ r.2.mem ((c.tc : Thread Cert.InverseRefIdeal.nD Cert.InverseRefIdeal.τ).loc Cert.InverseRefIdeal.main_arg4) = m ((c.tc : Thread Cert.InverseRefIdeal.nD Cert.InverseRefIdeal.τ).loc Cert.InverseRefIdeal.main_arg4)
      ∧ r.2.mem ((c.tc : Thread Cert.InverseRefIdeal.nD Cert.InverseRefIdeal.τ).loc Cert.InverseRefIdeal.main_arg5) = m ((c.tc : Thread Cert.InverseRefIdeal.nD Cert.InverseRefIdeal.τ).loc Cert.InverseRefIdeal.main_arg5))
      ∧ r.2.sem = fun _ => 0)

def quiescent_Forward [hForward : Cert.Forward.Facts] : Prop :=
  ∀ (m : (ℓ : Loc Cert.Forward.nD Cert.Forward.τ Cert.Forward.sig) → Buf (Elt Bits) ℓ) (g : Dev Cert.Forward.nD → PrngReg), Pre_Forward m →
    θ_run (Cert.Forward.defs (F := Bits)) (onTc (τ := Cert.Forward.τ) (Cert.Forward.main (F := Bits))) ⟨m, fun _ => 0, g⟩ (fun r => (∀ c : Dev Cert.Forward.nD,
      r.2.mem ((c.tc : Thread Cert.Forward.nD Cert.Forward.τ).loc Cert.Forward.main_arg0) = m ((c.tc : Thread Cert.Forward.nD Cert.Forward.τ).loc Cert.Forward.main_arg0)
      ∧ r.2.mem ((c.tc : Thread Cert.Forward.nD Cert.Forward.τ).loc Cert.Forward.main_arg1) = m ((c.tc : Thread Cert.Forward.nD Cert.Forward.τ).loc Cert.Forward.main_arg1)
      ∧ r.2.mem ((c.tc : Thread Cert.Forward.nD Cert.Forward.τ).loc Cert.Forward.main_arg2) = m ((c.tc : Thread Cert.Forward.nD Cert.Forward.τ).loc Cert.Forward.main_arg2)
      ∧ r.2.mem ((c.tc : Thread Cert.Forward.nD Cert.Forward.τ).loc Cert.Forward.main_arg3) = m ((c.tc : Thread Cert.Forward.nD Cert.Forward.τ).loc Cert.Forward.main_arg3)
      ∧ r.2.mem ((c.tc : Thread Cert.Forward.nD Cert.Forward.τ).loc Cert.Forward.main_arg4) = m ((c.tc : Thread Cert.Forward.nD Cert.Forward.τ).loc Cert.Forward.main_arg4))
      ∧ r.2.sem = fun _ => 0)

def quiescent_ForwardIdeal [hForwardIdeal : Cert.ForwardIdeal.Facts] : Prop :=
  ∀ (m : (ℓ : Loc Cert.ForwardIdeal.nD Cert.ForwardIdeal.τ Cert.ForwardIdeal.sig) → Buf (Elt Ideal) ℓ) (g : Dev Cert.ForwardIdeal.nD → PrngReg), Pre_ForwardIdeal m →
    θ_run (Cert.ForwardIdeal.defs (F := Ideal)) (onTc (τ := Cert.ForwardIdeal.τ) (Cert.ForwardIdeal.main (F := Ideal))) ⟨m, fun _ => 0, g⟩ (fun r => (∀ c : Dev Cert.ForwardIdeal.nD,
      r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
      ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
      ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2)
      ∧ r.2.mem ((c.tc : Thread Cert.ForwardIdeal.nD Cert.ForwardIdeal.τ).loc Cert.ForwardIdeal.main_arg3) = m ((c.tc : Thread Cert.ForwardIdeal.nD Cert.ForwardIdeal.τ).loc Cert.ForwardIdeal.main_arg3)
      ∧ r.2.mem ((c.tc : Thread Cert.ForwardIdeal.nD Cert.ForwardIdeal.τ).loc Cert.ForwardIdeal.main_arg4) = m ((c.tc : Thread Cert.ForwardIdeal.nD Cert.ForwardIdeal.τ).loc Cert.ForwardIdeal.main_arg4))
      ∧ r.2.sem = fun _ => 0)

def quiescent_ForwardRefIdeal [hForwardRefIdeal : Cert.ForwardRefIdeal.Facts] : Prop :=
  ∀ (m : (ℓ : Loc Cert.ForwardRefIdeal.nD Cert.ForwardRefIdeal.τ Cert.ForwardRefIdeal.sig) → Buf (Elt Ideal) ℓ) (g : Dev Cert.ForwardRefIdeal.nD → PrngReg), Pre_ForwardRefIdeal m →
    θ_run (Cert.ForwardRefIdeal.defs (F := Ideal)) (onTc (τ := Cert.ForwardRefIdeal.τ) (Cert.ForwardRefIdeal.main (F := Ideal))) ⟨m, fun _ => 0, g⟩ (fun r => (∀ c : Dev Cert.ForwardRefIdeal.nD,
      r.2.mem ((c.tc : Thread Cert.ForwardRefIdeal.nD Cert.ForwardRefIdeal.τ).loc Cert.ForwardRefIdeal.main_arg0) = m ((c.tc : Thread Cert.ForwardRefIdeal.nD Cert.ForwardRefIdeal.τ).loc Cert.ForwardRefIdeal.main_arg0)
      ∧ r.2.mem ((c.tc : Thread Cert.ForwardRefIdeal.nD Cert.ForwardRefIdeal.τ).loc Cert.ForwardRefIdeal.main_arg1) = m ((c.tc : Thread Cert.ForwardRefIdeal.nD Cert.ForwardRefIdeal.τ).loc Cert.ForwardRefIdeal.main_arg1)
      ∧ r.2.mem ((c.tc : Thread Cert.ForwardRefIdeal.nD Cert.ForwardRefIdeal.τ).loc Cert.ForwardRefIdeal.main_arg2) = m ((c.tc : Thread Cert.ForwardRefIdeal.nD Cert.ForwardRefIdeal.τ).loc Cert.ForwardRefIdeal.main_arg2)
      ∧ r.2.mem ((c.tc : Thread Cert.ForwardRefIdeal.nD Cert.ForwardRefIdeal.τ).loc Cert.ForwardRefIdeal.main_arg3) = m ((c.tc : Thread Cert.ForwardRefIdeal.nD Cert.ForwardRefIdeal.τ).loc Cert.ForwardRefIdeal.main_arg3)
      ∧ r.2.mem ((c.tc : Thread Cert.ForwardRefIdeal.nD Cert.ForwardRefIdeal.τ).loc Cert.ForwardRefIdeal.main_arg4) = m ((c.tc : Thread Cert.ForwardRefIdeal.nD Cert.ForwardRefIdeal.τ).loc Cert.ForwardRefIdeal.main_arg4))
      ∧ r.2.sem = fun _ => 0)

def quiescent_Latent [hLatent : Cert.Latent.Facts] : Prop :=
  ∀ (m : (ℓ : Loc Cert.Latent.nD Cert.Latent.τ Cert.Latent.sig) → Buf (Elt Bits) ℓ) (g : Dev Cert.Latent.nD → PrngReg), Pre_Latent m →
    θ_run (Cert.Latent.defs (F := Bits)) (onTc (τ := Cert.Latent.τ) (Cert.Latent.main (F := Bits))) ⟨m, fun _ => 0, g⟩ (fun r => (∀ c : Dev Cert.Latent.nD,
      r.2.mem ((c.tc : Thread Cert.Latent.nD Cert.Latent.τ).loc Cert.Latent.main_arg0) = m ((c.tc : Thread Cert.Latent.nD Cert.Latent.τ).loc Cert.Latent.main_arg0)
      ∧ r.2.mem ((c.tc : Thread Cert.Latent.nD Cert.Latent.τ).loc Cert.Latent.main_arg1) = m ((c.tc : Thread Cert.Latent.nD Cert.Latent.τ).loc Cert.Latent.main_arg1)
      ∧ r.2.mem ((c.tc : Thread Cert.Latent.nD Cert.Latent.τ).loc Cert.Latent.main_arg2) = m ((c.tc : Thread Cert.Latent.nD Cert.Latent.τ).loc Cert.Latent.main_arg2))
      ∧ r.2.sem = fun _ => 0)

def quiescent_LatentIdeal [hLatentIdeal : Cert.LatentIdeal.Facts] : Prop :=
  ∀ (m : (ℓ : Loc Cert.LatentIdeal.nD Cert.LatentIdeal.τ Cert.LatentIdeal.sig) → Buf (Elt Ideal) ℓ) (g : Dev Cert.LatentIdeal.nD → PrngReg), Pre_LatentIdeal m →
    θ_run (Cert.LatentIdeal.defs (F := Ideal)) (onTc (τ := Cert.LatentIdeal.τ) (Cert.LatentIdeal.main (F := Ideal))) ⟨m, fun _ => 0, g⟩ (fun r => (∀ c : Dev Cert.LatentIdeal.nD,
      r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
      ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
      ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2))
      ∧ r.2.sem = fun _ => 0)

def quiescent_LatentRefIdeal [hLatentRefIdeal : Cert.LatentRefIdeal.Facts] : Prop :=
  ∀ (m : (ℓ : Loc Cert.LatentRefIdeal.nD Cert.LatentRefIdeal.τ Cert.LatentRefIdeal.sig) → Buf (Elt Ideal) ℓ) (g : Dev Cert.LatentRefIdeal.nD → PrngReg), Pre_LatentRefIdeal m →
    θ_run (Cert.LatentRefIdeal.defs (F := Ideal)) (onTc (τ := Cert.LatentRefIdeal.τ) (Cert.LatentRefIdeal.main (F := Ideal))) ⟨m, fun _ => 0, g⟩ (fun r => (∀ c : Dev Cert.LatentRefIdeal.nD,
      r.2.mem ((c.tc : Thread Cert.LatentRefIdeal.nD Cert.LatentRefIdeal.τ).loc Cert.LatentRefIdeal.main_arg0) = m ((c.tc : Thread Cert.LatentRefIdeal.nD Cert.LatentRefIdeal.τ).loc Cert.LatentRefIdeal.main_arg0)
      ∧ r.2.mem ((c.tc : Thread Cert.LatentRefIdeal.nD Cert.LatentRefIdeal.τ).loc Cert.LatentRefIdeal.main_arg1) = m ((c.tc : Thread Cert.LatentRefIdeal.nD Cert.LatentRefIdeal.τ).loc Cert.LatentRefIdeal.main_arg1)
      ∧ r.2.mem ((c.tc : Thread Cert.LatentRefIdeal.nD Cert.LatentRefIdeal.τ).loc Cert.LatentRefIdeal.main_arg2) = m ((c.tc : Thread Cert.LatentRefIdeal.nD Cert.LatentRefIdeal.τ).loc Cert.LatentRefIdeal.main_arg2))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Experts_ExpertsIdeal : Prop :=
  True

def algebraic_ExpertsIdeal_ExpertsRefIdeal [hExpertsIdeal : Cert.ExpertsIdeal.Facts] [hExpertsRefIdeal : Cert.ExpertsRefIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v12) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3))

def preserves_Project_ProjectIdeal : Prop :=
  True

def algebraic_ProjectIdeal_ProjectRefIdeal [hProjectIdeal : Cert.ProjectIdeal.Facts] [hProjectRefIdeal : Cert.ProjectRefIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectRefIdeal.nD Cert.ProjectRefIdeal.τ Cert.ProjectRefIdeal.sig) → Buf (Elt Ideal) ℓ) (g' : Dev Cert.ProjectRefIdeal.nD → PrngReg), Pre_ProjectIdeal m →
    (∀ c : Dev Cert.ProjectIdeal.nD,
      m' ((c.tc : Thread Cert.ProjectRefIdeal.nD Cert.ProjectRefIdeal.τ).loc Cert.ProjectRefIdeal.main_arg0) = m ((c.tc : Thread Cert.ProjectIdeal.nD Cert.ProjectIdeal.τ).loc Cert.ProjectIdeal.main_arg0)
      ∧ m' ((c.tc : Thread Cert.ProjectRefIdeal.nD Cert.ProjectRefIdeal.τ).loc Cert.ProjectRefIdeal.main_arg1) = m ((c.tc : Thread Cert.ProjectIdeal.nD Cert.ProjectIdeal.τ).loc Cert.ProjectIdeal.main_arg1)) →
    ∃ (v0 : (c : Dev Cert.ProjectIdeal.nD) → Buf (Elt Ideal) ((c.tc : Thread Cert.ProjectIdeal.nD Cert.ProjectIdeal.τ).loc Cert.ProjectIdeal.main_v0)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v0) = v0 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1))
      ∧ θ_run (Cert.ProjectRefIdeal.defs (F := Ideal)) (onTc (τ := Cert.ProjectRefIdeal.τ) (Cert.ProjectRefIdeal.main (F := Ideal))) ⟨m', fun _ => 0, g'⟩ (fun r => ∀ c : Dev Cert.ProjectRefIdeal.nD,
          r.2.mem ((c.tc : Thread Cert.ProjectRefIdeal.nD Cert.ProjectRefIdeal.τ).loc Cert.ProjectRefIdeal.main_v2) = v0 c
          ∧ r.2.mem ((c.tc : Thread Cert.ProjectRefIdeal.nD Cert.ProjectRefIdeal.τ).loc Cert.ProjectRefIdeal.main_arg0) = m' ((c.tc : Thread Cert.ProjectRefIdeal.nD Cert.ProjectRefIdeal.τ).loc Cert.ProjectRefIdeal.main_arg0)
          ∧ r.2.mem ((c.tc : Thread Cert.ProjectRefIdeal.nD Cert.ProjectRefIdeal.τ).loc Cert.ProjectRefIdeal.main_arg1) = m' ((c.tc : Thread Cert.ProjectRefIdeal.nD Cert.ProjectRefIdeal.τ).loc Cert.ProjectRefIdeal.main_arg1))

def preserves_Combine_CombineIdeal : Prop :=
  IdealRules.named_const.Statement Cert.CombineIdeal.κ "alpha" .f32 0x3FB504F3#32 ((Real.sqrt 2 : ℝ) : EReal)
  ∧ IdealRules.named_const.Statement Cert.CombineIdeal.κ "eps" .f32 0x358637BD#32 ((1 / 1000000 : ℝ) : EReal)

def algebraic_CombineIdeal_CombineRefIdeal [hCombineIdeal : Cert.CombineIdeal.Facts] [hCombineRefIdeal : Cert.CombineRefIdeal.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineRefIdeal.nD Cert.CombineRefIdeal.τ Cert.CombineRefIdeal.sig) → Buf (Elt Ideal) ℓ) (g' : Dev Cert.CombineRefIdeal.nD → PrngReg), Pre_CombineIdeal m →
    (∀ c : Dev Cert.CombineIdeal.nD,
      m' ((c.tc : Thread Cert.CombineRefIdeal.nD Cert.CombineRefIdeal.τ).loc Cert.CombineRefIdeal.main_arg0) = m ((c.tc : Thread Cert.CombineIdeal.nD Cert.CombineIdeal.τ).loc Cert.CombineIdeal.main_arg0)
      ∧ m' ((c.tc : Thread Cert.CombineRefIdeal.nD Cert.CombineRefIdeal.τ).loc Cert.CombineRefIdeal.main_arg1) = m ((c.tc : Thread Cert.CombineIdeal.nD Cert.CombineIdeal.τ).loc Cert.CombineIdeal.main_arg1)
      ∧ m' ((c.tc : Thread Cert.CombineRefIdeal.nD Cert.CombineRefIdeal.τ).loc Cert.CombineRefIdeal.main_arg2) = m ((c.tc : Thread Cert.CombineIdeal.nD Cert.CombineIdeal.τ).loc Cert.CombineIdeal.main_arg2)
      ∧ m' ((c.tc : Thread Cert.CombineRefIdeal.nD Cert.CombineRefIdeal.τ).loc Cert.CombineRefIdeal.main_arg3) = m ((c.tc : Thread Cert.CombineIdeal.nD Cert.CombineIdeal.τ).loc Cert.CombineIdeal.main_arg3)
      ∧ m' ((c.tc : Thread Cert.CombineRefIdeal.nD Cert.CombineRefIdeal.τ).loc Cert.CombineRefIdeal.main_arg4) = m ((c.tc : Thread Cert.CombineIdeal.nD Cert.CombineIdeal.τ).loc Cert.CombineIdeal.main_arg4)
      ∧ m' ((c.tc : Thread Cert.CombineRefIdeal.nD Cert.CombineRefIdeal.τ).loc Cert.CombineRefIdeal.main_arg5) = m ((c.tc : Thread Cert.CombineIdeal.nD Cert.CombineIdeal.τ).loc Cert.CombineIdeal.main_arg5)) →
    ∃ (v0 : (c : Dev Cert.CombineIdeal.nD) → Buf (Elt Ideal) ((c.tc : Thread Cert.CombineIdeal.nD Cert.CombineIdeal.τ).loc Cert.CombineIdeal.main_v0)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v0) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
          ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
          ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5))
      ∧ θ_run (Cert.CombineRefIdeal.defs (F := Ideal)) (onTc (τ := Cert.CombineRefIdeal.τ) (Cert.CombineRefIdeal.main (F := Ideal))) ⟨m', fun _ => 0, g'⟩ (fun r => ∀ c : Dev Cert.CombineRefIdeal.nD,
          r.2.mem ((c.tc : Thread Cert.CombineRefIdeal.nD Cert.CombineRefIdeal.τ).loc Cert.CombineRefIdeal.main_v54) = v0 c
          ∧ r.2.mem ((c.tc : Thread Cert.CombineRefIdeal.nD Cert.CombineRefIdeal.τ).loc Cert.CombineRefIdeal.main_arg0) = m' ((c.tc : Thread Cert.CombineRefIdeal.nD Cert.CombineRefIdeal.τ).loc Cert.CombineRefIdeal.main_arg0)
          ∧ r.2.mem ((c.tc : Thread Cert.CombineRefIdeal.nD Cert.CombineRefIdeal.τ).loc Cert.CombineRefIdeal.main_arg1) = m' ((c.tc : Thread Cert.CombineRefIdeal.nD Cert.CombineRefIdeal.τ).loc Cert.CombineRefIdeal.main_arg1)
          ∧ r.2.mem ((c.tc : Thread Cert.CombineRefIdeal.nD Cert.CombineRefIdeal.τ).loc Cert.CombineRefIdeal.main_arg2) = m' ((c.tc : Thread Cert.CombineRefIdeal.nD Cert.CombineRefIdeal.τ).loc Cert.CombineRefIdeal.main_arg2)
          ∧ r.2.mem ((c.tc : Thread Cert.CombineRefIdeal.nD Cert.CombineRefIdeal.τ).loc Cert.CombineRefIdeal.main_arg3) = m' ((c.tc : Thread Cert.CombineRefIdeal.nD Cert.CombineRefIdeal.τ).loc Cert.CombineRefIdeal.main_arg3)
          ∧ r.2.mem ((c.tc : Thread Cert.CombineRefIdeal.nD Cert.CombineRefIdeal.τ).loc Cert.CombineRefIdeal.main_arg4) = m' ((c.tc : Thread Cert.CombineRefIdeal.nD Cert.CombineRefIdeal.τ).loc Cert.CombineRefIdeal.main_arg4)
          ∧ r.2.mem ((c.tc : Thread Cert.CombineRefIdeal.nD Cert.CombineRefIdeal.τ).loc Cert.CombineRefIdeal.main_arg5) = m' ((c.tc : Thread Cert.CombineRefIdeal.nD Cert.CombineRefIdeal.τ).loc Cert.CombineRefIdeal.main_arg5))

def preserves_OutProj_OutProjIdeal : Prop :=
  IdealRules.named_const.Statement Cert.OutProjIdeal.κ "alpha" .f32 0x3FB504F3#32 ((Real.sqrt 2 : ℝ) : EReal)
  ∧ IdealRules.named_const.Statement Cert.OutProjIdeal.κ "eps" .f32 0x358637BD#32 ((1 / 1000000 : ℝ) : EReal)

def algebraic_OutProjIdeal_OutProjRefIdeal_pre_finite_inputs [hOutProjIdeal : Cert.OutProjIdeal.Facts] [hOutProjRefIdeal : Cert.OutProjRefIdeal.Facts] [hPre_finite_inputs : Cert.Pre_finite_inputs.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal_finite_inputs m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)
      ∧ m' ((c.tc : Thread Cert.OutProjRefIdeal.nD Cert.OutProjRefIdeal.τ).loc Cert.OutProjRefIdeal.main_arg6) = m ((c.tc : Thread Cert.OutProjIdeal.nD Cert.OutProjIdeal.τ).loc Cert.OutProjIdeal.main_arg6)) →
    ∃ (v0 : (c : Dev Cert.OutProjIdeal.nD) → Buf (Elt Ideal) ((c.tc : Thread Cert.OutProjIdeal.nD Cert.OutProjIdeal.τ).loc Cert.OutProjIdeal.main_v8_0)) (v1 : (c : Dev Cert.OutProjIdeal.nD) → Buf (Elt Ideal) ((c.tc : Thread Cert.OutProjIdeal.nD Cert.OutProjIdeal.τ).loc Cert.OutProjIdeal.main_v8_1)) (v2 : (c : Dev Cert.OutProjIdeal.nD) → Buf (Elt Ideal) ((c.tc : Thread Cert.OutProjIdeal.nD Cert.OutProjIdeal.τ).loc Cert.OutProjIdeal.main_v8_2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v8_0) = v0 c
          ∧ r.2.mem ((c.tc : Thread Cert.OutProjIdeal.nD Cert.OutProjIdeal.τ).loc Cert.OutProjIdeal.main_v8_1) = v1 c
          ∧ r.2.mem ((c.tc : Thread Cert.OutProjIdeal.nD Cert.OutProjIdeal.τ).loc Cert.OutProjIdeal.main_v8_2) = v2 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v55) = v0 c
          ∧ r.2.mem ((c.tc : Thread Cert.OutProjRefIdeal.nD Cert.OutProjRefIdeal.τ).loc Cert.OutProjRefIdeal.main_v56) = v1 c
          ∧ r.2.mem ((c.tc : Thread Cert.OutProjRefIdeal.nD Cert.OutProjRefIdeal.τ).loc Cert.OutProjRefIdeal.main_v54) = v2 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5)
          ∧ r.2.mem ((c.tc : Thread Cert.OutProjRefIdeal.nD Cert.OutProjRefIdeal.τ).loc Cert.OutProjRefIdeal.main_arg6) = m' ((c.tc : Thread Cert.OutProjRefIdeal.nD Cert.OutProjRefIdeal.τ).loc Cert.OutProjRefIdeal.main_arg6))

def preserves_Rope_RopeIdeal : Prop :=
  IdealRules.named_const.Statement Cert.RopeIdeal.κ "mla_scale" .f32 0x3D93CD3A#32 (((Real.sqrt 192)⁻¹ : ℝ) : EReal)
  ∧ IdealRules.named_const.Statement Cert.RopeIdeal.κ "na_scale" .f32 0x3DB504F3#32 (((Real.sqrt 128)⁻¹ : ℝ) : EReal)

def algebraic_RopeIdeal_RopeRefIdeal [hRopeIdeal : Cert.RopeIdeal.Facts] [hRopeRefIdeal : Cert.RopeRefIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeRefIdeal.nD Cert.RopeRefIdeal.τ Cert.RopeRefIdeal.sig) → Buf (Elt Ideal) ℓ) (g' : Dev Cert.RopeRefIdeal.nD → PrngReg), Pre_RopeIdeal m →
    (∀ c : Dev Cert.RopeIdeal.nD,
      m' ((c.tc : Thread Cert.RopeRefIdeal.nD Cert.RopeRefIdeal.τ).loc Cert.RopeRefIdeal.main_arg0) = m ((c.tc : Thread Cert.RopeIdeal.nD Cert.RopeIdeal.τ).loc Cert.RopeIdeal.main_arg0)
      ∧ m' ((c.tc : Thread Cert.RopeRefIdeal.nD Cert.RopeRefIdeal.τ).loc Cert.RopeRefIdeal.main_arg1) = m ((c.tc : Thread Cert.RopeIdeal.nD Cert.RopeIdeal.τ).loc Cert.RopeIdeal.main_arg1)
      ∧ m' ((c.tc : Thread Cert.RopeRefIdeal.nD Cert.RopeRefIdeal.τ).loc Cert.RopeRefIdeal.main_arg2) = m ((c.tc : Thread Cert.RopeIdeal.nD Cert.RopeIdeal.τ).loc Cert.RopeIdeal.main_arg2)
      ∧ m' ((c.tc : Thread Cert.RopeRefIdeal.nD Cert.RopeRefIdeal.τ).loc Cert.RopeRefIdeal.main_arg3) = m ((c.tc : Thread Cert.RopeIdeal.nD Cert.RopeIdeal.τ).loc Cert.RopeIdeal.main_arg3)) →
    ∃ (v0 : (c : Dev Cert.RopeIdeal.nD) → Buf (Elt Ideal) ((c.tc : Thread Cert.RopeIdeal.nD Cert.RopeIdeal.τ).loc Cert.RopeIdeal.main_v8)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v8) = v0 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
          ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1)
          ∧ r.2.mem ((c.tc : Thread Cert.RopeIdeal.nD Cert.RopeIdeal.τ).loc Cert.RopeIdeal.main_arg2) = m ((c.tc : Thread Cert.RopeIdeal.nD Cert.RopeIdeal.τ).loc Cert.RopeIdeal.main_arg2)
          ∧ r.2.mem ((c.tc : Thread Cert.RopeIdeal.nD Cert.RopeIdeal.τ).loc Cert.RopeIdeal.main_arg3) = m ((c.tc : Thread Cert.RopeIdeal.nD Cert.RopeIdeal.τ).loc Cert.RopeIdeal.main_arg3))
      ∧ θ_run (Cert.RopeRefIdeal.defs (F := Ideal)) (onTc (τ := Cert.RopeRefIdeal.τ) (Cert.RopeRefIdeal.main (F := Ideal))) ⟨m', fun _ => 0, g'⟩ (fun r => ∀ c : Dev Cert.RopeRefIdeal.nD,
          r.2.mem ((c.tc : Thread Cert.RopeRefIdeal.nD Cert.RopeRefIdeal.τ).loc Cert.RopeRefIdeal.main_v63) = v0 c
          ∧ r.2.mem ((c.tc : Thread Cert.RopeRefIdeal.nD Cert.RopeRefIdeal.τ).loc Cert.RopeRefIdeal.main_arg0) = m' ((c.tc : Thread Cert.RopeRefIdeal.nD Cert.RopeRefIdeal.τ).loc Cert.RopeRefIdeal.main_arg0)
          ∧ r.2.mem ((c.tc : Thread Cert.RopeRefIdeal.nD Cert.RopeRefIdeal.τ).loc Cert.RopeRefIdeal.main_arg1) = m' ((c.tc : Thread Cert.RopeRefIdeal.nD Cert.RopeRefIdeal.τ).loc Cert.RopeRefIdeal.main_arg1)
          ∧ r.2.mem ((c.tc : Thread Cert.RopeRefIdeal.nD Cert.RopeRefIdeal.τ).loc Cert.RopeRefIdeal.main_arg2) = m' ((c.tc : Thread Cert.RopeRefIdeal.nD Cert.RopeRefIdeal.τ).loc Cert.RopeRefIdeal.main_arg2)
          ∧ r.2.mem ((c.tc : Thread Cert.RopeRefIdeal.nD Cert.RopeRefIdeal.τ).loc Cert.RopeRefIdeal.main_arg3) = m' ((c.tc : Thread Cert.RopeRefIdeal.nD Cert.RopeRefIdeal.τ).loc Cert.RopeRefIdeal.main_arg3))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)) →
    ∃ (v0 : (c : Dev Cert.MixIdeal.nD) → Buf (Elt Ideal) ((c.tc : Thread Cert.MixIdeal.nD Cert.MixIdeal.τ).loc Cert.MixIdeal.main_v0)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v0) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v12) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3))

def preserves_Inverse_InverseIdeal : Prop :=
  True

def algebraic_InverseIdeal_InverseRefIdeal [hInverseIdeal : Cert.InverseIdeal.Facts] [hInverseRefIdeal : Cert.InverseRefIdeal.Facts] : Prop :=
  ∀ (m : (ℓ : Loc Cert.InverseIdeal.nD Cert.InverseIdeal.τ Cert.InverseIdeal.sig) → Buf (Elt Ideal) ℓ) (g : Dev Cert.InverseIdeal.nD → PrngReg)
    (m' : (ℓ : Loc Cert.InverseRefIdeal.nD Cert.InverseRefIdeal.τ Cert.InverseRefIdeal.sig) → Buf (Elt Ideal) ℓ) (g' : Dev Cert.InverseRefIdeal.nD → PrngReg), Pre_InverseIdeal m →
    (∀ c : Dev Cert.InverseIdeal.nD,
      m' ((c.tc : Thread Cert.InverseRefIdeal.nD Cert.InverseRefIdeal.τ).loc Cert.InverseRefIdeal.main_arg0) = m ((c.tc : Thread Cert.InverseIdeal.nD Cert.InverseIdeal.τ).loc Cert.InverseIdeal.main_arg0)
      ∧ m' ((c.tc : Thread Cert.InverseRefIdeal.nD Cert.InverseRefIdeal.τ).loc Cert.InverseRefIdeal.main_arg1) = m ((c.tc : Thread Cert.InverseIdeal.nD Cert.InverseIdeal.τ).loc Cert.InverseIdeal.main_arg1)
      ∧ m' ((c.tc : Thread Cert.InverseRefIdeal.nD Cert.InverseRefIdeal.τ).loc Cert.InverseRefIdeal.main_arg2) = m ((c.tc : Thread Cert.InverseIdeal.nD Cert.InverseIdeal.τ).loc Cert.InverseIdeal.main_arg2)
      ∧ m' ((c.tc : Thread Cert.InverseRefIdeal.nD Cert.InverseRefIdeal.τ).loc Cert.InverseRefIdeal.main_arg3) = m ((c.tc : Thread Cert.InverseIdeal.nD Cert.InverseIdeal.τ).loc Cert.InverseIdeal.main_arg3)
      ∧ m' ((c.tc : Thread Cert.InverseRefIdeal.nD Cert.InverseRefIdeal.τ).loc Cert.InverseRefIdeal.main_arg4) = m ((c.tc : Thread Cert.InverseIdeal.nD Cert.InverseIdeal.τ).loc Cert.InverseIdeal.main_arg4)
      ∧ m' ((c.tc : Thread Cert.InverseRefIdeal.nD Cert.InverseRefIdeal.τ).loc Cert.InverseRefIdeal.main_arg5) = m ((c.tc : Thread Cert.InverseIdeal.nD Cert.InverseIdeal.τ).loc Cert.InverseIdeal.main_arg5)) →
    ∃ (v0 : (c : Dev Cert.InverseIdeal.nD) → Buf (Elt Ideal) ((c.tc : Thread Cert.InverseIdeal.nD Cert.InverseIdeal.τ).loc Cert.InverseIdeal.main_v0)),
      θ_run (Cert.InverseIdeal.defs (F := Ideal)) (onTc (τ := Cert.InverseIdeal.τ) (Cert.InverseIdeal.main (F := Ideal))) ⟨m, fun _ => 0, g⟩ (fun r => ∀ c : Dev Cert.InverseIdeal.nD,
          r.2.mem ((c.tc : Thread Cert.InverseIdeal.nD Cert.InverseIdeal.τ).loc Cert.InverseIdeal.main_v0) = v0 c
          ∧ r.2.mem ((c.tc : Thread Cert.InverseIdeal.nD Cert.InverseIdeal.τ).loc Cert.InverseIdeal.main_arg0) = m ((c.tc : Thread Cert.InverseIdeal.nD Cert.InverseIdeal.τ).loc Cert.InverseIdeal.main_arg0)
          ∧ r.2.mem ((c.tc : Thread Cert.InverseIdeal.nD Cert.InverseIdeal.τ).loc Cert.InverseIdeal.main_arg1) = m ((c.tc : Thread Cert.InverseIdeal.nD Cert.InverseIdeal.τ).loc Cert.InverseIdeal.main_arg1)
          ∧ r.2.mem ((c.tc : Thread Cert.InverseIdeal.nD Cert.InverseIdeal.τ).loc Cert.InverseIdeal.main_arg2) = m ((c.tc : Thread Cert.InverseIdeal.nD Cert.InverseIdeal.τ).loc Cert.InverseIdeal.main_arg2)
          ∧ r.2.mem ((c.tc : Thread Cert.InverseIdeal.nD Cert.InverseIdeal.τ).loc Cert.InverseIdeal.main_arg3) = m ((c.tc : Thread Cert.InverseIdeal.nD Cert.InverseIdeal.τ).loc Cert.InverseIdeal.main_arg3)
          ∧ r.2.mem ((c.tc : Thread Cert.InverseIdeal.nD Cert.InverseIdeal.τ).loc Cert.InverseIdeal.main_arg4) = m ((c.tc : Thread Cert.InverseIdeal.nD Cert.InverseIdeal.τ).loc Cert.InverseIdeal.main_arg4)
          ∧ r.2.mem ((c.tc : Thread Cert.InverseIdeal.nD Cert.InverseIdeal.τ).loc Cert.InverseIdeal.main_arg5) = m ((c.tc : Thread Cert.InverseIdeal.nD Cert.InverseIdeal.τ).loc Cert.InverseIdeal.main_arg5))
      ∧ θ_run (Cert.InverseRefIdeal.defs (F := Ideal)) (onTc (τ := Cert.InverseRefIdeal.τ) (Cert.InverseRefIdeal.main (F := Ideal))) ⟨m', fun _ => 0, g'⟩ (fun r => ∀ c : Dev Cert.InverseRefIdeal.nD,
          r.2.mem ((c.tc : Thread Cert.InverseRefIdeal.nD Cert.InverseRefIdeal.τ).loc Cert.InverseRefIdeal.main_v20) = v0 c
          ∧ r.2.mem ((c.tc : Thread Cert.InverseRefIdeal.nD Cert.InverseRefIdeal.τ).loc Cert.InverseRefIdeal.main_arg0) = m' ((c.tc : Thread Cert.InverseRefIdeal.nD Cert.InverseRefIdeal.τ).loc Cert.InverseRefIdeal.main_arg0)
          ∧ r.2.mem ((c.tc : Thread Cert.InverseRefIdeal.nD Cert.InverseRefIdeal.τ).loc Cert.InverseRefIdeal.main_arg1) = m' ((c.tc : Thread Cert.InverseRefIdeal.nD Cert.InverseRefIdeal.τ).loc Cert.InverseRefIdeal.main_arg1)
          ∧ r.2.mem ((c.tc : Thread Cert.InverseRefIdeal.nD Cert.InverseRefIdeal.τ).loc Cert.InverseRefIdeal.main_arg2) = m' ((c.tc : Thread Cert.InverseRefIdeal.nD Cert.InverseRefIdeal.τ).loc Cert.InverseRefIdeal.main_arg2)
          ∧ r.2.mem ((c.tc : Thread Cert.InverseRefIdeal.nD Cert.InverseRefIdeal.τ).loc Cert.InverseRefIdeal.main_arg3) = m' ((c.tc : Thread Cert.InverseRefIdeal.nD Cert.InverseRefIdeal.τ).loc Cert.InverseRefIdeal.main_arg3)
          ∧ r.2.mem ((c.tc : Thread Cert.InverseRefIdeal.nD Cert.InverseRefIdeal.τ).loc Cert.InverseRefIdeal.main_arg4) = m' ((c.tc : Thread Cert.InverseRefIdeal.nD Cert.InverseRefIdeal.τ).loc Cert.InverseRefIdeal.main_arg4)
          ∧ r.2.mem ((c.tc : Thread Cert.InverseRefIdeal.nD Cert.InverseRefIdeal.τ).loc Cert.InverseRefIdeal.main_arg5) = m' ((c.tc : Thread Cert.InverseRefIdeal.nD Cert.InverseRefIdeal.τ).loc Cert.InverseRefIdeal.main_arg5))

def preserves_Forward_ForwardIdeal : Prop :=
  True

def algebraic_ForwardIdeal_ForwardRefIdeal [hForwardIdeal : Cert.ForwardIdeal.Facts] [hForwardRefIdeal : Cert.ForwardRefIdeal.Facts] : Prop :=
  ∀ (m : (ℓ : Loc Cert.ForwardIdeal.nD Cert.ForwardIdeal.τ Cert.ForwardIdeal.sig) → Buf (Elt Ideal) ℓ) (g : Dev Cert.ForwardIdeal.nD → PrngReg)
    (m' : (ℓ : Loc Cert.ForwardRefIdeal.nD Cert.ForwardRefIdeal.τ Cert.ForwardRefIdeal.sig) → Buf (Elt Ideal) ℓ) (g' : Dev Cert.ForwardRefIdeal.nD → PrngReg), Pre_ForwardIdeal m →
    (∀ c : Dev Cert.ForwardIdeal.nD,
      m' ((c.tc : Thread Cert.ForwardRefIdeal.nD Cert.ForwardRefIdeal.τ).loc Cert.ForwardRefIdeal.main_arg0) = m ((c.tc : Thread Cert.ForwardIdeal.nD Cert.ForwardIdeal.τ).loc Cert.ForwardIdeal.main_arg0)
      ∧ m' ((c.tc : Thread Cert.ForwardRefIdeal.nD Cert.ForwardRefIdeal.τ).loc Cert.ForwardRefIdeal.main_arg1) = m ((c.tc : Thread Cert.ForwardIdeal.nD Cert.ForwardIdeal.τ).loc Cert.ForwardIdeal.main_arg1)
      ∧ m' ((c.tc : Thread Cert.ForwardRefIdeal.nD Cert.ForwardRefIdeal.τ).loc Cert.ForwardRefIdeal.main_arg2) = m ((c.tc : Thread Cert.ForwardIdeal.nD Cert.ForwardIdeal.τ).loc Cert.ForwardIdeal.main_arg2)
      ∧ m' ((c.tc : Thread Cert.ForwardRefIdeal.nD Cert.ForwardRefIdeal.τ).loc Cert.ForwardRefIdeal.main_arg3) = m ((c.tc : Thread Cert.ForwardIdeal.nD Cert.ForwardIdeal.τ).loc Cert.ForwardIdeal.main_arg3)
      ∧ m' ((c.tc : Thread Cert.ForwardRefIdeal.nD Cert.ForwardRefIdeal.τ).loc Cert.ForwardRefIdeal.main_arg4) = m ((c.tc : Thread Cert.ForwardIdeal.nD Cert.ForwardIdeal.τ).loc Cert.ForwardIdeal.main_arg4)) →
    ∃ (v0 : (c : Dev Cert.ForwardIdeal.nD) → Buf (Elt Ideal) ((c.tc : Thread Cert.ForwardIdeal.nD Cert.ForwardIdeal.τ).loc Cert.ForwardIdeal.main_v0)),
      θ_run (Cert.ForwardIdeal.defs (F := Ideal)) (onTc (τ := Cert.ForwardIdeal.τ) (Cert.ForwardIdeal.main (F := Ideal))) ⟨m, fun _ => 0, g⟩ (fun r => ∀ c : Dev Cert.ForwardIdeal.nD,
          r.2.mem ((c.tc : Thread Cert.ForwardIdeal.nD Cert.ForwardIdeal.τ).loc Cert.ForwardIdeal.main_v0) = v0 c
          ∧ r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
          ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
          ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2)
          ∧ r.2.mem ((c.tc : Thread Cert.ForwardIdeal.nD Cert.ForwardIdeal.τ).loc Cert.ForwardIdeal.main_arg3) = m ((c.tc : Thread Cert.ForwardIdeal.nD Cert.ForwardIdeal.τ).loc Cert.ForwardIdeal.main_arg3)
          ∧ r.2.mem ((c.tc : Thread Cert.ForwardIdeal.nD Cert.ForwardIdeal.τ).loc Cert.ForwardIdeal.main_arg4) = m ((c.tc : Thread Cert.ForwardIdeal.nD Cert.ForwardIdeal.τ).loc Cert.ForwardIdeal.main_arg4))
      ∧ θ_run (Cert.ForwardRefIdeal.defs (F := Ideal)) (onTc (τ := Cert.ForwardRefIdeal.τ) (Cert.ForwardRefIdeal.main (F := Ideal))) ⟨m', fun _ => 0, g'⟩ (fun r => ∀ c : Dev Cert.ForwardRefIdeal.nD,
          r.2.mem ((c.tc : Thread Cert.ForwardRefIdeal.nD Cert.ForwardRefIdeal.τ).loc Cert.ForwardRefIdeal.main_v43) = v0 c
          ∧ r.2.mem ((c.tc : Thread Cert.ForwardRefIdeal.nD Cert.ForwardRefIdeal.τ).loc Cert.ForwardRefIdeal.main_arg0) = m' ((c.tc : Thread Cert.ForwardRefIdeal.nD Cert.ForwardRefIdeal.τ).loc Cert.ForwardRefIdeal.main_arg0)
          ∧ r.2.mem ((c.tc : Thread Cert.ForwardRefIdeal.nD Cert.ForwardRefIdeal.τ).loc Cert.ForwardRefIdeal.main_arg1) = m' ((c.tc : Thread Cert.ForwardRefIdeal.nD Cert.ForwardRefIdeal.τ).loc Cert.ForwardRefIdeal.main_arg1)
          ∧ r.2.mem ((c.tc : Thread Cert.ForwardRefIdeal.nD Cert.ForwardRefIdeal.τ).loc Cert.ForwardRefIdeal.main_arg2) = m' ((c.tc : Thread Cert.ForwardRefIdeal.nD Cert.ForwardRefIdeal.τ).loc Cert.ForwardRefIdeal.main_arg2)
          ∧ r.2.mem ((c.tc : Thread Cert.ForwardRefIdeal.nD Cert.ForwardRefIdeal.τ).loc Cert.ForwardRefIdeal.main_arg3) = m' ((c.tc : Thread Cert.ForwardRefIdeal.nD Cert.ForwardRefIdeal.τ).loc Cert.ForwardRefIdeal.main_arg3)
          ∧ r.2.mem ((c.tc : Thread Cert.ForwardRefIdeal.nD Cert.ForwardRefIdeal.τ).loc Cert.ForwardRefIdeal.main_arg4) = m' ((c.tc : Thread Cert.ForwardRefIdeal.nD Cert.ForwardRefIdeal.τ).loc Cert.ForwardRefIdeal.main_arg4))

def preserves_Latent_LatentIdeal : Prop :=
  IdealRules.named_const.Statement Cert.LatentIdeal.κ "eps" .f32 0x358637BD#32 ((1 / 1000000 : ℝ) : EReal)

def algebraic_LatentIdeal_LatentRefIdeal [hLatentIdeal : Cert.LatentIdeal.Facts] [hLatentRefIdeal : Cert.LatentRefIdeal.Facts] : Prop :=
  ∀ (m : (ℓ : Loc Cert.LatentIdeal.nD Cert.LatentIdeal.τ Cert.LatentIdeal.sig) → Buf (Elt Ideal) ℓ) (g : Dev Cert.LatentIdeal.nD → PrngReg)
    (m' : (ℓ : Loc Cert.LatentRefIdeal.nD Cert.LatentRefIdeal.τ Cert.LatentRefIdeal.sig) → Buf (Elt Ideal) ℓ) (g' : Dev Cert.LatentRefIdeal.nD → PrngReg), Pre_LatentIdeal m →
    (∀ c : Dev Cert.LatentIdeal.nD,
      m' ((c.tc : Thread Cert.LatentRefIdeal.nD Cert.LatentRefIdeal.τ).loc Cert.LatentRefIdeal.main_arg0) = m ((c.tc : Thread Cert.LatentIdeal.nD Cert.LatentIdeal.τ).loc Cert.LatentIdeal.main_arg0)
      ∧ m' ((c.tc : Thread Cert.LatentRefIdeal.nD Cert.LatentRefIdeal.τ).loc Cert.LatentRefIdeal.main_arg1) = m ((c.tc : Thread Cert.LatentIdeal.nD Cert.LatentIdeal.τ).loc Cert.LatentIdeal.main_arg1)
      ∧ m' ((c.tc : Thread Cert.LatentRefIdeal.nD Cert.LatentRefIdeal.τ).loc Cert.LatentRefIdeal.main_arg2) = m ((c.tc : Thread Cert.LatentIdeal.nD Cert.LatentIdeal.τ).loc Cert.LatentIdeal.main_arg2)) →
    ∃ (v0 : (c : Dev Cert.LatentIdeal.nD) → Buf (Elt Ideal) ((c.tc : Thread Cert.LatentIdeal.nD Cert.LatentIdeal.τ).loc Cert.LatentIdeal.main_v1)),
      θ_run (Cert.LatentIdeal.defs (F := Ideal)) (onTc (τ := Cert.LatentIdeal.τ) (Cert.LatentIdeal.main (F := Ideal))) ⟨m, fun _ => 0, g⟩ (fun r => ∀ c : Dev Cert.LatentIdeal.nD,
          r.2.mem ((c.tc : Thread Cert.LatentIdeal.nD Cert.LatentIdeal.τ).loc Cert.LatentIdeal.main_v1) = v0 c
          ∧ r.2.mem ((c.tc : Thread Cert.LatentIdeal.nD Cert.LatentIdeal.τ).loc Cert.LatentIdeal.main_arg0) = m ((c.tc : Thread Cert.LatentIdeal.nD Cert.LatentIdeal.τ).loc Cert.LatentIdeal.main_arg0)
          ∧ r.2.mem ((c.tc : Thread Cert.LatentIdeal.nD Cert.LatentIdeal.τ).loc Cert.LatentIdeal.main_arg1) = m ((c.tc : Thread Cert.LatentIdeal.nD Cert.LatentIdeal.τ).loc Cert.LatentIdeal.main_arg1)
          ∧ r.2.mem ((c.tc : Thread Cert.LatentIdeal.nD Cert.LatentIdeal.τ).loc Cert.LatentIdeal.main_arg2) = m ((c.tc : Thread Cert.LatentIdeal.nD Cert.LatentIdeal.τ).loc Cert.LatentIdeal.main_arg2))
      ∧ θ_run (Cert.LatentRefIdeal.defs (F := Ideal)) (onTc (τ := Cert.LatentRefIdeal.τ) (Cert.LatentRefIdeal.main (F := Ideal))) ⟨m', fun _ => 0, g'⟩ (fun r => ∀ c : Dev Cert.LatentRefIdeal.nD,
          r.2.mem ((c.tc : Thread Cert.LatentRefIdeal.nD Cert.LatentRefIdeal.τ).loc Cert.LatentRefIdeal.main_v18) = v0 c
          ∧ r.2.mem ((c.tc : Thread Cert.LatentRefIdeal.nD Cert.LatentRefIdeal.τ).loc Cert.LatentRefIdeal.main_arg0) = m' ((c.tc : Thread Cert.LatentRefIdeal.nD Cert.LatentRefIdeal.τ).loc Cert.LatentRefIdeal.main_arg0)
          ∧ r.2.mem ((c.tc : Thread Cert.LatentRefIdeal.nD Cert.LatentRefIdeal.τ).loc Cert.LatentRefIdeal.main_arg1) = m' ((c.tc : Thread Cert.LatentRefIdeal.nD Cert.LatentRefIdeal.τ).loc Cert.LatentRefIdeal.main_arg1)
          ∧ r.2.mem ((c.tc : Thread Cert.LatentRefIdeal.nD Cert.LatentRefIdeal.τ).loc Cert.LatentRefIdeal.main_arg2) = m' ((c.tc : Thread Cert.LatentRefIdeal.nD Cert.LatentRefIdeal.τ).loc Cert.LatentRefIdeal.main_arg2))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsRefIdeal : Cert.ExpertsRefIdeal.Facts) (hProject : Cert.Project.Facts) (hProjectIdeal : Cert.ProjectIdeal.Facts) (hProjectRefIdeal : Cert.ProjectRefIdeal.Facts) (hCombine : Cert.Combine.Facts) (hCombineIdeal : Cert.CombineIdeal.Facts) (hCombineRefIdeal : Cert.CombineRefIdeal.Facts) (hOutProj : Cert.OutProj.Facts) (hOutProjIdeal : Cert.OutProjIdeal.Facts) (hOutProjRefIdeal : Cert.OutProjRefIdeal.Facts) (hRope : Cert.Rope.Facts) (hRopeIdeal : Cert.RopeIdeal.Facts) (hRopeRefIdeal : Cert.RopeRefIdeal.Facts) (hMix : Cert.Mix.Facts) (hMixIdeal : Cert.MixIdeal.Facts) (hMixRefIdeal : Cert.MixRefIdeal.Facts) (hInverse : Cert.Inverse.Facts) (hInverseIdeal : Cert.InverseIdeal.Facts) (hInverseRefIdeal : Cert.InverseRefIdeal.Facts) (hForward : Cert.Forward.Facts) (hForwardIdeal : Cert.ForwardIdeal.Facts) (hForwardRefIdeal : Cert.ForwardRefIdeal.Facts) (hLatent : Cert.Latent.Facts) (hLatentIdeal : Cert.LatentIdeal.Facts) (hLatentRefIdeal : Cert.LatentRefIdeal.Facts) (hPre_finite_scores : Cert.Pre_finite_scores.Facts) (hPre_finite_inputs : Cert.Pre_finite_inputs.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Experts (hExperts := hExperts)
    ∧ quiescent_ExpertsIdeal (hExpertsIdeal := hExpertsIdeal)
    ∧ quiescent_ExpertsRefIdeal (hExpertsRefIdeal := hExpertsRefIdeal)
    ∧ quiescent_Project (hProject := hProject)
    ∧ quiescent_ProjectIdeal (hProjectIdeal := hProjectIdeal)
    ∧ quiescent_ProjectRefIdeal (hProjectRefIdeal := hProjectRefIdeal)
    ∧ quiescent_Combine (hCombine := hCombine)
    ∧ quiescent_CombineIdeal (hCombineIdeal := hCombineIdeal)
    ∧ quiescent_CombineRefIdeal (hCombineRefIdeal := hCombineRefIdeal)
    ∧ quiescent_OutProj (hOutProj := hOutProj)
    ∧ quiescent_OutProjIdeal (hOutProjIdeal := hOutProjIdeal)
    ∧ quiescent_OutProjIdeal_pre_finite_inputs (hOutProjIdeal := hOutProjIdeal) (hPre_finite_inputs := hPre_finite_inputs)
    ∧ quiescent_OutProjRefIdeal (hOutProjRefIdeal := hOutProjRefIdeal)
    ∧ quiescent_OutProjRefIdeal_pre_finite_inputs (hOutProjRefIdeal := hOutProjRefIdeal) (hPre_finite_inputs := hPre_finite_inputs)
    ∧ quiescent_Rope (hRope := hRope)
    ∧ quiescent_RopeIdeal (hRopeIdeal := hRopeIdeal)
    ∧ quiescent_RopeRefIdeal (hRopeRefIdeal := hRopeRefIdeal)
    ∧ quiescent_Mix (hMix := hMix)
    ∧ quiescent_MixIdeal (hMixIdeal := hMixIdeal)
    ∧ quiescent_MixRefIdeal (hMixRefIdeal := hMixRefIdeal)
    ∧ quiescent_Inverse (hInverse := hInverse)
    ∧ quiescent_InverseIdeal (hInverseIdeal := hInverseIdeal)
    ∧ quiescent_InverseRefIdeal (hInverseRefIdeal := hInverseRefIdeal)
    ∧ quiescent_Forward (hForward := hForward)
    ∧ quiescent_ForwardIdeal (hForwardIdeal := hForwardIdeal)
    ∧ quiescent_ForwardRefIdeal (hForwardRefIdeal := hForwardRefIdeal)
    ∧ quiescent_Latent (hLatent := hLatent)
    ∧ quiescent_LatentIdeal (hLatentIdeal := hLatentIdeal)
    ∧ quiescent_LatentRefIdeal (hLatentRefIdeal := hLatentRefIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Experts_ExpertsIdeal
    ∧ algebraic_ExpertsIdeal_ExpertsRefIdeal (hExpertsIdeal := hExpertsIdeal) (hExpertsRefIdeal := hExpertsRefIdeal)
    ∧ preserves_Project_ProjectIdeal
    ∧ algebraic_ProjectIdeal_ProjectRefIdeal (hProjectIdeal := hProjectIdeal) (hProjectRefIdeal := hProjectRefIdeal)
    ∧ preserves_Combine_CombineIdeal
    ∧ algebraic_CombineIdeal_CombineRefIdeal (hCombineIdeal := hCombineIdeal) (hCombineRefIdeal := hCombineRefIdeal)
    ∧ preserves_OutProj_OutProjIdeal
    ∧ algebraic_OutProjIdeal_OutProjRefIdeal_pre_finite_inputs (hOutProjIdeal := hOutProjIdeal) (hOutProjRefIdeal := hOutProjRefIdeal) (hPre_finite_inputs := hPre_finite_inputs)
    ∧ preserves_Rope_RopeIdeal
    ∧ algebraic_RopeIdeal_RopeRefIdeal (hRopeIdeal := hRopeIdeal) (hRopeRefIdeal := hRopeRefIdeal)
    ∧ preserves_Mix_MixIdeal
    ∧ algebraic_MixIdeal_MixRefIdeal (hMixIdeal := hMixIdeal) (hMixRefIdeal := hMixRefIdeal)
    ∧ preserves_Inverse_InverseIdeal
    ∧ algebraic_InverseIdeal_InverseRefIdeal (hInverseIdeal := hInverseIdeal) (hInverseRefIdeal := hInverseRefIdeal)
    ∧ preserves_Forward_ForwardIdeal
    ∧ algebraic_ForwardIdeal_ForwardRefIdeal (hForwardIdeal := hForwardIdeal) (hForwardRefIdeal := hForwardRefIdeal)
    ∧ preserves_Latent_LatentIdeal
    ∧ algebraic_LatentIdeal_LatentRefIdeal (hLatentIdeal := hLatentIdeal) (hLatentRefIdeal := hLatentRefIdeal)
-- ==== Pre_finite_inputs.lean ====
abbrev S8192x1024 : Shape := ⟨2, ![8192, 1024]⟩
abbrev S2048x2048 : Shape := ⟨2, ![2048, 2048]⟩
abbrev S8192x2048 : Shape := ⟨2, ![8192, 2048]⟩
abbrev S4x3x2048 : Shape := ⟨3, ![4, 3, 2048]⟩
abbrev S2x2048 : Shape := ⟨2, ![2, 2048]⟩
abbrev S2048x16 : Shape := ⟨2, ![2048, 16]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  bcast_S_S2048x2048 : S_.BroadcastsInDim S2048x2048 (![] : Fin 0 → Fin S2048x2048.rank)
  bcast_S_S8192x2048 : S_.BroadcastsInDim S8192x2048 (![] : Fin 0 → Fin S8192x2048.rank)
  bcast_S_S4x3x2048 : S_.BroadcastsInDim S4x3x2048 (![] : Fin 0 → Fin S4x3x2048.rank)
  bcast_S_S2x2048 : S_.BroadcastsInDim S2x2048 (![] : Fin 0 → Fin S2x2048.rank)
  bcast_S_S2048x16 : S_.BroadcastsInDim S2048x16 (![] : Fin 0 → Fin S2048x16.rank)

variable [Facts]

def fn_part1 {F : FTy → Type} [FloatOps F] (main_arg6 : FVec F S2048x16 .f32) (main_v3 : IVec S8192x1024 1) (main_v7 : IVec S8192x1024 1) (main_v11 : IVec S2048x2048 1) (main_v14 : IVec S8192x2048 1) (main_v17 : IVec S4x3x2048 1) (main_v18 : FVec F S2x2048 .f32) : IVec S8192x1024 1 × IVec S8192x1024 1 × IVec S2048x2048 1 × IVec S8192x2048 1 × IVec S4x3x2048 1 × IVec S2x2048 1 × IVec S2048x16 1 :=
  let main_cst_4 : FVec F S_ .f32 := constant S_ .f32 0x7F800000#32
  let main_v19 : FVec F S2x2048 .f32 := broadcastInDim S2x2048 ![] bcast_S_S2x2048 main_cst_4
  let main_v20 : IVec S2x2048 1 := cmpf .olt main_v18 main_v19
  let main_v21 : FVec F S2048x16 .f32 := Host.absf main_arg6
  let main_cst_5 : FVec F S_ .f32 := constant S_ .f32 0x7F800000#32
  let main_v22 : FVec F S2048x16 .f32 := broadcastInDim S2048x16 ![] bcast_S_S2048x16 main_cst_5
  let main_v23 : IVec S2048x16 1 := cmpf .olt main_v21 main_v22
  (main_v3, main_v7, main_v11, main_v14, main_v17, main_v20, main_v23)

def fn {F : FTy → Type} [FloatOps F] (main_arg0 : FVec F S8192x1024 .bf16) (main_arg1 : FVec F S8192x1024 .bf16) (main_arg2 : FVec F S2048x2048 .bf16) (main_arg3 : FVec F S8192x2048 .f32) (main_arg4 : FVec F S4x3x2048 .f32) (main_arg5 : FVec F S2x2048 .f32) (main_arg6 : FVec F S2048x16 .f32) : IVec S8192x1024 1 × IVec S8192x1024 1 × IVec S2048x2048 1 × IVec S8192x2048 1 × IVec S4x3x2048 1 × IVec S2x2048 1 × IVec S2048x16 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_v4 : FVec F S8192x1024 .f32 := (extf .f32 · bitsLt_bf16_f32) main_arg1
  let main_v5 : FVec F S8192x1024 .f32 := Host.absf main_v4
  let main_cst_0 : FVec F S_ .f32 := constant S_ .f32 0x7F800000#32
  let main_v6 : FVec F S8192x1024 .f32 := broadcastInDim S8192x1024 ![] bcast_S_S8192x1024 main_cst_0
  let main_v7 : IVec S8192x1024 1 := cmpf .olt main_v5 main_v6
  let main_v8 : FVec F S2048x2048 .f32 := (extf .f32 · bitsLt_bf16_f32) main_arg2
  let main_v9 : FVec F S2048x2048 .f32 := Host.absf main_v8
  let main_cst_1 : FVec F S_ .f32 := constant S_ .f32 0x7F800000#32
  let main_v10 : FVec F S2048x2048 .f32 := broadcastInDim S2048x2048 ![] bcast_S_S2048x2048 main_cst_1
  let main_v11 : IVec S2048x2048 1 := cmpf .olt main_v9 main_v10
  let main_v12 : FVec F S8192x2048 .f32 := Host.absf main_arg3
  let main_cst_2 : FVec F S_ .f32 := constant S_ .f32 0x7F800000#32
  let main_v13 : FVec F S8192x2048 .f32 := broadcastInDim S8192x2048 ![] bcast_S_S8192x2048 main_cst_2
  let main_v14 : IVec S8192x2048 1 := cmpf .olt main_v12 main_v13
  let main_v15 : FVec F S4x3x2048 .f32 := Host.absf main_arg4
  let main_cst_3 : FVec F S_ .f32 := constant S_ .f32 0x7F800000#32
  let main_v16 : FVec F S4x3x2048 .f32 := broadcastInDim S4x3x2048 ![] bcast_S_S4x3x2048 main_cst_3
  let main_v17 : IVec S4x3x2048 1 := cmpf .olt main_v15 main_v16
  let main_v18 : FVec F S2x2048 .f32 := Host.absf main_arg5
  fn_part1 (F := F) main_arg6 main_v3 main_v7 main_v11 main_v14 main_v17 main_v18
-- ==== Pre_finite_scores.lean ====
abbrev S8192x5888 : Shape := ⟨2, ![8192, 5888]⟩
abbrev S8192x2048 : Shape := ⟨2, ![8192, 2048]⟩
abbrev S1024x5888 : Shape := ⟨2, ![1024, 5888]⟩
abbrev S1024x2048 : Shape := ⟨2, ![1024, 2048]⟩
abbrev S_ : Shape := ⟨0, ![]⟩
abbrev S8192x128 : Shape := ⟨2, ![8192, 128]⟩
abbrev S8192x1024 : Shape := ⟨2, ![8192, 1024]⟩
abbrev S1024x128 : Shape := ⟨2, ![1024, 128]⟩
abbrev S1024x1024 : Shape := ⟨2, ![1024, 1024]⟩

class Facts : Prop where
  slices_S8192x5888_S8192x2048_0_0 : S8192x5888.Slices ![0, 0] S8192x2048
  bitsLt_bf16_f32 : FTy.bits .bf16 < FTy.bits .f32
  bcast_S_S8192x2048 : S_.BroadcastsInDim S8192x2048 (![] : Fin 0 → Fin S8192x2048.rank)
  slices_S8192x5888_S8192x128_0_2688 : S8192x5888.Slices ![0, 2688] S8192x128
  bcast_S_S8192x128 : S_.BroadcastsInDim S8192x128 (![] : Fin 0 → Fin S8192x128.rank)
  slices_S8192x2048_S8192x1024_0_0 : S8192x2048.Slices ![0, 0] S8192x1024
  bcast_S_S8192x1024 : S_.BroadcastsInDim S8192x1024 (![] : Fin 0 → Fin S8192x1024.rank)
  slices_S1024x5888_S1024x128_0_2688 : S1024x5888.Slices ![0, 2688] S1024x128
  bcast_S_S1024x128 : S_.BroadcastsInDim S1024x128 (![] : Fin 0 → Fin S1024x128.rank)
  slices_S1024x2048_S1024x1024_0_0 : S1024x2048.Slices ![0, 0] S1024x1024
  bcast_S_S1024x1024 : S_.BroadcastsInDim S1024x1024 (![] : Fin 0 → Fin S1024x1024.rank)

variable [Facts]

def fn_part1 {F : FTy → Type} [FloatOps F] (main_arg3 : FVec F S1024x2048 .bf16) (main_v4 : IVec S8192x2048 1) (main_v9 : IVec S8192x128 1) (main_v14 : IVec S8192x1024 1) (main_v19 : IVec S1024x128 1) : IVec S8192x2048 1 × IVec S8192x128 1 × IVec S8192x1024 1 × IVec S1024x128 1 × IVec S1024x1024 1 :=
  let main_v20 : FVec F S1024x1024 .bf16 := (extractStridedSlice S1024x1024 ![0, 0] · slices_S1024x2048_S1024x1024_0_0) main_arg3
  let main_v21 : FVec F S1024x1024 .f32 := (extf .f32 · bitsLt_bf16_f32) main_v20
  let main_v22 : FVec F S1024x1024 .f32 := Host.absf main_v21
  let main_cst_3 : FVec F S_ .f32 := constant S_ .f32 0x7F800000#32
  let main_v23 : FVec F S1024x1024 .f32 := broadcastInDim S1024x1024 ![] bcast_S_S1024x1024 main_cst_3
  let main_v24 : IVec S1024x1024 1 := cmpf .olt main_v22 main_v23
  (main_v4, main_v9, main_v14, main_v19, main_v24)

def fn {F : FTy → Type} [FloatOps F] (main_arg0 : FVec F S8192x5888 .bf16) (main_arg1 : FVec F S8192x2048 .bf16) (main_arg2 : FVec F S1024x5888 .bf16) (main_arg3 : FVec F S1024x2048 .bf16) : IVec S8192x2048 1 × IVec S8192x128 1 × IVec S8192x1024 1 × IVec S1024x128 1 × IVec S1024x1024 1 :=
  let main_v0 : FVec F S8192x2048 .bf16 := (extractStridedSlice S8192x2048 ![0, 0] · slices_S8192x5888_S8192x2048_0_0) main_arg0
  let main_v1 : FVec F S8192x2048 .f32 := (extf .f32 · bitsLt_bf16_f32) main_v0
  let main_v2 : FVec F S8192x2048 .f32 := Host.absf main_v1
  let main_cst : FVec F S_ .f32 := constant S_ .f32 0x7F800000#32
  let main_v3 : FVec F S8192x2048 .f32 := broadcastInDim S8192x2048 ![] bcast_S_S8192x2048 main_cst
  let main_v4 : IVec S8192x2048 1 := cmpf .olt main_v2 main_v3
  let main_v5 : FVec F S8192x128 .bf16 := (extractStridedSlice S8192x128 ![0, 2688] · slices_S8192x5888_S8192x128_0_2688) main_arg0
  let main_v6 : FVec F S8192x128 .f32 := (extf .f32 · bitsLt_bf16_f32) main_v5
  let main_v7 : FVec F S8192x128 .f32 := Host.absf main_v6
  let main_cst_0 : FVec F S_ .f32 := constant S_ .f32 0x7F800000#32
  let main_v8 : FVec F S8192x128 .f32 := broadcastInDim S8192x128 ![] bcast_S_S8192x128 main_cst_0
  let main_v9 : IVec S8192x128 1 := cmpf .olt main_v7 main_v8
  let main_v10 : FVec F S8192x1024 .bf16 := (extractStridedSlice S8192x1024 ![0, 0] · slices_S8192x2048_S8192x1024_0_0) main_arg1
  let main_v11 : FVec F S8192x1024 .f32 := (extf .f32 · bitsLt_bf16_f32) main_v10
  let main_v12 : FVec F S8192x1024 .f32 := Host.absf main_v11
  let main_cst_1 : FVec F S_ .f32 := constant S_ .f32 0x7F800000#32
  let main_v13 : FVec F S8192x1024 .f32 := broadcastInDim S8192x1024 ![] bcast_S_S8192x1024 main_cst_1
  let main_v14 : IVec S8192x1024 1 := cmpf .olt main_v12 main_v13
  let main_v15 : FVec F S1024x128 .bf16 := (extractStridedSlice S1024x128 ![0, 2688] · slices_S1024x5888_S1024x128_0_2688) main_arg2
  let main_v16 : FVec F S1024x128 .f32 := (extf .f32 · bitsLt_bf16_f32) main_v15
  let main_v17 : FVec F S1024x128 .f32 := Host.absf main_v16
  let main_cst_2 : FVec F S_ .f32 := constant S_ .f32 0x7F800000#32
  let main_v18 : FVec F S1024x128 .f32 := broadcastInDim S1024x128 ![] bcast_S_S1024x128 main_cst_2
  let main_v19 : IVec S1024x128 1 := cmpf .olt main_v17 main_v18
  fn_part1 (F := F) main_arg3 main_v4 main_v9 main_v14 main_v19
-- ==== Kernel.lean ====
abbrev S8192x5888 : Shape := ⟨2, ![8192, 5888]⟩
abbrev S8192x2048 : Shape := ⟨2, ![8192, 2048]⟩
abbrev S1024x5888 : Shape := ⟨2, ![1024, 5888]⟩
abbrev S1024x2048 : Shape := ⟨2, ![1024, 2048]⟩
abbrev S8192x1024 : Shape := ⟨2, ![8192, 1024]⟩
abbrev S512x256 : Shape := ⟨2, ![512, 256]⟩
abbrev S2048x128 : Shape := ⟨2, ![2048, 128]⟩
abbrev S256x128 : Shape := ⟨2, ![256, 128]⟩
abbrev S512x128 : Shape := ⟨2, ![512, 128]⟩
abbrev S2304x256 : Shape := ⟨2, ![2304, 256]⟩
abbrev S2304x128 : Shape := ⟨2, ![2304, 128]⟩
abbrev S512x2304 : Shape := ⟨2, ![512, 2304]⟩
abbrev S512 : Shape := ⟨1, ![512]⟩
abbrev S512x1 : Shape := ⟨2, ![512, 1]⟩

abbrev nBuf : Space → Nat
  | .hbm => 5
  | .vmem => 18
  | .smem => 0
  | _ => 0

abbrev bufTy : (tb : Table) → Fin (tcTables nBuf tb) → BufTy
  | .hbm, ⟨0, _⟩ => ⟨S8192x5888, .bf16⟩
  | .hbm, ⟨1, _⟩ => ⟨S8192x2048, .bf16⟩
  | .hbm, ⟨2, _⟩ => ⟨S1024x5888, .bf16⟩
  | .hbm, ⟨3, _⟩ => ⟨S1024x2048, .bf16⟩
  | .hbm, ⟨4, _⟩ => ⟨S8192x1024, .bf16⟩
  | .local _ .vmem, ⟨0, _⟩ => ⟨S512x256, .bf16⟩
  | .local _ .vmem, ⟨1, _⟩ => ⟨S512x256, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S256x128, .bf16⟩
  | .local _ .vmem, ⟨9, _⟩ => ⟨S256x128, .bf16⟩
  | .local _ .vmem, ⟨10, _⟩ => ⟨S256x128, .bf16⟩
  | .local _ .vmem, ⟨11, _⟩ => ⟨S256x128, .bf16⟩
  | .local _ .vmem, ⟨12, _⟩ => ⟨S256x128, .bf16⟩
  | .local _ .vmem, ⟨13, _⟩ => ⟨S256x128, .bf16⟩
  | .local _ .vmem, ⟨14, _⟩ => ⟨S512x128, .bf16⟩
  | .local _ .vmem, ⟨15, _⟩ => ⟨S512x128, .bf16⟩
  | .local _ .vmem, ⟨16, _⟩ => ⟨S2304x256, .bf16⟩
  | .local _ .vmem, ⟨17, _⟩ => ⟨S2304x128, .bf16⟩
  | _, _ => ⟨S8192x5888, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![4, 8, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c21_i32 : BitVec 32 := 21#32
  let c0_i32 : BitVec 32 := 0#32
  ![arg0.toNat, c21_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c21_i32 : BitVec 32 := 21#32
  let c0_i32 : BitVec 32 := 0#32
  ![arg0.toNat, c21_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== ReferenceIdeal.lean ====
abbrev S8192x5888 : Shape := ⟨2, ![8192, 5888]⟩
abbrev S8192x2048 : Shape := ⟨2, ![8192, 2048]⟩
abbrev S1024x5888 : Shape := ⟨2, ![1024, 5888]⟩
abbrev S1024x2048 : Shape := ⟨2, ![1024, 2048]⟩
abbrev S4x2048x8x256 : Shape := ⟨4, ![4, 2048, 8, 256]⟩
abbrev S4x2048x8x128 : Shape := ⟨4, ![4, 2048, 8, 128]⟩
abbrev S8192x128 : Shape := ⟨2, ![8192, 128]⟩
abbrev S4x2048x128 : Shape := ⟨3, ![4, 2048, 128]⟩
abbrev S1024x128 : Shape := ⟨2, ![1024, 128]⟩
abbrev S4x256x128 : Shape := ⟨3, ![4, 256, 128]⟩
abbrev S8192x1024 : Shape := ⟨2, ![8192, 1024]⟩
abbrev S1024x1024 : Shape := ⟨2, ![1024, 1024]⟩
abbrev S4x256x8x128 : Shape := ⟨4, ![4, 256, 8, 128]⟩
abbrev S4x8x2048x2048 : Shape := ⟨4, ![4, 8, 2048, 2048]⟩
abbrev S4x2048x2048x8 : Shape := ⟨4, ![4, 2048, 2048, 8]⟩
abbrev S4x8x2048x256 : Shape := ⟨4, ![4, 8, 2048, 256]⟩
abbrev S4x256x2048x8 : Shape := ⟨4, ![4, 256, 2048, 8]⟩
abbrev S4x8x2048x2304 : Shape := ⟨4, ![4, 8, 2048, 2304]⟩
abbrev S_ : Shape := ⟨0, ![]⟩
abbrev S4x8x2048 : Shape := ⟨3, ![4, 8, 2048]⟩
abbrev S4x8x2048x1 : Shape := ⟨4, ![4, 8, 2048, 1]⟩
abbrev S4x8x128x2048 : Shape := ⟨4, ![4, 8, 128, 2048]⟩

abbrev nBuf : Space → Nat
  | .hbm => 56
  | .vmem => 0
  | .smem => 0
  | _ => 0

abbrev bufTy : (tb : Table) → Fin (tcTables nBuf tb) → BufTy
  | .hbm, ⟨0, _⟩ => ⟨S8192x5888, .bf16⟩
  | .hbm, ⟨1, _⟩ => ⟨S8192x2048, .bf16⟩
  | .hbm, ⟨2, _⟩ => ⟨S1024x5888, .bf16⟩
  | .hbm, ⟨3, _⟩ => ⟨S1024x2048, .bf16⟩
  | .hbm, ⟨4, _⟩ => ⟨S8192x5888, .f32⟩
  | .hbm, ⟨5, _⟩ => ⟨S8192x2048, .f32⟩
  | .hbm, ⟨6, _⟩ => ⟨S1024x5888, .f32⟩
  | .hbm, ⟨7, _⟩ => ⟨S1024x2048, .f32⟩
  | .hbm, ⟨8, _⟩ => ⟨S8192x2048, .f32⟩
  | .hbm, ⟨9, _⟩ => ⟨S4x2048x8x256, .f32⟩
  | .hbm, ⟨10, _⟩ => ⟨S4x2048x8x128, .f32⟩
  | .hbm, ⟨11, _⟩ => ⟨S4x2048x8x128, .f32⟩
  | .hbm, ⟨12, _⟩ => ⟨S8192x128, .f32⟩
  | .hbm, ⟨13, _⟩ => ⟨S4x2048x128, .f32⟩
  | .hbm, ⟨14, _⟩ => ⟨S1024x128, .f32⟩
  | .hbm, ⟨15, _⟩ => ⟨S4x256x128, .f32⟩
  | .hbm, ⟨16, _⟩ => ⟨S8192x1024, .f32⟩
  | .hbm, ⟨17, _⟩ => ⟨S4x2048x8x128, .f32⟩
  | .hbm, ⟨18, _⟩ => ⟨S8192x1024, .f32⟩
  | .hbm, ⟨19, _⟩ => ⟨S4x2048x8x128, .f32⟩
  | .hbm, ⟨20, _⟩ => ⟨S1024x1024, .f32⟩
  | .hbm, ⟨21, _⟩ => ⟨S4x256x8x128, .f32⟩
  | .hbm, ⟨22, _⟩ => ⟨S1024x1024, .f32⟩
  | .hbm, ⟨23, _⟩ => ⟨S4x256x8x128, .f32⟩
  | .hbm, ⟨24, _⟩ => ⟨S4x8x2048x2048, .f32⟩
  | .hbm, ⟨25, _⟩ => ⟨S4x2048x2048x8, .f32⟩
  | .hbm, ⟨26, _⟩ => ⟨S4x8x2048x2048, .f32⟩
  | .hbm, ⟨27, _⟩ => ⟨S4x8x2048x2048, .f32⟩
  | .hbm, ⟨28, _⟩ => ⟨S4x8x2048x256, .f32⟩
  | .hbm, ⟨29, _⟩ => ⟨S4x256x2048x8, .f32⟩
  | .hbm, ⟨30, _⟩ => ⟨S4x8x2048x256, .f32⟩
  | .hbm, ⟨31, _⟩ => ⟨S4x8x2048x256, .f32⟩
  | .hbm, ⟨32, _⟩ => ⟨S4x8x2048x2304, .f32⟩
  | .hbm, ⟨33, _⟩ => ⟨S_, .f32⟩
  | .hbm, ⟨34, _⟩ => ⟨S4x8x2048, .f32⟩
  | .hbm, ⟨35, _⟩ => ⟨S_, .f32⟩
  | .hbm, ⟨36, _⟩ => ⟨S4x8x2048, .f32⟩
  | .hbm, ⟨37, _⟩ => ⟨S4x8x2048, .f32⟩
  | .hbm, ⟨38, _⟩ => ⟨S4x8x2048x1, .f32⟩
  | .hbm, ⟨39, _⟩ => ⟨S4x8x2048x2304, .f32⟩
  | .hbm, ⟨40, _⟩ => ⟨S4x8x2048x2304, .f32⟩
  | .hbm, ⟨41, _⟩ => ⟨S4x8x2048x2304, .f32⟩
  | .hbm, ⟨42, _⟩ => ⟨S_, .f32⟩
  | .hbm, ⟨43, _⟩ => ⟨S4x8x2048, .f32⟩
  | .hbm, ⟨44, _⟩ => ⟨S4x8x2048x1, .f32⟩
  | .hbm, ⟨45, _⟩ => ⟨S4x8x2048x2304, .f32⟩
  | .hbm, ⟨46, _⟩ => ⟨S4x8x2048x2304, .f32⟩
  | .hbm, ⟨47, _⟩ => ⟨S4x8x2048x2048, .f32⟩
  | .hbm, ⟨48, _⟩ => ⟨S4x8x128x2048, .f32⟩
  | .hbm, ⟨49, _⟩ => ⟨S4x2048x8x128, .f32⟩
  | .hbm, ⟨50, _⟩ => ⟨S4x8x2048x256, .f32⟩
  | .hbm, ⟨51, _⟩ => ⟨S4x8x128x2048, .f32⟩
  | .hbm, ⟨52, _⟩ => ⟨S4x2048x8x128, .f32⟩
  | .hbm, ⟨53, _⟩ => ⟨S4x2048x8x128, .f32⟩
  | .hbm, ⟨54, _⟩ => ⟨S8192x1024, .f32⟩
  | .hbm, ⟨55, _⟩ => ⟨S8192x1024, .bf16⟩
  | _, _ => ⟨S8192x5888, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_cst : Ref sig .tc := ⟨.hbm, 33, rfl⟩
abbrev main_v29 : Ref sig .tc := ⟨.hbm, 34, rfl⟩
abbrev main_cst_0 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_cst_1 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩

abbrev nD : Nat := 1
abbrev τ : Topo := Topo.v7x

variable {F : FTy → Type} [FloatOps F]
-- ==== Experts.lean ====
abbrev S16x1024x2048 : Shape := ⟨3, ![16, 1024, 2048]⟩
abbrev S2x16x2048x1408 : Shape := ⟨4, ![2, 16, 2048, 1408]⟩
abbrev S2x16x1408x2048 : Shape := ⟨4, ![2, 16, 1408, 2048]⟩
abbrev S1x1024x2048 : Shape := ⟨3, ![1, 1024, 2048]⟩
abbrev S1x1x2048x128 : Shape := ⟨4, ![1, 1, 2048, 128]⟩
abbrev S1x1x128x2048 : Shape := ⟨4, ![1, 1, 128, 2048]⟩
abbrev S1024x2048 : Shape := ⟨2, ![1024, 2048]⟩
abbrev S2048x128 : Shape := ⟨2, ![2048, 128]⟩
abbrev S2048x512 : Shape := ⟨2, ![2048, 512]⟩
abbrev S1024x512 : Shape := ⟨2, ![1024, 512]⟩
abbrev S1024x256 : Shape := ⟨2, ![1024, 256]⟩
abbrev S128x2048 : Shape := ⟨2, ![128, 2048]⟩
abbrev S256x2048 : Shape := ⟨2, ![256, 2048]⟩

abbrev nBuf : Space → Nat
  | .hbm => 5
  | .vmem => 17
  | .smem => 0
  | _ => 0

abbrev bufTy : (tb : Table) → Fin (tcTables nBuf tb) → BufTy
  | .hbm, ⟨0, _⟩ => ⟨S16x1024x2048, .bf16⟩
  | .hbm, ⟨1, _⟩ => ⟨S2x16x2048x1408, .f32⟩
  | .hbm, ⟨2, _⟩ => ⟨S2x16x2048x1408, .f32⟩
  | .hbm, ⟨3, _⟩ => ⟨S2x16x1408x2048, .f32⟩
  | .hbm, ⟨4, _⟩ => ⟨S16x1024x2048, .bf16⟩
  | .local _ .vmem, ⟨0, _⟩ => ⟨S1x1024x2048, .bf16⟩
  | .local _ .vmem, ⟨1, _⟩ => ⟨S1x1024x2048, .bf16⟩
  | .local _ .vmem, ⟨2, _⟩ => ⟨S1x1x2048x128, .f32⟩
  | .local _ .vmem, ⟨3, _⟩ => ⟨S1x1x2048x128, .f32⟩
  | .local _ .vmem, ⟨4, _⟩ => ⟨S1x1x2048x128, .f32⟩
  | .local _ .vmem, ⟨5, _⟩ => ⟨S1x1x2048x128, .f32⟩
  | .local _ .vmem, ⟨6, _⟩ => ⟨S1x1x2048x128, .f32⟩
  | .local _ .vmem, ⟨7, _⟩ => ⟨S1x1x2048x128, .f32⟩
  | .local _ .vmem, ⟨8, _⟩ => ⟨S1x1x2048x128, .f32⟩
  | .local _ .vmem, ⟨9, _⟩ => ⟨S1x1x2048x128, .f32⟩
  | .local _ .vmem, ⟨10, _⟩ => ⟨S1x1x128x2048, .f32⟩
  | .local _ .vmem, ⟨11, _⟩ => ⟨S1x1x128x2048, .f32⟩
  | .local _ .vmem, ⟨12, _⟩ => ⟨S1x1x128x2048, .f32⟩
  | .local _ .vmem, ⟨13, _⟩ => ⟨S1x1x128x2048, .f32⟩
  | .local _ .vmem, ⟨14, _⟩ => ⟨S1x1024x2048, .bf16⟩
  | .local _ .vmem, ⟨15, _⟩ => ⟨S1x1024x2048, .bf16⟩
  | .local _ .vmem, ⟨16, _⟩ => ⟨S1024x2048, .f32⟩
  | _, _ => ⟨S16x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 6], ![false, false]⟩

def k0_cond3 (i : grid0.Coords) : BitVec 1 :=
  let arg1 : BitVec 32 := BitVec.ofNat 32 (i 1).val
  let c5_i32_33 : BitVec 32 := 5#32
  let v48 : BitVec 1 := Scalar.cmpi .eq arg1 c5_i32_33
  let v49 : BitVec 32 := Scalar.extui v48
  let c0_i32_34 : BitVec 32 := 0#32
  let v50 : BitVec 1 := Scalar.cmpi .ne v49 c0_i32_34
  v50

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let c0_i32_0 : BitVec 32 := 0#32
  let c0_i32_1 : BitVec 32 := 0#32
  ![c0_i32.toNat, arg0.toNat, c0_i32_0.toNat, v0.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c10_i32 : BitVec 32 := 10#32
  let v2 : BitVec 32 := Scalar.minsi v1 c10_i32
  let c0_i32 : BitVec 32 := 0#32
  let c0_i32_0 : BitVec 32 := 0#32
  let c0_i32_1 : BitVec 32 := 0#32
  ![c0_i32.toNat, arg0.toNat, c0_i32_0.toNat, v2.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let c0_i32_0 : BitVec 32 := 0#32
  let c0_i32_1 : BitVec 32 := 0#32
  ![c0_i32.toNat, arg0.toNat, c0_i32_0.toNat, v0.toNat]

def cc0_transform_4 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c10_i32 : BitVec 32 := 10#32
  let v2 : BitVec 32 := Scalar.minsi v1 c10_i32
  let c0_i32 : BitVec 32 := 0#32
  let c0_i32_0 : BitVec 32 := 0#32
  let c0_i32_1 : BitVec 32 := 0#32
  ![c0_i32.toNat, arg0.toNat, c0_i32_0.toNat, v2.toNat]

def cc0_transform_5 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let c0_i32_0 : BitVec 32 := 0#32
  let c0_i32_1 : BitVec 32 := 0#32
  ![c0_i32.toNat, arg0.toNat, v0.toNat, c0_i32_0.toNat]

def cc0_transform_6 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c10_i32 : BitVec 32 := 10#32
  let v2 : BitVec 32 := Scalar.minsi v1 c10_i32
  let c0_i32 : BitVec 32 := 0#32
  let c0_i32_0 : BitVec 32 := 0#32
  let c0_i32_1 : BitVec 32 := 0#32
  ![c0_i32.toNat, arg0.toNat, v2.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ExpertsRefIdeal.lean ====
abbrev S16x1024x2048 : Shape := ⟨3, ![16, 1024, 2048]⟩
abbrev S2x16x2048x1408 : Shape := ⟨4, ![2, 16, 2048, 1408]⟩
abbrev S2x16x1408x2048 : Shape := ⟨4, ![2, 16, 1408, 2048]⟩
abbrev S1x16x2048x1408 : Shape := ⟨4, ![1, 16, 2048, 1408]⟩
abbrev S16x2048x1408 : Shape := ⟨3, ![16, 2048, 1408]⟩
abbrev S16x1024x1408 : Shape := ⟨3, ![16, 1024, 1408]⟩
abbrev S_ : Shape := ⟨0, ![]⟩
abbrev S1x16x1408x2048 : Shape := ⟨4, ![1, 16, 1408, 2048]⟩
abbrev S16x1408x2048 : Shape := ⟨3, ![16, 1408, 2048]⟩

abbrev nBuf : Space → Nat
  | .hbm => 25
  | .vmem => 0
  | .smem => 0
  | _ => 0

abbrev bufTy : (tb : Table) → Fin (tcTables nBuf tb) → BufTy
  | .hbm, ⟨0, _⟩ => ⟨S16x1024x2048, .bf16⟩
  | .hbm, ⟨1, _⟩ => ⟨S2x16x2048x1408, .f32⟩
  | .hbm, ⟨2, _⟩ => ⟨S2x16x2048x1408, .f32⟩
  | .hbm, ⟨3, _⟩ => ⟨S2x16x1408x2048, .f32⟩
  | .hbm, ⟨4, _⟩ => ⟨S16x1024x2048, .f32⟩
  | .hbm, ⟨5, _⟩ => ⟨S1x16x2048x1408, .f32⟩
  | .hbm, ⟨6, _⟩ => ⟨S16x2048x1408, .f32⟩
  | .hbm, ⟨7, _⟩ => ⟨S16x1024x1408, .f32⟩
  | .hbm, ⟨8, _⟩ => ⟨S16x1024x1408, .f32⟩
  | .hbm, ⟨9, _⟩ => ⟨S16x1024x1408, .f32⟩
  | .hbm, ⟨10, _⟩ => ⟨S_, .f32⟩
  | .hbm, ⟨11, _⟩ => ⟨S16x1024x1408, .f32⟩
  | .hbm, ⟨12, _⟩ => ⟨S16x1024x1408, .f32⟩
  | .hbm, ⟨13, _⟩ => ⟨S_, .f32⟩
  | .hbm, ⟨14, _⟩ => ⟨S16x1024x1408, .f32⟩
  | .hbm, ⟨15, _⟩ => ⟨S16x1024x1408, .f32⟩
  | .hbm, ⟨16, _⟩ => ⟨S16x1024x1408, .f32⟩
  | .hbm, ⟨17, _⟩ => ⟨S1x16x2048x1408, .f32⟩
  | .hbm, ⟨18, _⟩ => ⟨S16x2048x1408, .f32⟩
  | .hbm, ⟨19, _⟩ => ⟨S16x1024x1408, .f32⟩
  | .hbm, ⟨20, _⟩ => ⟨S16x1024x1408, .f32⟩
  | .hbm, ⟨21, _⟩ => ⟨S1x16x1408x2048, .f32⟩
  | .hbm, ⟨22, _⟩ => ⟨S16x1408x2048, .f32⟩
  | .hbm, ⟨23, _⟩ => ⟨S16x1024x2048, .f32⟩
  | .hbm, ⟨24, _⟩ => ⟨S16x1024x2048, .bf16⟩
  | _, _ => ⟨S16x1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩

abbrev nD : Nat := 1
abbrev τ : Topo := Topo.v7x

variable {F : FTy → Type} [FloatOps F]
-- ==== Project.lean ====
abbrev S8192x2048 : Shape := ⟨2, ![8192, 2048]⟩
abbrev S2048x4096 : Shape := ⟨2, ![2048, 4096]⟩
abbrev S8192x4096 : Shape := ⟨2, ![8192, 4096]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x4096, .bf16⟩
  | .hbm, ⟨2, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjectRefIdeal.lean ====
abbrev S8192x2048 : Shape := ⟨2, ![8192, 2048]⟩
abbrev S2048x4096 : Shape := ⟨2, ![2048, 4096]⟩
abbrev S8192x4096 : Shape := ⟨2, ![8192, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x4096, .bf16⟩
  | .hbm, ⟨2, _⟩ => ⟨S8192x2048, .f32⟩
  | .hbm, ⟨3, _⟩ => ⟨S2048x4096, .f32⟩
  | .hbm, ⟨4, _⟩ => ⟨S8192x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Combine.lean ====
abbrev S4x16x1x2048 : Shape := ⟨4, ![4, 16, 1, 2048]⟩
abbrev S16x1024x2048 : Shape := ⟨3, ![16, 1024, 2048]⟩
abbrev S8192x2048 : Shape := ⟨2, ![8192, 2048]⟩
abbrev S4x1x2048 : Shape := ⟨3, ![4, 1, 2048]⟩
abbrev S2x2048 : Shape := ⟨2, ![2, 2048]⟩
abbrev S1x1x1x512 : Shape := ⟨4, ![1, 1, 1, 512]⟩
abbrev S1x256x2048 : Shape := ⟨3, ![1, 256, 2048]⟩
abbrev S512x2048 : Shape := ⟨2, ![512, 2048]⟩
abbrev S1x1x2048 : Shape := ⟨3, ![1, 1, 2048]⟩
abbrev S256x512 : Shape := ⟨2, ![256, 512]⟩
abbrev S1x512 : Shape := ⟨2, ![1, 512]⟩
abbrev S256x2048 : Shape := ⟨2, ![256, 2048]⟩
abbrev S1x2048 : Shape := ⟨2, ![1, 2048]⟩
abbrev S512 : Shape := ⟨1, ![512]⟩
abbrev S512x1 : Shape := ⟨2, ![512, 1]⟩

abbrev nBuf : Space → Nat
  | .hbm => 7
  | .vmem => 14
  | .smem => 0
  | _ => 0

abbrev bufTy : (tb : Table) → Fin (tcTables nBuf tb) → BufTy
  | .hbm, ⟨0, _⟩ => ⟨S4x16x1x2048, .i32⟩
  | .hbm, ⟨1, _⟩ => ⟨S4x16x1x2048, .f32⟩
  | .hbm, ⟨2, _⟩ => ⟨S16x1024x2048, .bf16⟩
  | .hbm, ⟨3, _⟩ => ⟨S8192x2048, .f32⟩
  | .hbm, ⟨4, _⟩ => ⟨S4x1x2048, .f32⟩
  | .hbm, ⟨5, _⟩ => ⟨S2x2048, .f32⟩
  | .hbm, ⟨6, _⟩ => ⟨S8192x2048, .f32⟩
  | .local _ .vmem, ⟨0, _⟩ => ⟨S1x1x1x512, .i32⟩
  | .local _ .vmem, ⟨1, _⟩ => ⟨S1x1x1x512, .i32⟩
  | .local _ .vmem, ⟨2, _⟩ => ⟨S1x1x1x512, .f32⟩
  | .local _ .vmem, ⟨3, _⟩ => ⟨S1x1x1x512, .f32⟩
  | .local _ .vmem, ⟨4, _⟩ => ⟨S1x256x2048, .bf16⟩
  | .local _ .vmem, ⟨5, _⟩ => ⟨S1x256x2048, .bf16⟩
  | .local _ .vmem, ⟨6, _⟩ => ⟨S512x2048, .f32⟩
  | .local _ .vmem, ⟨7, _⟩ => ⟨S512x2048, .f32⟩
  | .local _ .vmem, ⟨8, _⟩ => ⟨S1x1x2048, .f32⟩
  | .local _ .vmem, ⟨9, _⟩ => ⟨S1x1x2048, .f32⟩
  | .local _ .vmem, ⟨10, _⟩ => ⟨S2x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .f32⟩
  | _, _ => ⟨S4x16x1x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![4, 4, 16], ![false, false, false]⟩

def k0_cond3 (i : grid0.Coords) : BitVec 1 :=
  let arg2 : BitVec 32 := BitVec.ofNat 32 (i 2).val
  let c15_i32 : BitVec 32 := 15#32
  let v21 : BitVec 1 := Scalar.cmpi .eq arg2 c15_i32
  let v22 : BitVec 32 := Scalar.extui v21
  let c0_i32_14 : BitVec 32 := 0#32
  let v23 : BitVec 1 := Scalar.cmpi .ne v22 c0_i32_14
  v23

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat, arg1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x1x1x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 1 → Memref sig .tc .vmem S2x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== CombineIdeal.lean ====
variable {F : FTy → Type} [FloatOps F] [Named F]
def κ : String → Option EReal := fun
  | "alpha" => some ((Real.sqrt 2 : ℝ) : EReal)
  | "eps" => some ((1 / 1000000 : ℝ) : EReal)
  | _ => none
-- ==== CombineRefIdeal.lean ====
abbrev S4x16x1x2048 : Shape := ⟨4, ![4, 16, 1, 2048]⟩
abbrev S16x1024x2048 : Shape := ⟨3, ![16, 1024, 2048]⟩
abbrev S8192x2048 : Shape := ⟨2, ![8192, 2048]⟩
abbrev S4x1x2048 : Shape := ⟨3, ![4, 1, 2048]⟩
abbrev S2x2048 : Shape := ⟨2, ![2, 2048]⟩
abbrev S4x16x2048 : Shape := ⟨3, ![4, 16, 2048]⟩
abbrev S16x4x256x2048 : Shape := ⟨4, ![16, 4, 256, 2048]⟩
abbrev S4x16x256x2048 : Shape := ⟨4, ![4, 16, 256, 2048]⟩
abbrev S4x16x2048x1 : Shape := ⟨4, ![4, 16, 2048, 1]⟩
abbrev S4x16x2048x2048 : Shape := ⟨4, ![4, 16, 2048, 2048]⟩
abbrev S_ : Shape := ⟨0, ![]⟩
abbrev S4x2048x2048 : Shape := ⟨3, ![4, 2048, 2048]⟩
abbrev S1x2048 : Shape := ⟨2, ![1, 2048]⟩
abbrev S2048 : Shape := ⟨1, ![2048]⟩
abbrev S4x2048 : Shape := ⟨2, ![4, 2048]⟩
abbrev S4x2048x1 : Shape := ⟨3, ![4, 2048, 1]⟩
abbrev S1x1x2048 : Shape := ⟨3, ![1, 1, 2048]⟩

abbrev nBuf : Space → Nat
  | .hbm => 76
  | .vmem => 0
  | .smem => 0
  | _ => 0

abbrev bufTy : (tb : Table) → Fin (tcTables nBuf tb) → BufTy
  | .hbm, ⟨0, _⟩ => ⟨S4x16x1x2048, .i32⟩
  | .hbm, ⟨1, _⟩ => ⟨S4x16x1x2048, .f32⟩
  | .hbm, ⟨2, _⟩ => ⟨S16x1024x2048, .bf16⟩
  | .hbm, ⟨3, _⟩ => ⟨S8192x2048, .f32⟩
  | .hbm, ⟨4, _⟩ => ⟨S4x1x2048, .f32⟩
  | .hbm, ⟨5, _⟩ => ⟨S2x2048, .f32⟩
  | .hbm, ⟨6, _⟩ => ⟨S4x16x2048, .i32⟩
  | .hbm, ⟨7, _⟩ => ⟨S4x16x2048, .f32⟩
  | .hbm, ⟨8, _⟩ => ⟨S16x1024x2048, .f32⟩
  | .hbm, ⟨9, _⟩ => ⟨S16x4x256x2048, .f32⟩
  | .hbm, ⟨10, _⟩ => ⟨S4x16x256x2048, .f32⟩
  | .hbm, ⟨11, _⟩ => ⟨S4x16x2048x1, .i32⟩
  | .hbm, ⟨12, _⟩ => ⟨S4x16x2048x2048, .f32⟩
  | .hbm, ⟨13, _⟩ => ⟨S_, .i32⟩
  | .hbm, ⟨14, _⟩ => ⟨S4x16x2048, .i32⟩
  | .hbm, ⟨15, _⟩ => ⟨S4x16x2048, .i1⟩
  | .hbm, ⟨16, _⟩ => ⟨S_, .i32⟩
  | .hbm, ⟨17, _⟩ => ⟨S4x16x2048, .i32⟩
  | .hbm, ⟨18, _⟩ => ⟨S4x16x2048, .i1⟩
  | .hbm, ⟨19, _⟩ => ⟨S4x16x2048, .i1⟩
  | .hbm, ⟨20, _⟩ => ⟨S4x16x2048x1, .i1⟩
  | .hbm, ⟨21, _⟩ => ⟨S4x16x2048x1, .f32⟩
  | .hbm, ⟨22, _⟩ => ⟨S4x16x2048x2048, .f32⟩
  | .hbm, ⟨23, _⟩ => ⟨S4x16x2048x2048, .f32⟩
  | .hbm, ⟨24, _⟩ => ⟨S_, .f32⟩
  | .hbm, ⟨25, _⟩ => ⟨S_, .f32⟩
  | .hbm, ⟨26, _⟩ => ⟨S4x16x2048x2048, .i1⟩
  | .hbm, ⟨27, _⟩ => ⟨S4x16x2048x2048, .f32⟩
  | .hbm, ⟨28, _⟩ => ⟨S4x16x2048x2048, .f32⟩
  | .hbm, ⟨29, _⟩ => ⟨S_, .f32⟩
  | .hbm, ⟨30, _⟩ => ⟨S4x2048x2048, .f32⟩
  | .hbm, ⟨31, _⟩ => ⟨S4x2048x2048, .f32⟩
  | .hbm, ⟨32, _⟩ => ⟨S1x2048, .f32⟩
  | .hbm, ⟨33, _⟩ => ⟨S2048, .f32⟩
  | .hbm, ⟨34, _⟩ => ⟨S1x2048, .f32⟩
  | .hbm, ⟨35, _⟩ => ⟨S2048, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S4x2048x2048, .f32⟩
  | .hbm, ⟨43, _⟩ => ⟨S4x2048x2048, .f32⟩
  | .hbm, ⟨44, _⟩ => ⟨S4x2048x2048, .f32⟩
  | .hbm, ⟨45, _⟩ => ⟨S4x2048x2048, .f32⟩
  | .hbm, ⟨46, _⟩ => ⟨S4x2048x2048, .f32⟩
  | .hbm, ⟨47, _⟩ => ⟨S_, .f32⟩
  | .hbm, ⟨48, _⟩ => ⟨S4x2048, .f32⟩
  | .hbm, ⟨49, _⟩ => ⟨S4x2048x1, .f32⟩
  | .hbm, ⟨50, _⟩ => ⟨S_, .f32⟩
  | .hbm, ⟨51, _⟩ => ⟨S4x2048x1, .f32⟩
  | .hbm, ⟨52, _⟩ => ⟨S4x2048x1, .f32⟩
  | .hbm, ⟨53, _⟩ => ⟨S4x2048x2048, .f32⟩
  | .hbm, ⟨54, _⟩ => ⟨S4x2048x2048, .f32⟩
  | .hbm, ⟨55, _⟩ => ⟨S4x2048x2048, .f32⟩
  | .hbm, ⟨56, _⟩ => ⟨S_, .f32⟩
  | .hbm, ⟨57, _⟩ => ⟨S4x2048, .f32⟩
  | .hbm, ⟨58, _⟩ => ⟨S4x2048x1, .f32⟩
  | .hbm, ⟨59, _⟩ => ⟨S_, .f32⟩
  | .hbm, ⟨60, _⟩ => ⟨S4x2048x1, .f32⟩
  | .hbm, ⟨61, _⟩ => ⟨S4x2048x1, .f32⟩
  | .hbm, ⟨62, _⟩ => ⟨S4x2048x2048, .f32⟩
  | .hbm, ⟨63, _⟩ => ⟨S4x2048x2048, .f32⟩
  | .hbm, ⟨64, _⟩ => ⟨S4x2048x1, .f32⟩
  | .hbm, ⟨65, _⟩ => ⟨S4x2048x1, .f32⟩
  | .hbm, ⟨66, _⟩ => ⟨S4x2048x1, .f32⟩
  | .hbm, ⟨67, _⟩ => ⟨S4x2048x2048, .f32⟩
  | .hbm, ⟨68, _⟩ => ⟨S4x2048x2048, .f32⟩
  | .hbm, ⟨69, _⟩ => ⟨S1x1x2048, .f32⟩
  | .hbm, ⟨70, _⟩ => ⟨S4x2048x2048, .f32⟩
  | .hbm, ⟨71, _⟩ => ⟨S4x2048x2048, .f32⟩
  | .hbm, ⟨72, _⟩ => ⟨S1x1x2048, .f32⟩
  | .hbm, ⟨73, _⟩ => ⟨S4x2048x2048, .f32⟩
  | .hbm, ⟨74, _⟩ => ⟨S4x2048x2048, .f32⟩
  | .hbm, ⟨75, _⟩ => ⟨S8192x2048, .f32⟩
  | _, _ => ⟨S4x16x1x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_5 : Ref sig .tc := ⟨.hbm, 47, rfl⟩
abbrev main_v30 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_v38 : Ref sig .tc := ⟨.hbm, 58, rfl⟩
abbrev main_cst_8 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩

abbrev nD : Nat := 1
abbrev τ : Topo := Topo.v7x

variable {F : FTy → Type} [FloatOps F]
-- ==== OutProj.lean ====
abbrev S8192x1024 : Shape := ⟨2, ![8192, 1024]⟩
abbrev S2048x2048 : Shape := ⟨2, ![2048, 2048]⟩
abbrev S8192x2048 : Shape := ⟨2, ![8192, 2048]⟩
abbrev S4x3x2048 : Shape := ⟨3, ![4, 3, 2048]⟩
abbrev S2x2048 : Shape := ⟨2, ![2, 2048]⟩
abbrev S2048x16 : Shape := ⟨2, ![2048, 16]⟩
abbrev S_ : Shape := ⟨0, ![]⟩
abbrev S2048x128 : Shape := ⟨2, ![2048, 128]⟩
abbrev S1x2048x128 : Shape := ⟨3, ![1, 2048, 128]⟩
abbrev S2x2048x128 : Shape := ⟨3, ![2, 2048, 128]⟩
abbrev S8192x128 : Shape := ⟨2, ![8192, 128]⟩
abbrev S256x1024 : Shape := ⟨2, ![256, 1024]⟩
abbrev S256x2048 : Shape := ⟨2, ![256, 2048]⟩
abbrev S1x3x2048 : Shape := ⟨3, ![1, 3, 2048]⟩
abbrev S256x128 : Shape := ⟨2, ![256, 128]⟩
abbrev S1024x2048 : Shape := ⟨2, ![1024, 2048]⟩
abbrev S1x1x2048 : Shape := ⟨3, ![1, 1, 2048]⟩
abbrev S1x2048 : Shape := ⟨2, ![1, 2048]⟩
abbrev S256 : Shape := ⟨1, ![256]⟩
abbrev S256x1 : Shape := ⟨2, ![256, 1]⟩

abbrev nBuf : Space → Nat
  | .hbm => 20
  | .vmem => 17
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S2048x2048, .bf16⟩
  | .hbm, ⟨3, _⟩ => ⟨S8192x2048, .f32⟩
  | .hbm, ⟨4, _⟩ => ⟨S4x3x2048, .f32⟩
  | .hbm, ⟨5, _⟩ => ⟨S2x2048, .f32⟩
  | .hbm, ⟨6, _⟩ => ⟨S2048x16, .f32⟩
  | .hbm, ⟨7, _⟩ => ⟨S_, .i32⟩
  | .hbm, ⟨8, _⟩ => ⟨S_, .f32⟩
  | .hbm, ⟨9, _⟩ => ⟨S2048x128, .f32⟩
  | .hbm, ⟨10, _⟩ => ⟨S2048x128, .bf16⟩
  | .hbm, ⟨11, _⟩ => ⟨S2048x128, .f32⟩
  | .hbm, ⟨12, _⟩ => ⟨S2048x128, .f32⟩
  | .hbm, ⟨13, _⟩ => ⟨S2048x128, .bf16⟩
  | .hbm, ⟨14, _⟩ => ⟨S1x2048x128, .bf16⟩
  | .hbm, ⟨15, _⟩ => ⟨S1x2048x128, .bf16⟩
  | .hbm, ⟨16, _⟩ => ⟨S2x2048x128, .bf16⟩
  | .hbm, ⟨17, _⟩ => ⟨S8192x2048, .f32⟩
  | .hbm, ⟨18, _⟩ => ⟨S8192x2048, .bf16⟩
  | .hbm, ⟨19, _⟩ => ⟨S8192x128, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S2048x2048, .bf16⟩
  | .local _ .vmem, ⟨5, _⟩ => ⟨S256x2048, .f32⟩
  | .local _ .vmem, ⟨6, _⟩ => ⟨S256x2048, .f32⟩
  | .local _ .vmem, ⟨7, _⟩ => ⟨S1x3x2048, .f32⟩
  | .local _ .vmem, ⟨8, _⟩ => ⟨S1x3x2048, .f32⟩
  | .local _ .vmem, ⟨9, _⟩ => ⟨S2x2048, .f32⟩
  | .local _ .vmem, ⟨10, _⟩ => ⟨S2x2048x128, .bf16⟩
  | .local _ .vmem, ⟨11, _⟩ => ⟨S256x2048, .f32⟩
  | .local _ .vmem, ⟨12, _⟩ => ⟨S256x2048, .f32⟩
  | .local _ .vmem, ⟨13, _⟩ => ⟨S256x2048, .bf16⟩
  | .local _ .vmem, ⟨14, _⟩ => ⟨S256x2048, .bf16⟩
  | .local _ .vmem, ⟨15, _⟩ => ⟨S256x128, .f32⟩
  | .local _ .vmem, ⟨16, _⟩ => ⟨S256x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x3x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x2048x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OutProjIdeal.lean ====
variable {F : FTy → Type} [FloatOps F] [Named F]
def κ : String → Option EReal := fun
  | "alpha" => some ((Real.sqrt 2 : ℝ) : EReal)
  | "eps" => some ((1 / 1000000 : ℝ) : EReal)
  | _ => none
-- ==== OutProjRefIdeal.lean ====
abbrev S8192x1024 : Shape := ⟨2, ![8192, 1024]⟩
abbrev S2048x2048 : Shape := ⟨2, ![2048, 2048]⟩
abbrev S8192x2048 : Shape := ⟨2, ![8192, 2048]⟩
abbrev S4x3x2048 : Shape := ⟨3, ![4, 3, 2048]⟩
abbrev S2x2048 : Shape := ⟨2, ![2, 2048]⟩
abbrev S2048x16 : Shape := ⟨2, ![2048, 16]⟩
abbrev S4x1x2048 : Shape := ⟨3, ![4, 1, 2048]⟩
abbrev S4x2048x2048 : Shape := ⟨3, ![4, 2048, 2048]⟩
abbrev S1x2048 : Shape := ⟨2, ![1, 2048]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S8192x16 : Shape := ⟨2, ![8192, 16]⟩
abbrev S8192x128 : Shape := ⟨2, ![8192, 128]⟩

abbrev nBuf : Space → Nat
  | .hbm => 74
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S2048x2048, .bf16⟩
  | .hbm, ⟨3, _⟩ => ⟨S8192x2048, .f32⟩
  | .hbm, ⟨4, _⟩ => ⟨S4x3x2048, .f32⟩
  | .hbm, ⟨5, _⟩ => ⟨S2x2048, .f32⟩
  | .hbm, ⟨6, _⟩ => ⟨S2048x16, .f32⟩
  | .hbm, ⟨7, _⟩ => ⟨S8192x1024, .f32⟩
  | .hbm, ⟨8, _⟩ => ⟨S8192x1024, .f32⟩
  | .hbm, ⟨9, _⟩ => ⟨S8192x2048, .f32⟩
  | .hbm, ⟨10, _⟩ => ⟨S2048x2048, .f32⟩
  | .hbm, ⟨11, _⟩ => ⟨S8192x2048, .f32⟩
  | .hbm, ⟨12, _⟩ => ⟨S4x1x2048, .f32⟩
  | .hbm, ⟨13, _⟩ => ⟨S4x1x2048, .f32⟩
  | .hbm, ⟨14, _⟩ => ⟨S4x1x2048, .f32⟩
  | .hbm, ⟨15, _⟩ => ⟨S4x2048x2048, .f32⟩
  | .hbm, ⟨16, _⟩ => ⟨S4x2048x2048, .f32⟩
  | .hbm, ⟨17, _⟩ => ⟨S1x2048, .f32⟩
  | .hbm, ⟨18, _⟩ => ⟨S2048, .f32⟩
  | .hbm, ⟨19, _⟩ => ⟨S1x2048, .f32⟩
  | .hbm, ⟨20, _⟩ => ⟨S2048, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S4x2048x2048, .f32⟩
  | .hbm, ⟨28, _⟩ => ⟨S4x2048x2048, .f32⟩
  | .hbm, ⟨29, _⟩ => ⟨S4x2048x2048, .f32⟩
  | .hbm, ⟨30, _⟩ => ⟨S4x2048x2048, .f32⟩
  | .hbm, ⟨31, _⟩ => ⟨S4x2048x2048, .f32⟩
  | .hbm, ⟨32, _⟩ => ⟨S_, .f32⟩
  | .hbm, ⟨33, _⟩ => ⟨S4x2048, .f32⟩
  | .hbm, ⟨34, _⟩ => ⟨S4x2048x1, .f32⟩
  | .hbm, ⟨35, _⟩ => ⟨S_, .f32⟩
  | .hbm, ⟨36, _⟩ => ⟨S4x2048x1, .f32⟩
  | .hbm, ⟨37, _⟩ => ⟨S4x2048x1, .f32⟩
  | .hbm, ⟨38, _⟩ => ⟨S4x2048x2048, .f32⟩
  | .hbm, ⟨39, _⟩ => ⟨S4x2048x2048, .f32⟩
  | .hbm, ⟨40, _⟩ => ⟨S4x2048x2048, .f32⟩
  | .hbm, ⟨41, _⟩ => ⟨S_, .f32⟩
  | .hbm, ⟨42, _⟩ => ⟨S4x2048, .f32⟩
  | .hbm, ⟨43, _⟩ => ⟨S4x2048x1, .f32⟩
  | .hbm, ⟨44, _⟩ => ⟨S_, .f32⟩
  | .hbm, ⟨45, _⟩ => ⟨S4x2048x1, .f32⟩
  | .hbm, ⟨46, _⟩ => ⟨S4x2048x1, .f32⟩
  | .hbm, ⟨47, _⟩ => ⟨S4x2048x2048, .f32⟩
  | .hbm, ⟨48, _⟩ => ⟨S4x2048x2048, .f32⟩
  | .hbm, ⟨49, _⟩ => ⟨S4x2048x1, .f32⟩
  | .hbm, ⟨50, _⟩ => ⟨S4x2048x1, .f32⟩
  | .hbm, ⟨51, _⟩ => ⟨S4x2048x1, .f32⟩
  | .hbm, ⟨52, _⟩ => ⟨S4x2048x2048, .f32⟩
  | .hbm, ⟨53, _⟩ => ⟨S4x2048x2048, .f32⟩
  | .hbm, ⟨54, _⟩ => ⟨S1x1x2048, .f32⟩
  | .hbm, ⟨55, _⟩ => ⟨S4x2048x2048, .f32⟩
  | .hbm, ⟨56, _⟩ => ⟨S4x2048x2048, .f32⟩
  | .hbm, ⟨57, _⟩ => ⟨S1x1x2048, .f32⟩
  | .hbm, ⟨58, _⟩ => ⟨S4x2048x2048, .f32⟩
  | .hbm, ⟨59, _⟩ => ⟨S4x2048x2048, .f32⟩
  | .hbm, ⟨60, _⟩ => ⟨S_, .f32⟩
  | .hbm, ⟨61, _⟩ => ⟨S4x1x2048, .f32⟩
  | .hbm, ⟨62, _⟩ => ⟨S4x1x2048, .f32⟩
  | .hbm, ⟨63, _⟩ => ⟨S4x2048x2048, .f32⟩
  | .hbm, ⟨64, _⟩ => ⟨S4x2048x2048, .f32⟩
  | .hbm, ⟨65, _⟩ => ⟨S4x2048x2048, .f32⟩
  | .hbm, ⟨66, _⟩ => ⟨S4x2048x2048, .f32⟩
  | .hbm, ⟨67, _⟩ => ⟨S8192x2048, .f32⟩
  | .hbm, ⟨68, _⟩ => ⟨S8192x16, .f32⟩
  | .hbm, ⟨69, _⟩ => ⟨S_, .i32⟩
  | .hbm, ⟨70, _⟩ => ⟨S_, .f32⟩
  | .hbm, ⟨71, _⟩ => ⟨S8192x128, .f32⟩
  | .hbm, ⟨72, _⟩ => ⟨S8192x2048, .f32⟩
  | .hbm, ⟨73, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_6 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_c : Ref sig .tc := ⟨.hbm, 69, rfl⟩
abbrev main_call0_v0 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩

abbrev nD : Nat := 1
abbrev τ : Topo := Topo.v7x

variable {F : FTy → Type} [FloatOps F]
-- ==== Rope.lean ====
abbrev S8192x2048 : Shape := ⟨2, ![8192, 2048]⟩
abbrev S2048x5888 : Shape := ⟨2, ![2048, 5888]⟩
abbrev S2048x32 : Shape := ⟨2, ![2048, 32]⟩
abbrev S_ : Shape := ⟨0, ![]⟩
abbrev S2048x64 : Shape := ⟨2, ![2048, 64]⟩
abbrev S2048x128 : Shape := ⟨2, ![2048, 128]⟩
abbrev S2048x96 : Shape := ⟨2, ![2048, 96]⟩
abbrev S8192x5888 : Shape := ⟨2, ![8192, 5888]⟩
abbrev S1024x2048 : Shape := ⟨2, ![1024, 2048]⟩
abbrev S2048x256 : Shape := ⟨2, ![2048, 256]⟩
abbrev S1024x128 : Shape := ⟨2, ![1024, 128]⟩
abbrev S1024x256 : Shape := ⟨2, ![1024, 256]⟩

abbrev nBuf : Space → Nat
  | .hbm => 17
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S2048x5888, .bf16⟩
  | .hbm, ⟨2, _⟩ => ⟨S2048x32, .f32⟩
  | .hbm, ⟨3, _⟩ => ⟨S2048x32, .f32⟩
  | .hbm, ⟨4, _⟩ => ⟨S_, .f32⟩
  | .hbm, ⟨5, _⟩ => ⟨S2048x64, .f32⟩
  | .hbm, ⟨6, _⟩ => ⟨S2048x128, .f32⟩
  | .hbm, ⟨7, _⟩ => ⟨S2048x32, .f32⟩
  | .hbm, ⟨8, _⟩ => ⟨S_, .f32⟩
  | .hbm, ⟨9, _⟩ => ⟨S2048x96, .f32⟩
  | .hbm, ⟨10, _⟩ => ⟨S2048x128, .f32⟩
  | .hbm, ⟨11, _⟩ => ⟨S_, .f32⟩
  | .hbm, ⟨12, _⟩ => ⟨S2048x32, .f32⟩
  | .hbm, ⟨13, _⟩ => ⟨S_, .f32⟩
  | .hbm, ⟨14, _⟩ => ⟨S2048x64, .f32⟩
  | .hbm, ⟨15, _⟩ => ⟨S2048x128, .f32⟩
  | .hbm, ⟨16, _⟩ => ⟨S8192x5888, .bf16⟩
  | .local _ .vmem, ⟨0, _⟩ => ⟨S1024x2048, .bf16⟩
  | .local _ .vmem, ⟨1, _⟩ => ⟨S1024x2048, .bf16⟩
  | .local _ .vmem, ⟨2, _⟩ => ⟨S2048x256, .bf16⟩
  | .local _ .vmem, ⟨3, _⟩ => ⟨S2048x256, .bf16⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x256, .bf16⟩
  | .local _ .vmem, ⟨11, _⟩ => ⟨S1024x256, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 23], ![false, false]⟩

def k0_cond1 (i : grid0.Coords) : BitVec 1 :=
  let arg1 : BitVec 32 := BitVec.ofNat 32 (i 1).val
  let c8_i32 : BitVec 32 := 8#32
  let v3 : BitVec 1 := Scalar.cmpi .slt arg1 c8_i32
  let c10_i32 : BitVec 32 := 10#32
  let v4 : BitVec 1 := Scalar.cmpi .eq arg1 c10_i32
  let v5 : BitVec 1 := Scalar.ori v3 v4
  let v6 : BitVec 32 := Scalar.extui v5
  let c0_i32 : BitVec 32 := 0#32
  let v7 : BitVec 1 := Scalar.cmpi .ne v6 c0_i32
  v7

def k0_cond2 (i : grid0.Coords) : BitVec 1 :=
  let arg1 : BitVec 32 := BitVec.ofNat 32 (i 1).val
  let c8_i32 : BitVec 32 := 8#32
  let v3 : BitVec 1 := Scalar.cmpi .slt arg1 c8_i32
  let c10_i32 : BitVec 32 := 10#32
  let v4 : BitVec 1 := Scalar.cmpi .eq arg1 c10_i32
  let v5 : BitVec 1 := Scalar.ori v3 v4
  let v_true : BitVec 1 := 1#1
  let v8 : BitVec 1 := Scalar.xori v5 v_true
  let v9 : BitVec 32 := Scalar.extui v8
  let c0_i32_3 : BitVec 32 := 0#32
  let v10 : BitVec 1 := Scalar.cmpi .ne v9 c0_i32_3
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== RopeIdeal.lean ====
variable {F : FTy → Type} [FloatOps F] [Named F]
def κ : String → Option EReal := fun
  | "mla_scale" => some (((Real.sqrt 192)⁻¹ : ℝ) : EReal)
  | "na_scale" => some (((Real.sqrt 128)⁻¹ : ℝ) : EReal)
  | _ => none
-- ==== RopeRefIdeal.lean ====
abbrev S8192x2048 : Shape := ⟨2, ![8192, 2048]⟩
abbrev S2048x5888 : Shape := ⟨2, ![2048, 5888]⟩
abbrev S2048x32 : Shape := ⟨2, ![2048, 32]⟩
abbrev S8192x5888 : Shape := ⟨2, ![8192, 5888]⟩
abbrev S4x2048x5888 : Shape := ⟨3, ![4, 2048, 5888]⟩
abbrev S4x2048x2048 : Shape := ⟨3, ![4, 2048, 2048]⟩
abbrev S4x2048x512 : Shape := ⟨3, ![4, 2048, 512]⟩
abbrev S4x2048x256 : Shape := ⟨3, ![4, 2048, 256]⟩
abbrev S4x2048x1024 : Shape := ⟨3, ![4, 2048, 1024]⟩
abbrev S4x2048x8x256 : Shape := ⟨4, ![4, 2048, 8, 256]⟩
abbrev S4x2048x8x64 : Shape := ⟨4, ![4, 2048, 8, 64]⟩
abbrev S2048x1x32 : Shape := ⟨3, ![2048, 1, 32]⟩
abbrev S4x2048x8x32 : Shape := ⟨4, ![4, 2048, 8, 32]⟩
abbrev S1x2048x1x32 : Shape := ⟨4, ![1, 2048, 1, 32]⟩
abbrev S4x2048x8x128 : Shape := ⟨4, ![4, 2048, 8, 128]⟩
abbrev S_ : Shape := ⟨0, ![]⟩
abbrev S4x2048x64 : Shape := ⟨3, ![4, 2048, 64]⟩
abbrev S4x2048x32 : Shape := ⟨3, ![4, 2048, 32]⟩
abbrev S1x2048x32 : Shape := ⟨3, ![1, 2048, 32]⟩
abbrev S4x2048x128 : Shape := ⟨3, ![4, 2048, 128]⟩

abbrev nBuf : Space → Nat
  | .hbm => 72
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x5888, .bf16⟩
  | .hbm, ⟨2, _⟩ => ⟨S2048x32, .f32⟩
  | .hbm, ⟨3, _⟩ => ⟨S2048x32, .f32⟩
  | .hbm, ⟨4, _⟩ => ⟨S8192x2048, .f32⟩
  | .hbm, ⟨5, _⟩ => ⟨S2048x5888, .f32⟩
  | .hbm, ⟨6, _⟩ => ⟨S8192x5888, .f32⟩
  | .hbm, ⟨7, _⟩ => ⟨S4x2048x5888, .f32⟩
  | .hbm, ⟨8, _⟩ => ⟨S4x2048x2048, .f32⟩
  | .hbm, ⟨9, _⟩ => ⟨S4x2048x512, .f32⟩
  | .hbm, ⟨10, _⟩ => ⟨S4x2048x256, .f32⟩
  | .hbm, ⟨11, _⟩ => ⟨S4x2048x1024, .f32⟩
  | .hbm, ⟨12, _⟩ => ⟨S4x2048x2048, .f32⟩
  | .hbm, ⟨13, _⟩ => ⟨S4x2048x8x256, .f32⟩
  | .hbm, ⟨14, _⟩ => ⟨S4x2048x8x64, .f32⟩
  | .hbm, ⟨15, _⟩ => ⟨S2048x1x32, .f32⟩
  | .hbm, ⟨16, _⟩ => ⟨S2048x1x32, .f32⟩
  | .hbm, ⟨17, _⟩ => ⟨S4x2048x8x32, .f32⟩
  | .hbm, ⟨18, _⟩ => ⟨S4x2048x8x32, .f32⟩
  | .hbm, ⟨19, _⟩ => ⟨S1x2048x1x32, .f32⟩
  | .hbm, ⟨20, _⟩ => ⟨S4x2048x8x32, .f32⟩
  | .hbm, ⟨21, _⟩ => ⟨S4x2048x8x32, .f32⟩
  | .hbm, ⟨22, _⟩ => ⟨S1x2048x1x32, .f32⟩
  | .hbm, ⟨23, _⟩ => ⟨S4x2048x8x32, .f32⟩
  | .hbm, ⟨24, _⟩ => ⟨S4x2048x8x32, .f32⟩
  | .hbm, ⟨25, _⟩ => ⟨S4x2048x8x32, .f32⟩
  | .hbm, ⟨26, _⟩ => ⟨S1x2048x1x32, .f32⟩
  | .hbm, ⟨27, _⟩ => ⟨S4x2048x8x32, .f32⟩
  | .hbm, ⟨28, _⟩ => ⟨S4x2048x8x32, .f32⟩
  | .hbm, ⟨29, _⟩ => ⟨S1x2048x1x32, .f32⟩
  | .hbm, ⟨30, _⟩ => ⟨S4x2048x8x32, .f32⟩
  | .hbm, ⟨31, _⟩ => ⟨S4x2048x8x32, .f32⟩
  | .hbm, ⟨32, _⟩ => ⟨S4x2048x8x32, .f32⟩
  | .hbm, ⟨33, _⟩ => ⟨S4x2048x8x64, .f32⟩
  | .hbm, ⟨34, _⟩ => ⟨S4x2048x8x128, .f32⟩
  | .hbm, ⟨35, _⟩ => ⟨S_, .f32⟩
  | .hbm, ⟨36, _⟩ => ⟨S4x2048x8x64, .f32⟩
  | .hbm, ⟨37, _⟩ => ⟨S4x2048x8x256, .f32⟩
  | .hbm, ⟨38, _⟩ => ⟨S_, .f32⟩
  | .hbm, ⟨39, _⟩ => ⟨S_, .f32⟩
  | .hbm, ⟨40, _⟩ => ⟨S4x2048x8x256, .f32⟩
  | .hbm, ⟨41, _⟩ => ⟨S4x2048x8x256, .f32⟩
  | .hbm, ⟨42, _⟩ => ⟨S4x2048x64, .f32⟩
  | .hbm, ⟨43, _⟩ => ⟨S4x2048x32, .f32⟩
  | .hbm, ⟨44, _⟩ => ⟨S4x2048x32, .f32⟩
  | .hbm, ⟨45, _⟩ => ⟨S1x2048x32, .f32⟩
  | .hbm, ⟨46, _⟩ => ⟨S4x2048x32, .f32⟩
  | .hbm, ⟨47, _⟩ => ⟨S4x2048x32, .f32⟩
  | .hbm, ⟨48, _⟩ => ⟨S1x2048x32, .f32⟩
  | .hbm, ⟨49, _⟩ => ⟨S4x2048x32, .f32⟩
  | .hbm, ⟨50, _⟩ => ⟨S4x2048x32, .f32⟩
  | .hbm, ⟨51, _⟩ => ⟨S4x2048x32, .f32⟩
  | .hbm, ⟨52, _⟩ => ⟨S1x2048x32, .f32⟩
  | .hbm, ⟨53, _⟩ => ⟨S4x2048x32, .f32⟩
  | .hbm, ⟨54, _⟩ => ⟨S4x2048x32, .f32⟩
  | .hbm, ⟨55, _⟩ => ⟨S1x2048x32, .f32⟩
  | .hbm, ⟨56, _⟩ => ⟨S4x2048x32, .f32⟩
  | .hbm, ⟨57, _⟩ => ⟨S4x2048x32, .f32⟩
  | .hbm, ⟨58, _⟩ => ⟨S4x2048x32, .f32⟩
  | .hbm, ⟨59, _⟩ => ⟨S4x2048x64, .f32⟩
  | .hbm, ⟨60, _⟩ => ⟨S4x2048x128, .f32⟩
  | .hbm, ⟨61, _⟩ => ⟨S_, .f32⟩
  | .hbm, ⟨62, _⟩ => ⟨S4x2048x64, .f32⟩
  | .hbm, ⟨63, _⟩ => ⟨S4x2048x256, .f32⟩
  | .hbm, ⟨64, _⟩ => ⟨S_, .f32⟩
  | .hbm, ⟨65, _⟩ => ⟨S_, .f32⟩
  | .hbm, ⟨66, _⟩ => ⟨S4x2048x1024, .f32⟩
  | .hbm, ⟨67, _⟩ => ⟨S4x2048x1024, .f32⟩
  | .hbm, ⟨68, _⟩ => ⟨S4x2048x2048, .f32⟩
  | .hbm, ⟨69, _⟩ => ⟨S4x2048x5888, .f32⟩
  | .hbm, ⟨70, _⟩ => ⟨S8192x5888, .f32⟩
  | .hbm, ⟨71, _⟩ => ⟨S8192x5888, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_cst : Ref sig .tc := ⟨.hbm, 35, rfl⟩
abbrev main_v31 : Ref sig .tc := ⟨.hbm, 36, rfl⟩
abbrev main_v32 : Ref sig .tc := ⟨.hbm, 37, rfl⟩
abbrev main_cst_0 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_cst_1 : Ref sig .tc := ⟨.hbm, 61, rfl⟩
abbrev main_v55 : Ref sig .tc := ⟨.hbm, 62, rfl⟩
abbrev main_v56 : Ref sig .tc := ⟨.hbm, 63, rfl⟩
abbrev main_cst_2 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩

abbrev nD : Nat := 1
abbrev τ : Topo := Topo.v7x

variable {F : FTy → Type} [FloatOps F]
-- ==== Mix.lean ====
abbrev S2048x2048 : Shape := ⟨2, ![2048, 2048]⟩
abbrev S8192x1024 : Shape := ⟨2, ![8192, 1024]⟩
abbrev S512x2048 : Shape := ⟨2, ![512, 2048]⟩
abbrev S2048x512 : Shape := ⟨2, ![2048, 512]⟩
abbrev S512x512 : Shape := ⟨2, ![512, 512]⟩

abbrev nBuf : Space → Nat
  | .hbm => 5
  | .vmem => 10
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S8192x1024, .bf16⟩
  | .hbm, ⟨3, _⟩ => ⟨S8192x1024, .bf16⟩
  | .hbm, ⟨4, _⟩ => ⟨S8192x1024, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S512x512, .bf16⟩
  | .local _ .vmem, ⟨9, _⟩ => ⟨S512x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== MixRefIdeal.lean ====
abbrev S2048x2048 : Shape := ⟨2, ![2048, 2048]⟩
abbrev S8192x1024 : Shape := ⟨2, ![8192, 1024]⟩
abbrev S4x2048x1024 : Shape := ⟨3, ![4, 2048, 1024]⟩
abbrev S4x1024x2048 : Shape := ⟨3, ![4, 1024, 2048]⟩

abbrev nBuf : Space → Nat
  | .hbm => 17
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S8192x1024, .bf16⟩
  | .hbm, ⟨3, _⟩ => ⟨S8192x1024, .bf16⟩
  | .hbm, ⟨4, _⟩ => ⟨S4x2048x1024, .bf16⟩
  | .hbm, ⟨5, _⟩ => ⟨S4x2048x1024, .bf16⟩
  | .hbm, ⟨6, _⟩ => ⟨S2048x2048, .f32⟩
  | .hbm, ⟨7, _⟩ => ⟨S4x2048x1024, .f32⟩
  | .hbm, ⟨8, _⟩ => ⟨S4x1024x2048, .f32⟩
  | .hbm, ⟨9, _⟩ => ⟨S4x2048x1024, .f32⟩
  | .hbm, ⟨10, _⟩ => ⟨S2048x2048, .f32⟩
  | .hbm, ⟨11, _⟩ => ⟨S4x2048x1024, .f32⟩
  | .hbm, ⟨12, _⟩ => ⟨S4x1024x2048, .f32⟩
  | .hbm, ⟨13, _⟩ => ⟨S4x2048x1024, .f32⟩
  | .hbm, ⟨14, _⟩ => ⟨S4x2048x1024, .f32⟩
  | .hbm, ⟨15, _⟩ => ⟨S8192x1024, .f32⟩
  | .hbm, ⟨16, _⟩ => ⟨S8192x1024, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Inverse.lean ====
abbrev S2048x2048 : Shape := ⟨2, ![2048, 2048]⟩
abbrev S4x2x2048x1024 : Shape := ⟨4, ![4, 2, 2048, 1024]⟩
abbrev S8192x2048 : Shape := ⟨2, ![8192, 2048]⟩
abbrev S8192x1024 : Shape := ⟨2, ![8192, 1024]⟩
abbrev S1x1024 : Shape := ⟨2, ![1, 1024]⟩
abbrev S512x2048 : Shape := ⟨2, ![512, 2048]⟩
abbrev S1x1x2048x512 : Shape := ⟨4, ![1, 1, 2048, 512]⟩
abbrev S512x512 : Shape := ⟨2, ![512, 512]⟩
abbrev S1x512 : Shape := ⟨2, ![1, 512]⟩
abbrev S2048x512 : Shape := ⟨2, ![2048, 512]⟩

abbrev nBuf : Space → Nat
  | .hbm => 7
  | .vmem => 16
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S4x2x2048x1024, .bf16⟩
  | .hbm, ⟨3, _⟩ => ⟨S8192x2048, .f32⟩
  | .hbm, ⟨4, _⟩ => ⟨S8192x1024, .bf16⟩
  | .hbm, ⟨5, _⟩ => ⟨S1x1024, .f32⟩
  | .hbm, ⟨6, _⟩ => ⟨S8192x1024, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S1x1x2048x512, .bf16⟩
  | .local _ .vmem, ⟨5, _⟩ => ⟨S1x1x2048x512, .bf16⟩
  | .local _ .vmem, ⟨6, _⟩ => ⟨S1x1x2048x512, .bf16⟩
  | .local _ .vmem, ⟨7, _⟩ => ⟨S1x1x2048x512, .bf16⟩
  | .local _ .vmem, ⟨8, _⟩ => ⟨S512x512, .f32⟩
  | .local _ .vmem, ⟨9, _⟩ => ⟨S512x512, .f32⟩
  | .local _ .vmem, ⟨10, _⟩ => ⟨S512x512, .bf16⟩
  | .local _ .vmem, ⟨11, _⟩ => ⟨S512x512, .bf16⟩
  | .local _ .vmem, ⟨12, _⟩ => ⟨S1x512, .f32⟩
  | .local _ .vmem, ⟨13, _⟩ => ⟨S1x512, .f32⟩
  | .local _ .vmem, ⟨14, _⟩ => ⟨S512x512, .bf16⟩
  | .local _ .vmem, ⟨15, _⟩ => ⟨S512x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![4, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat, arg1.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![arg0.toNat, c1_i32.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== InverseRefIdeal.lean ====
abbrev S2048x2048 : Shape := ⟨2, ![2048, 2048]⟩
abbrev S4x2x2048x1024 : Shape := ⟨4, ![4, 2, 2048, 1024]⟩
abbrev S8192x2048 : Shape := ⟨2, ![8192, 2048]⟩
abbrev S8192x1024 : Shape := ⟨2, ![8192, 1024]⟩
abbrev S1x1024 : Shape := ⟨2, ![1, 1024]⟩
abbrev S4x1x2048x1024 : Shape := ⟨4, ![4, 1, 2048, 1024]⟩
abbrev S4x2048x1024 : Shape := ⟨3, ![4, 2048, 1024]⟩
abbrev S4x1024x2048 : Shape := ⟨3, ![4, 1024, 2048]⟩

abbrev nBuf : Space → Nat
  | .hbm => 27
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S4x2x2048x1024, .bf16⟩
  | .hbm, ⟨3, _⟩ => ⟨S8192x2048, .f32⟩
  | .hbm, ⟨4, _⟩ => ⟨S8192x1024, .bf16⟩
  | .hbm, ⟨5, _⟩ => ⟨S1x1024, .f32⟩
  | .hbm, ⟨6, _⟩ => ⟨S4x1x2048x1024, .bf16⟩
  | .hbm, ⟨7, _⟩ => ⟨S4x2048x1024, .bf16⟩
  | .hbm, ⟨8, _⟩ => ⟨S2048x2048, .f32⟩
  | .hbm, ⟨9, _⟩ => ⟨S4x2048x1024, .f32⟩
  | .hbm, ⟨10, _⟩ => ⟨S4x1024x2048, .f32⟩
  | .hbm, ⟨11, _⟩ => ⟨S4x2048x1024, .f32⟩
  | .hbm, ⟨12, _⟩ => ⟨S4x1x2048x1024, .bf16⟩
  | .hbm, ⟨13, _⟩ => ⟨S4x2048x1024, .bf16⟩
  | .hbm, ⟨14, _⟩ => ⟨S2048x2048, .f32⟩
  | .hbm, ⟨15, _⟩ => ⟨S4x2048x1024, .f32⟩
  | .hbm, ⟨16, _⟩ => ⟨S4x1024x2048, .f32⟩
  | .hbm, ⟨17, _⟩ => ⟨S4x2048x1024, .f32⟩
  | .hbm, ⟨18, _⟩ => ⟨S4x2048x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== Forward.lean ====
abbrev S2048x2048 : Shape := ⟨2, ![2048, 2048]⟩
abbrev S8192x1024 : Shape := ⟨2, ![8192, 1024]⟩
abbrev S1x2x2048x2048 : Shape := ⟨4, ![1, 2, 2048, 2048]⟩
abbrev S1x2048 : Shape := ⟨2, ![1, 2048]⟩
abbrev S4x2x2048x1024 : Shape := ⟨4, ![4, 2, 2048, 1024]⟩
abbrev S512x2048 : Shape := ⟨2, ![512, 2048]⟩
abbrev S2048x512 : Shape := ⟨2, ![2048, 512]⟩
abbrev S1x2x512x512 : Shape := ⟨4, ![1, 2, 512, 512]⟩
abbrev S1x512 : Shape := ⟨2, ![1, 512]⟩
abbrev S512x512 : Shape := ⟨2, ![512, 512]⟩
abbrev S1x1x512x512 : Shape := ⟨4, ![1, 1, 512, 512]⟩

abbrev nBuf : Space → Nat
  | .hbm => 6
  | .vmem => 14
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S8192x1024, .bf16⟩
  | .hbm, ⟨3, _⟩ => ⟨S1x2x2048x2048, .f32⟩
  | .hbm, ⟨4, _⟩ => ⟨S1x2048, .f32⟩
  | .hbm, ⟨5, _⟩ => ⟨S4x2x2048x1024, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S1x2x512x512, .f32⟩
  | .local _ .vmem, ⟨9, _⟩ => ⟨S1x2x512x512, .f32⟩
  | .local _ .vmem, ⟨10, _⟩ => ⟨S1x512, .f32⟩
  | .local _ .vmem, ⟨11, _⟩ => ⟨S1x512, .f32⟩
  | .local _ .vmem, ⟨12, _⟩ => ⟨S1x2x512x512, .bf16⟩
  | .local _ .vmem, ⟨13, _⟩ => ⟨S1x2x512x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 2, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, c0_i32_1.toNat, arg2.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x2x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x2x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== ForwardRefIdeal.lean ====
abbrev S2048x2048 : Shape := ⟨2, ![2048, 2048]⟩
abbrev S8192x1024 : Shape := ⟨2, ![8192, 1024]⟩
abbrev S1x2x2048x2048 : Shape := ⟨4, ![1, 2, 2048, 2048]⟩
abbrev S1x2048 : Shape := ⟨2, ![1, 2048]⟩
abbrev S4x2048x1024 : Shape := ⟨3, ![4, 2048, 1024]⟩
abbrev S4x1024x2048 : Shape := ⟨3, ![4, 1024, 2048]⟩
abbrev S1x1x2048x1024 : Shape := ⟨4, ![1, 1, 2048, 1024]⟩
abbrev S2048x1024 : Shape := ⟨2, ![2048, 1024]⟩
abbrev S2048 : Shape := ⟨1, ![2048]⟩
abbrev S_ : Shape := ⟨0, ![]⟩
abbrev S2048x1 : Shape := ⟨2, ![2048, 1]⟩
abbrev S1x2048x1024 : Shape := ⟨3, ![1, 2048, 1024]⟩
abbrev S1x1024 : Shape := ⟨2, ![1, 1024]⟩
abbrev S1x1x1024 : Shape := ⟨3, ![1, 1, 1024]⟩
abbrev S4x1x2048x1024 : Shape := ⟨4, ![4, 1, 2048, 1024]⟩
abbrev S4x2x2048x1024 : Shape := ⟨4, ![4, 2, 2048, 1024]⟩

abbrev nBuf : Space → Nat
  | .hbm => 52
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S8192x1024, .bf16⟩
  | .hbm, ⟨3, _⟩ => ⟨S1x2x2048x2048, .f32⟩
  | .hbm, ⟨4, _⟩ => ⟨S1x2048, .f32⟩
  | .hbm, ⟨5, _⟩ => ⟨S4x2048x1024, .bf16⟩
  | .hbm, ⟨6, _⟩ => ⟨S2048x2048, .f32⟩
  | .hbm, ⟨7, _⟩ => ⟨S4x2048x1024, .f32⟩
  | .hbm, ⟨8, _⟩ => ⟨S4x1024x2048, .f32⟩
  | .hbm, ⟨9, _⟩ => ⟨S4x2048x1024, .f32⟩
  | .hbm, ⟨10, _⟩ => ⟨S2048x2048, .f32⟩
  | .hbm, ⟨11, _⟩ => ⟨S4x2048x1024, .f32⟩
  | .hbm, ⟨12, _⟩ => ⟨S4x1024x2048, .f32⟩
  | .hbm, ⟨13, _⟩ => ⟨S4x2048x1024, .f32⟩
  | .hbm, ⟨14, _⟩ => ⟨S1x1x2048x1024, .f32⟩
  | .hbm, ⟨15, _⟩ => ⟨S2048x1024, .f32⟩
  | .hbm, ⟨16, _⟩ => ⟨S1x1x2048x1024, .f32⟩
  | .hbm, ⟨17, _⟩ => ⟨S2048x1024, .f32⟩
  | .hbm, ⟨18, _⟩ => ⟨S2048, .i32⟩
  | .hbm, ⟨19, _⟩ => ⟨S_, .i32⟩
  | .hbm, ⟨20, _⟩ => ⟨S2048, .i32⟩
  | .hbm, ⟨21, _⟩ => ⟨S2048, .i1⟩
  | .hbm, ⟨22, _⟩ => ⟨S2048x1, .i1⟩
  | .hbm, ⟨23, _⟩ => ⟨S1x2048x1024, .f32⟩
  | .hbm, ⟨24, _⟩ => ⟨S4x2048x1024, .f32⟩
  | .hbm, ⟨25, _⟩ => ⟨S4x2048x1024, .f32⟩
  | .hbm, ⟨26, _⟩ => ⟨S1x2048x1024, .f32⟩
  | .hbm, ⟨27, _⟩ => ⟨S4x2048x1024, .f32⟩
  | .hbm, ⟨28, _⟩ => ⟨S4x2048x1024, .f32⟩
  | .hbm, ⟨29, _⟩ => ⟨S1x2048x1024, .f32⟩
  | .hbm, ⟨30, _⟩ => ⟨S4x2048x1024, .f32⟩
  | .hbm, ⟨31, _⟩ => ⟨S4x2048x1024, .f32⟩
  | .hbm, ⟨32, _⟩ => ⟨S4x2048x1024, .f32⟩
  | .hbm, ⟨33, _⟩ => ⟨S4x2048x1024, .i1⟩
  | .hbm, ⟨34, _⟩ => ⟨S4x2048x1024, .f32⟩
  | .hbm, ⟨35, _⟩ => ⟨S1x1024, .f32⟩
  | .hbm, ⟨36, _⟩ => ⟨S1x1x1024, .f32⟩
  | .hbm, ⟨37, _⟩ => ⟨S4x2048x1024, .f32⟩
  | .hbm, ⟨38, _⟩ => ⟨S4x2048x1024, .f32⟩
  | .hbm, ⟨39, _⟩ => ⟨S1x2048x1024, .f32⟩
  | .hbm, ⟨40, _⟩ => ⟨S4x2048x1024, .f32⟩
  | .hbm, ⟨41, _⟩ => ⟨S4x2048x1024, .f32⟩
  | .hbm, ⟨42, _⟩ => ⟨S1x2048x1024, .f32⟩
  | .hbm, ⟨43, _⟩ => ⟨S4x2048x1024, .f32⟩
  | .hbm, ⟨44, _⟩ => ⟨S4x2048x1024, .f32⟩
  | .hbm, ⟨45, _⟩ => ⟨S4x2048x1024, .f32⟩
  | .hbm, ⟨46, _⟩ => ⟨S4x2048x1024, .i1⟩
  | .hbm, ⟨47, _⟩ => ⟨S4x2048x1024, .f32⟩
  | .hbm, ⟨48, _⟩ => ⟨S4x1x2048x1024, .f32⟩
  | .hbm, ⟨49, _⟩ => ⟨S4x1x2048x1024, .f32⟩
  | .hbm, ⟨50, _⟩ => ⟨S4x2x2048x1024, .f32⟩
  | .hbm, ⟨51, _⟩ => ⟨S4x2x2048x1024, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_call0_v0 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_call1_v0 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩

abbrev nD : Nat := 1
abbrev τ : Topo := Topo.v7x

variable {F : FTy → Type} [FloatOps F]
-- ==== Latent.lean ====
abbrev S8192x5888 : Shape := ⟨2, ![8192, 5888]⟩
abbrev S512 : Shape := ⟨1, ![512]⟩
abbrev S512x2048 : Shape := ⟨2, ![512, 2048]⟩
abbrev S1x512 : Shape := ⟨2, ![1, 512]⟩
abbrev S8192x2048 : Shape := ⟨2, ![8192, 2048]⟩
abbrev S512x512 : Shape := ⟨2, ![512, 512]⟩
abbrev S512x1 : Shape := ⟨2, ![512, 1]⟩

abbrev nBuf : Space → Nat
  | .hbm => 5
  | .vmem => 6
  | .smem => 0
  | _ => 0

abbrev bufTy : (tb : Table) → Fin (tcTables nBuf tb) → BufTy
  | .hbm, ⟨0, _⟩ => ⟨S8192x5888, .bf16⟩
  | .hbm, ⟨1, _⟩ => ⟨S512, .f32⟩
  | .hbm, ⟨2, _⟩ => ⟨S512x2048, .bf16⟩
  | .hbm, ⟨3, _⟩ => ⟨S1x512, .f32⟩
  | .hbm, ⟨4, _⟩ => ⟨S8192x2048, .bf16⟩
  | .local _ .vmem, ⟨0, _⟩ => ⟨S512x512, .bf16⟩
  | .local _ .vmem, ⟨1, _⟩ => ⟨S512x512, .bf16⟩
  | .local _ .vmem, ⟨2, _⟩ => ⟨S1x512, .f32⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | _, _ => ⟨S8192x5888, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LatentIdeal.lean ====
variable {F : FTy → Type} [FloatOps F] [Named F]
def κ : String → Option EReal := fun
  | "eps" => some ((1 / 1000000 : ℝ) : EReal)
  | _ => none
-- ==== LatentRefIdeal.lean ====
abbrev S8192x5888 : Shape := ⟨2, ![8192, 5888]⟩
abbrev S512 : Shape := ⟨1, ![512]⟩
abbrev S512x2048 : Shape := ⟨2, ![512, 2048]⟩
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S1x512 : Shape := ⟨2, ![1, 512]⟩
abbrev S8192x2048 : Shape := ⟨2, ![8192, 2048]⟩

abbrev nBuf : Space → Nat
  | .hbm => 26
  | .vmem => 0
  | .smem => 0
  | _ => 0

abbrev bufTy : (tb : Table) → Fin (tcTables nBuf tb) → BufTy
  | .hbm, ⟨0, _⟩ => ⟨S8192x5888, .bf16⟩
  | .hbm, ⟨1, _⟩ => ⟨S512, .f32⟩
  | .hbm, ⟨2, _⟩ => ⟨S512x2048, .bf16⟩
  | .hbm, ⟨3, _⟩ => ⟨S8192x512, .bf16⟩
  | .hbm, ⟨4, _⟩ => ⟨S8192x512, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S8192x512, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x512, .f32⟩
  | .hbm, ⟨19, _⟩ => ⟨S8192x512, .f32⟩
  | .hbm, ⟨20, _⟩ => ⟨S1x512, .f32⟩
  | .hbm, ⟨21, _⟩ => ⟨S8192x512, .f32⟩
  | .hbm, ⟨22, _⟩ => ⟨S8192x512, .f32⟩
  | .hbm, ⟨23, _⟩ => ⟨S512x2048, .f32⟩
  | .hbm, ⟨24, _⟩ => ⟨S8192x2048, .f32⟩
  | .hbm, ⟨25, _⟩ => ⟨S8192x2048, .bf16⟩
  | _, _ => ⟨S8192x5888, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Proof.Softmax.lean ====
/-
# Softmax attention over finite scores

For a list of scores `s` and of values `v`, attention may be normalised after the weighted sum
(`(∑ wⱼ vⱼ) / ∑ wⱼ`) or before it (`∑ vⱼ (wⱼ / ∑ w)`).  Over the extended reals the two agree as
soon as every score is finite: the weights are then positive reals.  The values may be anything.
-/
module

public import Idealize.ShloMosaic.PureOps.Ideal.Laws
public import Idealize.ShloMosaic.Lib.IdealHost
public import Idealize.ShloMosaic.Lib.ValueIdx
public import Idealize.ShloMosaic.Lib.ValueIdxCore

@[expose] public section

open Idealize.ShloMosaic

namespace Cert.Softmax

/-- The largest score (`⊥` for none). -/
noncomputable def top {n : ℕ} (s : Fin n → EReal) : EReal := Finset.univ.fold max ⊥ s

/-- The unnormalised weight of a score: `exp (s j - top s)`. -/
noncomputable def weight {n : ℕ} (s : Fin n → EReal) (j : Fin n) : EReal := Ideal.exp (s j - top s)

/-- Attention, normalised after the weighted sum of the values. -/
noncomputable def attend {n : ℕ} (s v : Fin n → EReal) : EReal :=
  Ideal.div (∑ j, weight s j * v j) (∑ j, weight s j)

/-- The largest of finitely many finite scores is one of them, so it is finite. -/
theorem top_finite {n : ℕ} (s : Fin n → EReal) (hn : 0 < n) (hs : ∀ j, s j ≠ ⊤ ∧ s j ≠ ⊥) :
    top s ≠ ⊤ ∧ top s ≠ ⊥ := by
  have hsup : top s = Finset.univ.sup s := rfl
  obtain ⟨j, -, hj⟩ := Finset.exists_mem_eq_sup (Finset.univ : Finset (Fin n)) ⟨⟨0, hn⟩, Finset.mem_univ _⟩ s
  rw [hsup, hj]
  exact hs j

/-- With finite scores every weight is a positive real. -/
theorem weight_real {n : ℕ} (s : Fin n → EReal) (hs : ∀ j, s j ≠ ⊤ ∧ s j ≠ ⊥) (j : Fin n) :
    ∃ r : ℝ, 0 < r ∧ weight s j = (r : EReal) := by
  obtain ⟨h1, h2⟩ := top_finite s (Fin.pos j) hs
  refine ⟨Real.exp ((s j).toReal - (top s).toReal), Real.exp_pos _, ?_⟩
  unfold weight
  conv_lhs => rw [← EReal.coe_toReal (hs j).1 (hs j).2, ← EReal.coe_toReal h1 h2, ← EReal.coe_sub]
  rfl

/-- A non-negative real factor distributes over a finite sum of extended reals. -/
theorem sum_mul_real {n : ℕ} (r : ℝ) (hr : 0 ≤ r) (f : Fin n → EReal) :
    (∑ j, f j) * (r : EReal) = ∑ j, f j * (r : EReal) := by
  have h : ∀ S : Finset (Fin n), (∑ j ∈ S, f j) * (r : EReal) = ∑ j ∈ S, f j * (r : EReal) := by
    intro S
    induction S using Finset.cons_induction with
    | empty => simp
    | cons a S ha ih =>
      rw [Finset.sum_cons, Finset.sum_cons,
        EReal.right_distrib_of_nonneg_of_ne_top (EReal.coe_nonneg.2 hr) (EReal.coe_ne_top r), ih]
  exact h _

/-- The sum of positive reals over a nonempty index is a positive real. -/
theorem sum_real {n : ℕ} (hn : 0 < n) (w : Fin n → EReal)
    (hw : ∀ j, ∃ r : ℝ, 0 < r ∧ w j = (r : EReal)) : ∃ r : ℝ, 0 < r ∧ ∑ j, w j = (r : EReal) := by
  choose r hr hw using hw
  refine ⟨∑ j, r j, Finset.sum_pos (fun j _ => hr j) ⟨⟨0, hn⟩, Finset.mem_univ _⟩, ?_⟩
  have h : ∀ S : Finset (Fin n), ∑ j ∈ S, w j = ((∑ j ∈ S, r j : ℝ) : EReal) := by
    intro S
    induction S using Finset.cons_induction with
    | empty => simp
    | cons a S ha ih => rw [Finset.sum_cons, Finset.sum_cons, ih, hw, EReal.coe_add]
  exact h _

/-- With finite scores, normalising after the weighted sum is normalising before it. -/
theorem attend_eq {n : ℕ} (s v : Fin n → EReal) (hn : 0 < n) (hs : ∀ j, s j ≠ ⊤ ∧ s j ≠ ⊥) :
    attend s v = ∑ j, v j * Ideal.div (weight s j) (∑ k, weight s k) := by
  obtain ⟨l, hl, hL⟩ := sum_real hn (weight s) (weight_real s hs)
  unfold attend
  rw [hL, Ideal.div_coe hl.ne', sum_mul_real _ (by positivity)]
  refine Finset.sum_congr rfl fun j _ => ?_
  rw [Ideal.div_coe hl.ne', mul_comm (weight s j) (v j), mul_assoc]

/-- A sum of products of finite numbers is finite. -/
theorem dot_finite {n : ℕ} (a b : Fin n → EReal) (ha : ∀ j, a j ≠ ⊤ ∧ a j ≠ ⊥)
    (hb : ∀ j, b j ≠ ⊤ ∧ b j ≠ ⊥) : ∑ j, a j * b j ≠ ⊤ ∧ ∑ j, a j * b j ≠ ⊥ := by
  have h : ∀ S : Finset (Fin n), ∃ r : ℝ, ∑ j ∈ S, a j * b j = (r : EReal) := by
    intro S
    induction S using Finset.cons_induction with
    | empty => exact ⟨0, by simp⟩
    | cons k S hk ih =>
      obtain ⟨r, hr⟩ := ih
      refine ⟨(a k).toReal * (b k).toReal + r, ?_⟩
      rw [Finset.sum_cons, hr, EReal.coe_add, EReal.coe_mul, EReal.coe_toReal (ha k).1 (ha k).2,
        EReal.coe_toReal (hb k).1 (hb k).2]
  obtain ⟨r, hr⟩ := h Finset.univ
  rw [hr]
  exact ⟨EReal.coe_ne_top r, EReal.coe_ne_bot r⟩

end Cert.Softmax

end
-- ==== Proof.Attention.lean ====
/-
  The attention of one layer, spelt on entries of the four argument matrices.
-/
module

public import proofs.«01_k».proof.Proof.Softmax

@[expose] public section

noncomputable section

namespace Cert.Attention

open Idealize.ShloMosaic Idealize.ShloMosaic.ValueIdx

/-- The entry of a matrix at two natural numbers (`0` outside it). -/
def entry {n0 n1 : ℕ} (A : (⟨2, ![n0, n1]⟩ : Shape).Idx → EReal) (i j : ℕ) : EReal :=
  if h : i < n0 ∧ j < n1 then A (ix2 ⟨i, h.1⟩ ⟨j, h.2⟩) else 0

/-- A matrix at an index is its entry at the index's coordinates. -/
theorem eq_entry {n0 n1 : ℕ} (A : (⟨2, ![n0, n1]⟩ : Shape).Idx → EReal) (x : (⟨2, ![n0, n1]⟩ : Shape).Idx)
    (i j : ℕ) (hi : (x 0).val = i) (hj : (x 1).val = j) : A x = entry A i j := by
  subst hi hj
  unfold entry
  rw [dif_pos ⟨idx2_lt0 x, idx2_lt1 x⟩]
  congr 1
  exact eq_ix2 x

/-- An entry in range is finite when the matrix is finite there. -/
theorem entry_finite {n0 n1 : ℕ} (A : (⟨2, ![n0, n1]⟩ : Shape).Idx → EReal) (i j : ℕ) (hi : i < n0) (hj : j < n1)
    (h : A (ix2 ⟨i, hi⟩ ⟨j, hj⟩) ≠ ⊤ ∧ A (ix2 ⟨i, hi⟩ ⟨j, hj⟩) ≠ ⊥) : entry A i j ≠ ⊤ ∧ entry A i j ≠ ⊥ := by
  unfold entry
  rw [dif_pos ⟨hi, hj⟩]
  exact h

/-- Four blocks of keys in one table: 2048 rows over 256 context rows; 128 lanes without position beside 128 rotated ones. -/
def stackKeys (kn kp kcn kcp : ℕ → ℕ → EReal) (j d : ℕ) : EReal :=
  if j < 2048 then (if d < 128 then kn j d else kp j (d - 128))
  else (if d < 128 then kcn (j - 2048) d else kcp (j - 2048) (d - 128))

/-- Two blocks of values in one table: 2048 rows over 256 context rows. -/
def stackValues (v vc : ℕ → ℕ → EReal) (j l : ℕ) : EReal :=
  if j < 2048 then v j l else vc (j - 2048) l

/-- The table of keys depends on its blocks inside their ranges only. -/
theorem stackKeys_congr {kn kp kcn kcp kn' kp' kcn' kcp' : ℕ → ℕ → EReal}
    (h1 : ∀ j d, j < 2048 → d < 128 → kn j d = kn' j d) (h2 : ∀ j d, j < 2048 → d < 128 → kp j d = kp' j d)
    (h3 : ∀ j d, j < 256 → d < 128 → kcn j d = kcn' j d) (h4 : ∀ j d, j < 256 → d < 128 → kcp j d = kcp' j d)
    (j d : ℕ) (hj : j < 2304) (hd : d < 256) : stackKeys kn kp kcn kcp j d = stackKeys kn' kp' kcn' kcp' j d := by
  unfold stackKeys
  split_ifs with a b b
  · exact h1 _ _ a b
  · exact h2 _ _ a (by omega)
  · exact h3 _ _ (by omega) b
  · exact h4 _ _ (by omega) (by omega)

/-- The table of values depends on its blocks inside their ranges only. -/
theorem stackValues_congr {v vc v' vc' : ℕ → ℕ → EReal} (h1 : ∀ j l, j < 2048 → l < 128 → v j l = v' j l)
    (h2 : ∀ j l, j < 256 → l < 128 → vc j l = vc' j l) (j l : ℕ) (hj : j < 2304) (hl : l < 128) :
    stackValues v vc j l = stackValues v' vc' j l := by
  unfold stackValues
  split_ifs with a
  · exact h1 _ _ a hl
  · exact h2 _ _ (by omega) hl

/-- The projections of the latent rows and of the context rows, and their up-projections (keys' and values'). -/
structure Inputs where
  p : (⟨2, ![8192, 5888]⟩ : Shape).Idx → EReal
  kv : (⟨2, ![8192, 2048]⟩ : Shape).Idx → EReal
  pc : (⟨2, ![1024, 5888]⟩ : Shape).Idx → EReal
  kvc : (⟨2, ![1024, 2048]⟩ : Shape).Idx → EReal

variable (I : Inputs)

/-- The query of head `h` at row `q` of batch entry `b`. -/
def query (b h q d : ℕ) : EReal := entry I.p (b * 2048 + q) (h * 256 + d)

/-- Key `j` of head `h` in batch entry `b`. -/
def key (b h j d : ℕ) : EReal :=
  stackKeys (fun j d => entry I.kv (b * 2048 + j) (h * 128 + d)) (fun j d => entry I.p (b * 2048 + j) (2688 + d))
    (fun j d => entry I.kvc (b * 256 + j) (h * 128 + d)) (fun j d => entry I.pc (b * 256 + j) (2688 + d)) j d

/-- Value `j` of head `h` in batch entry `b`. -/
def value (b h j l : ℕ) : EReal :=
  stackValues (fun j l => entry I.kv (b * 2048 + j) (1024 + h * 128 + l))
    (fun j l => entry I.kvc (b * 256 + j) (1024 + h * 128 + l)) j l

/-- The score of key `j` for the query at `q`. -/
def score (b h q : ℕ) (j : Fin 2304) : EReal := ∑ d : Fin 256, query I b h q d * key I b h j d

/-- The layer's attention at row `r` and column `s` of the result: row `r` is query `r % 2048` of batch entry `r / 2048`,
    column `s` is lane `s % 128` of head `s / 128`. -/
def result (r s : ℕ) : EReal :=
  Softmax.attend (score I (r / 2048) (s / 128) (r % 2048)) fun j => value I (r / 2048) (s / 128) j (s % 128)

/-- The entries that enter the scores are finite: the query columns and the rotated key columns of both projections, and
    the key columns of both up-projections. -/
structure Finite : Prop where
  q : ∀ i j, i < 8192 → j < 2048 → entry I.p i j ≠ ⊤ ∧ entry I.p i j ≠ ⊥
  kp : ∀ i j, i < 8192 → j < 128 → entry I.p i (2688 + j) ≠ ⊤ ∧ entry I.p i (2688 + j) ≠ ⊥
  kn : ∀ i j, i < 8192 → j < 1024 → entry I.kv i j ≠ ⊤ ∧ entry I.kv i j ≠ ⊥
  kcp : ∀ i j, i < 1024 → j < 128 → entry I.pc i (2688 + j) ≠ ⊤ ∧ entry I.pc i (2688 + j) ≠ ⊥
  kcn : ∀ i j, i < 1024 → j < 1024 → entry I.kvc i j ≠ ⊤ ∧ entry I.kvc i j ≠ ⊥

/-- Finite inputs have finite scores. -/
theorem score_finite (hf : Finite I) (b h q : ℕ) (hb : b < 4) (hh : h < 8) (hq : q < 2048) (j : Fin 2304) :
    score I b h q j ≠ ⊤ ∧ score I b h q j ≠ ⊥ := by
  refine Softmax.dot_finite _ _ (fun d => hf.q _ _ (by omega) (by omega)) fun d => ?_
  unfold key stackKeys
  split_ifs with h1 h2 h2
  · exact hf.kn _ _ (by omega) (by omega)
  · exact hf.kp _ _ (by omega) (by omega)
  · exact hf.kcn _ _ (by omega) (by omega)
  · exact hf.kcp _ _ (by omega) (by omega)

end Cert.Attention

end
-- ==== Proof.Rows.lean ====
/-
  Reductions along the rows of a matrix, and a column repeated along its rows.
-/
module

public import Idealize.ShloMosaic.PureOps.Ideal.Laws
public import Idealize.ShloMosaic.Lib.ValueIdx
public import Idealize.ShloMosaic.Lib.Pipeline.Value

@[expose] public section

namespace Cert.Rows

open Idealize.ShloMosaic Idealize.ShloMosaic.ValueIdx

/-- The index over row `r` whose reduced coordinate is `j`. -/
theorem lift_row {a b : ℕ} (h : (⟨2, ![a, b]⟩ : Shape).Reduces [1] ⟨1, ![a]⟩) (r : Fin a) (j : Fin b) :
    h.lift (ix1 r) j = (ix2 r j : (⟨2, ![a, b]⟩ : Shape).Idx) := by
  funext x
  match x with
  | ⟨0, _⟩ => rfl
  | ⟨1, _⟩ => rfl

/-- The word `0xFF800000` reads as the bottom of the extended reals. -/
theorem bottom : (FloatOps.ofBits (F := Ideal) .f32 0xFF800000#32 : EReal) = ⊥ := by
  show Ideal.ofBits .f32 0xFF800000#32 = ⊥
  simp [Ideal.ofBits, Ideal.ieee]

/-- The maximum over a row. -/
theorem rowMax {a b : ℕ} (S : FVec Ideal ⟨2, ![a, b]⟩ .f32) (h : (⟨2, ![a, b]⟩ : Shape).Reduces [1] ⟨1, ![a]⟩) (hφ : FKind.Formats .f32)
    (hacc : 0xFF800000#32 = FKind.maximumf.neutral .f32 hφ) (r : Fin a) :
    multiReduction .maximumf [1] ⟨1, ![a]⟩ S 0xFF800000#32 h hφ hacc (ix1 r)
      = (Finset.univ : Finset (Fin b)).fold max (⊥ : EReal) (fun j => S (ix2 r j)) := by
  refine (Ideal.multiReduction_maximumf_single S _ h hφ hacc (ix1 r)).trans ?_
  rw [bottom]
  exact congrArg (Finset.univ.fold max ⊥) (funext fun j => congrArg S (lift_row h r j))

/-- The sum over a row. -/
theorem rowSum {a b : ℕ} (S : FVec Ideal ⟨2, ![a, b]⟩ .f32) (acc : BitVec 32) (h : (⟨2, ![a, b]⟩ : Shape).Reduces [1] ⟨1, ![a]⟩) (hφ : FKind.Formats .f32)
    (hacc : acc = FKind.add.neutral .f32 hφ) (r : Fin a) :
    multiReduction .add [1] ⟨1, ![a]⟩ S acc h hφ hacc (ix1 r) = ∑ j : Fin b, (S (ix2 r j) : EReal) := by
  refine (Ideal.multiReduction_add_single S _ h hφ hacc (ix1 r)).trans ?_
  exact Finset.sum_congr rfl fun j _ => congrArg S (lift_row h r j)

/-- A column repeated along the rows of a matrix reads the column's entry of that row. -/
theorem column_apply {a b : ℕ} (v : (⟨2, ![a, 1]⟩ : Shape).Idx → EReal) (h : (⟨2, ![a, 1]⟩ : Shape).Broadcasts ⟨2, ![a, b]⟩)
    (r : Fin a) (l : Fin b) : broadcastTo ⟨2, ![a, b]⟩ v h (ix2 r l) = v (ix2 r (0 : Fin 1)) := by
  refine broadcastTo_apply v h (ix2 r l) (ix2 r (0 : Fin 1)) fun ax => ?_
  match ax with
  | ⟨0, _⟩ =>
    show r.val = if a = 1 then 0 else r.val
    have := r.isLt
    split_ifs <;> omega
  | ⟨1, _⟩ => rfl

/-- The index over `(p, q, r)` whose reduced last coordinate is `j`. -/
theorem lift_last {a b c n : ℕ} (h : (⟨4, ![a, b, c, n]⟩ : Shape).Reduces [3] ⟨3, ![a, b, c]⟩) (p : Fin a) (q : Fin b) (r : Fin c) (j : Fin n) :
    h.lift (ix3 p q r) j = (ix4 p q r j : (⟨4, ![a, b, c, n]⟩ : Shape).Idx) := by
  funext x
  match x with
  | ⟨0, _⟩ => rfl
  | ⟨1, _⟩ => rfl
  | ⟨2, _⟩ => rfl
  | ⟨3, _⟩ => rfl

/-- The host's maximum over the last of four axes, from `-∞`. -/
theorem hostMax_last {a b c n : ℕ} (x : FVec Ideal ⟨4, ![a, b, c, n]⟩ .f32) (init : FVec Ideal ⟨0, ![]⟩ .f32)
    (h' : (⟨4, ![a, b, c, n]⟩ : Shape).ReducesTo [3] ⟨3, ![a, b, c]⟩) (h : (⟨4, ![a, b, c, n]⟩ : Shape).Reduces [3] ⟨3, ![a, b, c]⟩)
    (hu : 0 < (⟨0, ![]⟩ : Shape).numel) (hi : init (Shape.Idx.first hu) = (⊥ : EReal)) (p : Fin a) (q : Fin b) (r : Fin c) :
    Host.reduce FloatOps.maximumf x init h' hu (ix3 p q r)
      = (Finset.univ : Finset (Fin n)).fold max (⊥ : EReal) (fun j => x (ix4 p q r j)) := by
  refine (Host.reduce_eq_fold_single FloatOps.maximumf x init h' h hu (ix3 p q r)).trans ?_
  rw [hi]
  exact congrArg (Finset.univ.fold max ⊥) (funext fun j => congrArg x (lift_last h p q r j))

end Cert.Rows

end
-- ==== Proof.KernelTiles.lean ====
/-
  The attention kernel's body: what its stores leave in the output block and in the two scratch arrays.
-/
module

public import proofs.«01_k».proof.Proof.Gen.KernelIdeal.Value
public import proofs.«01_k».proof.Proof.Attention
public import proofs.«01_k».proof.Proof.Rows
public import Idealize.ShloMosaic.Lib.MatmulPlain
public import Idealize.ShloMosaic.Lib.ValueIdx
public import Idealize.ShloMosaic.Lib.ValueLayoutCasts
public import Idealize.ShloMosaic.Lib.IdealHost
public import Idealize.ShloMosaic.Lib.Pipeline.Value
public import Idealize.ShloMosaic.Lib.Pipeline.FrameBody

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.ValueIdx Cert.Attention

/-- The keys of one head: latent rows first, context rows after; the part without position in the first
    128 lanes, the rotated part in the last 128. -/
def kcat (x1 x2 : Vec Ideal S2048x128 .bf16) (x4 x5 : Vec Ideal S256x128 .bf16) : Vec Ideal S2304x256 .bf16 := fun i =>
  stackKeys (entry x1) (entry x2) (entry x4) (entry x5) (i 0) (i 1)

/-- The values of one head: latent rows first, context rows after. -/
def vcat (x3 : Vec Ideal S2048x128 .bf16) (x6 : Vec Ideal S256x128 .bf16) : Vec Ideal S2304x128 .bf16 := fun i =>
  stackValues (entry x3) (entry x6) (i 0) (i 1)

/-- The starts of a whole access of two dimensions are zeros. -/
theorem hz : (![0, 0] : Fin 2 → Nat) = fun _ => 0 := funext fun a => by fin_cases a <;> rfl

section
variable (c : Dev nD) (i : grid0.Coords) (arg3 : Memref sig .tc .vmem S512x256 .bf16) (harg3 : arg3.IsWhole) (arg4 : Memref sig .tc .vmem S2048x128 .bf16) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S256x128 .bf16) (harg7 : arg7.IsWhole) (arg8 : Memref sig .tc .vmem S256x128 .bf16) (harg8 : arg8.IsWhole) (arg9 : Memref sig .tc .vmem S256x128 .bf16) (harg9 : arg9.IsWhole) (arg10 : Memref sig .tc .vmem S512x128 .bf16) (harg10 : arg10.IsWhole) (arg11 : Memref sig .tc .vmem S2304x256 .bf16) (harg11 : arg11.IsWhole) (arg12 : Memref sig .tc .vmem S2304x128 .bf16) (harg12 : arg12.IsWhole)
    (x0 : Vec Ideal S512x256 .bf16) (x1 : Vec Ideal S2048x128 .bf16) (x2 : Vec Ideal S2048x128 .bf16) (x3 : Vec Ideal S2048x128 .bf16) (x4 : Vec Ideal S256x128 .bf16) (x5 : Vec Ideal S256x128 .bf16) (x6 : Vec Ideal S256x128 .bf16)

/-- The four stores into the key scratch spell `kcat`. -/
theorem keys_canon (hc0 : cond0_0 i) : View.canon (kernelRun0_A c i arg3 harg3 arg4 harg4 arg5 harg5 arg6 harg6 arg7 harg7 arg8 harg8 arg9 harg9 arg10 harg10 arg11 harg11 arg12 harg12 hc0 x0 x1 x2 x3 x4 x5 x6).2.1 = kcat x1 x2 x4 x5 := by
  have hcov := scover0_A_0 c i arg3 harg3 arg4 harg4 arg5 harg5 arg6 harg6 arg7 harg7 arg8 harg8 arg9 harg9 arg10 harg10 arg11 harg11 arg12 harg12 hc0 x0 x1 x2 x3 x4 x5 x6
  funext y
  refine View.canon_apply_of_pieces (kcat x1 x2 x4 x5) _ ?_ y (hcov y)
  unfold kernelRun0_A
  dsimp only
  sl_unfold_words
  simp only [List.forall_mem_cons, View.readAt_eq_ld, harg4.read_unread, harg5.read_unread, harg7.read_unread, harg8.read_unread,
    View.ld_unit_zero (S := S2048x128) hz, View.ld_unit_zero (S := S256x128) hz]
  refine ⟨fun x => ?_, fun x => ?_, fun x => ?_, fun x => ?_, fun p hp => absurd hp List.not_mem_nil⟩
  · show shapeCast S256x128 x5 _ x = stackKeys _ _ _ _ (2048 + 1 * (x 0 : ℕ)) (128 + 1 * (x 1 : ℕ))
    rw [shapeCast_self, stackKeys, if_neg (by omega), if_neg (by omega)]
    exact eq_entry x5 x _ _ (by omega) (by omega)
  · have h1 : (x 1 : ℕ) < 128 := (x 1).isLt
    show shapeCast S256x128 x4 _ x = stackKeys _ _ _ _ (2048 + 1 * (x 0 : ℕ)) (0 + 1 * (x 1 : ℕ))
    rw [shapeCast_self, stackKeys, if_neg (by omega), if_pos (by omega)]
    exact eq_entry x4 x _ _ (by omega) (by omega)
  · have h0 : (x 0 : ℕ) < 2048 := (x 0).isLt
    show shapeCast S2048x128 x2 _ x = stackKeys _ _ _ _ (0 + 1 * (x 0 : ℕ)) (128 + 1 * (x 1 : ℕ))
    rw [shapeCast_self, stackKeys, if_pos (by omega), if_neg (by omega)]
    exact eq_entry x2 x _ _ (by omega) (by omega)
  · have h0 : (x 0 : ℕ) < 2048 := (x 0).isLt
    have h1 : (x 1 : ℕ) < 128 := (x 1).isLt
    show shapeCast S2048x128 x1 _ x = stackKeys _ _ _ _ (0 + 1 * (x 0 : ℕ)) (0 + 1 * (x 1 : ℕ))
    rw [shapeCast_self, stackKeys, if_pos (by omega), if_pos (by omega)]
    exact eq_entry x1 x _ _ (by omega) (by omega)

/-- The two stores into the value scratch spell `vcat`. -/
theorem values_canon (hc0 : cond0_0 i) : View.canon (kernelRun0_A c i arg3 harg3 arg4 harg4 arg5 harg5 arg6 harg6 arg7 harg7 arg8 harg8 arg9 harg9 arg10 harg10 arg11 harg11 arg12 harg12 hc0 x0 x1 x2 x3 x4 x5 x6).2.2.1 = vcat x3 x6 := by
  have hcov := scover0_A_1 c i arg3 harg3 arg4 harg4 arg5 harg5 arg6 harg6 arg7 harg7 arg8 harg8 arg9 harg9 arg10 harg10 arg11 harg11 arg12 harg12 hc0 x0 x1 x2 x3 x4 x5 x6
  funext y
  refine View.canon_apply_of_pieces (vcat x3 x6) _ ?_ y (hcov y)
  unfold kernelRun0_A
  dsimp only
  sl_unfold_words
  simp only [List.forall_mem_cons, View.readAt_eq_ld, harg6.read_unread, harg9.read_unread,
    View.ld_unit_zero (S := S2048x128) hz, View.ld_unit_zero (S := S256x128) hz]
  refine ⟨fun x => ?_, fun x => ?_, fun p hp => absurd hp List.not_mem_nil⟩
  · show shapeCast S256x128 x6 _ x = stackValues _ _ (2048 + 1 * (x 0 : ℕ)) (0 + 1 * (x 1 : ℕ))
    rw [shapeCast_self, stackValues, if_neg (by omega)]
    exact eq_entry x6 x _ _ (by omega) (by omega)
  · have h0 : (x 0 : ℕ) < 2048 := (x 0).isLt
    show shapeCast S2048x128 x3 _ x = stackValues _ _ (0 + 1 * (x 0 : ℕ)) (0 + 1 * (x 1 : ℕ))
    rw [shapeCast_self, stackValues, if_pos (by omega)]
    exact eq_entry x3 x _ _ (by omega) (by omega)

/-- The first point of a head writes all its keys into the key scratch. -/
theorem keysA (hc0 : cond0_0 i) : sout0_A_0 c i arg3 harg3 arg4 harg4 arg5 harg5 arg6 harg6 arg7 harg7 arg8 harg8 arg9 harg9 arg10 harg10 arg11 harg11 arg12 harg12 hc0 x0 x1 x2 x3 x4 x5 x6 = kcat x1 x2 x4 x5 := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 hc0 x0 x1 x2 x3 x4 x5 x6)]
  exact keys_canon c i arg3 harg3 arg4 harg4 arg5 harg5 arg6 harg6 arg7 harg7 arg8 harg8 arg9 harg9 arg10 harg10 arg11 harg11 arg12 harg12 x0 x1 x2 x3 x4 x5 x6 hc0

/-- The first point of a head writes all its values into the value scratch. -/
theorem valuesA (hc0 : cond0_0 i) : sout0_A_1 c i arg3 harg3 arg4 harg4 arg5 harg5 arg6 harg6 arg7 harg7 arg8 harg8 arg9 harg9 arg10 harg10 arg11 harg11 arg12 harg12 hc0 x0 x1 x2 x3 x4 x5 x6 = vcat x3 x6 := by
  unfold sout0_A_1
  rw [View.read_writes_eq_canon _ _ _ (scover0_A_1 c i arg3 harg3 arg4 harg4 arg5 harg5 arg6 harg6 arg7 harg7 arg8 harg8 arg9 harg9 arg10 harg10 arg11 harg11 arg12 harg12 hc0 x0 x1 x2 x3 x4 x5 x6)]
  exact values_canon c i arg3 harg3 arg4 harg4 arg5 harg5 arg6 harg6 arg7 harg7 arg8 harg8 arg9 harg9 arg10 harg10 arg11 harg11 arg12 harg12 x0 x1 x2 x3 x4 x5 x6 hc0

/-- The first point of a head writes the attention of its queries over the keys and values just stored. -/
theorem outA (hc0 : cond0_0 i) : out0_A_7 c i arg3 harg3 arg4 harg4 arg5 harg5 arg6 harg6 arg7 harg7 arg8 harg8 arg9 harg9 arg10 harg10 arg11 harg11 arg12 harg12 hc0 x0 x1 x2 x3 x4 x5 x6 = k0_pay7 x0 (kcat x1 x2 x4 x5) (vcat x3 x6) := by
  unfold out0_A_7
  rw [View.read_writes_eq_canon _ _ _ (cover0_A_7 c i arg3 harg3 arg4 harg4 arg5 harg5 arg6 harg6 arg7 harg7 arg8 harg8 arg9 harg9 arg10 harg10 arg11 harg11 arg12 harg12 hc0 x0 x1 x2 x3 x4 x5 x6)]
  have hk : kernelRun0_A.sl.v4 c arg4 harg4 arg5 harg5 arg7 harg7 arg8 harg8 arg11 x1 x2 x4 x5 = kcat x1 x2 x4 x5 := by
    show arg11.view.readCov (kernelRun0_A c i arg3 harg3 arg4 harg4 arg5 harg5 arg6 harg6 arg7 harg7 arg8 harg8 arg9 harg9 arg10 harg10 arg11 harg11 arg12 harg12 hc0 x0 x1 x2 x3 x4 x5 x6).2.1 (Rect.unit ![0, 0] S2304x256.size inb_S2304x256_S2304x256_0_0).toLoadRect = _
    rw [View.readCov_eq_canon_ld _ _ _ (scover0_A_0 c i arg3 harg3 arg4 harg4 arg5 harg5 arg6 harg6 arg7 harg7 arg8 harg8 arg9 harg9 arg10 harg10 arg11 harg11 arg12 harg12 hc0 x0 x1 x2 x3 x4 x5 x6), keys_canon, View.ld_unit_zero (S := S2304x256) hz]
  have hv : kernelRun0_A.sl.v14 c arg6 harg6 arg9 harg9 arg12 x3 x6 = vcat x3 x6 := by
    show arg12.view.readCov (kernelRun0_A c i arg3 harg3 arg4 harg4 arg5 harg5 arg6 harg6 arg7 harg7 arg8 harg8 arg9 harg9 arg10 harg10 arg11 harg11 arg12 harg12 hc0 x0 x1 x2 x3 x4 x5 x6).2.2.1 (Rect.unit ![0, 0] S2304x128.size inb_S2304x128_S2304x128_0_0).toLoadRect = _
    rw [View.readCov_eq_canon_ld _ _ _ (scover0_A_1 c i arg3 harg3 arg4 harg4 arg5 harg5 arg6 harg6 arg7 harg7 arg8 harg8 arg9 harg9 arg10 harg10 arg11 harg11 arg12 harg12 hc0 x0 x1 x2 x3 x4 x5 x6), values_canon, View.ld_unit_zero (S := S2304x128) hz]
  unfold kernelRun0_A
  dsimp only
  rw [View.canon_unit_zero hz, hk, hv]
  simp only [View.readAt_eq_ld, harg3.read_unread, View.ld_unit_zero (S := S512x256) hz]

/-- A later point of a head writes the attention of its queries over the keys and values in the scratches. -/
theorem outB (hc0 : ¬ cond0_0 i) (xs0 : Vec Ideal S2304x256 .bf16) (xs1 : Vec Ideal S2304x128 .bf16) : out0_B_7 c i arg3 harg3 arg4 harg4 arg5 harg5 arg6 harg6 arg7 harg7 arg8 harg8 arg9 harg9 arg10 harg10 arg11 harg11 arg12 harg12 hc0 x0 x1 x2 x3 x4 x5 x6 xs0 xs1 = k0_pay7 x0 xs0 xs1 := by
  unfold out0_B_7
  rw [View.read_writes_eq_canon _ _ _ (cover0_B_7 c i arg3 harg3 arg4 harg4 arg5 harg5 arg6 harg6 arg7 harg7 arg8 harg8 arg9 harg9 arg10 harg10 arg11 harg11 arg12 harg12 hc0 x0 x1 x2 x3 x4 x5 x6 xs0 xs1)]
  unfold kernelRun0_B
  dsimp only
  rw [View.canon_unit_zero hz]
  simp only [View.readAt_eq_ld, harg3.read_unread, harg11.read_unread, harg12.read_unread, View.ld_unit_zero (S := S512x256) hz, View.ld_unit_zero (S := S2304x256) hz, View.ld_unit_zero (S := S2304x128) hz]

end

/-- The scores less their row's maximum, exponentiated: the row's weights. -/
theorem weights_apply (S : FVec Ideal S512x2304 .f32) (r : Fin 512) (j : Fin 2304) :
    exp (subf S (broadcastTo S512x2304 (shapeCast S512x1
      (multiReduction .maximumf [1] S512 S 0xFF800000#32 reduces_S512x2304_S512 (.inl rfl) rfl) shapeCasts_S512_S512x1)
        broadcasts_S512x1_S512x2304)) (ix2 r j) = Softmax.weight (fun j : Fin 2304 => (S (ix2 r j) : EReal)) j := by
  show Ideal.exp (S (ix2 r j) - broadcastTo S512x2304 _ _ (ix2 r j)) = Ideal.exp _
  rw [Rows.column_apply, shapeCast_a_a1_apply]
  refine congrArg (fun z : EReal => Ideal.exp (S (ix2 r j) - z)) (Rows.rowMax S _ _ _ r)

/-- The weighted sum of the values over the sum of the weights. -/
theorem normalised_apply (E : FVec Ideal S512x2304 .f32) (V : Vec Ideal S2304x128 .bf16) (r : Fin 512) (l : Fin 128) :
    divf (matmul (φ₁ := .bf16) (φ₂ := .bf16) dot_S512x2304_S2304x128_S512x128_1_0_0_1_n_n none (truncf .bf16 E bitsLt_bf16_f32) V
        (constant S512x128 .f32 0x00000000#32))
      (broadcastTo S512x128 (shapeCast S512x1
        (multiReduction .add [1] S512 E 0x00000000#32 reduces_S512x2304_S512 (.inl rfl) rfl) shapeCasts_S512_S512x1)
          broadcasts_S512x1_S512x128) (ix2 r l)
      = Ideal.div (∑ j : Fin 2304, (E (ix2 r j) : EReal) * (V (ix2 j l) : EReal)) (∑ j : Fin 2304, (E (ix2 r j) : EReal)) := by
  show Ideal.div _ (broadcastTo S512x128 _ _ (ix2 r l)) = _
  rw [Rows.column_apply, shapeCast_a_a1_apply]
  refine congrArg₂ Ideal.div ?_ (Rows.rowSum E _ _ _ _ r)
  refine (Ideal.matmul_plain_apply (M := 512) (K := 2304) (N := 128) none (truncf .bf16 E bitsLt_bf16_f32) V _ r l).trans ?_
  rw [constant_apply, Ideal.ofBits_zero_f32, zero_add]
  rfl

/-- The scores of a block's queries. -/
theorem scores_apply (q : Vec Ideal S512x256 .bf16) (K : Vec Ideal S2304x256 .bf16) (r : Fin 512) (j : Fin 2304) :
    (matmul (φ₁ := .bf16) (φ₂ := .bf16) dot_S512x256_S2304x256_S512x2304_1_1_0_0_n_n none q K (constant S512x2304 .f32 0x00000000#32) : FVec Ideal S512x2304 .f32) (ix2 r j)
      = ∑ d : Fin 256, (q (ix2 r d) : EReal) * (K (ix2 j d) : EReal) :=
  (Ideal.matmul_transposedRhs_apply (M := 512) (K := 256) (N := 2304) none q K _ r j).trans
    (by rw [constant_apply, Ideal.ofBits_zero_f32, zero_add])

/-- What the body stores into its output block: softmax attention of the block's queries over the stacked keys and values. -/
theorem attend_apply (q : Vec Ideal S512x256 .bf16) (K : Vec Ideal S2304x256 .bf16) (V : Vec Ideal S2304x128 .bf16)
    (r : Fin 512) (l : Fin 128) : k0_pay7 q K V (ix2 r l)
      = Softmax.attend (fun j : Fin 2304 => ∑ d : Fin 256, (q (ix2 r d) : EReal) * (K (ix2 j d) : EReal)) fun j => (V (ix2 j l) : EReal) := by
  unfold k0_pay7
  refine (normalised_apply _ V r l).trans ?_
  have hw : ∀ j : Fin 2304, _ = Softmax.weight (fun j : Fin 2304 => ∑ d : Fin 256, (q (ix2 r d) : EReal) * (K (ix2 j d) : EReal)) j :=
    fun j => (weights_apply _ r j).trans (congrArg (fun s => Softmax.weight s j) (funext fun j => scores_apply q K r j))
  exact congrArg₂ Ideal.div (Finset.sum_congr rfl fun j _ => congrArg (· * (V (ix2 j l) : EReal)) (hw j))
    (Finset.sum_congr rfl fun j _ => hw j)

end Cert.KernelIdeal.Value

end
-- ==== Proof.KernelValue.lean ====
/-
  The attention kernel's result array, index by index: the layer's attention.
-/
module

public import proofs.«01_k».proof.Proof.KernelTiles

@[expose] public section

set_option maxRecDepth 16384

noncomputable section

namespace Cert.KernelIdeal.Value

open Cert.KernelIdeal Cert.KernelIdeal.Gen Idealize.ShloMosaic Idealize.ShloMosaic.TcCoe Idealize.SL.Sem
open Idealize.ShloMosaic.ValueIdx Cert.Attention
open Idealize.ShloMosaic.Pipeline (Dat)

variable (m : (ℓ : Loc nD τ sig) → Buf (Elt Ideal) ℓ) (ρ : Dev nD → PrngReg)

/-- The four argument arrays, as launched. -/
abbrev inputs (c : Dev nD) : Attention.Inputs :=
  ⟨m ((c : Thread nD τ).loc main_arg0), m ((c : Thread nD τ).loc main_arg1), m ((c : Thread nD τ).loc main_arg2),
    m ((c : Thread nD τ).loc main_arg3)⟩

/-- Which block each window reads or writes at a point: batch entry `t / 32`, head `t / 4 % 8`, query tile `t % 4`. -/
theorem tiles : ∀ t : Fin cfg0.N,
    (win0_0.index t 0 = t.val / 32 * 4 + t.val % 4 ∧ win0_0.index t 1 = t.val / 4 % 8)
    ∧ (win0_1.index t 0 = t.val / 32 ∧ win0_1.index t 1 = t.val / 4 % 8)
    ∧ (win0_2.index t 0 = t.val / 32 ∧ win0_2.index t 1 = 21)
    ∧ (win0_3.index t 0 = t.val / 32 ∧ win0_3.index t 1 = 8 + t.val / 4 % 8)
    ∧ (win0_4.index t 0 = t.val / 32 ∧ win0_4.index t 1 = t.val / 4 % 8)
    ∧ (win0_5.index t 0 = t.val / 32 ∧ win0_5.index t 1 = 21)
    ∧ (win0_6.index t 0 = t.val / 32 ∧ win0_6.index t 1 = 8 + t.val / 4 % 8)
    ∧ (win0_7.index t 0 = t.val / 32 * 4 + t.val % 4 ∧ win0_7.index t 1 = t.val / 4 % 8) :=
  (by decide +kernel : ∀ t : Fin grid0.N,
    (win0_0.index t 0 = t.val / 32 * 4 + t.val % 4 ∧ win0_0.index t 1 = t.val / 4 % 8)
    ∧ (win0_1.index t 0 = t.val / 32 ∧ win0_1.index t 1 = t.val / 4 % 8)
    ∧ (win0_2.index t 0 = t.val / 32 ∧ win0_2.index t 1 = 21)
    ∧ (win0_3.index t 0 = t.val / 32 ∧ win0_3.index t 1 = 8 + t.val / 4 % 8)
    ∧ (win0_4.index t 0 = t.val / 32 ∧ win0_4.index t 1 = t.val / 4 % 8)
    ∧ (win0_5.index t 0 = t.val / 32 ∧ win0_5.index t 1 = 21)
    ∧ (win0_6.index t 0 = t.val / 32 ∧ win0_6.index t 1 = 8 + t.val / 4 % 8)
    ∧ (win0_7.index t 0 = t.val / 32 * 4 + t.val % 4 ∧ win0_7.index t 1 = t.val / 4 % 8))

/-- An entry in range is the matrix there. -/
theorem entry_pos {n0 n1 : ℕ} (A : (⟨2, ![n0, n1]⟩ : Shape).Idx → EReal) (i j : ℕ) (hi : i < n0) (hj : j < n1) :
    entry A i j = A (ix2 ⟨i, hi⟩ ⟨j, hj⟩) := dif_pos ⟨hi, hj⟩

/-- The queries' block at a point. -/
theorem blockQ (c : Dev nD) (t : Fin cfg0.N) (r : Fin 512) (d : Fin 256) :
    (iblk m c 0 t : Vec Ideal S512x256 .bf16) (ix2 r d)
      = entry (inputs m c).p (t.val / 32 * 2048 + t.val % 4 * 512 + r) (t.val / 4 % 8 * 256 + d) := by
  obtain ⟨⟨h0, h1⟩, -⟩ := tiles t
  unfold iblk
  rw [View.read_apply]
  refine eq_entry (m (c.tc.loc main_arg0)) _ _ _ ?_ ?_
  · show win0_0.index t 0 * 512 + 1 * r.val = _; rw [h0]; omega
  · show win0_0.index t 1 * 256 + 1 * d.val = _; rw [h1]; omega

/-- The latent rows' keys (without position) at a point. -/
theorem blockKn (c : Dev nD) (t : Fin cfg0.N) (j d : ℕ) (hj : j < 2048) (hd : d < 128) :
    entry (iblk m c 1 t : Vec Ideal S2048x128 .bf16) j d
      = entry (inputs m c).kv (t.val / 32 * 2048 + j) (t.val / 4 % 8 * 128 + d) := by
  obtain ⟨-, ⟨h0, h1⟩, -⟩ := tiles t
  rw [entry_pos _ _ _ hj hd]
  unfold iblk
  rw [View.read_apply]
  refine eq_entry (m (c.tc.loc main_arg1)) _ _ _ ?_ ?_
  · show win0_1.index t 0 * 2048 + 1 * j = _; rw [h0]; omega
  · show win0_1.index t 1 * 128 + 1 * d = _; rw [h1]; omega

/-- The latent rows' rotated keys at a point. -/
theorem blockKp (c : Dev nD) (t : Fin cfg0.N) (j d : ℕ) (hj : j < 2048) (hd : d < 128) :
    entry (iblk m c 2 t : Vec Ideal S2048x128 .bf16) j d = entry (inputs m c).p (t.val / 32 * 2048 + j) (2688 + d) := by
  obtain ⟨-, -, ⟨h0, h1⟩, -⟩ := tiles t
  rw [entry_pos _ _ _ hj hd]
  unfold iblk
  rw [View.read_apply]
  refine eq_entry (m (c.tc.loc main_arg0)) _ _ _ ?_ ?_
  · show win0_2.index t 0 * 2048 + 1 * j = _; rw [h0]; omega
  · show win0_2.index t 1 * 128 + 1 * d = _; rw [h1]; omega

/-- The latent rows' values at a point. -/
theorem blockV (c : Dev nD) (t : Fin cfg0.N) (j d : ℕ) (hj : j < 2048) (hd : d < 128) :
    entry (iblk m c 3 t : Vec Ideal S2048x128 .bf16) j d
      = entry (inputs m c).kv (t.val / 32 * 2048 + j) (1024 + t.val / 4 % 8 * 128 + d) := by
  obtain ⟨-, -, -, ⟨h0, h1⟩, -⟩ := tiles t
  rw [entry_pos _ _ _ hj hd]
  unfold iblk
  rw [View.read_apply]
  refine eq_entry (m (c.tc.loc main_arg1)) _ _ _ ?_ ?_
  · show win0_3.index t 0 * 2048 + 1 * j = _; rw [h0]; omega
  · show win0_3.index t 1 * 128 + 1 * d = _; rw [h1]; omega

/-- The context rows' keys (without position) at a point. -/
theorem blockKcn (c : Dev nD) (t : Fin cfg0.N) (j d : ℕ) (hj : j < 256) (hd : d < 128) :
    entry (iblk m c 4 t : Vec Ideal S256x128 .bf16) j d
      = entry (inputs m c).kvc (t.val / 32 * 256 + j) (t.val / 4 % 8 * 128 + d) := by
  obtain ⟨-, -, -, -, ⟨h0, h1⟩, -⟩ := tiles t
  rw [entry_pos _ _ _ hj hd]
  unfold iblk
  rw [View.read_apply]
  refine eq_entry (m (c.tc.loc main_arg3)) _ _ _ ?_ ?_
  · show win0_4.index t 0 * 256 + 1 * j = _; rw [h0]; omega
  · show win0_4.index t 1 * 128 + 1 * d = _; rw [h1]; omega

/-- The context rows' rotated keys at a point. -/
theorem blockKcp (c : Dev nD) (t : Fin cfg0.N) (j d : ℕ) (hj : j < 256) (hd : d < 128) :
    entry (iblk m c 5 t : Vec Ideal S256x128 .bf16) j d = entry (inputs m c).pc (t.val / 32 * 256 + j) (2688 + d) := by
  obtain ⟨-, -, -, -, -, ⟨h0, h1⟩, -⟩ := tiles t
  rw [entry_pos _ _ _ hj hd]
  unfold iblk
  rw [View.read_apply]
  refine eq_entry (m (c.tc.loc main_arg2)) _ _ _ ?_ ?_
  · show win0_5.index t 0 * 256 + 1 * j = _; rw [h0]; omega
  · show win0_5.index t 1 * 128 + 1 * d = _; rw [h1]; omega

/-- The context rows' values at a point. -/
theorem blockVc (c : Dev nD) (t : Fin cfg0.N) (j d : ℕ) (hj : j < 256) (hd : d < 128) :
    entry (iblk m c 6 t : Vec Ideal S256x128 .bf16) j d
      = entry (inputs m c).kvc (t.val / 32 * 256 + j) (1024 + t.val / 4 % 8 * 128 + d) := by
  obtain ⟨-, -, -, -, -, -, ⟨h0, h1⟩, -⟩ := tiles t
  rw [entry_pos _ _ _ hj hd]
  unfold iblk
  rw [View.read_apply]
  refine eq_entry (m (c.tc.loc main_arg3)) _ _ _ ?_ ?_
  · show win0_6.index t 0 * 256 + 1 * j = _; rw [h0]; omega
  · show win0_6.index t 1 * 128 + 1 * d = _; rw [h1]; omega

/-- All keys, and all values, of the head and batch entry that group `g` of four points works on. -/
def keysOf (c : Dev nD) (g : ℕ) : Vec Ideal S2304x256 .bf16 := fun i => key (inputs m c) (g / 8) (g % 8) (i 0) (i 1)
def valuesOf (c : Dev nD) (g : ℕ) : Vec Ideal S2304x128 .bf16 := fun i => value (inputs m c) (g / 8) (g % 8) (i 0) (i 1)

/-- The stacked key blocks of a point are its group's keys. -/
theorem kcat_eq (c : Dev nD) (t : Fin cfg0.N) : kcat (iblk m c 1 t) (iblk m c 2 t) (iblk m c 4 t) (iblk m c 5 t) = keysOf m c (t.val / 4) := by
  funext i
  have e : t.val / 4 / 8 = t.val / 32 := by omega
  unfold kcat keysOf key
  rw [e]
  exact stackKeys_congr (blockKn m c t) (blockKp m c t) (blockKcn m c t) (blockKcp m c t) _ _ (i 0).isLt (i 1).isLt

/-- The stacked value blocks of a point are its group's values. -/
theorem vcat_eq (c : Dev nD) (t : Fin cfg0.N) : vcat (iblk m c 3 t) (iblk m c 6 t) = valuesOf m c (t.val / 4) := by
  funext i
  have e : t.val / 4 / 8 = t.val / 32 := by omega
  unfold vcat valuesOf value
  rw [e]
  exact stackValues_congr (blockV m c t) (blockVc m c t) _ _ (i 0).isLt (i 1).isLt

/-- After every point the two scratch arrays hold the keys and values of the point's group: its first point stores them, the
    other three leave them. -/
theorem scratch_eq (c : Dev nD) : ∀ (n : ℕ) (h : n < cfg0.N),
    (outsAt0 m c n h).2.1 = keysOf m c (n / 4) ∧ (outsAt0 m c n h).2.2 = valuesOf m c (n / 4)
  | n, h => by
    by_cases h0 : n % 4 = 0
    · rw [outsAt0_A m c ⟨n, h⟩ h0]
      dsimp only
      rw [keysA, valuesA]
      exact ⟨kcat_eq m c ⟨n, h⟩, vcat_eq m c ⟨n, h⟩⟩
    · have hlt : n - 1 < cfg0.N := by omega
      obtain ⟨i1, i2⟩ := scratch_eq c (n - 1) hlt
      have e : (n - 1) / 4 = n / 4 := by omega
      rw [outsAt0_B m c ⟨n, h⟩ h0]
      exact ⟨i1.trans (by rw [e]), i2.trans (by rw [e])⟩
  termination_by n => n
  decreasing_by omega

/-- What the output block holds after a point: attention of its queries over its group's keys and values. -/
theorem block_eq (c : Dev nD) (t : Fin cfg0.N) :
    (outsAt0 m c t.val t.isLt).1 = k0_pay7 (iblk m c 0 t) (keysOf m c (t.val / 4)) (valuesOf m c (t.val / 4)) := by
  by_cases h0 : t.val % 4 = 0
  · rw [outsAt0_A m c t h0]
    dsimp only
    rw [outA, kcat_eq, vcat_eq]
  · rw [outsAt0_B m c t h0]
    dsimp only
    obtain ⟨i1, i2⟩ := scratch_eq m c (t.val - 1) (Nat.lt_of_le_of_lt (Nat.sub_le _ _) t.isLt)
    have e : (t.val - 1) / 4 = t.val / 4 := by omega
    rw [outB, i1, i2, e]

/-- The attention, as an array. -/
def attention (c : Dev nD) : S8192x1024.Idx → EReal := fun i => result (inputs m c) (i 0) (i 1)

/-- A point writes back its tile of the attention. -/
theorem flushed_eq (c : Dev nD) (t : Fin cfg0.N) :
    (dats m 0 c).flushed 7 t = ((cfg0.win 7).blk t).view.read (Elt Ideal) (attention m c) := by
  rw [flushed7, block_eq]
  have ht : t.val < 128 := t.isLt
  obtain ⟨-, -, -, -, -, -, -, ⟨h0, h1⟩⟩ := tiles t
  funext j
  obtain ⟨r, l, rfl⟩ : ∃ (r : Fin 512) (l : Fin 128), j = ix2 r l := ⟨j 0, j 1, eq_ix2 j⟩
  rw [View.read_apply]
  show k0_pay7 (iblk m c 0 t) (keysOf m c (t.val / 4)) (valuesOf m c (t.val / 4)) (ix2 r l)
    = result (inputs m c) (win0_7.index t 0 * 512 + 1 * r.val) (win0_7.index t 1 * 128 + 1 * l.val)
  rw [attend_apply]
  unfold result
  have e1 : (win0_7.index t 0 * 512 + 1 * r.val) / 2048 = t.val / 32 := by rw [h0]; omega
  have e2 : (win0_7.index t 0 * 512 + 1 * r.val) % 2048 = t.val % 4 * 512 + r.val := by rw [h0]; omega
  have e3 : (win0_7.index t 1 * 128 + 1 * l.val) / 128 = t.val / 4 % 8 := by rw [h1]; omega
  have e4 : (win0_7.index t 1 * 128 + 1 * l.val) % 128 = l.val := by rw [h1]; omega
  have e5 : t.val / 4 / 8 = t.val / 32 := by omega
  rw [e1, e2, e3, e4]
  refine congrArg₂ Softmax.attend (funext fun j => ?_) (funext fun j => ?_)
  · refine Finset.sum_congr rfl fun d _ => congrArg₂ (· * ·) ?_ ?_
    · rw [blockQ]
      exact congrArg (fun z => entry (inputs m c).p z _) (by omega)
    · show key (inputs m c) (t.val / 4 / 8) (t.val / 4 % 8) j d = _
      rw [e5]
  · show value (inputs m c) (t.val / 4 / 8) (t.val / 4 % 8) j l = _
    rw [e5]

/-- Every index of the result lies in the tile of one point. -/
theorem covered (i : S8192x1024.Idx) : ∃ t : Fin cfg0.N, (cfg0.win 7).flush t = true ∧ i ∈ ((cfg0.win 7).blk t).view.set := by
  have hi0 : (i 0 : Nat) < 8192 := (i 0).isLt
  have hi1 : (i 1 : Nat) < 1024 := (i 1).isLt
  let t : Fin cfg0.N := ⟨((i 0 : Nat) / 2048 * 8 + (i 1 : Nat) / 128) * 4 + (i 0 : Nat) / 512 % 4, by
    rw [show cfg0.N = 128 from N_0]; omega⟩
  have hv : t.val = ((i 0 : Nat) / 2048 * 8 + (i 1 : Nat) / 128) * 4 + (i 0 : Nat) / 512 % 4 := rfl
  obtain ⟨-, -, -, -, -, -, -, ⟨h0, h1⟩⟩ := tiles t
  refine ⟨t, flush0_7 t, ?_⟩
  show i ∈ ((View.whole main_v0).slice (win0_7.rect t)).set
  rw [View.set_slice_whole, Rect.mem_set_unit]
  intro a
  match a with
  | ⟨0, _⟩ => show win0_7.index t 0 * 512 ≤ (i 0 : Nat) ∧ (i 0 : Nat) < win0_7.index t 0 * 512 + 512
              rw [h0]; omega
  | ⟨1, _⟩ => show win0_7.index t 1 * 128 ≤ (i 1 : Nat) ∧ (i 1 : Nat) < win0_7.index t 1 * 128 + 128
              rw [h1]; omega

/-- The result array after the run is the attention. -/
theorem final_eq (c : Dev nD) : (dats m 0 c).arrAt 7 cfg0.N = attention m c :=
  (dats m 0 c).arrAt_eq_of_cover 7 (attention m c) (fun t _ => flushed_eq m c t) covered

end Cert.KernelIdeal.Value

end
-- ==== Proof.ReferenceValue.lean ====
/-
  The reference's result, index by index: the layer's attention, its weights normalised before the values are summed.
-/
module

public import proofs.«01_k».proof.Proof.Gen.ReferenceIdeal.Read
public import proofs.«01_k».proof.Proof.Attention
public import proofs.«01_k».proof.Proof.Rows

@[expose] public section

set_option maxRecDepth 16384

noncomputable section

namespace Cert.ReferenceIdeal.Read

open Cert.ReferenceIdeal Idealize.ShloMosaic Idealize.ShloMosaic.ValueIdx Cert.Attention

variable (x0 : (⟨S8192x5888, .bf16⟩ : BufTy).Contents (Elt Ideal)) (x1 : (⟨S8192x2048, .bf16⟩ : BufTy).Contents (Elt Ideal))
  (x2 : (⟨S1024x5888, .bf16⟩ : BufTy).Contents (Elt Ideal)) (x3 : (⟨S1024x2048, .bf16⟩ : BufTy).Contents (Elt Ideal))

/-- The arguments as the attention's inputs. -/
abbrev inputs : Attention.Inputs := ⟨x0, x1, x2, x3⟩

/-- The queries' part without position. -/
theorem queryN (i : S4x2048x8x128.Idx) :
    val_main_v6 (F := Ideal) x0 i = entry x0 ((i 0).val * 2048 + (i 1).val) ((i 2).val * 256 + (i 3).val) := by
  have h0 : (i 0).val < 4 := (i 0).isLt; have h1 : (i 1).val < 2048 := (i 1).isLt
  have h2 : (i 2).val < 8 := (i 2).isLt; have h3 : (i 3).val < 128 := (i 3).isLt
  rw [val_main_v6_apply, val_main_v5_apply, val_main_v4_apply]
  refine eq_entry x0 _ _ _ ?_ ?_
  · show ((((i 0).val * 2048 + (i 1).val) * 8 + (i 2).val) * 256 + (i 3).val) / 2048 = _; omega
  · show ((((i 0).val * 2048 + (i 1).val) * 8 + (i 2).val) * 256 + (i 3).val) % 2048 = _; omega

/-- The queries' rotated part. -/
theorem queryP (i : S4x2048x8x128.Idx) :
    val_main_v7 (F := Ideal) x0 i = entry x0 ((i 0).val * 2048 + (i 1).val) ((i 2).val * 256 + (128 + (i 3).val)) := by
  have h0 : (i 0).val < 4 := (i 0).isLt; have h1 : (i 1).val < 2048 := (i 1).isLt
  have h2 : (i 2).val < 8 := (i 2).isLt; have h3 : (i 3).val < 128 := (i 3).isLt
  rw [val_main_v7_apply, val_main_v5_apply, val_main_v4_apply]
  refine eq_entry x0 _ _ _ ?_ ?_
  · show ((((i 0).val * 2048 + (i 1).val) * 8 + (i 2).val) * 256 + (128 + (i 3).val)) / 2048 = _; omega
  · show ((((i 0).val * 2048 + (i 1).val) * 8 + (i 2).val) * 256 + (128 + (i 3).val)) % 2048 = _; omega

/-- The latent rows' rotated keys. -/
theorem keyP (i : S4x2048x128.Idx) :
    val_main_v9 (F := Ideal) x0 i = entry x0 ((i 0).val * 2048 + (i 1).val) (2688 + (i 2).val) := by
  have h2 : (i 2).val < 128 := (i 2).isLt
  rw [val_main_v9_apply, val_main_v8_apply]
  refine eq_entry x0 _ _ _ ?_ ?_
  · show (((i 0).val * 2048 + (i 1).val) * 128 + (i 2).val) / 128 = _; omega
  · show 2688 + (((i 0).val * 2048 + (i 1).val) * 128 + (i 2).val) % 128 = _; omega

/-- The context rows' rotated keys. -/
theorem keyCP (i : S4x256x128.Idx) :
    val_main_v11 (F := Ideal) x2 i = entry x2 ((i 0).val * 256 + (i 1).val) (2688 + (i 2).val) := by
  have h2 : (i 2).val < 128 := (i 2).isLt
  rw [val_main_v11_apply, val_main_v10_apply]
  refine eq_entry x2 _ _ _ ?_ ?_
  · show (((i 0).val * 256 + (i 1).val) * 128 + (i 2).val) / 128 = _; omega
  · show 2688 + (((i 0).val * 256 + (i 1).val) * 128 + (i 2).val) % 128 = _; omega

/-- The latent rows' keys without position. -/
theorem keyN (i : S4x2048x8x128.Idx) :
    val_main_v13 (F := Ideal) x1 i = entry x1 ((i 0).val * 2048 + (i 1).val) ((i 2).val * 128 + (i 3).val) := by
  have h2 : (i 2).val < 8 := (i 2).isLt; have h3 : (i 3).val < 128 := (i 3).isLt
  rw [val_main_v13_apply, val_main_v12_apply]
  refine eq_entry x1 _ _ _ ?_ ?_
  · show ((((i 0).val * 2048 + (i 1).val) * 8 + (i 2).val) * 128 + (i 3).val) / 1024 = _; omega
  · show ((((i 0).val * 2048 + (i 1).val) * 8 + (i 2).val) * 128 + (i 3).val) % 1024 = _; omega

/-- The latent rows' values. -/
theorem valueL (i : S4x2048x8x128.Idx) :
    val_main_v15 (F := Ideal) x1 i = entry x1 ((i 0).val * 2048 + (i 1).val) (1024 + (i 2).val * 128 + (i 3).val) := by
  have h2 : (i 2).val < 8 := (i 2).isLt; have h3 : (i 3).val < 128 := (i 3).isLt
  rw [val_main_v15_apply, val_main_v14_apply]
  refine eq_entry x1 _ _ _ ?_ ?_
  · show ((((i 0).val * 2048 + (i 1).val) * 8 + (i 2).val) * 128 + (i 3).val) / 1024 = _; omega
  · show 1024 + ((((i 0).val * 2048 + (i 1).val) * 8 + (i 2).val) * 128 + (i 3).val) % 1024 = _; omega

/-- The context rows' keys without position. -/
theorem keyCN (i : S4x256x8x128.Idx) :
    val_main_v17 (F := Ideal) x3 i = entry x3 ((i 0).val * 256 + (i 1).val) ((i 2).val * 128 + (i 3).val) := by
  have h2 : (i 2).val < 8 := (i 2).isLt; have h3 : (i 3).val < 128 := (i 3).isLt
  rw [val_main_v17_apply, val_main_v16_apply]
  refine eq_entry x3 _ _ _ ?_ ?_
  · show ((((i 0).val * 256 + (i 1).val) * 8 + (i 2).val) * 128 + (i 3).val) / 1024 = _; omega
  · show ((((i 0).val * 256 + (i 1).val) * 8 + (i 2).val) * 128 + (i 3).val) % 1024 = _; omega

/-- The context rows' values. -/
theorem valueC (i : S4x256x8x128.Idx) :
    val_main_v19 (F := Ideal) x3 i = entry x3 ((i 0).val * 256 + (i 1).val) (1024 + (i 2).val * 128 + (i 3).val) := by
  have h2 : (i 2).val < 8 := (i 2).isLt; have h3 : (i 3).val < 128 := (i 3).isLt
  rw [val_main_v19_apply, val_main_v18_apply]
  refine eq_entry x3 _ _ _ ?_ ?_
  · show ((((i 0).val * 256 + (i 1).val) * 8 + (i 2).val) * 128 + (i 3).val) / 1024 = _; omega
  · show 1024 + ((((i 0).val * 256 + (i 1).val) * 8 + (i 2).val) * 128 + (i 3).val) % 1024 = _; omega

/-- A score is the part without position plus the rotated part. -/
theorem score_split (I : Attention.Inputs) (b h q : ℕ) (j : Fin 2304) :
    score I b h q j = ∑ k : Fin 128, query I b h q k * key I b h j k + ∑ k : Fin 128, query I b h q (128 + k) * key I b h j (128 + k) :=
  Fin.sum_univ_add (a := 128) (b := 128) (fun d : Fin 256 => query I b h q d * key I b h j d)

/-- The reference's logits are the scores. -/
theorem logits (b : Fin 4) (h : Fin 8) (q : Fin 2048) (j : Fin 2304) :
    val_main_v28 (F := Ideal) x0 x1 x2 x3 (ix4 b h q j) = score (inputs x0 x1 x2 x3) b h q j := by
  unfold val_main_v28
  rw [score_split]
  by_cases hj : j.val < 2048
  · refine (concatenate_pair_apply_left (t := S4x8x2048x2304) (s₁ := S4x8x2048x2048) (s₂ := S4x8x2048x256) 3 _ _ _ (ix4 b h q j) rfl (ix4 b h q (⟨j.val, hj⟩ : Fin 2048)) (fun a => match a with
      | ⟨0, _⟩ => rfl | ⟨1, _⟩ => rfl | ⟨2, _⟩ => rfl | ⟨3, _⟩ => rfl)).trans ?_
    rw [val_main_v23_apply, val_main_v22_apply, val_main_v20_apply, val_main_v21_apply]
    refine congrArg₂ (fun x y : EReal => x + y) (Finset.sum_congr rfl fun k _ => ?_) (Finset.sum_congr rfl fun k _ => ?_)
    · rw [queryN, keyN]
      unfold query key stackKeys
      rw [if_pos hj, if_pos k.isLt]
    · rw [keyP, queryP, mul_comm]
      unfold query key stackKeys
      rw [if_pos hj, if_neg (by omega), Nat.add_sub_cancel_left]
  · have hj' : j.val - 2048 < 256 := by omega
    refine (concatenate_pair_apply_right (t := S4x8x2048x2304) (s₁ := S4x8x2048x2048) (s₂ := S4x8x2048x256) 3 _ _ _ (ix4 b h q j) rfl rfl (ix4 b h q (⟨j.val - 2048, hj'⟩ : Fin 256)) (fun a ha => match a with
      | ⟨0, _⟩ => rfl | ⟨1, _⟩ => rfl | ⟨2, _⟩ => rfl | ⟨3, _⟩ => absurd rfl ha)
      (by show j.val - 2048 + 2048 = j.val; omega)).trans ?_
    rw [val_main_v27_apply, val_main_v26_apply, val_main_v24_apply, val_main_v25_apply]
    refine congrArg₂ (fun x y : EReal => x + y) (Finset.sum_congr rfl fun k _ => ?_) (Finset.sum_congr rfl fun k _ => ?_)
    · rw [queryN, keyCN]
      unfold query key stackKeys
      rw [if_neg hj, if_pos k.isLt]
    · rw [keyCP, queryP, mul_comm]
      unfold query key stackKeys
      rw [if_neg hj, if_neg (by omega), Nat.add_sub_cancel_left]

/-- The reference's maximum is the scores' maximum. -/
theorem maxima (b : Fin 4) (h : Fin 8) (q : Fin 2048) :
    val_main_v31 (F := Ideal) x0 x1 x2 x3 (ix3 b h q) = Softmax.top (score (inputs x0 x1 x2 x3) b h q) := by
  rw [val_main_v31_apply, val_main_v30_apply, val_main_cst_0_apply]
  show max (FloatOps.ofBits (F := Ideal) .f32 0xFF800000#32 : EReal) (val_main_v29 (F := Ideal) x0 x1 x2 x3 (ix3 b h q)) = _
  rw [Rows.bottom, bot_sup_eq]
  unfold val_main_v29
  refine (Rows.hostMax_last (a := 4) (b := 8) (c := 2048) (n := 2304) _ _ _ (by decide) _ Rows.bottom b h q).trans ?_
  exact congrArg (Finset.univ.fold max ⊥) (funext fun j => logits x0 x1 x2 x3 b h q j)

/-- The reference's exponentials are the weights. -/
theorem exponentials (b : Fin 4) (h : Fin 8) (q : Fin 2048) (j : Fin 2304) :
    val_main_v35 (F := Ideal) x0 x1 x2 x3 (ix4 b h q j) = Softmax.weight (score (inputs x0 x1 x2 x3) b h q) j := by
  rw [val_main_v35_apply, val_main_v34_apply, val_main_v33_apply, val_main_v32_apply]
  have e : idx_main_v32 (idx_main_v33 (ix4 b h q j)) = ix3 b h q := by
    funext a; match a with | ⟨0, _⟩ => rfl | ⟨1, _⟩ => rfl | ⟨2, _⟩ => rfl
  rw [e, maxima, logits]
  rfl

/-- The reference's denominators are the sums of the weights. -/
theorem sums (b : Fin 4) (h : Fin 8) (q : Fin 2048) :
    val_main_v36 (F := Ideal) x0 x1 x2 x3 (ix3 b h q) = ∑ j, Softmax.weight (score (inputs x0 x1 x2 x3) b h q) j := by
  rw [val_main_v36_apply, val_main_cst_1_apply]
  show Ideal.ofBits .f32 0x00000000#32 + _ = _
  rw [Ideal.ofBits_zero_f32, zero_add]
  refine Finset.sum_congr rfl fun j _ => ?_
  rw [← exponentials]
  exact congrArg _ (funext fun a => match a with | ⟨0, _⟩ => rfl | ⟨1, _⟩ => rfl | ⟨2, _⟩ => rfl | ⟨3, _⟩ => rfl)

/-- The reference's probabilities are the normalised weights. -/
theorem probabilities (b : Fin 4) (h : Fin 8) (q : Fin 2048) (j : Fin 2304) :
    val_main_v39 (F := Ideal) x0 x1 x2 x3 (ix4 b h q j)
      = Ideal.div (Softmax.weight (score (inputs x0 x1 x2 x3) b h q) j) (∑ k, Softmax.weight (score (inputs x0 x1 x2 x3) b h q) k) := by
  rw [val_main_v39_apply, val_main_v38_apply, val_main_v37_apply, exponentials]
  have e : idx_main_v37 (idx_main_v38 (ix4 b h q j)) = ix3 b h q := by
    funext a; match a with | ⟨0, _⟩ => rfl | ⟨1, _⟩ => rfl | ⟨2, _⟩ => rfl
  rw [e, sums]
  rfl

/-- The latent rows' share of the output. -/
theorem shareL (b : Fin 4) (q : Fin 2048) (h : Fin 8) (l : Fin 128) :
    val_main_v42 (F := Ideal) x0 x1 x2 x3 (ix4 b q h l) = ∑ k : Fin 2048, value (inputs x0 x1 x2 x3) b h k l
      * Ideal.div (Softmax.weight (score (inputs x0 x1 x2 x3) b h q) (Fin.castAdd 256 k)) (∑ k, Softmax.weight (score (inputs x0 x1 x2 x3) b h q) k) := by
  rw [val_main_v42_apply, val_main_v41_apply]
  refine Finset.sum_congr rfl fun k _ => congrArg₂ (fun x y : EReal => x * y) ?_ ?_
  · rw [valueL]
    unfold value stackValues
    rw [if_pos k.isLt]
  · rw [val_main_v40_apply, ← probabilities]
    exact congrArg _ (funext fun a => match a with | ⟨0, _⟩ => rfl | ⟨1, _⟩ => rfl | ⟨2, _⟩ => rfl | ⟨3, _⟩ => rfl)

/-- The context rows' share of the output. -/
theorem shareC (b : Fin 4) (q : Fin 2048) (h : Fin 8) (l : Fin 128) :
    val_main_v45 (F := Ideal) x0 x1 x2 x3 (ix4 b q h l) = ∑ k : Fin 256, value (inputs x0 x1 x2 x3) b h (2048 + k) l
      * Ideal.div (Softmax.weight (score (inputs x0 x1 x2 x3) b h q) (Fin.natAdd 2048 k)) (∑ k, Softmax.weight (score (inputs x0 x1 x2 x3) b h q) k) := by
  rw [val_main_v45_apply, val_main_v44_apply]
  refine Finset.sum_congr rfl fun k _ => congrArg₂ (fun x y : EReal => x * y) ?_ ?_
  · rw [valueC]
    unfold value stackValues
    rw [if_neg (by omega), Nat.add_sub_cancel_left]
  · rw [val_main_v43_apply, ← probabilities]
    exact congrArg _ (funext fun a => match a with | ⟨0, _⟩ => rfl | ⟨1, _⟩ => rfl | ⟨2, _⟩ => rfl | ⟨3, _⟩ => rfl)

/-- The reference's result is the layer's attention, whenever the entries that enter the scores are finite. -/
theorem result_eq (hf : Finite (inputs x0 x1 x2 x3)) (i : S8192x1024.Idx) :
    val_main_v48 (F := Ideal) x0 x1 x2 x3 i = result (inputs x0 x1 x2 x3) (i 0) (i 1) := by
  have hi0 : (i 0).val < 8192 := (i 0).isLt
  have hi1 : (i 1).val < 1024 := (i 1).isLt
  have hb : (i 0).val / 2048 < 4 := by omega
  have hh : (i 1).val / 128 < 8 := by omega
  have hq : (i 0).val % 2048 < 2048 := by omega
  have hl : (i 1).val % 128 < 128 := by omega
  rw [val_main_v48_apply, val_main_v47_apply]
  have e : idx_main_v47 i = ix4 (⟨_, hb⟩ : Fin 4) (⟨_, hq⟩ : Fin 2048) (⟨_, hh⟩ : Fin 8) (⟨_, hl⟩ : Fin 128) := by
    funext a
    apply Fin.ext
    match a with
    | ⟨0, _⟩ => show ((i 0).val * 1024 + (i 1).val) / 2097152 = (i 0).val / 2048; omega
    | ⟨1, _⟩ => show ((i 0).val * 1024 + (i 1).val) / 1024 % 2048 = (i 0).val % 2048; omega
    | ⟨2, _⟩ => show ((i 0).val * 1024 + (i 1).val) / 128 % 8 = (i 1).val / 128; omega
    | ⟨3, _⟩ => show ((i 0).val * 1024 + (i 1).val) % 128 = (i 1).val % 128; omega
  rw [e]
  unfold result
  rw [Softmax.attend_eq _ _ (by decide) (score_finite _ hf _ _ _ hb hh hq)]
  show val_main_v46 (F := Ideal) x0 x1 x2 x3 _ = _
  rw [val_main_v46_apply, shareL, shareC]
  refine Eq.trans ?_ (Fin.sum_univ_add (a := 2048) (b := 256) _).symm
  rfl

end Cert.ReferenceIdeal.Read

end
-- ==== Proof.FiniteScores.lean ====
/-
  What the precondition says of the arguments: every entry that enters a score is finite.
-/
module

public import proofs.«01_k».proof.Pre_finite_scores
public import proofs.«01_k».proof.Proof.Attention
public import proofs.«01_k».proof.Proof.Rows

@[expose] public section

set_option maxRecDepth 16384

noncomputable section

namespace Cert.FiniteScores

open Idealize.ShloMosaic Idealize.ShloMosaic.ValueIdx Cert.Attention

/-- A number whose absolute value is below `+∞` is neither infinity. -/
theorem finite_of_abs {x : EReal} (h : max x (-x) < ⊤) : x ≠ ⊤ ∧ x ≠ ⊥ := by
  refine ⟨fun hx => ?_, fun hx => ?_⟩ <;> subst hx <;> simp at h

/-- Where `|A| < +∞` holds on a window of columns, the window's entries are finite. -/
theorem window {a b r k : ℕ} (o : ℕ) (A : FVec Ideal (⟨2, ![a, b]⟩ : Shape) .bf16)
    (hs : (⟨2, ![a, b]⟩ : Shape).Slices ![0, o] ⟨2, ![r, k]⟩) (hb : FTy.bits .bf16 < FTy.bits .f32)
    (hc : (⟨0, ![]⟩ : Shape).BroadcastsInDim ⟨2, ![r, k]⟩ ![])
    (h : cmpf .olt (Host.absf (extf .f32 (extractStridedSlice ⟨2, ![r, k]⟩ ![0, o] A hs) hb) : FVec Ideal _ .f32)
      (broadcastInDim ⟨2, ![r, k]⟩ ![] hc (constant (F := Ideal) ⟨0, ![]⟩ .f32 0x7F800000#32)) = fun _ => 1#1)
    (har : r ≤ a) (hob : o + k ≤ b) (i j : ℕ) (hi : i < r) (hj : j < k) :
    entry A i (o + j) ≠ ⊤ ∧ entry A i (o + j) ≠ ⊥ := by
  have h1 := congrFun h (ix2 ⟨i, hi⟩ ⟨j, hj⟩)
  refine entry_finite A i (o + j) (by omega) (by omega) (finite_of_abs ?_)
  have he : extractStridedSlice ⟨2, ![r, k]⟩ ![0, o] A hs (ix2 ⟨i, hi⟩ ⟨j, hj⟩)
      = A (ix2 ⟨i, by omega⟩ ⟨o + j, by omega⟩) :=
    extractStridedSlice_apply _ _ _ _ _ fun x => by
      fin_cases x
      · show i = 0 + i; omega
      · show o + j = o + j; rfl
  have ht : Ideal.ofBits .f32 0x7F800000#32 = ⊤ := by simp [Ideal.ofBits, Ideal.ieee]
  have h2 : Ideal.cmp .olt
      (max (extractStridedSlice ⟨2, ![r, k]⟩ ![0, o] A hs (ix2 ⟨i, hi⟩ ⟨j, hj⟩))
        (-(extractStridedSlice ⟨2, ![r, k]⟩ ![0, o] A hs (ix2 ⟨i, hi⟩ ⟨j, hj⟩))))
      (Ideal.ofBits .f32 0x7F800000#32) = 1#1 := h1
  rw [he, ht] at h2
  unfold Ideal.cmp at h2
  by_contra hn
  simp [hn] at h2

variable [Cert.Pre_finite_scores.Facts]

/-- The precondition, at four arrays, says that the attention's inputs are finite where they enter a score. -/
theorem finite (p : FVec Ideal Cert.Pre_finite_scores.S8192x5888 .bf16) (kv : FVec Ideal Cert.Pre_finite_scores.S8192x2048 .bf16)
    (pc : FVec Ideal Cert.Pre_finite_scores.S1024x5888 .bf16) (kvc : FVec Ideal Cert.Pre_finite_scores.S1024x2048 .bf16)
    (h : (Cert.Pre_finite_scores.fn (F := Ideal) p kv pc kvc).1 = (fun _ => 1#1)
      ∧ (Cert.Pre_finite_scores.fn (F := Ideal) p kv pc kvc).2.1 = (fun _ => 1#1)
      ∧ (Cert.Pre_finite_scores.fn (F := Ideal) p kv pc kvc).2.2.1 = (fun _ => 1#1)
      ∧ (Cert.Pre_finite_scores.fn (F := Ideal) p kv pc kvc).2.2.2.1 = (fun _ => 1#1)
      ∧ (Cert.Pre_finite_scores.fn (F := Ideal) p kv pc kvc).2.2.2.2 = (fun _ => 1#1)) :
    Attention.Finite ⟨p, kv, pc, kvc⟩ := by
  obtain ⟨h0, h1, h2, h3, h4⟩ := h
  refine ⟨fun i j hi hj => ?_, fun i j hi hj => ?_, fun i j hi hj => ?_, fun i j hi hj => ?_, fun i j hi hj => ?_⟩
  · have := window 0 p _ _ _ h0 (by omega) (by omega) i j hi hj
    rwa [Nat.zero_add] at this
  · exact window 2688 p _ _ _ h1 (by omega) (by omega) i j hi hj
  · have := window 0 kv _ _ _ h2 (by omega) (by omega) i j hi hj
    rwa [Nat.zero_add] at this
  · exact window 2688 pc _ _ _ h3 (by omega) (by omega) i j hi hj
  · have := window 0 kvc _ _ _ h4 (by omega) (by omega) i j hi hj
    rwa [Nat.zero_add] at this

end Cert.FiniteScores

end
-- ==== Proof.ProjectValue.lean ====
/-
  The projection `a · w`: the tiled kernel's result array, index by index, is the sum over the shared axis, and so is
  the reference's.
-/
module

public import proofs.«01_k».proof.Proof.Gen.ProjectIdeal.Value
public import proofs.«01_k».proof.Proof.Gen.ProjectRefIdeal.Read
public import Idealize.ShloMosaic.Lib.MatmulPlain
public import Idealize.ShloMosaic.Lib.ValueIdx
public import Idealize.ShloMosaic.Lib.IdealHost
public import Idealize.ShloMosaic.Lib.Pipeline.Value

@[expose] public section

set_option maxRecDepth 16384

noncomputable section

namespace Cert.ProjectIdeal.Value

open Cert.ProjectIdeal Cert.ProjectIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The left factor and the weights, as launched. -/
abbrev argA (c : Dev nD) : (⟨S8192x2048, .bf16⟩ : BufTy).Contents (Elt Ideal) := m ((c : Thread nD τ).loc main_arg0)
abbrev argW (c : Dev nD) : (⟨S2048x4096, .bf16⟩ : BufTy).Contents (Elt Ideal) := m ((c : Thread nD τ).loc main_arg1)

/-- The product: row `i 0` of `a` with column `i 1` of `w`. -/
def product (c : Dev nD) : S8192x4096.Idx → EReal :=
  fun i => ∑ k : Fin 2048, (argA m c (ix2 (i 0) k) : EReal) * (argW m c (ix2 k (i 1)) : EReal)

/-- The starts of a whole access of two dimensions are zeros. -/
theorem hz : (![0, 0] : Fin 2 → Nat) = fun _ => 0 := funext fun a => by fin_cases a <;> rfl

/-- Which block each window reads or writes at a point: row tile `t / 8`, column tile `t % 8`. -/
theorem tiles : ∀ t : Fin cfg0.N, win0_0.index t 0 = t.val / 8 ∧ win0_0.index t 1 = 0 ∧ win0_1.index t 0 = 0
    ∧ win0_1.index t 1 = t.val % 8 ∧ win0_2.index t 0 = t.val / 8 ∧ win0_2.index t 1 = t.val % 8 :=
  (by decide +kernel : ∀ t : Fin grid0.N, win0_0.index t 0 = t.val / 8 ∧ win0_0.index t 1 = 0 ∧ win0_1.index t 0 = 0
    ∧ win0_1.index t 1 = t.val % 8 ∧ win0_2.index t 0 = t.val / 8 ∧ win0_2.index t 1 = t.val % 8)

/-- The row tile of `a` at a point. -/
theorem blockA (c : Dev nD) (t : Fin cfg0.N) (r : Fin 1024) (k : Fin 2048) (R : Fin 8192)
    (hR : R.val = t.val / 8 * 1024 + r.val) :
    (iblk m c 0 t : Vec Ideal S1024x2048 .bf16) (ix2 r k) = argA m c (ix2 R k) := by
  unfold iblk
  rw [View.read_apply]
  show V m c main_arg0 _ = m (c.tc.loc main_arg0) _
  unfold V
  congr 1
  obtain ⟨h0, h1, -⟩ := tiles t
  funext a
  apply Fin.ext
  match a with
  | ⟨0, _⟩ => show win0_0.index t 0 * 1024 + 1 * r.val = R.val; rw [h0]; omega
  | ⟨1, _⟩ => show win0_0.index t 1 * 2048 + 1 * k.val = k.val; rw [h1]; omega

/-- The column tile of `w` at a point. -/
theorem blockW (c : Dev nD) (t : Fin cfg0.N) (k : Fin 2048) (l : Fin 512) (L : Fin 4096)
    (hL : L.val = t.val % 8 * 512 + l.val) :
    (iblk m c 1 t : Vec Ideal S2048x512 .bf16) (ix2 k l) = argW m c (ix2 k L) := by
  unfold iblk
  rw [View.read_apply]
  show V m c main_arg1 _ = m (c.tc.loc main_arg1) _
  unfold V
  congr 1
  obtain ⟨-, -, h0, h1, -⟩ := tiles t
  funext a
  apply Fin.ext
  match a with
  | ⟨0, _⟩ => show win0_1.index t 0 * 2048 + 1 * k.val = k.val; rw [h0]; omega
  | ⟨1, _⟩ => show win0_1.index t 1 * 512 + 1 * l.val = L.val; rw [h1]; omega

/-- What the body leaves at `(r, l)` of its output tile: the sum over the shared axis. -/
theorem body_apply (x : Vec Ideal S1024x2048 .bf16) (w : Vec Ideal S2048x512 .bf16) (r : Fin 1024) (l : Fin 512) :
    out0_2 x w (ix2 r l) = ∑ k : Fin 2048, (x (ix2 r k) : EReal) * (w (ix2 k l) : EReal) := by
  unfold out0_2
  rw [View.canon_unit_zero hz]
  unfold k0_pay1
  simp only [View.ld_unit_zero (S := S1024x2048) hz, View.ld_unit_zero (S := S2048x512) hz]
  refine (Ideal.matmul_plain_apply (M := 1024) (K := 2048) (N := 512) none x w _ r l).trans ?_
  rw [constant_apply, Ideal.ofBits_zero_f32, zero_add]

/-- A point writes back its tile of the product. -/
theorem flushed_eq (c : Dev nD) (t : Fin cfg0.N) :
    (dats m 0 c).flushed 2 t = ((cfg0.win 2).blk t).view.read (Elt Ideal) (product m c) := by
  rw [flushed2]
  have ht : t.val < 64 := t.isLt
  obtain ⟨-, -, -, -, h0, h1⟩ := tiles t
  funext j
  obtain ⟨r, l, rfl⟩ : ∃ (r : Fin 1024) (l : Fin 512), j = ix2 r l := ⟨j 0, j 1, eq_ix2 j⟩
  rw [View.read_apply]
  show out0_2 (iblk m c 0 t) (iblk m c 1 t) (ix2 r l) = product m c _
  rw [body_apply]
  unfold product
  refine Finset.sum_congr rfl fun k _ => ?_
  congr 1
  · refine blockA m c t r k _ ?_
    show win0_2.index t 0 * 1024 + 1 * r.val = _
    rw [h0]; omega
  · refine blockW m c t k l _ ?_
    show win0_2.index t 1 * 512 + 1 * l.val = _
    rw [h1]; omega

/-- Every index of the result lies in the tile of one point. -/
theorem covered (i : S8192x4096.Idx) : ∃ t : Fin cfg0.N, (cfg0.win 2).flush t = true ∧ i ∈ ((cfg0.win 2).blk t).view.set := by
  have hi0 : (i 0 : Nat) < 8192 := (i 0).isLt
  have hi1 : (i 1 : Nat) < 4096 := (i 1).isLt
  let t : Fin cfg0.N := ⟨(i 0 : Nat) / 1024 * 8 + (i 1 : Nat) / 512, by rw [show cfg0.N = 64 from N_0]; omega⟩
  have hv : t.val = (i 0 : Nat) / 1024 * 8 + (i 1 : Nat) / 512 := rfl
  obtain ⟨-, -, -, -, h0, h1⟩ := tiles t
  refine ⟨t, flush0_2 t, ?_⟩
  show i ∈ ((View.whole main_v0).slice (win0_2.rect t)).set
  rw [View.set_slice_whole, Rect.mem_set_unit]
  intro a
  match a with
  | ⟨0, _⟩ => show win0_2.index t 0 * 1024 ≤ (i 0 : Nat) ∧ (i 0 : Nat) < win0_2.index t 0 * 1024 + 1024
              rw [h0]; omega
  | ⟨1, _⟩ => show win0_2.index t 1 * 512 ≤ (i 1 : Nat) ∧ (i 1 : Nat) < win0_2.index t 1 * 512 + 512
              rw [h1]; omega

/-- The result array after the run is the product. -/
theorem final_eq (c : Dev nD) : (dats m 0 c).arrAt 2 cfg0.N = product m c :=
  (dats m 0 c).arrAt_eq_of_cover 2 (product m c) (fun t _ => flushed_eq m c t) covered

end Cert.ProjectIdeal.Value

namespace Cert.ProjectRefIdeal.Read

open Cert.ProjectRefIdeal Idealize.ShloMosaic Idealize.ShloMosaic.ValueIdx

/-- The reference's result is the same sum, at every index. -/
theorem product_eq (x : (⟨S8192x2048, .bf16⟩ : BufTy).Contents (Elt Ideal)) (w : (⟨S2048x4096, .bf16⟩ : BufTy).Contents (Elt Ideal))
    (i : S8192x4096.Idx) :
    val_main_v2 (F := Ideal) x w i = ∑ k : Fin 2048, (x (ix2 (i 0) k) : EReal) * (w (ix2 k (i 1)) : EReal) := by
  rw [val_main_v2_apply]
  refine Finset.sum_congr rfl fun k _ => ?_
  show (x (lidx_main_v2 i k) : EReal) * (w (ridx_main_v2 i k) : EReal) = _
  congr 2 <;> (congr 1; funext a; match a with | ⟨0, _⟩ => rfl | ⟨1, _⟩ => rfl)

end Cert.ProjectRefIdeal.Read

end
-- ==== Proof.Moe.lean ====
/-
  The experts, as plain sums: a gated hidden layer per expert and its output projection.
-/
module

public import Idealize.ShloMosaic.Lib.ValueIdx
public import Idealize.ShloMosaic.Lib.IdealHost

@[expose] public section

set_option maxRecDepth 16384

noncomputable section

namespace Cert.Moe

open Idealize.ShloMosaic Idealize.ShloMosaic.ValueIdx

/-- The entry of a rank-three array at three natural numbers (`0` outside it). -/
def entry3 {a b c : ℕ} (X : (⟨3, ![a, b, c]⟩ : Shape).Idx → EReal) (e i j : ℕ) : EReal :=
  if h : e < a ∧ i < b ∧ j < c then X (ix3 ⟨e, h.1⟩ ⟨i, h.2.1⟩ ⟨j, h.2.2⟩) else 0

/-- A rank-three array at an index is its entry at the index's coordinates. -/
theorem eq_entry3 {a b c : ℕ} (X : (⟨3, ![a, b, c]⟩ : Shape).Idx → EReal) (x : (⟨3, ![a, b, c]⟩ : Shape).Idx)
    (e i j : ℕ) (he : (x 0).val = e) (hi : (x 1).val = i) (hj : (x 2).val = j) : X x = entry3 X e i j := by
  subst he hi hj
  have h0 : (x 0).val < a := (x 0).isLt
  have h1 : (x 1).val < b := (x 1).isLt
  have h2 : (x 2).val < c := (x 2).isLt
  unfold entry3
  rw [dif_pos ⟨h0, h1, h2⟩]
  exact congrArg X (eq_ix3 x)

/-- The entry of a rank-four array at four natural numbers (`0` outside it). -/
def entry4 {l a b c : ℕ} (W : (⟨4, ![l, a, b, c]⟩ : Shape).Idx → EReal) (n e i j : ℕ) : EReal :=
  if h : n < l ∧ e < a ∧ i < b ∧ j < c then W (ix4 ⟨n, h.1⟩ ⟨e, h.2.1⟩ ⟨i, h.2.2.1⟩ ⟨j, h.2.2.2⟩) else 0

/-- A rank-four array at an index is its entry at the index's coordinates. -/
theorem eq_entry4 {l a b c : ℕ} (W : (⟨4, ![l, a, b, c]⟩ : Shape).Idx → EReal) (x : (⟨4, ![l, a, b, c]⟩ : Shape).Idx)
    (n e i j : ℕ) (hn : (x 0).val = n) (he : (x 1).val = e) (hi : (x 2).val = i) (hj : (x 3).val = j) :
    W x = entry4 W n e i j := by
  subst hn he hi hj
  have h0 : (x 0).val < l := (x 0).isLt
  have h1 : (x 1).val < a := (x 1).isLt
  have h2 : (x 2).val < b := (x 2).isLt
  have h3 : (x 3).val < c := (x 3).isLt
  unfold entry4
  rw [dif_pos ⟨h0, h1, h2, h3⟩]
  exact congrArg W (eq_ix4 x)

/-- `x · σ(x)`, as one quotient. -/
def silu (x : EReal) : EReal := Ideal.div x (1 + Ideal.exp (-x))

/-- One plus an exponential is not zero. -/
theorem one_add_exp_ne_zero (x : EReal) : 1 + Ideal.exp x ≠ 0 := by
  have h : (0 : EReal) ≤ Ideal.exp x := by
    induction x using EReal.rec with
    | bot => exact le_refl _
    | top => exact le_top
    | coe r => exact EReal.coe_nonneg.mpr (Real.exp_pos r).le
  have h1 : (1 : EReal) ≤ 1 + Ideal.exp x := le_add_of_nonneg_right h
  exact (lt_of_lt_of_le zero_lt_one h1).ne'

/-- The factor `σ(x)` multiplied in is the quotient. -/
theorem mul_logistic (x : EReal) : x * Ideal.div 1 (1 + Ideal.exp (-x)) = silu x :=
  Ideal.mul_one_div (one_add_exp_ne_zero (-x))

/-- The experts' arguments: the gathered rows of each expert and the two layers' weights. -/
structure Inputs where
  x : (⟨3, ![16, 1024, 2048]⟩ : Shape).Idx → EReal
  w1 : (⟨4, ![2, 16, 2048, 1408]⟩ : Shape).Idx → EReal
  w3 : (⟨4, ![2, 16, 2048, 1408]⟩ : Shape).Idx → EReal
  w2 : (⟨4, ![2, 16, 1408, 2048]⟩ : Shape).Idx → EReal

variable (I : Inputs)

/-- The hidden layer of expert `e` at row `r` and column `f`, with the first layer's weights. -/
def hidden (e r f : ℕ) : EReal :=
  silu (∑ k : Fin 2048, entry3 I.x e r k * entry4 I.w1 0 e k f) * ∑ k : Fin 2048, entry3 I.x e r k * entry4 I.w3 0 e k f

/-- What hidden column `f` adds to the output. -/
def term (e r d f : ℕ) : EReal := hidden I e r f * entry4 I.w2 0 e f d

/-- Past the hidden layer's width there is nothing to add. -/
theorem term_outside (e r d f : ℕ) (h : 1408 ≤ f) : term I e r d f = 0 := by
  unfold term entry4
  rw [dif_neg (by omega), mul_zero]

/-- Expert `e`'s output at row `r` and column `d`. -/
def output (e r d : ℕ) : EReal := ∑ f : Fin 1408, term I e r d f

/-- The output is the sum over six tiles of 256 hidden columns. -/
theorem output_eq (e r d : ℕ) : ∑ f ∈ Finset.range 1536, term I e r d f = output I e r d := by
  rw [show (1536 : ℕ) = 1408 + 128 from rfl, Finset.sum_range_add,
    Finset.sum_eq_zero (s := Finset.range 128) fun f _ => term_outside I e r d _ (Nat.le_add_right _ _), add_zero]
  exact Finset.sum_range _

end Cert.Moe

end
-- ==== Proof.MoeTiles.lean ====
/-
  The experts' kernel body: what one tile of hidden columns adds, and what its stores leave in the accumulator and in the
  output block.
-/
module

public import proofs.«01_k».proof.Proof.Gen.ExpertsIdeal.Value
public import proofs.«01_k».proof.Proof.Moe
public import Idealize.ShloMosaic.Lib.MatmulPlain
public import Idealize.ShloMosaic.Lib.ValueIdx
public import Idealize.ShloMosaic.Lib.ValueLayout
public import Idealize.ShloMosaic.Lib.IdealHost
public import Idealize.ShloMosaic.Lib.WordCmp
public import Idealize.ShloMosaic.Lib.Pipeline.Value
public import Idealize.ShloMosaic.Lib.Pipeline.FrameBody

@[expose] public section

set_option maxRecDepth 16384

noncomputable section

namespace Cert.ExpertsIdeal.Value

open Cert.ExpertsIdeal Cert.ExpertsIdeal.Gen Idealize.ShloMosaic Idealize.ShloMosaic.TcCoe Idealize.SL.Sem
open Idealize.ShloMosaic.ValueIdx Cert.Moe

/-- Four matrices of 128 columns side by side: column `c` is column `c % 128` of matrix `c / 128`. -/
theorem four_columns {a : ℕ} (f : Fin 4 → ((⟨2, ![a, 128]⟩ : Shape).Idx → EReal))
    (h : Shape.Concatenates ([⟨2, ![a, 128]⟩, ⟨2, ![a, 128]⟩, ⟨2, ![a, 128]⟩, ⟨2, ![a, 128]⟩] : List Shape) ⟨2, ![a, 512]⟩ 1)
    (k : Fin a) (c : Fin 512) (n : Fin 4) (l : Fin 128) (hn : c.val / 128 = n.val) (hl : c.val % 128 = l.val) :
    concatenate ⟨2, ![a, 512]⟩ 1 [⟨⟨2, ![a, 128]⟩, f 0⟩, ⟨⟨2, ![a, 128]⟩, f 1⟩, ⟨⟨2, ![a, 128]⟩, f 2⟩, ⟨⟨2, ![a, 128]⟩, f 3⟩] h (ix2 k c)
      = f n (ix2 k l) :=
  concatenate_ofFn_apply (t := ⟨2, ![a, 512]⟩) (s₁ := ⟨2, ![a, 128]⟩) 1 f h rfl 128 rfl (ix2 k c) n hn (ix2 k l)
    hl.symm (fun b hb => by
      match b with
      | ⟨0, _⟩ => rfl
      | ⟨1, _⟩ => exact absurd rfl hb)

/-- A matrix under two unit axes. -/
theorem cast_unit2 {a b : ℕ} (x : (⟨4, ![1, 1, a, b]⟩ : Shape).Idx → EReal) (h : (⟨4, ![1, 1, a, b]⟩ : Shape).ShapeCasts ⟨2, ![a, b]⟩)
    (i : Fin a) (j : Fin b) : shapeCast ⟨2, ![a, b]⟩ x h (ix2 i j) = entry4 x 0 0 i j := by
  refine Eq.trans (shapeCast_apply x h (ix2 i j) (ix4 (0 : Fin 1) (0 : Fin 1) i j) ?_) (eq_entry4 x _ _ _ _ _ rfl rfl rfl rfl)
  rw [Shape.rowMajor_val_four, Shape.rowMajor_val_two]
  show ((0 * 1 + 0) * a + i.val) * b + j.val = i.val * b + j.val
  simp

/-- Columns of one tile: the first 128 lanes from `u`, the last 128 from `v`. -/
def lanes (u v : ℕ → ℕ → EReal) (k l : ℕ) : EReal := if l < 128 then u k l else v k (l - 128)

/-- The same by rows. -/
def sublanes (u v : ℕ → ℕ → EReal) (l d : ℕ) : EReal := if l < 128 then u l d else v (l - 128) d

/-- The gated hidden columns of one tile, before the mask. -/
def tileHidden (x : ℕ → ℕ → EReal) (w1 w3 : ℕ → ℕ → EReal) (r l : ℕ) : EReal :=
  silu (∑ k : Fin 2048, x r k * w1 k l) * ∑ k : Fin 2048, x r k * w3 k l

/-- The product of the rows with the four column blocks. -/
theorem product_apply (x : FVec Ideal S1024x2048 .bf16) (f : Fin 4 → FVec Ideal S2048x128 .bf16) (r : Fin 1024) (c : Fin 512) (n : Fin 4) (l : Fin 128)
    (hn : c.val / 128 = n.val) (hl : c.val % 128 = l.val) :
    (matmul (φ₁ := .bf16) (φ₂ := .bf16) dot_S1024x2048_S2048x512_S1024x512_1_0_0_1_n_n none x
      (concatenate S2048x512 1 [⟨S2048x128, f 0⟩, ⟨S2048x128, f 1⟩, ⟨S2048x128, f 2⟩, ⟨S2048x128, f 3⟩]
        concatenates_S2048x128_S2048x128_S2048x128_S2048x128_S2048x512_d1)
      (constant S1024x512 .f32 0x00000000#32) : FVec Ideal S1024x512 .f32) (ix2 r c)
      = ∑ k : Fin 2048, (x (ix2 r k) : EReal) * (f n (ix2 k l) : EReal) := by
  refine (Ideal.matmul_plain_apply (M := 1024) (K := 2048) (N := 512) none x _ _ r c).trans ?_
  rw [constant_apply, Ideal.ofBits_zero_f32, zero_add]
  exact Finset.sum_congr rfl fun k _ => congrArg (_ * ·) (four_columns f _ k c n l hn hl)

/-- The four column blocks, each cast to a matrix. -/
abbrev blocks (x1 x2 x3 x4 : Vec Ideal S1x1x2048x128 .f32) (n : Fin 4) : FVec Ideal S2048x128 .bf16 :=
  truncf .bf16 (shapeCast S2048x128 ((![x1, x2, x3, x4] : Fin 4 → Vec Ideal S1x1x2048x128 .f32) n) shapeCasts_S1x1x2048x128_S2048x128 : FVec Ideal S2048x128 .f32) bitsLt_bf16_f32

/-- The expert's rows, their unit dimension dropped. -/
theorem rows_cast (x0 : Vec Ideal S1x1024x2048 .bf16) (r : Fin 1024) (k : Fin 2048) :
    (shapeCast S1024x2048 x0 shapeCasts_S1x1024x2048_S1024x2048 (ix2 r k) : EReal) = entry3 x0 0 r k :=
  (shapeCast_1ab_ab_apply (a := 1024) (b := 2048) x0 _ r k).trans (eq_entry3 x0 _ _ _ _ rfl rfl rfl)

/-- The product's columns by tile: `o` blocks in, the tile's lane `l`. -/
theorem product_lanes (x0 : Vec Ideal S1x1024x2048 .bf16) (x1 x2 x3 x4 : Vec Ideal S1x1x2048x128 .f32) (r : Fin 1024) (l : Fin 256)
    (c : Fin 512) (a b : Fin 4) (u v : Vec Ideal S1x1x2048x128 .f32) (hu : (![x1, x2, x3, x4] : Fin 4 → _) a = u)
    (hv : (![x1, x2, x3, x4] : Fin 4 → _) b = v) (ho : c.val = a.val * 128 + l.val) (hb : b.val = a.val + 1) :
    (matmul (φ₁ := .bf16) (φ₂ := .bf16) dot_S1024x2048_S2048x512_S1024x512_1_0_0_1_n_n none
      (shapeCast S1024x2048 x0 shapeCasts_S1x1024x2048_S1024x2048)
      (concatenate S2048x512 1 [⟨S2048x128, blocks x1 x2 x3 x4 0⟩, ⟨S2048x128, blocks x1 x2 x3 x4 1⟩, ⟨S2048x128, blocks x1 x2 x3 x4 2⟩,
        ⟨S2048x128, blocks x1 x2 x3 x4 3⟩] concatenates_S2048x128_S2048x128_S2048x128_S2048x128_S2048x512_d1)
      (constant S1024x512 .f32 0x00000000#32) : FVec Ideal S1024x512 .f32) (ix2 r c)
      = ∑ k : Fin 2048, entry3 x0 0 r k * lanes (entry4 u 0 0) (entry4 v 0 0) k l := by
  unfold lanes
  by_cases h : l.val < 128
  · refine (product_apply _ (blocks x1 x2 x3 x4) r c a ⟨l.val, h⟩ (by omega) (by show _ = l.val; omega)).trans ?_
    refine Finset.sum_congr rfl fun k _ => congrArg₂ (· * ·) (rows_cast x0 r k) ?_
    rw [if_pos h]
    subst hu
    exact cast_unit2 _ _ k ⟨l.val, h⟩
  · refine (product_apply _ (blocks x1 x2 x3 x4) r c b ⟨l.val - 128, by omega⟩ (by omega) (by show _ = l.val - 128; omega)).trans ?_
    refine Finset.sum_congr rfl fun k _ => congrArg₂ (· * ·) (rows_cast x0 r k) ?_
    rw [if_neg h]
    subst hv
    exact cast_unit2 _ _ k ⟨l.val - 128, by omega⟩

/-- A left window of a wide matrix, at an index. -/
theorem window_apply (o : ℕ) (A : FVec Ideal S1024x512 .f32) (h : S1024x512.Slices ![0, o] S1024x256) (r : Fin 1024) (l : Fin 256)
    (c : Fin 512) (hc : c.val = o + l.val) : extractStridedSlice S1024x256 ![0, o] A h (ix2 r l) = A (ix2 r c) :=
  extractStridedSlice_apply _ _ _ _ _ fun a => by
    match a with
    | ⟨0, _⟩ => show r.val = 0 + r.val; omega
    | ⟨1, _⟩ => exact hc

/-- The mask of the last tile's upper lanes. -/
theorem mask_apply (g : ℕ) (hg : g < 6) (l : Fin 256) (u v : EReal) :
    Scalar.select (IntOp.andi (Scalar.cmpi .eq (BitVec.ofNat 32 g) 5#32) (IntOp.cmpi .sge (BitVec.ofNat 32 l.val) 128#32)) u v
      = if g = 5 ∧ 128 ≤ l.val then u else v := by
  have h1 : Scalar.cmpi .eq (BitVec.ofNat 32 g) 5#32 = BitVec.ofBool (decide (g = 5)) := by
    revert hg; revert g; decide
  have h2 : IntOp.cmpi .sge (BitVec.ofNat 32 l.val) 128#32 = BitVec.ofBool (decide (128 ≤ l.val)) := by
    revert l; decide
  rw [h1, h2]
  unfold Scalar.select
  by_cases ha : g = 5 <;> by_cases hb : 128 ≤ l.val <;> simp [ha, hb, IntOp.andi]

/-- The hidden columns one tile multiplies: the gated layer, with the last tile's upper lanes zero. -/
theorem hidden_apply (i : grid0.Coords) (x0 : Vec Ideal S1x1024x2048 .bf16) (x1 x2 x3 x4 : Vec Ideal S1x1x2048x128 .f32)
    (r : Fin 1024) (l : Fin 256) :
    (k0_pay5 i x1 x2 x3 x4 x0 (ix2 r l) : EReal)
      = if (i 1).val = 5 ∧ 128 ≤ l.val then 0 else
        tileHidden (entry3 x0 0) (lanes (entry4 x1 0 0) (entry4 x2 0 0)) (lanes (entry4 x3 0 0) (entry4 x4 0 0)) r l := by
  have hi : (i 1).val < 6 := (i 1).isLt
  have ho : (Scalar.ofBits (F := Ideal) .f32 0x3F800000#32 : EReal) = 1 := Ideal.ofBits_one_f32
  have hz : (Scalar.ofBits (F := Ideal) .f32 0x00000000#32 : EReal) = 0 := Ideal.ofBits_zero_f32
  unfold k0_pay5
  dsimp only
  show Scalar.select (IntOp.andi (Scalar.cmpi .eq (BitVec.ofNat 32 (i 1).val) 5#32) (IntOp.cmpi .sge (BitVec.ofNat 32 (0 * 256 + l.val)) 128#32)) _ _ = _
  rw [Nat.zero_mul, Nat.zero_add, mask_apply _ hi]
  refine if_congr Iff.rfl hz ?_
  refine congrArg₂ (· * ·) ?_ ?_
  · refine congrArg₂ Ideal.div ?_ ?_
    · refine (window_apply 0 _ _ r l ⟨l.val, by omega⟩ (by simp)).trans ?_
      exact product_lanes x0 x1 x2 x3 x4 r l _ 0 1 x1 x2 rfl rfl (by simp) rfl
    · refine congrArg₂ (· + ·) ho (congrArg Ideal.exp ?_)
      refine (congrArg₂ (fun a b : EReal => a - b) hz (?_ : _ = ∑ k : Fin 2048, entry3 x0 0 r k * lanes (entry4 x1 0 0) (entry4 x2 0 0) k l)).trans (zero_sub _)
      refine (window_apply 0 _ _ r l ⟨l.val, by omega⟩ (by simp)).trans ?_
      exact product_lanes x0 x1 x2 x3 x4 r l _ 0 1 x1 x2 rfl rfl (by simp) rfl
  · refine (window_apply 256 _ _ r l ⟨256 + l.val, by omega⟩ rfl).trans ?_
    exact product_lanes x0 x1 x2 x3 x4 r l _ 2 3 x3 x4 rfl rfl (by show 256 + l.val = 2 * 128 + l.val; omega) rfl

/-- What a tile adds: its hidden columns times its rows of the down-projection. -/
theorem contribution_apply (H : FVec Ideal S1024x256 .f32) (x5 x6 : Vec Ideal S1x1x128x2048 .f32) (r : Fin 1024) (d : Fin 2048) :
    (k0_pay1 H x5 x6 (ix2 r d) : EReal)
      = ∑ l : Fin 256, (H (ix2 r l) : EReal) * sublanes (entry4 x5 0 0) (entry4 x6 0 0) l d := by
  unfold k0_pay1
  refine (Ideal.matmul_plain_apply (M := 1024) (K := 256) (N := 2048) none _ _ _ r d).trans ?_
  rw [constant_apply, Ideal.ofBits_zero_f32, zero_add]
  refine Finset.sum_congr rfl fun l _ => congrArg ((H (ix2 r l) : EReal) * ·) ?_
  unfold sublanes
  by_cases h : l.val < 128
  · rw [if_pos h]
    refine (concatenate_pair_apply_left (t := S256x2048) (s₁ := S128x2048) (s₂ := S128x2048) 0 _ _ _ (ix2 l d) rfl (ix2 (⟨l.val, h⟩ : Fin 128) d)
      (fun b => by match b with
                   | ⟨0, _⟩ => rfl
                   | ⟨1, _⟩ => rfl)).trans ?_
    exact cast_unit2 x5 _ ⟨l.val, h⟩ d
  · rw [if_neg h]
    refine (concatenate_pair_apply_right (t := S256x2048) (s₁ := S128x2048) (s₂ := S128x2048) 0 _ _ _ (ix2 l d) rfl rfl (ix2 (⟨l.val - 128, by omega⟩ : Fin 128) d)
      (fun b hb => by match b with
                      | ⟨0, _⟩ => exact absurd rfl hb
                      | ⟨1, _⟩ => rfl) (by show l.val - 128 + 128 = l.val; omega)).trans ?_
    exact cast_unit2 x6 _ ⟨l.val - 128, by omega⟩ d

/-- The starts of a whole access of two dimensions are zeros. -/
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

section
variable (c : Dev nD) (i : grid0.Coords) (arg2 : Memref sig .tc .vmem S1x1024x2048 .bf16) (harg2 : arg2.IsWhole) (arg3 : Memref sig .tc .vmem S1x1x2048x128 .f32) (harg3 : arg3.IsWhole) (arg4 : Memref sig .tc .vmem S1x1x2048x128 .f32) (harg4 : arg4.IsWhole) (arg5 : Memref sig .tc .vmem S1x1x2048x128 .f32) (harg5 : arg5.IsWhole) (arg6 : Memref sig .tc .vmem S1x1x2048x128 .f32) (harg6 : arg6.IsWhole) (arg7 : Memref sig .tc .vmem S1x1x128x2048 .f32) (harg7 : arg7.IsWhole) (arg8 : Memref sig .tc .vmem S1x1x128x2048 .f32) (harg8 : arg8.IsWhole) (arg9 : Memref sig .tc .vmem S1x1024x2048 .bf16) (harg9 : arg9.IsWhole) (arg10 : Memref sig .tc .vmem S1024x2048 .f32) (harg10 : arg10.IsWhole)
    (x0 : Vec Ideal S1x1024x2048 .bf16) (x1 : Vec Ideal S1x1x2048x128 .f32) (x2 : Vec Ideal S1x1x2048x128 .f32) (x3 : Vec Ideal S1x1x2048x128 .f32) (x4 : Vec Ideal S1x1x2048x128 .f32) (x5 : Vec Ideal S1x1x128x2048 .f32) (x6 : Vec Ideal S1x1x128x2048 .f32)

/-- The first tile stores its contribution into the accumulator. -/
theorem accA (hc0 : cond0_0 i) (hc1 : ¬ cond0_1 i) (hc2 : ¬ cond0_2 i) :
    sout0_A_0 c i arg2 harg2 arg3 harg3 arg4 harg4 arg5 harg5 arg6 harg6 arg7 harg7 arg8 harg8 arg9 harg9 arg10 harg10 hc0 hc1 hc2 x0 x1 x2 x3 x4 x5 x6 = k0_pay1 (k0_pay5 i x1 x2 x3 x4 x0) x5 x6 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 hc2 x0 x1 x2 x3 x4 x5 x6)]
  unfold kernelRun0_A
  dsimp only
  sl_unfold_words
  rw [View.canon_unit_zero hz2]
  simp only [View.readAt_eq_ld, harg2.read_unread, harg3.read_unread, harg4.read_unread, harg5.read_unread, harg6.read_unread, harg7.read_unread, harg8.read_unread, View.ld_unit_zero (S := S1x1024x2048) hz3, View.ld_unit_zero (S := S1x1x2048x128) hz4, View.ld_unit_zero (S := S1x1x128x2048) hz4]
  unfold k0_pay2
  exact shapeCast_self _ _

/-- A later tile adds its contribution to the accumulator. -/
theorem accB (hc0 : ¬ cond0_0 i) (hc1 : cond0_1 i) (hc2 : ¬ cond0_2 i) (xs0 : Vec Ideal S1024x2048 .f32) :
    sout0_B_0 c i arg2 harg2 arg3 harg3 arg4 harg4 arg5 harg5 arg6 harg6 arg7 harg7 arg8 harg8 arg9 harg9 arg10 harg10 hc0 hc1 hc2 x0 x1 x2 x3 x4 x5 x6 xs0 = addf xs0 (k0_pay1 (k0_pay5 i x1 x2 x3 x4 x0) x5 x6) := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 hc2 x0 x1 x2 x3 x4 x5 x6 xs0)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg10.read_unread, View.ld_unit_zero (S := S1024x2048) hz2, View.ld_unit_zero (S := S1x1024x2048) hz3, View.ld_unit_zero (S := S1x1x2048x128) hz4, View.ld_unit_zero (S := S1x1x128x2048) hz4]
  unfold k0_pay3
  exact shapeCast_self _ _

/-- What the last tile leaves in the accumulator. -/
theorem canonC (hc0 : ¬ cond0_0 i) (hc1 : cond0_1 i) (hc2 : cond0_2 i) (xs0 : Vec Ideal S1024x2048 .f32) :
    View.canon (kernelRun0_C c i arg2 harg2 arg3 harg3 arg4 harg4 arg5 harg5 arg6 harg6 arg7 harg7 arg8 harg8 arg9 harg9 arg10 harg10 hc0 hc1 hc2 x0 x1 x2 x3 x4 x5 x6 xs0).2.1 = addf xs0 (k0_pay1 (k0_pay5 i x1 x2 x3 x4 x0) x5 x6) := by
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg10.read_unread, View.ld_unit_zero (S := S1024x2048) hz2, View.ld_unit_zero (S := S1x1024x2048) hz3, View.ld_unit_zero (S := S1x1x2048x128) hz4, View.ld_unit_zero (S := S1x1x128x2048) hz4]
  unfold k0_pay3
  exact shapeCast_self _ _

/-- The last tile adds its contribution too. -/
theorem accC (hc0 : ¬ cond0_0 i) (hc1 : cond0_1 i) (hc2 : cond0_2 i) (xs0 : Vec Ideal S1024x2048 .f32) :
    sout0_C_0 c i arg2 harg2 arg3 harg3 arg4 harg4 arg5 harg5 arg6 harg6 arg7 harg7 arg8 harg8 arg9 harg9 arg10 harg10 hc0 hc1 hc2 x0 x1 x2 x3 x4 x5 x6 xs0 = addf xs0 (k0_pay1 (k0_pay5 i x1 x2 x3 x4 x0) x5 x6) := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 hc2 x0 x1 x2 x3 x4 x5 x6 xs0)]
  exact canonC c i arg2 harg2 arg3 harg3 arg4 harg4 arg5 harg5 arg6 harg6 arg7 harg7 arg8 harg8 arg9 harg9 arg10 harg10 x0 x1 x2 x3 x4 x5 x6 hc0 hc1 hc2 xs0

/-- After the last tile the accumulator is the output block. -/
theorem outC (hc0 : ¬ cond0_0 i) (hc1 : cond0_1 i) (hc2 : cond0_2 i) (xs0 : Vec Ideal S1024x2048 .f32) :
    out0_C_7 c i arg2 harg2 arg3 harg3 arg4 harg4 arg5 harg5 arg6 harg6 arg7 harg7 arg8 harg8 arg9 harg9 arg10 harg10 hc0 hc1 hc2 x0 x1 x2 x3 x4 x5 x6 xs0 = k0_pay4 (addf xs0 (k0_pay1 (k0_pay5 i x1 x2 x3 x4 x0) x5 x6)) := by
  unfold out0_C_7
  rw [View.read_writes_eq_canon _ _ _ (cover0_C_7 c i arg2 harg2 arg3 harg3 arg4 harg4 arg5 harg5 arg6 harg6 arg7 harg7 arg8 harg8 arg9 harg9 arg10 harg10 hc0 hc1 hc2 x0 x1 x2 x3 x4 x5 x6 xs0)]
  have hv : kernelRun0_C.sl.v51 c i arg2 harg2 arg3 harg3 arg4 harg4 arg5 harg5 arg6 harg6 arg7 harg7 arg8 harg8 arg10 harg10 x0 x1 x2 x3 x4 x5 x6 xs0
      = addf xs0 (k0_pay1 (k0_pay5 i x1 x2 x3 x4 x0) x5 x6) := by
    show arg10.view.readCov (kernelRun0_C c i arg2 harg2 arg3 harg3 arg4 harg4 arg5 harg5 arg6 harg6 arg7 harg7 arg8 harg8 arg9 harg9 arg10 harg10 hc0 hc1 hc2 x0 x1 x2 x3 x4 x5 x6 xs0).2.1 (Rect.unit ![0, 0] S1024x2048.size inb_S1024x2048_S1024x2048_0_0).toLoadRect = _
    rw [View.readCov_eq_canon_ld _ _ _ (scover0_C_0 c i arg2 harg2 arg3 harg3 arg4 harg4 arg5 harg5 arg6 harg6 arg7 harg7 arg8 harg8 arg9 harg9 arg10 harg10 hc0 hc1 hc2 x0 x1 x2 x3 x4 x5 x6 xs0), canonC, View.ld_unit_zero (S := S1024x2048) hz2]
  unfold kernelRun0_C
  dsimp only
  rw [View.canon_unit_zero hz3, hv]

end

end Cert.ExpertsIdeal.Value

end
-- ==== Proof.MoeValue.lean ====
/-
  The experts' kernel run: the accumulator after every tile, and the result array.
-/
module

public import proofs.«01_k».proof.Proof.MoeTiles

@[expose] public section

set_option maxRecDepth 16384

noncomputable section

namespace Cert.ExpertsIdeal.Value

open Cert.ExpertsIdeal Cert.ExpertsIdeal.Gen Idealize.ShloMosaic Idealize.ShloMosaic.TcCoe Idealize.SL.Sem
open Idealize.ShloMosaic.ValueIdx Cert.Moe
open Idealize.ShloMosaic.Pipeline (Dat)

variable (m : (ℓ : Loc nD τ sig) → Buf (Elt Ideal) ℓ) (ρ : Dev nD → PrngReg)

/-- The arguments, as the experts' inputs. -/
abbrev inputs (c : Dev nD) : Moe.Inputs :=
  ⟨m ((c : Thread nD τ).loc main_arg0), m ((c : Thread nD τ).loc main_arg1), m ((c : Thread nD τ).loc main_arg2),
    m ((c : Thread nD τ).loc main_arg3)⟩

/-- Which block each window reads or writes at a point: expert `t / 6`, tile `t % 6` of its hidden columns. -/
theorem tiles : ∀ t : Fin cfg0.N,
    (win0_0.index t 0 = t.val / 6 ∧ win0_0.index t 1 = 0 ∧ win0_0.index t 2 = 0)
    ∧ (win0_1.index t 0 = 0 ∧ win0_1.index t 1 = t.val / 6 ∧ win0_1.index t 2 = 0 ∧ win0_1.index t 3 = 2 * (t.val % 6))
    ∧ (win0_2.index t 0 = 0 ∧ win0_2.index t 1 = t.val / 6 ∧ win0_2.index t 2 = 0 ∧ win0_2.index t 3 = min (2 * (t.val % 6) + 1) 10)
    ∧ (win0_3.index t 0 = 0 ∧ win0_3.index t 1 = t.val / 6 ∧ win0_3.index t 2 = 0 ∧ win0_3.index t 3 = 2 * (t.val % 6))
    ∧ (win0_4.index t 0 = 0 ∧ win0_4.index t 1 = t.val / 6 ∧ win0_4.index t 2 = 0 ∧ win0_4.index t 3 = min (2 * (t.val % 6) + 1) 10)
    ∧ (win0_5.index t 0 = 0 ∧ win0_5.index t 1 = t.val / 6 ∧ win0_5.index t 2 = 2 * (t.val % 6) ∧ win0_5.index t 3 = 0)
    ∧ (win0_6.index t 0 = 0 ∧ win0_6.index t 1 = t.val / 6 ∧ win0_6.index t 2 = min (2 * (t.val % 6) + 1) 10 ∧ win0_6.index t 3 = 0)
    ∧ (win0_7.index t 0 = t.val / 6 ∧ win0_7.index t 1 = 0 ∧ win0_7.index t 2 = 0)
    ∧ (grid0.coords t 1).val = t.val % 6 :=
  (by decide +kernel : ∀ t : Fin grid0.N,
    (win0_0.index t 0 = t.val / 6 ∧ win0_0.index t 1 = 0 ∧ win0_0.index t 2 = 0)
    ∧ (win0_1.index t 0 = 0 ∧ win0_1.index t 1 = t.val / 6 ∧ win0_1.index t 2 = 0 ∧ win0_1.index t 3 = 2 * (t.val % 6))
    ∧ (win0_2.index t 0 = 0 ∧ win0_2.index t 1 = t.val / 6 ∧ win0_2.index t 2 = 0 ∧ win0_2.index t 3 = min (2 * (t.val % 6) + 1) 10)
    ∧ (win0_3.index t 0 = 0 ∧ win0_3.index t 1 = t.val / 6 ∧ win0_3.index t 2 = 0 ∧ win0_3.index t 3 = 2 * (t.val % 6))
    ∧ (win0_4.index t 0 = 0 ∧ win0_4.index t 1 = t.val / 6 ∧ win0_4.index t 2 = 0 ∧ win0_4.index t 3 = min (2 * (t.val % 6) + 1) 10)
    ∧ (win0_5.index t 0 = 0 ∧ win0_5.index t 1 = t.val / 6 ∧ win0_5.index t 2 = 2 * (t.val % 6) ∧ win0_5.index t 3 = 0)
    ∧ (win0_6.index t 0 = 0 ∧ win0_6.index t 1 = t.val / 6 ∧ win0_6.index t 2 = min (2 * (t.val % 6) + 1) 10 ∧ win0_6.index t 3 = 0)
    ∧ (win0_7.index t 0 = t.val / 6 ∧ win0_7.index t 1 = 0 ∧ win0_7.index t 2 = 0)
    ∧ (grid0.coords t 1).val = t.val % 6)

/-- An entry in range is the array there. -/
theorem entry3_pos {a b c : ℕ} (X : (⟨3, ![a, b, c]⟩ : Shape).Idx → EReal) (e i j : ℕ) (he : e < a) (hi : i < b) (hj : j < c) :
    entry3 X e i j = X (ix3 ⟨e, he⟩ ⟨i, hi⟩ ⟨j, hj⟩) := dif_pos ⟨he, hi, hj⟩

/-- An entry in range is the array there. -/
theorem entry4_pos {l a b c : ℕ} (W : (⟨4, ![l, a, b, c]⟩ : Shape).Idx → EReal) (n e i j : ℕ) (hn : n < l) (he : e < a) (hi : i < b)
    (hj : j < c) : entry4 W n e i j = W (ix4 ⟨n, hn⟩ ⟨e, he⟩ ⟨i, hi⟩ ⟨j, hj⟩) := dif_pos ⟨hn, he, hi, hj⟩

/-- The expert's rows at a point. -/
theorem block0 (c : Dev nD) (t : Fin cfg0.N) (r k : ℕ) (hr : r < 1024) (hk : k < 2048) :
    entry3 (iblk m c 0 t : Vec Ideal S1x1024x2048 .bf16) 0 r k = entry3 (inputs m c).x (t.val / 6) r k := by
  obtain ⟨⟨h0, h1, h2⟩, -⟩ := tiles t
  rw [entry3_pos _ _ _ _ Nat.one_pos hr hk]
  unfold iblk
  rw [View.read_apply]
  refine eq_entry3 (m (c.tc.loc main_arg0)) _ _ _ _ ?_ ?_ ?_
  · show win0_0.index t 0 * 1 + 1 * 0 = _; rw [h0]; omega
  · show win0_0.index t 1 * 1024 + 1 * r = _; rw [h1]; omega
  · show win0_0.index t 2 * 2048 + 1 * k = _; rw [h2]; omega

/-- The lower half of the tile of up-projection columns. -/
theorem block1 (c : Dev nD) (t : Fin cfg0.N) (k l : ℕ) (hk : k < 2048) (hl : l < 128) :
    entry4 (iblk m c 1 t : Vec Ideal S1x1x2048x128 .f32) 0 0 k l = entry4 (inputs m c).w1 0 (t.val / 6) k (2 * (t.val % 6) * 128 + l) := by
  obtain ⟨-, ⟨h0, h1, h2, h3⟩, -⟩ := tiles t
  rw [entry4_pos _ _ _ _ _ Nat.one_pos Nat.one_pos hk hl]
  unfold iblk
  rw [View.read_apply]
  refine eq_entry4 (m (c.tc.loc main_arg1)) _ _ _ _ _ ?_ ?_ ?_ ?_
  · show win0_1.index t 0 * 1 + 1 * 0 = _; rw [h0]
  · show win0_1.index t 1 * 1 + 1 * 0 = _; rw [h1]; omega
  · show win0_1.index t 2 * 2048 + 1 * k = _; rw [h2]; omega
  · show win0_1.index t 3 * 128 + 1 * l = _; rw [h3]; omega

/-- The upper half of the tile of up-projection columns. -/
theorem block2 (c : Dev nD) (t : Fin cfg0.N) (k l : ℕ) (hk : k < 2048) (hl : l < 128) :
    entry4 (iblk m c 2 t : Vec Ideal S1x1x2048x128 .f32) 0 0 k l = entry4 (inputs m c).w1 0 (t.val / 6) k (min (2 * (t.val % 6) + 1) 10 * 128 + l) := by
  obtain ⟨-, -, ⟨h0, h1, h2, h3⟩, -⟩ := tiles t
  rw [entry4_pos _ _ _ _ _ Nat.one_pos Nat.one_pos hk hl]
  unfold iblk
  rw [View.read_apply]
  refine eq_entry4 (m (c.tc.loc main_arg1)) _ _ _ _ _ ?_ ?_ ?_ ?_
  · show win0_2.index t 0 * 1 + 1 * 0 = _; rw [h0]
  · show win0_2.index t 1 * 1 + 1 * 0 = _; rw [h1]; omega
  · show win0_2.index t 2 * 2048 + 1 * k = _; rw [h2]; omega
  · show win0_2.index t 3 * 128 + 1 * l = _; rw [h3]; omega

/-- The lower half of the tile of gate columns. -/
theorem block3 (c : Dev nD) (t : Fin cfg0.N) (k l : ℕ) (hk : k < 2048) (hl : l < 128) :
    entry4 (iblk m c 3 t : Vec Ideal S1x1x2048x128 .f32) 0 0 k l = entry4 (inputs m c).w3 0 (t.val / 6) k (2 * (t.val % 6) * 128 + l) := by
  obtain ⟨-, -, -, ⟨h0, h1, h2, h3⟩, -⟩ := tiles t
  rw [entry4_pos _ _ _ _ _ Nat.one_pos Nat.one_pos hk hl]
  unfold iblk
  rw [View.read_apply]
  refine eq_entry4 (m (c.tc.loc main_arg2)) _ _ _ _ _ ?_ ?_ ?_ ?_
  · show win0_3.index t 0 * 1 + 1 * 0 = _; rw [h0]
  · show win0_3.index t 1 * 1 + 1 * 0 = _; rw [h1]; omega
  · show win0_3.index t 2 * 2048 + 1 * k = _; rw [h2]; omega
  · show win0_3.index t 3 * 128 + 1 * l = _; rw [h3]; omega

/-- The upper half of the tile of gate columns. -/
theorem block4 (c : Dev nD) (t : Fin cfg0.N) (k l : ℕ) (hk : k < 2048) (hl : l < 128) :
    entry4 (iblk m c 4 t : Vec Ideal S1x1x2048x128 .f32) 0 0 k l = entry4 (inputs m c).w3 0 (t.val / 6) k (min (2 * (t.val % 6) + 1) 10 * 128 + l) := by
  obtain ⟨-, -, -, -, ⟨h0, h1, h2, h3⟩, -⟩ := tiles t
  rw [entry4_pos _ _ _ _ _ Nat.one_pos Nat.one_pos hk hl]
  unfold iblk
  rw [View.read_apply]
  refine eq_entry4 (m (c.tc.loc main_arg2)) _ _ _ _ _ ?_ ?_ ?_ ?_
  · show win0_4.index t 0 * 1 + 1 * 0 = _; rw [h0]
  · show win0_4.index t 1 * 1 + 1 * 0 = _; rw [h1]; omega
  · show win0_4.index t 2 * 2048 + 1 * k = _; rw [h2]; omega
  · show win0_4.index t 3 * 128 + 1 * l = _; rw [h3]; omega

/-- The lower half of the tile of down-projection rows. -/
theorem block5 (c : Dev nD) (t : Fin cfg0.N) (l d : ℕ) (hl : l < 128) (hd : d < 2048) :
    entry4 (iblk m c 5 t : Vec Ideal S1x1x128x2048 .f32) 0 0 l d = entry4 (inputs m c).w2 0 (t.val / 6) (2 * (t.val % 6) * 128 + l) d := by
  obtain ⟨-, -, -, -, -, ⟨h0, h1, h2, h3⟩, -⟩ := tiles t
  rw [entry4_pos _ _ _ _ _ Nat.one_pos Nat.one_pos hl hd]
  unfold iblk
  rw [View.read_apply]
  refine eq_entry4 (m (c.tc.loc main_arg3)) _ _ _ _ _ ?_ ?_ ?_ ?_
  · show win0_5.index t 0 * 1 + 1 * 0 = _; rw [h0]
  · show win0_5.index t 1 * 1 + 1 * 0 = _; rw [h1]; omega
  · show win0_5.index t 2 * 128 + 1 * l = _; rw [h2]; omega
  · show win0_5.index t 3 * 2048 + 1 * d = _; rw [h3]; omega

/-- The upper half of the tile of down-projection rows. -/
theorem block6 (c : Dev nD) (t : Fin cfg0.N) (l d : ℕ) (hl : l < 128) (hd : d < 2048) :
    entry4 (iblk m c 6 t : Vec Ideal S1x1x128x2048 .f32) 0 0 l d = entry4 (inputs m c).w2 0 (t.val / 6) (min (2 * (t.val % 6) + 1) 10 * 128 + l) d := by
  obtain ⟨-, -, -, -, -, -, ⟨h0, h1, h2, h3⟩, -⟩ := tiles t
  rw [entry4_pos _ _ _ _ _ Nat.one_pos Nat.one_pos hl hd]
  unfold iblk
  rw [View.read_apply]
  refine eq_entry4 (m (c.tc.loc main_arg3)) _ _ _ _ _ ?_ ?_ ?_ ?_
  · show win0_6.index t 0 * 1 + 1 * 0 = _; rw [h0]
  · show win0_6.index t 1 * 1 + 1 * 0 = _; rw [h1]; omega
  · show win0_6.index t 2 * 128 + 1 * l = _; rw [h2]; omega
  · show win0_6.index t 3 * 2048 + 1 * d = _; rw [h3]; omega

/-- The tile's up-projection columns, where they are not masked. -/
theorem upColumns (c : Dev nD) (t : Fin cfg0.N) (k : Fin 2048) (l : Fin 256) (h : ¬(t.val % 6 = 5 ∧ 128 ≤ l.val)) :
    lanes (entry4 (iblk m c 1 t : Vec Ideal S1x1x2048x128 .f32) 0 0) (entry4 (iblk m c 2 t : Vec Ideal S1x1x2048x128 .f32) 0 0) k l
      = entry4 (inputs m c).w1 0 (t.val / 6) k (256 * (t.val % 6) + l) := by
  unfold lanes
  split_ifs with hl
  · rw [block1 m c t k l k.isLt hl]
    exact congrArg (entry4 (inputs m c).w1 0 (t.val / 6) k) (by omega)
  · rw [block2 m c t k (l - 128) k.isLt (by omega)]
    exact congrArg (entry4 (inputs m c).w1 0 (t.val / 6) k) (by omega)

/-- The tile's gate columns, where they are not masked. -/
theorem gateColumns (c : Dev nD) (t : Fin cfg0.N) (k : Fin 2048) (l : Fin 256) (h : ¬(t.val % 6 = 5 ∧ 128 ≤ l.val)) :
    lanes (entry4 (iblk m c 3 t : Vec Ideal S1x1x2048x128 .f32) 0 0) (entry4 (iblk m c 4 t : Vec Ideal S1x1x2048x128 .f32) 0 0) k l
      = entry4 (inputs m c).w3 0 (t.val / 6) k (256 * (t.val % 6) + l) := by
  unfold lanes
  split_ifs with hl
  · rw [block3 m c t k l k.isLt hl]
    exact congrArg (entry4 (inputs m c).w3 0 (t.val / 6) k) (by omega)
  · rw [block4 m c t k (l - 128) k.isLt (by omega)]
    exact congrArg (entry4 (inputs m c).w3 0 (t.val / 6) k) (by omega)

/-- The tile's down-projection rows, where they are not masked. -/
theorem downRows (c : Dev nD) (t : Fin cfg0.N) (l : Fin 256) (d : Fin 2048) (h : ¬(t.val % 6 = 5 ∧ 128 ≤ l.val)) :
    sublanes (entry4 (iblk m c 5 t : Vec Ideal S1x1x128x2048 .f32) 0 0) (entry4 (iblk m c 6 t : Vec Ideal S1x1x128x2048 .f32) 0 0) l d
      = entry4 (inputs m c).w2 0 (t.val / 6) (256 * (t.val % 6) + l) d := by
  unfold sublanes
  split_ifs with hl
  · rw [block5 m c t l d hl d.isLt]
    exact congrArg (fun z => entry4 (inputs m c).w2 0 (t.val / 6) z d) (by omega)
  · rw [block6 m c t (l - 128) d (by omega) d.isLt]
    exact congrArg (fun z => entry4 (inputs m c).w2 0 (t.val / 6) z d) (by omega)

/-- What the point's tile adds, as an array. -/
abbrev added (c : Dev nD) (t : Fin cfg0.N) : FVec Ideal S1024x2048 .f32 :=
  k0_pay1 (k0_pay5 (grid0.coords t) (iblk m c 1 t) (iblk m c 2 t) (iblk m c 3 t) (iblk m c 4 t) (iblk m c 0 t)) (iblk m c 5 t) (iblk m c 6 t)

/-- The point's tile adds the terms of its 256 hidden columns. -/
theorem added_apply (c : Dev nD) (t : Fin cfg0.N) (r : Fin 1024) (d : Fin 2048) :
    (added m c t (ix2 r d) : EReal)
      = ∑ l ∈ Finset.range 256, term (inputs m c) (t.val / 6) r d (256 * (t.val % 6) + l) := by
  have hg : (grid0.coords t 1).val = t.val % 6 := (tiles t).2.2.2.2.2.2.2.2
  refine (contribution_apply _ _ _ r d).trans (Eq.trans ?_ (Finset.sum_range _).symm)
  refine Finset.sum_congr rfl fun l _ => ?_
  rw [hidden_apply, hg]
  by_cases h : t.val % 6 = 5 ∧ 128 ≤ l.val
  · rw [if_pos h, zero_mul, term_outside _ _ _ _ _ (by omega)]
  · rw [if_neg h, downRows m c t l d h]
    refine congrArg (· * _) (congrArg₂ (· * ·) (congrArg silu ?_) ?_)
    · exact Finset.sum_congr rfl fun k _ => congrArg₂ (· * ·) (block0 m c t r k r.isLt k.isLt) (upColumns m c t k l h)
    · exact Finset.sum_congr rfl fun k _ => congrArg₂ (· * ·) (block0 m c t r k r.isLt k.isLt) (gateColumns m c t k l h)

/-- One more tile of terms. -/
theorem more (c : Dev nD) (e r d g : ℕ) :
    ∑ f ∈ Finset.range (256 * g), term (inputs m c) e r d f + ∑ l ∈ Finset.range 256, term (inputs m c) e r d (256 * g + l)
      = ∑ f ∈ Finset.range (256 * (g + 1)), term (inputs m c) e r d f := by
  rw [Nat.mul_add, Nat.mul_one, Finset.sum_range_add]

/-- The accumulator after a later tile: what it held before, and the tile's terms. -/
theorem acc_step (c : Dev nD) (n : ℕ) (h : n < cfg0.N) (h0 : ¬ n % 6 = 0) (hlt : n - 1 < cfg0.N) :
    (outsAt0 m c n h).2 = addf (outsAt0 m c (n - 1) hlt).2 (added m c ⟨n, h⟩) := by
  by_cases h2 : n % 6 = 5
  · rw [outsAt0_C m c ⟨n, h⟩ h0 (by show 1 ≤ n % 6; omega) h2]
    dsimp only
    rw [accC]
  · rw [outsAt0_B m c ⟨n, h⟩ h0 (by show 1 ≤ n % 6; omega) h2]
    dsimp only
    rw [accB]

/-- After every point the accumulator holds the terms of the tiles so far. -/
theorem acc_eq (c : Dev nD) : ∀ (n : ℕ) (h : n < cfg0.N) (r : Fin 1024) (d : Fin 2048),
    ((outsAt0 m c n h).2 (ix2 r d) : EReal)
      = ∑ f ∈ Finset.range (256 * (n % 6 + 1)), term (inputs m c) (n / 6) r d f
  | n, h, r, d => by
    by_cases h0 : n % 6 = 0
    · rw [outsAt0_A m c ⟨n, h⟩ h0 (by show ¬ 1 ≤ n % 6; omega) (by show ¬ n % 6 = 5; omega)]
      dsimp only
      rw [accA]
      refine (added_apply m c ⟨n, h⟩ r d).trans ?_
      show ∑ l ∈ Finset.range 256, term (inputs m c) (n / 6) r d (256 * (n % 6) + l) = _
      rw [h0]
      simp only [Nat.mul_zero, Nat.zero_add, Nat.mul_one]
    · have hlt : n - 1 < cfg0.N := by omega
      have e1 : (n - 1) / 6 = n / 6 := by omega
      have e2 : (n - 1) % 6 + 1 = n % 6 := by omega
      rw [acc_step m c n h h0 hlt, ← more]
      refine congrArg₂ (· + ·) ((acc_eq c (n - 1) hlt r d).trans ?_) (added_apply m c ⟨n, h⟩ r d)
      rw [e1, e2]
  termination_by n => n
  decreasing_by omega

/-- The experts' outputs, as an array. -/
def experts (c : Dev nD) : S16x1024x2048.Idx → EReal := fun i => output (inputs m c) (i 0) (i 1) (i 2)

/-- The output block after an expert's last tile is the accumulator. -/
theorem block_eq (c : Dev nD) (t : Fin cfg0.N) (h : t.val % 6 = 5) :
    (outsAt0 m c t.val t.isLt).1 = k0_pay4 (outsAt0 m c t.val t.isLt).2 := by
  have hlt : t.val - 1 < cfg0.N := Nat.lt_of_le_of_lt (Nat.sub_le _ _) t.isLt
  rw [acc_step m c t.val t.isLt (by omega) hlt, outsAt0_C m c t (by omega) (by omega) h]
  dsimp only
  rw [outC]

/-- An expert's last point writes back its output. -/
theorem flushed_eq (c : Dev nD) (t : Fin cfg0.N) (hf : (cfg0.win 7).flush t = true) :
    (dats m 0 c).flushed 7 t = ((cfg0.win 7).blk t).view.read (Elt Ideal) (experts m c) := by
  have hm : t.val % 6 = 5 := (flush0_7 t).mp hf
  rw [flushed7, block_eq m c t hm]
  obtain ⟨-, -, -, -, -, -, -, ⟨h0, h1, h2⟩, -⟩ := tiles t
  funext j
  obtain ⟨u, r, d, rfl⟩ : ∃ (u : Fin 1) (r : Fin 1024) (d : Fin 2048), j = ix3 u r d := ⟨j 0, j 1, j 2, eq_ix3 j⟩
  rw [View.read_apply]
  show k0_pay4 (outsAt0 m c t.val t.isLt).2 (ix3 u r d)
    = output (inputs m c) (win0_7.index t 0 * 1 + 1 * u.val) (win0_7.index t 1 * 1024 + 1 * r.val) (win0_7.index t 2 * 2048 + 1 * d.val)
  unfold k0_pay4
  refine (shapeCast_ab_1ab_apply (a := 1024) (b := 2048) _ _ u r d).trans ((acc_eq m c t.val t.isLt r d).trans ?_)
  rw [hm, ← output_eq, h0, h1, h2]
  have e0 : t.val / 6 * 1 + 1 * u.val = t.val / 6 := by omega
  have e1 : 0 * 1024 + 1 * r.val = r.val := by omega
  have e2 : 0 * 2048 + 1 * d.val = d.val := by omega
  rw [e0, e1, e2]

/-- Every index of the result lies in the block of an expert's last point. -/
theorem covered (i : S16x1024x2048.Idx) : ∃ t : Fin cfg0.N, (cfg0.win 7).flush t = true ∧ i ∈ ((cfg0.win 7).blk t).view.set :=
  (covered_iff7 i).mpr ⟨Nat.zero_le _, (i 0).isLt, Nat.zero_le _, (i 1).isLt, Nat.zero_le _, (i 2).isLt⟩

/-- The result array after the run is the experts' outputs. -/
theorem final_eq (c : Dev nD) : (dats m 0 c).arrAt 7 cfg0.N = experts m c :=
  (dats m 0 c).arrAt_eq_of_cover 7 (experts m c) (flushed_eq m c) covered

end Cert.ExpertsIdeal.Value

end
-- ==== Proof.MoeReference.lean ====
/-
  The experts' reference, index by index.
-/
module

public import proofs.«01_k».proof.Proof.Gen.ExpertsRefIdeal.Read
public import proofs.«01_k».proof.Proof.Moe

@[expose] public section

set_option maxRecDepth 16384

noncomputable section

namespace Cert.ExpertsRefIdeal.Read

open Cert.ExpertsRefIdeal Idealize.ShloMosaic Idealize.ShloMosaic.ValueIdx Cert.Moe

variable (x0 : (⟨S16x1024x2048, .bf16⟩ : BufTy).Contents (Elt Ideal)) (x1 x2 : (⟨S2x16x2048x1408, .f32⟩ : BufTy).Contents (Elt Ideal))
  (x3 : (⟨S2x16x1408x2048, .f32⟩ : BufTy).Contents (Elt Ideal))

/-- The first layer's up-projection weights. -/
theorem up_eq (i : S16x2048x1408.Idx) : val_main_v2 (F := Ideal) x1 i = entry4 x1 0 (i 0) (i 1) (i 2) := by
  have h0 : (i 0).val < 16 := (i 0).isLt; have h1 : (i 1).val < 2048 := (i 1).isLt; have h2 : (i 2).val < 1408 := (i 2).isLt
  rw [val_main_v2_apply, val_main_v1_apply]
  refine eq_entry4 x1 _ _ _ _ _ rfl ?_ ?_ ?_
  · show (((i 0).val * 2048 + (i 1).val) * 1408 + (i 2).val) / 2883584 % 16 = _; omega
  · show (((i 0).val * 2048 + (i 1).val) * 1408 + (i 2).val) / 1408 % 2048 = _; omega
  · show (((i 0).val * 2048 + (i 1).val) * 1408 + (i 2).val) % 1408 = _; omega

/-- The first layer's gate weights. -/
theorem gate_eq (i : S16x2048x1408.Idx) : val_main_v6 (F := Ideal) x2 i = entry4 x2 0 (i 0) (i 1) (i 2) := up_eq x2 i

/-- The first layer's down-projection weights. -/
theorem down_eq (i : S16x1408x2048.Idx) : val_main_v10 (F := Ideal) x3 i = entry4 x3 0 (i 0) (i 1) (i 2) := by
  have h0 : (i 0).val < 16 := (i 0).isLt; have h1 : (i 1).val < 1408 := (i 1).isLt; have h2 : (i 2).val < 2048 := (i 2).isLt
  rw [val_main_v10_apply, val_main_v9_apply]
  refine eq_entry4 x3 _ _ _ _ _ rfl ?_ ?_ ?_
  · show (((i 0).val * 1408 + (i 1).val) * 2048 + (i 2).val) / 2883584 % 16 = _; omega
  · show (((i 0).val * 1408 + (i 1).val) * 2048 + (i 2).val) / 2048 % 1408 = _; omega
  · show (((i 0).val * 1408 + (i 1).val) * 2048 + (i 2).val) % 2048 = _; omega

/-- The gathered rows. -/
theorem rows_eq (i : S16x1024x2048.Idx) : val_main_v0 (F := Ideal) x0 i = entry3 x0 (i 0) (i 1) (i 2) :=
  eq_entry3 x0 i _ _ _ rfl rfl rfl

/-- The hidden layer. -/
theorem hidden_eq (i : S16x1024x1408.Idx) :
    val_main_v8 (F := Ideal) x0 x1 x2 i = hidden ⟨x0, x1, x2, x3⟩ (i 0) (i 1) (i 2) := by
  have ho : (FloatOps.ofBits (F := Ideal) .f32 0x3F800000#32 : EReal) = 1 := Ideal.ofBits_one_f32
  rw [val_main_v8_apply, val_main_v4_apply, val_main_call0_v5_apply, val_main_call0_v4_apply, val_main_call0_cst_0_apply,
    val_main_call0_v3_apply, val_main_call0_v2_apply, val_main_call0_cst_apply, val_main_call0_v1_apply,
    val_main_call0_v0_apply, ho, val_main_v7_apply]
  show val_main_v3 (F := Ideal) x0 x1 i * Ideal.div 1 (1 + Ideal.exp (-(val_main_v3 (F := Ideal) x0 x1 i))) * _ = _
  rw [mul_logistic, val_main_v3_apply]
  simp only [rows_eq, up_eq, gate_eq]
  rfl

/-- The reference's result: every expert's output. -/
theorem experts_eq (i : S16x1024x2048.Idx) :
    val_main_v12 (F := Ideal) x0 x1 x2 x3 i = output ⟨x0, x1, x2, x3⟩ (i 0) (i 1) (i 2) := by
  rw [val_main_v12_apply]
  show val_main_v11 (F := Ideal) x0 x1 x2 x3 i = _
  rw [val_main_v11_apply]
  refine Finset.sum_congr rfl fun f _ => ?_
  rw [hidden_eq x0 x1 x2 x3, down_eq]
  rfl

end Cert.ExpertsRefIdeal.Read

end
-- ==== Proof.PostNorm.lean ====
/-
  The post-norm: a row brought to mean zero and variance one, and the two constants of the residual.
-/
module

public import proofs.«01_k».proof.Proof.Rows
public import Idealize.ShloMosaic.Lib.ValueLayoutCasts
public import Idealize.ShloMosaic.Lib.IdealHost

@[expose] public section

set_option maxRecDepth 16384

noncomputable section

namespace Cert.PostNorm

open Idealize.ShloMosaic Idealize.ShloMosaic.ValueIdx

/-- The residual's weight, the square root of two. -/
def alpha : EReal := ((Real.sqrt 2 : ℝ) : EReal)

/-- The number added to the variance, one millionth. -/
def eps : EReal := ((1 / 1000000 : ℝ) : EReal)

/-- The number of columns, as the programs spell it. -/
def width : EReal := Ideal.ofBits .f32 0x45000000#32

/-- The mean of a row. -/
def mean {b : ℕ} (x : Fin b → EReal) : EReal := Ideal.div (∑ k, x k) width

/-- The variance of a row. -/
def variance {b : ℕ} (x : Fin b → EReal) : EReal := Ideal.div (∑ k, (x k - mean x) * (x k - mean x)) width

/-- A row brought to mean zero and variance one. -/
def normal {b : ℕ} (x : Fin b → EReal) (d : Fin b) : EReal := (x d - mean x) * Ideal.rsqrt (variance x + eps)

/-- The word for two thousand and forty-eight. -/
theorem width_eq : width = ((2048 : ℝ) : EReal) := by
  unfold width
  simp [Ideal.ofBits, Ideal.ieee]
  rw [← EReal.coe_mul]
  norm_num

/-- The word for four. -/
theorem four : Ideal.ofBits .f32 0x40800000#32 = ((4 : ℝ) : EReal) := by
  simp [Ideal.ofBits, Ideal.ieee]
  rw [← EReal.coe_mul]
  norm_num

/-- The word for a million. -/
theorem million : Ideal.ofBits .f32 0x49742400#32 = ((1000000 : ℝ) : EReal) := by
  simp [Ideal.ofBits, Ideal.ieee]
  rw [← EReal.coe_mul]
  norm_num

/-- The fourth root of four is the square root of two. -/
theorem alpha_host : Ideal.sqrt (Ideal.sqrt (Ideal.ofBits .f32 0x40800000#32)) = alpha := by
  rw [four, Ideal.sqrt_coe, if_neg (by norm_num)]
  have h : Real.sqrt 4 = 2 := by
    rw [show (4 : ℝ) = 2 ^ 2 by norm_num]
    exact Real.sqrt_sq (by norm_num)
  rw [h, Ideal.sqrt_coe, if_neg (by norm_num)]
  rfl

/-- One over a million is one millionth. -/
theorem eps_host : Ideal.div (Ideal.ofBits .f32 0x3F800000#32) (Ideal.ofBits .f32 0x49742400#32) = eps := by
  rw [million, Ideal.ofBits_one_f32, Ideal.div_coe (by norm_num), one_mul]
  rfl

section
variable {a b : ℕ} (x c : FVec Ideal ⟨2, ![a, b]⟩ .f32) (e : Ideal .f32) (hr : (⟨2, ![a, b]⟩ : Shape).Reduces [1] ⟨1, ![a]⟩)
    (hc : (⟨1, ![a]⟩ : Shape).ShapeCasts ⟨2, ![a, 1]⟩) (hb : (⟨2, ![a, 1]⟩ : Shape).Broadcasts ⟨2, ![a, b]⟩)

/-- A row's sum over the number of columns, kept as a column. -/
theorem rowMean_apply (r : Fin a) :
    divf (shapeCast ⟨2, ![a, 1]⟩ (multiReduction .add [1] ⟨1, ![a]⟩ x 0x00000000#32 hr (.inl rfl) rfl) hc)
        (broadcast ⟨2, ![a, 1]⟩ (Scalar.ofBits (F := Ideal) .f32 0x45000000#32)) (ix2 r (0 : Fin 1))
      = Ideal.div (∑ k : Fin b, (x (ix2 r k) : EReal)) width := by
  refine congrArg₂ Ideal.div ?_ rfl
  exact (shapeCast_a_a1_apply _ _ r 0).trans (Rows.rowSum x _ hr _ _ r)

/-- A row without its mean. -/
theorem centred_apply (r : Fin a) (l : Fin b) :
    subf x (broadcastTo ⟨2, ![a, b]⟩ (divf (shapeCast ⟨2, ![a, 1]⟩ (multiReduction .add [1] ⟨1, ![a]⟩ x 0x00000000#32 hr (.inl rfl) rfl) hc)
        (broadcast ⟨2, ![a, 1]⟩ (Scalar.ofBits (F := Ideal) .f32 0x45000000#32))) hb) (ix2 r l)
      = (x (ix2 r l) : EReal) - mean fun k => (x (ix2 r k) : EReal) :=
  congrArg ((x (ix2 r l) : EReal) - ·) ((Rows.column_apply _ hb r l).trans (rowMean_apply x hr hc r))

/-- A centred row over the root of its mean square. -/
theorem scaled_apply (r : Fin a) (l : Fin b) :
    mulf c (broadcastTo ⟨2, ![a, b]⟩ (rsqrt (addf (divf (shapeCast ⟨2, ![a, 1]⟩ (multiReduction .add [1] ⟨1, ![a]⟩ (mulf c c) 0x00000000#32 hr (.inl rfl) rfl) hc)
        (broadcast ⟨2, ![a, 1]⟩ (Scalar.ofBits (F := Ideal) .f32 0x45000000#32))) (broadcast ⟨2, ![a, 1]⟩ e))) hb) (ix2 r l)
      = (c (ix2 r l) : EReal) * Ideal.rsqrt (Ideal.div (∑ k : Fin b, (c (ix2 r k) : EReal) * (c (ix2 r k) : EReal)) width + (e : EReal)) :=
  congrArg ((c (ix2 r l) : EReal) * ·) ((Rows.column_apply _ hb r l).trans
    (congrArg (fun z : EReal => Ideal.rsqrt (z + (e : EReal))) (rowMean_apply (mulf c c) hr hc r)))

/-- The whole chain brings every row to mean zero and variance one. -/
theorem normal_apply (hx : ∀ r l, (c (ix2 r l) : EReal) = (x (ix2 r l) : EReal) - mean fun k => (x (ix2 r k) : EReal)) (he : (e : EReal) = eps)
    (r : Fin a) (l : Fin b) :
    mulf c (broadcastTo ⟨2, ![a, b]⟩ (rsqrt (addf (divf (shapeCast ⟨2, ![a, 1]⟩ (multiReduction .add [1] ⟨1, ![a]⟩ (mulf c c) 0x00000000#32 hr (.inl rfl) rfl) hc)
        (broadcast ⟨2, ![a, 1]⟩ (Scalar.ofBits (F := Ideal) .f32 0x45000000#32))) (broadcast ⟨2, ![a, 1]⟩ e))) hb) (ix2 r l)
      = normal (fun k => (x (ix2 r k) : EReal)) l := by
  refine (scaled_apply c e hr hc hb r l).trans ?_
  rw [he]
  simp only [hx]
  rfl

end

end Cert.PostNorm

end
-- ==== Proof.Combine.lean ====
/-
  The experts' outputs combined: every token's rows of its experts, weighted and summed, the residual and the post-norm.
-/
module

public import proofs.«01_k».proof.Proof.PostNorm
public import proofs.«01_k».proof.Proof.Attention
public import proofs.«01_k».proof.Proof.Moe

@[expose] public section

set_option maxRecDepth 16384

noncomputable section

namespace Cert.Combine

open Idealize.ShloMosaic Idealize.ShloMosaic.ValueIdx Cert.Attention Cert.Moe Cert.PostNorm

/-- The arguments: each token's row at each expert and its weight there, the experts' outputs, the residual, its gate and the norm's parameters. -/
structure Inputs where
  slot : (⟨4, ![4, 16, 1, 2048]⟩ : Shape).Idx → BitVec 32
  aff : (⟨4, ![4, 16, 1, 2048]⟩ : Shape).Idx → EReal
  ye : (⟨3, ![16, 1024, 2048]⟩ : Shape).Idx → EReal
  h : (⟨2, ![8192, 2048]⟩ : Shape).Idx → EReal
  gate : (⟨3, ![4, 1, 2048]⟩ : Shape).Idx → EReal
  ln : (⟨2, ![2, 2048]⟩ : Shape).Idx → EReal

/-- The word of a rank-four array at four numbers, zero outside. -/
def word4 {l a b c : ℕ} (W : (⟨4, ![l, a, b, c]⟩ : Shape).Idx → BitVec 32) (n e i j : ℕ) : BitVec 32 :=
  if h : n < l ∧ e < a ∧ i < b ∧ j < c then W (ix4 ⟨n, h.1⟩ ⟨e, h.2.1⟩ ⟨i, h.2.2.1⟩ ⟨j, h.2.2.2⟩) else 0#32

/-- A word inside the array is the array there. -/
theorem word4_pos {l a b c : ℕ} (W : (⟨4, ![l, a, b, c]⟩ : Shape).Idx → BitVec 32) (n e i j : ℕ) (hn : n < l) (he : e < a) (hi : i < b)
    (hj : j < c) : word4 W n e i j = W (ix4 ⟨n, hn⟩ ⟨e, he⟩ ⟨i, hi⟩ ⟨j, hj⟩) := dif_pos ⟨hn, he, hi, hj⟩

/-- An array of words at an index is its word at the index's coordinates. -/
theorem eq_word4 {l a b c : ℕ} (W : (⟨4, ![l, a, b, c]⟩ : Shape).Idx → BitVec 32) (x : (⟨4, ![l, a, b, c]⟩ : Shape).Idx)
    (n e i j : ℕ) (hn : (x 0).val = n) (he : (x 1).val = e) (hi : (x 2).val = i) (hj : (x 3).val = j) : W x = word4 W n e i j := by
  subst hn he hi hj
  rw [word4_pos W _ _ _ _ (x 0).isLt (x 1).isLt (x 2).isLt (x 3).isLt]
  exact congrArg W (eq_ix4 x)

/-- What expert `e` gives token `t` of sequence `b`: its row of the expert's output, weighted, if the token has one. -/
def picked (I : Inputs) (b e t d : ℕ) : EReal :=
  if (word4 I.slot b e 0 t).toNat < 256 then
    entry4 I.aff b e 0 t * entry3 I.ye e (b * 256 + (word4 I.slot b e 0 t).toNat) d
  else 0

/-- What the experts together give a token. -/
def combined (I : Inputs) (b t d : ℕ) : EReal := ∑ e ∈ Finset.range 16, picked I b e t d

/-- The residual stream with the experts' part added. -/
def residual (I : Inputs) (n d : ℕ) : EReal :=
  alpha * entry I.h n d + entry3 I.gate (n / 2048) 0 d * combined I (n / 2048) (n % 2048) d

/-- The layer's result. -/
def output (I : Inputs) (n : ℕ) (d : Fin 2048) : EReal :=
  normal (fun k : Fin 2048 => residual I n k) d * entry I.ln 0 d + entry I.ln 1 d

/-- A row of a product whose weights are zero but at one index. -/
theorem sum_word (s : BitVec 32) (a : EReal) (y : Fin 256 → EReal) (z : ℕ → EReal) (hz : ∀ j : Fin 256, y j = z j) :
    ∑ j : Fin 256, (if BitVec.ofNat 32 j.val = s then a else 0) * y j = if s.toNat < 256 then a * z s.toNat else 0 := by
  by_cases h : s.toNat < 256
  · rw [if_pos h, Finset.sum_eq_single (⟨s.toNat, h⟩ : Fin 256), if_pos, hz]
    · exact BitVec.eq_of_toNat_eq (by rw [BitVec.toNat_ofNat]; exact Nat.mod_eq_of_lt s.isLt)
    · intro j _ hj
      rw [if_neg, zero_mul]
      intro he
      refine hj (Fin.ext ?_)
      show j.val = s.toNat
      rw [← he, BitVec.toNat_ofNat]
      omega
    · exact fun hn => absurd (Finset.mem_univ _) hn
  · rw [if_neg h]
    refine Finset.sum_eq_zero fun j _ => ?_
    rw [if_neg, zero_mul]
    intro he
    refine h ?_
    rw [← he, BitVec.toNat_ofNat]
    have := j.isLt
    omega

end Cert.Combine

end
-- ==== Proof.CombineTiles.lean ====
/-
  The combining kernel's body: what its stores leave in the accumulator and in the output block.
-/
module

public import proofs.«01_k».proof.Proof.Gen.CombineIdeal.Value
public import proofs.«01_k».proof.Proof.Combine
public import Idealize.ShloMosaic.Lib.Pointwise.Contract
public import Idealize.ShloMosaic.Lib.ValueIdx
public import Idealize.ShloMosaic.Lib.ValueLayoutCasts
public import Idealize.ShloMosaic.Lib.IdealHost
public import Idealize.ShloMosaic.Lib.Pipeline.Value
public import Idealize.ShloMosaic.Lib.Pipeline.FrameBody

@[expose] public section

set_option maxRecDepth 16384

noncomputable section

namespace Cert.CombineIdeal.Value

open Idealize.ShloMosaic hiding ix1 ix2 ix3 ix4
open Cert.CombineIdeal Cert.CombineIdeal.Gen Idealize.ShloMosaic.TcCoe Idealize.ShloMosaic.Tactic Idealize.SL.Sem
open Idealize.ShloMosaic.ValueIdx Cert.Attention Cert.Moe Cert.Combine Cert.PostNorm

/-- The product that contracts the first axis of both operands. -/
theorem cross_apply (x : Vec Ideal S256x512 .bf16) (y : Vec Ideal S256x2048 .bf16) (r : Fin 512) (d : Fin 2048) :
    (matmul (φ₁ := .bf16) (φ₂ := .bf16) dot_S256x512_S256x2048_S512x2048_0_0_1_1_n_n none x y (constant S512x2048 .f32 0x00000000#32) : FVec Ideal S512x2048 .f32) (ix2 r d)
      = ∑ j : Fin 256, (x (ix2 j r) : EReal) * (y (ix2 j d) : EReal) := by
  refine (Ideal.matmul_apply₁_of dot_S256x512_S256x2048_S512x2048_0_0_1_1_n_n (a := 0) rfl (K := 256) rfl x y _ (ix2 r d) (fun j => ix2 j r) (fun j => ix2 j d) ?_ ?_).trans
     (by rw [constant_apply, Ideal.ofBits_zero_f32, zero_add])
  · intro k
    funext a
    match a with
    | ⟨0, _⟩ => rfl
    | ⟨1, _⟩ => rfl
  · intro k
    funext a
    match a with
    | ⟨0, _⟩ => rfl
    | ⟨1, _⟩ => rfl

/-- A row repeated over the rows of a matrix reads the row's entry of that column. -/
theorem row_apply {α : Type} {a b : ℕ} (v : (⟨2, ![1, b]⟩ : Shape).Idx → α) (h : (⟨2, ![1, b]⟩ : Shape).Broadcasts ⟨2, ![a, b]⟩)
    (hb : b ≠ 1) (r : Fin a) (l : Fin b) : broadcastTo ⟨2, ![a, b]⟩ v h (ix2 r l) = v (ix2 (0 : Fin 1) l) := by
  refine broadcastTo_apply v h (ix2 r l) (ix2 (0 : Fin 1) l) fun ax => ?_
  match ax with
  | ⟨0, _⟩ => rfl
  | ⟨1, _⟩ =>
    show l.val = if b = 1 then 0 else l.val
    rw [if_neg hb]

/-- Two leading unit axes dropped. -/
theorem cast_lead {α : Type} {b : ℕ} (v : (⟨4, ![1, 1, 1, b]⟩ : Shape).Idx → α) (h : (⟨4, ![1, 1, 1, b]⟩ : Shape).ShapeCasts ⟨2, ![1, b]⟩) (l : Fin b) :
    shapeCast ⟨2, ![1, b]⟩ v h (ix2 (0 : Fin 1) l) = v (ix4 (0 : Fin 1) (0 : Fin 1) (0 : Fin 1) l) :=
  shapeCast_apply v h _ _ (by rw [Shape.rowMajor_val_four, Shape.rowMajor_val_two]; rfl)

/-- A choice by the equality of two words. -/
theorem select_eq (u v : BitVec 32) (x y : EReal) : Scalar.select (IntOp.cmpi .eq u v) x y = if u = v then x else y := by
  unfold Scalar.select
  by_cases h : u = v
  · simp [h, IntOp.cmpi]
  · rw [if_neg h, if_neg]
    show ¬BitVec.ofBool (u == v) = 1#1
    rw [beq_eq_false_iff_ne.mpr h]
    decide

/-- One expert's contribution to a block of tokens. -/
theorem contribution_apply (v1 : Vec Ideal S1x1x1x512 .i32) (v5 : Vec Ideal S1x1x1x512 .f32) (v12 : Vec Ideal S1x256x2048 .bf16) (r : Fin 512) (d : Fin 2048) :
    (k0_pay1 v1 v5 v12 (ix2 r d) : EReal)
      = if (word4 v1 0 0 0 r).toNat < 256 then entry4 v5 0 0 0 r * entry3 v12 0 (word4 v1 0 0 0 r).toNat d else 0 := by
  unfold k0_pay1
  refine (cross_apply _ _ r d).trans (Eq.trans ?_ (sum_word (word4 v1 0 0 0 r) (entry4 v5 0 0 0 r) (fun j => entry3 v12 0 j d) (fun j => entry3 v12 0 j d) fun _ => rfl))
  refine Finset.sum_congr rfl fun j _ => congrArg₂ (· * ·) ?_ ?_
  · show Scalar.select (IntOp.cmpi .eq (BitVec.ofNat 32 (0 * 256 + j.val)) _) _ (Ideal.ofBits .f32 0x00000000#32) = _
    rw [select_eq, Ideal.ofBits_zero_f32, Nat.zero_mul, Nat.zero_add]
    rw [row_apply _ _ (by decide) j r, row_apply _ _ (by decide) j r, shapeCast_self, cast_lead, cast_lead]
    rw [word4_pos v1 0 0 0 r Nat.one_pos Nat.one_pos Nat.one_pos r.isLt, eq_entry4 v5 _ 0 0 0 r rfl rfl rfl rfl]
    rfl
  · refine (shapeCast_1ab_ab_apply (a := 256) (b := 2048) _ _ j d).trans ?_
    exact eq_entry3 v12 _ _ _ _ rfl rfl rfl

/-- The starts of a whole access of two dimensions are zeros. -/
theorem hz2 : (![0, 0] : Fin 2 → Nat) = fun _ => 0 := funext fun a => by fin_cases a <;> rfl
/-- The same in three dimensions. -/
theorem hz3 : (![0, 0, 0] : Fin 3 → Nat) = fun _ => 0 := funext fun a => by fin_cases a <;> rfl
/-- The same in four dimensions. -/
theorem hz4 : (![0, 0, 0, 0] : Fin 4 → Nat) = fun _ => 0 := funext fun a => by fin_cases a <;> rfl

section
variable (c : Dev nD) (i : grid0.Coords) (arg3 : Memref sig .tc .vmem S1x1x1x512 .i32) (harg3 : arg3.IsWhole) (arg4 : Memref sig .tc .vmem S1x1x1x512 .f32) (harg4 : arg4.IsWhole) (arg5 : Memref sig .tc .vmem S1x256x2048 .bf16) (harg5 : arg5.IsWhole) (arg6 : Memref sig .tc .vmem S512x2048 .f32) (harg6 : arg6.IsWhole) (arg7 : Memref sig .tc .vmem S1x1x2048 .f32) (harg7 : arg7.IsWhole) (arg8 : Memref sig .tc .vmem S2x2048 .f32) (harg8 : arg8.IsWhole) (arg9 : Memref sig .tc .vmem S512x2048 .f32) (harg9 : arg9.IsWhole) (arg10 : Memref sig .tc .vmem S512x2048 .f32) (harg10 : arg10.IsWhole)
    (x0 : Vec Ideal S1x1x1x512 .i32) (x1 : Vec Ideal S1x1x1x512 .f32) (x2 : Vec Ideal S1x256x2048 .bf16) (x3 : Vec Ideal S512x2048 .f32) (x4 : Vec Ideal S1x1x2048 .f32) (x5 : Vec Ideal S2x2048 .f32)

/-- The first expert stores its contribution into the accumulator. -/
theorem accA (hc0 : cond0_0 i) (hc1 : ¬ cond0_1 i) (hc2 : ¬ cond0_2 i) :
    sout0_A_0 c i arg3 harg3 arg4 harg4 arg5 harg5 arg6 harg6 arg7 harg7 arg8 harg8 arg9 harg9 arg10 harg10 hc0 hc1 hc2 x0 x1 x2 x3 x4 x5 = k0_pay1 x0 x1 x2 := by
  unfold sout0_A_0
  rw [View.read_writes_eq_canon _ _ _ (scover0_A_0 c i arg3 harg3 arg4 harg4 arg5 harg5 arg6 harg6 arg7 harg7 arg8 harg8 arg9 harg9 arg10 harg10 hc0 hc1 hc2 x0 x1 x2 x3 x4 x5)]
  unfold kernelRun0_A
  dsimp only
  sl_unfold_words
  rw [View.canon_unit_zero hz2]
  simp only [View.readAt_eq_ld, harg3.read_unread, harg4.read_unread, harg5.read_unread, harg6.read_unread, harg7.read_unread, harg8.read_unread, harg10.read_unread, View.ld_unit_zero (S := S512x2048) hz2, View.ld_unit_zero (S := S1x256x2048) hz3, View.ld_unit_zero (S := S1x1x2048) hz3, View.ld_unit_zero (S := S1x1x1x512) hz4]
  unfold k0_pay2
  exact shapeCast_self _ _

/-- A later expert adds its contribution to the accumulator. -/
theorem accB (hc0 : ¬ cond0_0 i) (hc1 : cond0_1 i) (hc2 : ¬ cond0_2 i) (xs0 : Vec Ideal S512x2048 .f32) :
    sout0_B_0 c i arg3 harg3 arg4 harg4 arg5 harg5 arg6 harg6 arg7 harg7 arg8 harg8 arg9 harg9 arg10 harg10 hc0 hc1 hc2 x0 x1 x2 x3 x4 x5 xs0 = addf xs0 (k0_pay1 x0 x1 x2) := by
  unfold sout0_B_0
  rw [View.read_writes_eq_canon _ _ _ (scover0_B_0 c i arg3 harg3 arg4 harg4 arg5 harg5 arg6 harg6 arg7 harg7 arg8 harg8 arg9 harg9 arg10 harg10 hc0 hc1 hc2 x0 x1 x2 x3 x4 x5 xs0)]
  unfold kernelRun0_B
  dsimp only
  sl_unfold_words
  rw [View.canon_unit_zero hz2]
  simp only [View.readAt_eq_ld, harg3.read_unread, harg4.read_unread, harg5.read_unread, harg6.read_unread, harg7.read_unread, harg8.read_unread, harg10.read_unread, View.ld_unit_zero (S := S512x2048) hz2, View.ld_unit_zero (S := S1x256x2048) hz3, View.ld_unit_zero (S := S1x1x2048) hz3, View.ld_unit_zero (S := S1x1x1x512) hz4]
  unfold k0_pay3
  exact shapeCast_self _ _

/-- What the last expert leaves in the accumulator. -/
theorem canonC (hc0 : ¬ cond0_0 i) (hc1 : cond0_1 i) (hc2 : cond0_2 i) (xs0 : Vec Ideal S512x2048 .f32) :
    View.canon (kernelRun0_C c i arg3 harg3 arg4 harg4 arg5 harg5 arg6 harg6 arg7 harg7 arg8 harg8 arg9 harg9 arg10 harg10 hc0 hc1 hc2 x0 x1 x2 x3 x4 x5 xs0).2.1 = addf xs0 (k0_pay1 x0 x1 x2) := by
  unfold kernelRun0_C
  dsimp only
  sl_unfold_words
  rw [View.canon_unit_zero hz2]
  simp only [View.readAt_eq_ld, harg3.read_unread, harg4.read_unread, harg5.read_unread, harg6.read_unread, harg7.read_unread, harg8.read_unread, harg10.read_unread, View.ld_unit_zero (S := S512x2048) hz2, View.ld_unit_zero (S := S1x256x2048) hz3, View.ld_unit_zero (S := S1x1x2048) hz3, View.ld_unit_zero (S := S1x1x1x512) hz4]
  unfold k0_pay3
  exact shapeCast_self _ _

/-- The last expert adds its contribution too. -/
theorem accC (hc0 : ¬ cond0_0 i) (hc1 : cond0_1 i) (hc2 : cond0_2 i) (xs0 : Vec Ideal S512x2048 .f32) :
    sout0_C_0 c i arg3 harg3 arg4 harg4 arg5 harg5 arg6 harg6 arg7 harg7 arg8 harg8 arg9 harg9 arg10 harg10 hc0 hc1 hc2 x0 x1 x2 x3 x4 x5 xs0 = addf xs0 (k0_pay1 x0 x1 x2) := by
  unfold sout0_C_0
  rw [View.read_writes_eq_canon _ _ _ (scover0_C_0 c i arg3 harg3 arg4 harg4 arg5 harg5 arg6 harg6 arg7 harg7 arg8 harg8 arg9 harg9 arg10 harg10 hc0 hc1 hc2 x0 x1 x2 x3 x4 x5 xs0)]
  exact canonC c i arg3 harg3 arg4 harg4 arg5 harg5 arg6 harg6 arg7 harg7 arg8 harg8 arg9 harg9 arg10 harg10 x0 x1 x2 x3 x4 x5 hc0 hc1 hc2 xs0

/-- The norm's first row of parameters. -/
abbrev lnRow0 : Vec Ideal S1x2048 .f32 := View.ld x5 (Rect.unit ![0, 0] S1x2048.size inb_S2x2048_S1x2048_0_0)
/-- The second row. -/
abbrev lnRow1 : Vec Ideal S1x2048 .f32 := View.ld x5 (Rect.unit ![1, 0] S1x2048.size inb_S2x2048_S1x2048_1_0)

/-- After the last expert the output block is the post-norm of the residual with the accumulator added. -/
theorem outC (hc0 : ¬ cond0_0 i) (hc1 : cond0_1 i) (hc2 : cond0_2 i) (xs0 : Vec Ideal S512x2048 .f32) :
    out0_C_6 c i arg3 harg3 arg4 harg4 arg5 harg5 arg6 harg6 arg7 harg7 arg8 harg8 arg9 harg9 arg10 harg10 hc0 hc1 hc2 x0 x1 x2 x3 x4 x5 xs0 = k0_pay4 x3 x4 (addf xs0 (k0_pay1 x0 x1 x2)) (lnRow0 x5) (lnRow1 x5) := by
  unfold out0_C_6
  rw [View.read_writes_eq_canon _ _ _ (cover0_C_6 c i arg3 harg3 arg4 harg4 arg5 harg5 arg6 harg6 arg7 harg7 arg8 harg8 arg9 harg9 arg10 harg10 hc0 hc1 hc2 x0 x1 x2 x3 x4 x5 xs0)]
  unfold kernelRun0_C
  dsimp only
  rw [View.canon_unit_zero hz2]
  have hv : kernelRun0_C.sl.v29 c arg3 harg3 arg4 harg4 arg5 harg5 arg10 harg10 x0 x1 x2 xs0 = addf xs0 (k0_pay1 x0 x1 x2) := by
    show arg10.view.readCov (kernelRun0_C c i arg3 harg3 arg4 harg4 arg5 harg5 arg6 harg6 arg7 harg7 arg8 harg8 arg9 harg9 arg10 harg10 hc0 hc1 hc2 x0 x1 x2 x3 x4 x5 xs0).2.1 (Rect.unit ![0, 0] S512x2048.size inb_S512x2048_S512x2048_0_0).toLoadRect = _
    rw [View.readCov_eq_canon_ld _ _ _ (scover0_C_0 c i arg3 harg3 arg4 harg4 arg5 harg5 arg6 harg6 arg7 harg7 arg8 harg8 arg9 harg9 arg10 harg10 hc0 hc1 hc2 x0 x1 x2 x3 x4 x5 xs0), canonC, View.ld_unit_zero (S := S512x2048) hz2]
  rw [hv]
  simp only [View.readAt_eq_ld, harg3.read_unread, harg4.read_unread, harg5.read_unread, harg6.read_unread, harg7.read_unread, harg8.read_unread, harg10.read_unread, View.ld_unit_zero (S := S512x2048) hz2, View.ld_unit_zero (S := S1x256x2048) hz3, View.ld_unit_zero (S := S1x1x2048) hz3, View.ld_unit_zero (S := S1x1x1x512) hz4]

/-- The first row, by entry. -/
theorem lnRow0_apply (d : Fin 2048) : (lnRow0 x5 (ix2 (0 : Fin 1) d) : EReal) = entry x5 0 d :=
  eq_entry x5 _ _ _ rfl (by show 0 + 1 * d.val = d.val; omega)

/-- The second row, by entry. -/
theorem lnRow1_apply (d : Fin 2048) : (lnRow1 x5 (ix2 (0 : Fin 1) d) : EReal) = entry x5 1 d :=
  eq_entry x5 _ _ _ rfl (by show 0 + 1 * d.val = d.val; omega)

end

/-- The named word of the residual's weight. -/
theorem alpha_named : (Named.named (F := Ideal) (φ := .f32) κ "alpha" 0x3FB504F3#32 : EReal) = alpha := rfl

/-- The named word added to the variance. -/
theorem eps_named : (Named.named (F := Ideal) (φ := .f32) κ "eps" 0x358637BD#32 : EReal) = eps := rfl

/-- The stored block: the post-norm of the weighted residual and the gated accumulator. -/
theorem stored_apply (x3 : Vec Ideal S512x2048 .f32) (x4 : Vec Ideal S1x1x2048 .f32) (y : Vec Ideal S512x2048 .f32) (g b : Vec Ideal S1x2048 .f32)
    (r : Fin 512) (d : Fin 2048) : (k0_pay4 x3 x4 y g b (ix2 r d) : EReal)
      = normal (fun k : Fin 2048 => alpha * entry x3 r k + entry3 x4 0 0 k * (y (ix2 r k) : EReal)) d * (g (ix2 (0 : Fin 1) d) : EReal)
        + (b (ix2 (0 : Fin 1) d) : EReal) := by
  unfold k0_pay4
  refine congrArg₂ (fun u v : EReal => u + v) (congrArg₂ (fun u v : EReal => u * v) ?_ (row_apply _ _ (by decide) r d)) (row_apply _ _ (by decide) r d)
  refine (normal_apply _ _ _ _ _ _ (fun r l => centred_apply _ _ _ _ r l) eps_named r d).trans ?_
  refine congrArg (fun f => normal f d) (funext fun k => ?_)
  refine congrArg₂ (fun u v : EReal => u + v) (congrArg₂ (fun u v : EReal => u * v) alpha_named (eq_entry x3 _ _ _ rfl rfl)) ?_
  refine congrArg (fun u : EReal => u * (y (ix2 r k) : EReal)) ((row_apply _ _ (by decide) r k).trans ?_)
  refine (shapeCast_1ab_ab_apply (a := 1) (b := 2048) _ _ 0 k).trans ?_
  exact eq_entry3 x4 _ _ _ _ rfl rfl rfl

end Cert.CombineIdeal.Value

end
-- ==== Proof.CombineValue.lean ====
/-
  The combining kernel's run: the accumulator after every expert, and the result array.
-/
module

public import proofs.«01_k».proof.Proof.CombineTiles

@[expose] public section

set_option maxRecDepth 16384

noncomputable section

namespace Cert.CombineIdeal.Value

open Idealize.ShloMosaic hiding ix1 ix2 ix3 ix4 eq_ix2 eq_ix3 eq_ix4
open Cert.CombineIdeal Cert.CombineIdeal.Gen Idealize.ShloMosaic.TcCoe Idealize.SL.Sem
open Idealize.ShloMosaic.ValueIdx Cert.Attention Cert.Moe Cert.Combine Cert.PostNorm
open Idealize.ShloMosaic.Pipeline (Dat)

variable (m : (ℓ : Loc nD τ sig) → Buf (Elt Ideal) ℓ) (ρ : Dev nD → PrngReg)

/-- The arguments, as the combination's inputs. -/
abbrev inputs (c : Dev nD) : Combine.Inputs :=
  ⟨m ((c : Thread nD τ).loc main_arg0), m ((c : Thread nD τ).loc main_arg1), m ((c : Thread nD τ).loc main_arg2),
    m ((c : Thread nD τ).loc main_arg3), m ((c : Thread nD τ).loc main_arg4), m ((c : Thread nD τ).loc main_arg5)⟩

/-- Which block each window reads or writes at a point: sequence `t / 64`, block `t / 16 % 4` of its tokens, expert `t % 16`. -/
theorem tiles : ∀ t : Fin cfg0.N,
    (win0_0.index t 0 = t.val / 64 ∧ win0_0.index t 1 = t.val % 16 ∧ win0_0.index t 2 = 0 ∧ win0_0.index t 3 = t.val / 16 % 4)
    ∧ (win0_1.index t 0 = t.val / 64 ∧ win0_1.index t 1 = t.val % 16 ∧ win0_1.index t 2 = 0 ∧ win0_1.index t 3 = t.val / 16 % 4)
    ∧ (win0_2.index t 0 = t.val % 16 ∧ win0_2.index t 1 = t.val / 64 ∧ win0_2.index t 2 = 0)
    ∧ (win0_3.index t 0 = t.val / 16 ∧ win0_3.index t 1 = 0)
    ∧ (win0_4.index t 0 = t.val / 64 ∧ win0_4.index t 1 = 0 ∧ win0_4.index t 2 = 0)
    ∧ (win0_5.index t 0 = 0 ∧ win0_5.index t 1 = 0)
    ∧ (win0_6.index t 0 = t.val / 16 ∧ win0_6.index t 1 = 0) :=
  (by decide +kernel : ∀ t : Fin grid0.N,
    (win0_0.index t 0 = t.val / 64 ∧ win0_0.index t 1 = t.val % 16 ∧ win0_0.index t 2 = 0 ∧ win0_0.index t 3 = t.val / 16 % 4)
    ∧ (win0_1.index t 0 = t.val / 64 ∧ win0_1.index t 1 = t.val % 16 ∧ win0_1.index t 2 = 0 ∧ win0_1.index t 3 = t.val / 16 % 4)
    ∧ (win0_2.index t 0 = t.val % 16 ∧ win0_2.index t 1 = t.val / 64 ∧ win0_2.index t 2 = 0)
    ∧ (win0_3.index t 0 = t.val / 16 ∧ win0_3.index t 1 = 0)
    ∧ (win0_4.index t 0 = t.val / 64 ∧ win0_4.index t 1 = 0 ∧ win0_4.index t 2 = 0)
    ∧ (win0_5.index t 0 = 0 ∧ win0_5.index t 1 = 0)
    ∧ (win0_6.index t 0 = t.val / 16 ∧ win0_6.index t 1 = 0))

/-- The tokens' rows at the point's expert. -/
theorem block0 (c : Dev nD) (t : Fin cfg0.N) (r : ℕ) (hr : r < 512) :
    word4 (iblk m c 0 t : Vec Ideal S1x1x1x512 .i32) 0 0 0 r = word4 (inputs m c).slot (t.val / 64) (t.val % 16) 0 (t.val / 16 % 4 * 512 + r) := by
  obtain ⟨⟨h0, h1, h2, h3⟩, -⟩ := tiles t
  rw [word4_pos _ _ _ _ _ Nat.one_pos Nat.one_pos Nat.one_pos hr]
  unfold iblk
  rw [View.read_apply]
  refine eq_word4 (m (c.tc.loc main_arg0)) _ _ _ _ _ ?_ ?_ ?_ ?_
  · show win0_0.index t 0 * 1 + 1 * 0 = _; rw [h0]; omega
  · show win0_0.index t 1 * 1 + 1 * 0 = _; rw [h1]; omega
  · show win0_0.index t 2 * 1 + 1 * 0 = _; rw [h2]
  · show win0_0.index t 3 * 512 + 1 * r = _; rw [h3]; omega

/-- The tokens' weights at the point's expert. -/
theorem block1 (c : Dev nD) (t : Fin cfg0.N) (r : Fin 512) :
    entry4 (iblk m c 1 t : Vec Ideal S1x1x1x512 .f32) 0 0 0 r = entry4 (inputs m c).aff (t.val / 64) (t.val % 16) 0 (t.val / 16 % 4 * 512 + r) := by
  obtain ⟨-, ⟨h0, h1, h2, h3⟩, -⟩ := tiles t
  rw [← eq_entry4 (iblk m c 1 t : Vec Ideal S1x1x1x512 .f32) (ix4 (0 : Fin 1) (0 : Fin 1) (0 : Fin 1) r) 0 0 0 r rfl rfl rfl rfl]
  unfold iblk
  rw [View.read_apply]
  refine eq_entry4 (m (c.tc.loc main_arg1)) _ _ _ _ _ ?_ ?_ ?_ ?_
  · show win0_1.index t 0 * 1 + 1 * 0 = _; rw [h0]; omega
  · show win0_1.index t 1 * 1 + 1 * 0 = _; rw [h1]; omega
  · show win0_1.index t 2 * 1 + 1 * 0 = _; rw [h2]
  · show win0_1.index t 3 * 512 + 1 * r.val = _; rw [h3]; omega

/-- The expert's output rows of the point's sequence. -/
theorem block2 (c : Dev nD) (t : Fin cfg0.N) (r : ℕ) (hr : r < 256) (d : Fin 2048) :
    entry3 (iblk m c 2 t : Vec Ideal S1x256x2048 .bf16) 0 r d = entry3 (inputs m c).ye (t.val % 16) (t.val / 64 * 256 + r) d := by
  obtain ⟨-, -, ⟨h0, h1, h2⟩, -⟩ := tiles t
  rw [← eq_entry3 (iblk m c 2 t : Vec Ideal S1x256x2048 .bf16) (ix3 (0 : Fin 1) (⟨r, hr⟩ : Fin 256) d) 0 r d rfl rfl rfl]
  unfold iblk
  rw [View.read_apply]
  refine eq_entry3 (m (c.tc.loc main_arg2)) _ _ _ _ ?_ ?_ ?_
  · show win0_2.index t 0 * 1 + 1 * 0 = _; rw [h0]; omega
  · show win0_2.index t 1 * 256 + 1 * r = _; rw [h1]; omega
  · show win0_2.index t 2 * 2048 + 1 * d.val = _; rw [h2]; omega

/-- The residual's rows at a point. -/
theorem block3 (c : Dev nD) (t : Fin cfg0.N) (r : Fin 512) (d : Fin 2048) :
    entry (iblk m c 3 t : Vec Ideal S512x2048 .f32) r d = entry (inputs m c).h (t.val / 16 * 512 + r) d := by
  obtain ⟨-, -, -, ⟨h0, h1⟩, -⟩ := tiles t
  rw [← eq_entry (iblk m c 3 t : Vec Ideal S512x2048 .f32) (ix2 r d) r d rfl rfl]
  unfold iblk
  rw [View.read_apply]
  refine eq_entry (m (c.tc.loc main_arg3)) _ _ _ ?_ ?_
  · show win0_3.index t 0 * 512 + 1 * r.val = _; rw [h0]; omega
  · show win0_3.index t 1 * 2048 + 1 * d.val = _; rw [h1]; omega

/-- The gate of the point's sequence. -/
theorem block4 (c : Dev nD) (t : Fin cfg0.N) (d : Fin 2048) :
    entry3 (iblk m c 4 t : Vec Ideal S1x1x2048 .f32) 0 0 d = entry3 (inputs m c).gate (t.val / 64) 0 d := by
  obtain ⟨-, -, -, -, ⟨h0, h1, h2⟩, -⟩ := tiles t
  rw [← eq_entry3 (iblk m c 4 t : Vec Ideal S1x1x2048 .f32) (ix3 (0 : Fin 1) (0 : Fin 1) d) 0 0 d rfl rfl rfl]
  unfold iblk
  rw [View.read_apply]
  refine eq_entry3 (m (c.tc.loc main_arg4)) _ _ _ _ ?_ ?_ ?_
  · show win0_4.index t 0 * 1 + 1 * 0 = _; rw [h0]; omega
  · show win0_4.index t 1 * 1 + 1 * 0 = _; rw [h1]
  · show win0_4.index t 2 * 2048 + 1 * d.val = _; rw [h2]; omega

/-- The norm's parameters are the whole array at every point. -/
theorem block5 (c : Dev nD) (t : Fin cfg0.N) (r : Fin 2) (d : Fin 2048) :
    entry (iblk m c 5 t : Vec Ideal S2x2048 .f32) r d = entry (inputs m c).ln r d := by
  obtain ⟨-, -, -, -, -, ⟨h0, h1⟩, -⟩ := tiles t
  rw [← eq_entry (iblk m c 5 t : Vec Ideal S2x2048 .f32) (ix2 r d) r d rfl rfl]
  unfold iblk
  rw [View.read_apply]
  refine eq_entry (m (c.tc.loc main_arg5)) _ _ _ ?_ ?_
  · show win0_5.index t 0 * 2 + 1 * r.val = _; rw [h0]; omega
  · show win0_5.index t 1 * 2048 + 1 * d.val = _; rw [h1]; omega

/-- What the point's expert adds, as an array. -/
abbrev added (c : Dev nD) (t : Fin cfg0.N) : FVec Ideal S512x2048 .f32 := k0_pay1 (iblk m c 0 t) (iblk m c 1 t) (iblk m c 2 t)

/-- The point's expert adds what it gives to each token. -/
theorem added_apply (c : Dev nD) (t : Fin cfg0.N) (r : Fin 512) (d : Fin 2048) :
    (added m c t (ix2 r d) : EReal) = picked (inputs m c) (t.val / 64) (t.val % 16) (t.val / 16 % 4 * 512 + r) d := by
  refine (contribution_apply _ _ _ r d).trans ?_
  rw [block0 m c t r r.isLt, block1]
  unfold picked
  split_ifs with h
  · rw [block2 m c t _ h d]
  · rfl

/-- The accumulator after a later expert: what it held before, and the expert's part. -/
theorem acc_step (c : Dev nD) (n : ℕ) (h : n < cfg0.N) (h0 : ¬ n % 16 = 0) (hlt : n - 1 < cfg0.N) :
    (outsAt0 m c n h).2 = addf (outsAt0 m c (n - 1) hlt).2 (added m c ⟨n, h⟩) := by
  by_cases h2 : n % 16 = 15
  · rw [outsAt0_C m c ⟨n, h⟩ h0 (by show 1 ≤ n % 16; omega) h2]
    dsimp only
    rw [accC]
  · rw [outsAt0_B m c ⟨n, h⟩ h0 (by show 1 ≤ n % 16; omega) h2]
    dsimp only
    rw [accB]

/-- After every point the accumulator holds the parts of the experts so far. -/
theorem acc_eq (c : Dev nD) : ∀ (n : ℕ) (h : n < cfg0.N) (r : Fin 512) (d : Fin 2048),
    ((outsAt0 m c n h).2 (ix2 r d) : EReal)
      = ∑ e ∈ Finset.range (n % 16 + 1), picked (inputs m c) (n / 64) e (n / 16 % 4 * 512 + r) d
  | n, h, r, d => by
    by_cases h0 : n % 16 = 0
    · rw [outsAt0_A m c ⟨n, h⟩ h0 (by show ¬ 1 ≤ n % 16; omega) (by show ¬ n % 16 = 15; omega)]
      dsimp only
      rw [accA]
      refine (added_apply m c ⟨n, h⟩ r d).trans ?_
      show picked (inputs m c) (n / 64) (n % 16) (n / 16 % 4 * 512 + r) d = _
      rw [h0, Finset.sum_range_one]
    · have hlt : n - 1 < cfg0.N := by omega
      have e1 : (n - 1) / 64 = n / 64 := by omega
      have e2 : (n - 1) % 16 + 1 = n % 16 := by omega
      have e3 : (n - 1) / 16 % 4 = n / 16 % 4 := by omega
      rw [acc_step m c n h h0 hlt, Finset.sum_range_succ]
      refine congrArg₂ (fun u v : EReal => u + v) ((acc_eq c (n - 1) hlt r d).trans ?_) (added_apply m c ⟨n, h⟩ r d)
      rw [e1, e2, e3]
  termination_by n => n
  decreasing_by omega

/-- The layer's result, as an array. -/
def result (c : Dev nD) : S8192x2048.Idx → EReal := fun i => output (inputs m c) (i 0) (i 1)

/-- The result array at an index, by the index's coordinates. -/
theorem result_at (c : Dev nD) (x : S8192x2048.Idx) (n : ℕ) (d : Fin 2048) (h0 : (x 0).val = n) (h1 : (x 1).val = d.val) :
    result m c x = output (inputs m c) n d := by
  subst h0
  exact congrArg (output (inputs m c) (x 0).val) (Fin.ext h1)

/-- The output block after the last expert, from the accumulator. -/
theorem block_eq (c : Dev nD) (t : Fin cfg0.N) (h : t.val % 16 = 15) :
    (outsAt0 m c t.val t.isLt).1
      = k0_pay4 (iblk m c 3 t) (iblk m c 4 t) (outsAt0 m c t.val t.isLt).2 (lnRow0 (iblk m c 5 t)) (lnRow1 (iblk m c 5 t)) := by
  have hlt : t.val - 1 < cfg0.N := Nat.lt_of_le_of_lt (Nat.sub_le _ _) t.isLt
  rw [acc_step m c t.val t.isLt (by omega) hlt, outsAt0_C m c t (by omega) (by omega) h]
  dsimp only
  rw [outC]

/-- The last expert's point writes back the result's rows. -/
theorem flushed_eq (c : Dev nD) (t : Fin cfg0.N) (hf : (cfg0.win 6).flush t = true) :
    (dats m 0 c).flushed 6 t = ((cfg0.win 6).blk t).view.read (Elt Ideal) (result m c) := by
  have hm : t.val % 16 = 15 := (flush0_6 t).mp hf
  rw [flushed6, block_eq m c t hm]
  obtain ⟨-, -, -, -, -, -, ⟨h0, h1⟩⟩ := tiles t
  funext j
  obtain ⟨r, d, rfl⟩ : ∃ (r : Fin 512) (d : Fin 2048), j = ix2 r d := ⟨j 0, j 1, eq_ix2 j⟩
  rw [View.read_apply]
  have ht : t.val < 256 := t.isLt
  have hr := r.isLt
  refine (stored_apply _ _ _ _ _ r d).trans (Eq.trans ?_ (result_at m c _ (t.val / 16 * 512 + r.val) d ?_ ?_).symm)
  rotate_left
  · show win0_6.index t 0 * 512 + 1 * r.val = _; rw [h0]; omega
  · show win0_6.index t 1 * 2048 + 1 * d.val = _; rw [h1]; omega
  unfold Combine.output
  refine congrArg₂ (fun u v : EReal => u + v) (congrArg₂ (fun u v : EReal => u * v) ?_ ?_) ?_
  · refine congrArg (fun f => normal f d) (funext fun k => ?_)
    unfold Combine.residual combined
    have e1 : (t.val / 16 * 512 + r.val) / 2048 = t.val / 64 := by omega
    have e2 : (t.val / 16 * 512 + r.val) % 2048 = t.val / 16 % 4 * 512 + r.val := by omega
    rw [block3, block4, acc_eq m c t.val t.isLt r k, hm, e1, e2]
  · exact (lnRow0_apply _ d).trans (block5 m c t 0 d)
  · exact (lnRow1_apply _ d).trans (block5 m c t 1 d)

/-- Every index of the result lies in the block of a last expert's point. -/
theorem covered (i : S8192x2048.Idx) : ∃ t : Fin cfg0.N, (cfg0.win 6).flush t = true ∧ i ∈ ((cfg0.win 6).blk t).view.set :=
  (covered_iff6 i).mpr ⟨Nat.zero_le _, (i 0).isLt, Nat.zero_le _, (i 1).isLt⟩

/-- The result array after the run is the layer's result. -/
theorem final_eq (c : Dev nD) : (dats m 0 c).arrAt 6 cfg0.N = result m c :=
  (dats m 0 c).arrAt_eq_of_cover 6 (result m c) (flushed_eq m c) covered

end Cert.CombineIdeal.Value

end
-- ==== Proof.CombineReference.lean ====
/-
  The combination's reference, read at an index.
-/
module

public import proofs.«01_k».proof.Proof.Gen.CombineRefIdeal.Read
public import proofs.«01_k».proof.Proof.Combine
public import Idealize.ShloMosaic.Lib.IdealHost
public import Idealize.ShloMosaic.Lib.ValueIdx
public import Idealize.ShloMosaic.Lib.Pipeline.Value

@[expose] public section

set_option maxRecDepth 16384

noncomputable section

namespace Cert.CombineRefIdeal.Read

open Cert.CombineRefIdeal Cert.CombineRefIdeal.Gen Idealize.ShloMosaic Idealize.ShloMosaic.ValueIdx Cert.Attention Cert.Moe Cert.PostNorm

section Gather
variable {α : Type} {A B N T D : ℕ}

/-- The dimension numbers of taking, for every pair of leading coordinates, the rows the third array of words names. -/
abbrev rowDims (wf : GatherDims.WF ⟨4, ![A, B, N, D]⟩ ⟨4, ![A, B, T, 1]⟩ ⟨4, ![A, B, T, D]⟩ [3] [2] [0, 1] [2] [0, 1] 3 ![1, 1, 1, D]) :
    GatherDims ⟨4, ![A, B, N, D]⟩ ⟨4, ![A, B, T, 1]⟩ ⟨4, ![A, B, T, D]⟩ where
  offsetDims := [3]
  collapsedSliceDims := [2]
  operandBatchingDims := [0, 1]
  startIndicesBatchingDims := [0, 1]
  startIndexMap := [2]
  indexVectorDim := 3
  sliceSizes := ![1, 1, 1, D]
  wf := wf

/-- A row taken under two leading coordinates, the word brought into the array's range. -/
theorem gather_rows (hN : 0 < N)
    (wf : GatherDims.WF ⟨4, ![A, B, N, D]⟩ ⟨4, ![A, B, T, 1]⟩ ⟨4, ![A, B, T, D]⟩ [3] [2] [0, 1] [2] [0, 1] 3 ![1, 1, 1, D])
    (x : (⟨4, ![A, B, N, D]⟩ : Shape).Idx → α) (w : IVec ⟨4, ![A, B, T, 1]⟩ 32) (a : Fin A) (b : Fin B) (t : Fin T) (d : Fin D) :
    Host.gather (rowDims wf) x w (ix4 a b t d)
      = x (ix4 a b (⟨min (w (ix4 a b t (0 : Fin 1))).toInt.toNat (N - 1), by omega⟩ : Fin N) d) := by
  unfold Host.gather
  refine congrArg x (funext fun c => Fin.ext ?_)
  show (rowDims wf).start (ix4 a b t d) w c + (rowDims wf).batchCoord (ix4 a b t d) c + (rowDims wf).offCoord (ix4 a b t d) c = _
  match c with
  | ⟨0, _⟩ =>
    rw [GatherDims.start_batching _ _ _ _ (by simp), GatherDims.offCoord_eq_zero _ _ _ (fun h => ((GatherDims.mem_sKept _ _).mp h).2 (by simp))]
    unfold GatherDims.batchCoord
    rw [dif_pos (by simp)]
    simp only [Nat.zero_add, Nat.add_zero]
    rfl
  | ⟨1, _⟩ =>
    rw [GatherDims.start_batching _ _ _ _ (by simp), GatherDims.offCoord_eq_zero _ _ _ (fun h => ((GatherDims.mem_sKept _ _).mp h).2 (by simp))]
    unfold GatherDims.batchCoord
    rw [dif_pos (by simp)]
    simp only [Nat.zero_add, Nat.add_zero]
    rfl
  | ⟨2, _⟩ =>
    rw [GatherDims.batchCoord_eq_zero _ _ _ (by simp), GatherDims.offCoord_eq_zero _ _ _ (fun h => ((GatherDims.mem_sKept _ _).mp h).1 (by simp))]
    unfold GatherDims.start
    rw [dif_pos (by simp)]
    have hs : (rowDims wf).siIdx (ix4 a b t d) ⟨List.idxOf (2 : Fin 4) (rowDims wf).startIndexMap, List.idxOf_lt_length_iff.2 (by simp)⟩
        = ix4 a b t (0 : Fin 1) := by
      funext z
      refine Fin.ext ?_
      match z with
      | ⟨0, _⟩ => rfl
      | ⟨1, _⟩ => rfl
      | ⟨2, _⟩ => rfl
      | ⟨3, _⟩ => rfl
    show min (w ((rowDims wf).siIdx (ix4 a b t d) ⟨List.idxOf (2 : Fin 4) (rowDims wf).startIndexMap, _⟩)).toInt.toNat _ + 0 + 0 = _
    rw [hs]
    rfl
  | ⟨3, _⟩ =>
    rw [GatherDims.batchCoord_eq_zero _ _ _ (by simp)]
    unfold GatherDims.start
    rw [dif_neg (by simp)]
    simp only [Nat.zero_add, Nat.add_zero]
    rfl

end Gather

/-- A choice by a word being in the range of an expert's rows. -/
theorem select_range (s : BitVec 32) (x y : EReal) :
    Scalar.select (IntOp.andi (IntOp.cmpi .sge s 0#32) (IntOp.cmpi .slt s 256#32)) x y = if s.toNat < 256 then x else y := by
  have h : IntOp.andi (IntOp.cmpi .sge s 0#32) (IntOp.cmpi .slt s 256#32) = BitVec.ofBool (decide (s.toNat < 256)) := by
    show BitVec.ofBool _ &&& BitVec.ofBool _ = _
    rw [show ∀ p q : Bool, BitVec.ofBool p &&& BitVec.ofBool q = BitVec.ofBool (p && q) from by decide]
    congr 1
    rw [Bool.eq_iff_iff]
    simp only [Bool.and_eq_true, decide_eq_true_eq, BitVec.sle_iff_toInt_le, BitVec.slt_iff_toInt_lt]
    have hc := BitVec.toInt_eq_toNat_cond s
    have := s.isLt
    show (0 : ℤ) ≤ _ ∧ _ < (256 : ℤ) ↔ _
    split_ifs at hc <;> omega
  rw [h]
  unfold Scalar.select
  by_cases hs : s.toNat < 256 <;> simp [hs]

/-- A word in the range of an expert's rows names its row. -/
theorem clamp_range (s : BitVec 32) (h : s.toNat < 256) : min s.toInt.toNat (256 - 1) = s.toNat := by
  rw [BitVec.toInt_eq_toNat_cond, if_pos (by omega)]
  omega

variable (x0 : S4x16x1x2048.Idx → BitVec 32) (x1 : S4x16x1x2048.Idx → EReal) (x2 : S16x1024x2048.Idx → EReal) (x3 : S8192x2048.Idx → EReal)
    (x4 : S4x1x2048.Idx → EReal) (x5 : S2x2048.Idx → EReal)

/-- The arguments, as the combination's inputs. -/
abbrev inputs : Combine.Inputs := ⟨x0, x1, x2, x3, x4, x5⟩

/-- The tokens' rows without the unit axis. -/
theorem slots (i : S4x16x2048.Idx) : val_main_v0 (F := Ideal) x0 i = Combine.word4 x0 (i 0) (i 1) 0 (i 2) := by
  have h0 : (i 0).val < 4 := (i 0).isLt; have h1 : (i 1).val < 16 := (i 1).isLt; have h2 : (i 2).val < 2048 := (i 2).isLt
  rw [val_main_v0_apply]
  refine Combine.eq_word4 x0 _ _ _ _ _ ?_ ?_ rfl ?_
  · show (((i 0).val * 16 + (i 1).val) * 2048 + (i 2).val) / 32768 = _; omega
  · show (((i 0).val * 16 + (i 1).val) * 2048 + (i 2).val) / 2048 % 16 = _; omega
  · show (((i 0).val * 16 + (i 1).val) * 2048 + (i 2).val) % 2048 = _; omega

/-- The tokens' weights without the unit axis. -/
theorem weights (i : S4x16x2048.Idx) : val_main_v1 (F := Ideal) x1 i = entry4 x1 (i 0) (i 1) 0 (i 2) := by
  have h0 : (i 0).val < 4 := (i 0).isLt; have h1 : (i 1).val < 16 := (i 1).isLt; have h2 : (i 2).val < 2048 := (i 2).isLt
  rw [val_main_v1_apply]
  refine eq_entry4 x1 _ _ _ _ _ ?_ ?_ rfl ?_
  · show (((i 0).val * 16 + (i 1).val) * 2048 + (i 2).val) / 32768 = _; omega
  · show (((i 0).val * 16 + (i 1).val) * 2048 + (i 2).val) / 2048 % 16 = _; omega
  · show (((i 0).val * 16 + (i 1).val) * 2048 + (i 2).val) % 2048 = _; omega

/-- The experts' rows, by sequence. -/
theorem rows (i : S4x16x256x2048.Idx) : val_main_v4 (F := Ideal) x2 i = entry3 x2 (i 1) ((i 0).val * 256 + (i 2).val) (i 3) := by
  have h0 : (i 0).val < 4 := (i 0).isLt; have h1 : (i 1).val < 16 := (i 1).isLt; have h2 : (i 2).val < 256 := (i 2).isLt
  have h3 : (i 3).val < 2048 := (i 3).isLt
  rw [val_main_v4_apply, val_main_v3_apply, val_main_v2_apply]
  refine eq_entry3 x2 _ _ _ _ ?_ ?_ ?_
  · show ((((i 1).val * 4 + (i 0).val) * 256 + (i 2).val) * 2048 + (i 3).val) / 2097152 = _; omega
  · show ((((i 1).val * 4 + (i 0).val) * 256 + (i 2).val) * 2048 + (i 3).val) / 2048 % 1024 = _; omega
  · show ((((i 1).val * 4 + (i 0).val) * 256 + (i 2).val) * 2048 + (i 3).val) % 2048 = _; omega

/-- What an expert gives a token. -/
theorem picked_eq (b : Fin 4) (e : Fin 16) (t : Fin 2048) (d : Fin 2048) :
    val_main_v15 (F := Ideal) x0 x1 x2 (ix4 b e t d) = Combine.picked (inputs x0 x1 x2 x3 x4 x5) b e t d := by
  rw [val_main_v15_apply, val_main_call1_v1_apply, val_main_v11_apply, val_main_v10_apply, val_main_v7_apply, val_main_v9_apply,
    val_main_v6_apply, val_main_v8_apply, val_main_c_apply, val_main_c_0_apply, select_range, slots]
  unfold Combine.picked
  refine (if_congr Iff.rfl rfl ?_).trans (ite_congr rfl (fun h => ?_) fun _ => rfl)
  · rw [val_main_call1_v2_apply, val_main_call1_v0_apply, val_main_cst_apply]
    exact Ideal.ofBits_zero_f32
  · rw [val_main_v14_apply, val_main_v13_apply, val_main_v12_apply, weights]
    refine (mul_comm (_ : EReal) _).trans (congrArg (entry4 x1 b e 0 t * ·) ?_)
    unfold val_main_v5
    refine (gather_rows (A := 4) (B := 16) (N := 256) (T := 2048) (D := 2048) (by decide) _ _ _ b e t d).trans ?_
    have hw : val_main_call0_v0 (F := Ideal) x0 (ix4 b e t (0 : Fin 1)) = Combine.word4 x0 b e 0 t := by
      rw [val_main_call0_v0_apply, slots]
    rw [rows]
    exact congrArg (fun n => entry3 x2 e (b.val * 256 + n) d)
      ((congrArg (fun s : BitVec 32 => min s.toInt.toNat (256 - 1)) hw).trans (clamp_range _ h))

/-- What the experts together give a token. -/
theorem combined_eq (i : S4x2048x2048.Idx) :
    val_main_v16 (F := Ideal) x0 x1 x2 i = Combine.combined (inputs x0 x1 x2 x3 x4 x5) (i 0) (i 1) (i 2) := by
  rw [val_main_v16_apply, val_main_cst_1_apply]
  refine (congrArg (fun z : EReal => z + _) Ideal.ofBits_zero_f32).trans ((zero_add _).trans (Eq.trans ?_ (Finset.sum_range _).symm))
  refine Finset.sum_congr rfl fun e _ => Eq.trans (congrArg _ ?_) (picked_eq x0 x1 x2 x3 x4 x5 (i 0) e (i 1) (i 2))
  exact eq_ix4 _

/-- The residual stream with the experts' part added. -/
theorem residual_eq (i : S4x2048x2048.Idx) :
    val_main_v29 (F := Ideal) x0 x1 x2 x3 x4 i = Combine.residual (inputs x0 x1 x2 x3 x4 x5) ((i 0).val * 2048 + (i 1).val) (i 2) := by
  have h1 : (i 1).val < 2048 := (i 1).isLt; have h2 : (i 2).val < 2048 := (i 2).isLt
  have e0 : ((i 0).val * 2048 + (i 1).val) / 2048 = (i 0).val := by omega
  have e1 : ((i 0).val * 2048 + (i 1).val) % 2048 = (i 1).val := by omega
  unfold Combine.residual
  rw [val_main_v29_apply, val_main_v26_apply, val_main_v28_apply, val_main_v25_apply, val_main_v23_apply, val_main_v22_apply,
    val_main_cst_2_apply, val_main_v17_apply, val_main_v27_apply, combined_eq x0 x1 x2 x3 x4 x5, e0, e1]
  refine congrArg₂ (fun u v : EReal => u + v) (congrArg₂ (fun u v : EReal => u * v) alpha_host ?_) (congrArg (fun u : EReal => u * _) ?_)
  · refine eq_entry x3 _ _ _ ?_ ?_
    · show (((i 0).val * 2048 + (i 1).val) * 2048 + (i 2).val) / 2048 = _; omega
    · show (((i 0).val * 2048 + (i 1).val) * 2048 + (i 2).val) % 2048 = _; omega
  · exact eq_entry3 x4 _ _ _ _ rfl rfl rfl

/-- The row of the residual stream an index lies in. -/
abbrev row (b t : ℕ) : Fin 2048 → EReal := fun k => Combine.residual (inputs x0 x1 x2 x3 x4 x5) (b * 2048 + t) k

/-- The rows' means. -/
theorem mean_eq (i : S4x2048x1.Idx) : val_main_v33 (F := Ideal) x0 x1 x2 x3 x4 i = mean (row x0 x1 x2 x3 x4 x5 (i 0) (i 1)) := by
  rw [val_main_v33_apply, val_main_v31_apply, val_main_v30_apply, val_main_v32_apply, val_main_cst_6_apply, val_main_cst_5_apply]
  refine congrArg₂ Ideal.div ((congrArg (fun z : EReal => z + _) Ideal.ofBits_zero_f32).trans ((zero_add _).trans ?_)) rfl
  exact Finset.sum_congr rfl fun k _ => residual_eq x0 x1 x2 x3 x4 x5 _

/-- The rows without their means. -/
theorem centred_eq (i : S4x2048x2048.Idx) : val_main_v35 (F := Ideal) x0 x1 x2 x3 x4 i
    = row x0 x1 x2 x3 x4 x5 (i 0) (i 1) (i 2) - mean (row x0 x1 x2 x3 x4 x5 (i 0) (i 1)) := by
  rw [val_main_v35_apply, residual_eq x0 x1 x2 x3 x4 x5, val_main_v34_apply, mean_eq x0 x1 x2 x3 x4 x5]
  rfl

/-- The rows' variances. -/
theorem variance_eq (i : S4x2048x1.Idx) : val_main_v40 (F := Ideal) x0 x1 x2 x3 x4 i = variance (row x0 x1 x2 x3 x4 x5 (i 0) (i 1)) := by
  rw [val_main_v40_apply, val_main_v38_apply, val_main_v37_apply, val_main_v39_apply, val_main_cst_8_apply, val_main_cst_7_apply]
  refine congrArg₂ Ideal.div ((congrArg (fun z : EReal => z + _) Ideal.ofBits_zero_f32).trans ((zero_add _).trans ?_)) rfl
  refine Finset.sum_congr rfl fun k _ => ?_
  rw [val_main_v36_apply, centred_eq x0 x1 x2 x3 x4 x5]
  rfl

/-- The rows brought to mean zero and variance one. -/
theorem normal_eq (i : S4x2048x2048.Idx) :
    val_main_v47 (F := Ideal) x0 x1 x2 x3 x4 i = normal (row x0 x1 x2 x3 x4 x5 (i 0) (i 1)) (i 2) := by
  rw [val_main_v47_apply, val_main_v42_apply, residual_eq x0 x1 x2 x3 x4 x5, val_main_v41_apply, mean_eq x0 x1 x2 x3 x4 x5,
    val_main_v46_apply, val_main_v45_apply, val_main_v44_apply, variance_eq x0 x1 x2 x3 x4 x5, val_main_v43_apply, val_main_v24_apply,
    val_main_cst_3_apply, val_main_cst_4_apply]
  exact congrArg (fun z : EReal => (row x0 x1 x2 x3 x4 x5 (i 0) (i 1) (i 2) - mean (row x0 x1 x2 x3 x4 x5 (i 0) (i 1)))
    * Ideal.rsqrt (variance (row x0 x1 x2 x3 x4 x5 (i 0) (i 1)) + z)) eps_host

/-- The norm's first row of parameters, repeated over the rows. -/
theorem scale_eq (i : S4x2048x2048.Idx) : val_main_v49 (F := Ideal) x5 i = entry x5 0 (i 2) := by
  have h2 : (i 2).val < 2048 := (i 2).isLt
  rw [val_main_v49_apply, val_main_v48_apply, val_main_v19_apply, val_main_v18_apply]
  exact eq_entry x5 _ _ _ rfl (by show (i 2).val % 2048 = _; omega)

/-- The norm's second row of parameters, repeated over the rows. -/
theorem shift_eq (i : S4x2048x2048.Idx) : val_main_v52 (F := Ideal) x5 i = entry x5 1 (i 2) := by
  have h2 : (i 2).val < 2048 := (i 2).isLt
  rw [val_main_v52_apply, val_main_v51_apply, val_main_v21_apply, val_main_v20_apply]
  exact eq_entry x5 _ _ _ rfl (by show (i 2).val % 2048 = _; omega)

/-- The reference's result is the layer's result. -/
theorem result_eq (n d : Fin _) :
    val_main_v54 (F := Ideal) x0 x1 x2 x3 x4 x5 (ix2 (n : Fin 8192) (d : Fin 2048)) = Combine.output (inputs x0 x1 x2 x3 x4 x5) n d := by
  have hn := n.isLt; have hd := d.isLt
  have e0 : (n.val * 2048 + d.val) / 4194304 * 2048 + (n.val * 2048 + d.val) / 2048 % 2048 = n.val := by omega
  have e2 : (n.val * 2048 + d.val) % 2048 = d.val := by omega
  have hr : row x0 x1 x2 x3 x4 x5 ((n.val * 2048 + d.val) / 4194304) ((n.val * 2048 + d.val) / 2048 % 2048)
      = fun k : Fin 2048 => Combine.residual (inputs x0 x1 x2 x3 x4 x5) n k :=
    funext fun k => congrArg (fun z => Combine.residual (inputs x0 x1 x2 x3 x4 x5) z k) e0
  rw [val_main_v54_apply, val_main_v53_apply, val_main_v50_apply, normal_eq x0 x1 x2 x3 x4 x5, scale_eq, shift_eq]
  unfold Combine.output
  refine congrArg₂ (fun u v : EReal => u + v) (congrArg₂ (fun u v : EReal => u * v) ?_ (congrArg (entry x5 0) e2)) (congrArg (entry x5 1) e2)
  exact congrArg₂ (fun f (z : Fin 2048) => normal f z) hr (Fin.ext e2)

end Cert.CombineRefIdeal.Read

end
-- ==== Proof.Rope.lean ====
/-
  The rotary input projection, spelt on entries of its four arguments.
-/
module

public import proofs.«01_k».proof.Proof.Attention
public import Idealize.ShloMosaic.Lib.IdealHost

@[expose] public section

set_option maxRecDepth 16384

noncomputable section

namespace Cert.Rope

open Idealize.ShloMosaic Cert.Attention

/-- The arguments: the modulated rows, the projection, and the cosines and sines of the rotary angles. -/
structure Inputs where
  /-- The modulated rows. -/
  u : (⟨2, ![8192, 2048]⟩ : Shape).Idx → EReal
  /-- The projection. -/
  w : (⟨2, ![2048, 5888]⟩ : Shape).Idx → EReal
  /-- The cosines, by position and pair. -/
  cs : (⟨2, ![2048, 32]⟩ : Shape).Idx → EReal
  /-- The sines. -/
  sn : (⟨2, ![2048, 32]⟩ : Shape).Idx → EReal

/-- A rotated lane: 32 pairs, the second halves of the pairs 32 lanes after the first ones; zero from lane 64 on. -/
def turn (h cs sn : ℕ → EReal) (t : ℕ) : EReal :=
  if t < 32 then h t * cs t - h (t + 32) * sn t
  else if t < 64 then h t * cs (t - 32) + h (t - 32) * sn (t - 32)
  else 0

/-- The first table's lane: the cosines twice, then zeros. -/
def tableA (cs : ℕ → EReal) (t : ℕ) : EReal := if t < 32 then cs t else if t < 64 then cs (t - 32) else 0
/-- The second table's lane: the sines negated, then zeros. -/
def tableB (sn : ℕ → EReal) (t : ℕ) : EReal := if t < 32 then -sn t else 0
/-- The third table's lane: zeros, the sines, zeros. -/
def tableC (sn : ℕ → EReal) (t : ℕ) : EReal := if t < 32 then 0 else if t < 64 then sn (t - 32) else 0

/-- Three products with the tables, of the lane itself, the lane 32 after it and the lane 32 before it, are the rotation. -/
theorem turn_eq (h cs sn : ℕ → EReal) (t : ℕ) (ht : t < 128) :
    h t * tableA cs t + h ((t + 128 - 96) % 128) * tableB sn t + h ((t + 128 - 32) % 128) * tableC sn t = turn h cs sn t := by
  unfold turn tableA tableB tableC
  by_cases a : t < 32
  · rw [if_pos a, if_pos a, if_pos a, if_pos a, mul_zero, add_zero, show (t + 128 - 96) % 128 = t + 32 by omega, mul_neg, sub_eq_add_neg]
  · rw [if_neg a, if_neg a, if_neg a, if_neg a, mul_zero, add_zero]
    by_cases e : t < 64
    · rw [if_pos e, if_pos e, if_pos e, show (t + 128 - 32) % 128 = t - 32 by omega]
    · rw [if_neg e, if_neg e, if_neg e, mul_zero, mul_zero, add_zero]

/-- The rotation depends on the lanes it reads only. -/
theorem turn_congr {h h' cs cs' sn sn' : ℕ → EReal} (t : ℕ) (hh : ∀ t, t < 64 → h t = h' t) (hc : ∀ t, t < 32 → cs t = cs' t)
    (hs : ∀ t, t < 32 → sn t = sn' t) : turn h cs sn t = turn h' cs' sn' t := by
  unfold turn
  by_cases a : t < 32
  · rw [if_pos a, if_pos a, hh t (by omega), hh (t + 32) (by omega), hc t a, hs t a]
  · rw [if_neg a, if_neg a]
    by_cases e : t < 64
    · rw [if_pos e, if_pos e, hh t e, hh (t - 32) (by omega), hc (t - 32) (by omega), hs (t - 32) (by omega)]
    · rw [if_neg e, if_neg e]

/-- The scale of the rotary heads' queries. -/
def mlaScale : EReal := ((Real.sqrt 192)⁻¹ : ℝ)
/-- The scale of the neighbourhood heads' queries. -/
def naScale : EReal := ((Real.sqrt 128)⁻¹ : ℝ)

variable (x : Inputs)

/-- The projection's product. -/
def prod (r c : ℕ) : EReal := ∑ k : Fin 2048, entry x.u r k * entry x.w k c

/-- A lane of a tile's rotated half. -/
def turned (r j t : ℕ) : EReal :=
  turn (fun t => prod x r (j * 256 + 128 + t)) (entry x.cs (r % 2048)) (entry x.sn (r % 2048)) t

/-- A lane of a tile of 256 columns: the eight heads' queries (tiles 0 to 7) and the shared key (tile 10) are rotated in
    their second half, queries are scaled, the rest is the product. -/
def tile (r j l : ℕ) : EReal :=
  if j < 8 ∨ j = 10 then (if l < 128 then prod x r (j * 256 + l) else turned x r j (l - 128)) * (if j < 8 then mlaScale else 1)
  else prod x r (j * 256 + l) * (if 11 ≤ j ∧ j < 15 then naScale else 1)

/-- The result: row and column. -/
def rotated (r c : ℕ) : EReal := tile x r (c / 256) (c % 256)

/-- The word for 192. -/
theorem word192 : Ideal.ofBits .f32 0x43400000#32 = ((192 : ℝ) : EReal) := by
  simp [Ideal.ofBits, Ideal.ieee]
  rw [← EReal.coe_mul]
  norm_num

/-- The word for 128. -/
theorem word128 : Ideal.ofBits .f32 0x43000000#32 = ((128 : ℝ) : EReal) := by
  simp [Ideal.ofBits, Ideal.ieee]
  rw [← EReal.coe_mul]
  norm_num

/-- Dividing by the root of 192 is the first scale. -/
theorem div192 (z : EReal) : Ideal.div z (Ideal.sqrt (Ideal.ofBits .f32 0x43400000#32)) = z * mlaScale := by
  rw [word192, Ideal.sqrt_coe, if_neg (by norm_num), Ideal.div_coe (Real.sqrt_ne_zero'.mpr (by norm_num))]
  first | rfl | (unfold mlaScale; rw [one_div])

/-- Dividing by the root of 128 is the second scale. -/
theorem div128 (z : EReal) : Ideal.div z (Ideal.sqrt (Ideal.ofBits .f32 0x43000000#32)) = z * naScale := by
  rw [word128, Ideal.sqrt_coe, if_neg (by norm_num), Ideal.div_coe (Real.sqrt_ne_zero'.mpr (by norm_num))]
  first | rfl | (unfold naScale; rw [one_div])

end Cert.Rope

end
-- ==== Proof.RopeTiles.lean ====
/-
  The rotary projection's body: what its stores leave in the output block.
-/
module

public import proofs.«01_k».proof.Proof.Gen.RopeIdeal.Value
public import proofs.«01_k».proof.Proof.Rope
public import proofs.«01_k».proof.Proof.CombineTiles
public import Idealize.ShloMosaic.Lib.MatmulPlain
public import Idealize.ShloMosaic.Lib.ValueIdx
public import Idealize.ShloMosaic.Lib.ValueLayoutCasts
public import Idealize.ShloMosaic.Lib.IdealHost
public import Idealize.ShloMosaic.Lib.KernelVsHost
public import Idealize.ShloMosaic.Lib.Pipeline.Value
public import Idealize.ShloMosaic.Lib.Pipeline.FrameBody

@[expose] public section

set_option maxRecDepth 16384

noncomputable section

namespace Cert.RopeIdeal.Value

open Idealize.ShloMosaic hiding ix1 ix2 ix3 ix4 eq_ix2 eq_ix3 eq_ix4
open Cert.RopeIdeal Cert.RopeIdeal.Gen Idealize.ShloMosaic.TcCoe Idealize.ShloMosaic.Tactic Idealize.SL.Sem
open Idealize.ShloMosaic.ValueIdx Cert.Attention Cert.Rope
open Cert.CombineIdeal.Value (hz2)

/-- A column coordinate below 8, as the kernel compares it. -/
theorem below8 : ∀ n : Fin 23, Scalar.cmpi .slt (BitVec.ofNat 32 n.val) 8#32 = if n.val < 8 then 1#1 else 0#1 := by decide
/-- A column coordinate from 11 to 14. -/
theorem between : ∀ n : Fin 23, Scalar.andi (Scalar.cmpi .sge (BitVec.ofNat 32 n.val) 11#32) (Scalar.cmpi .slt (BitVec.ofNat 32 n.val) 15#32)
    = if 11 ≤ n.val ∧ n.val < 15 then 1#1 else 0#1 := by decide

/-- A choice by a bit that spells a condition. -/
theorem select_of {p : Prop} [Decidable p] (v : BitVec 1) (h : v = if p then 1#1 else 0#1) (x y : EReal) :
    Scalar.select v x y = if p then x else y := by
  subst h
  by_cases h : p
  · rw [if_pos h, if_pos h]; rfl
  · rw [if_neg h, if_neg h]; rfl

/-- The rotary tiles' scale. -/
theorem scaleA (i : grid0.Coords) : (k0_pay2 (F := Ideal) i : EReal) = if (i 1).val < 8 then mlaScale else 1 := by
  unfold k0_pay2
  refine (select_of _ (below8 (i 1)) _ _).trans ?_
  refine if_congr Iff.rfl rfl ?_
  exact Ideal.ofBits_one_f32

/-- A block of the product. -/
def blk (x0 : Vec Ideal S1024x2048 .bf16) (x1 : Vec Ideal S2048x256 .bf16) (r l : ℕ) : EReal :=
  ∑ k : Fin 2048, entry x0 r k * entry x1 k l

/-- The body's product. -/
theorem product_apply (x0 : Vec Ideal S1024x2048 .bf16) (x1 : Vec Ideal S2048x256 .bf16) (r : Fin 1024) (l : Fin 256) :
    (k0_pay1 x0 x1 (ix2 r l) : EReal) = blk x0 x1 r l := by
  unfold k0_pay1
  refine (Ideal.matmul_plain_apply (M := 1024) (K := 2048) (N := 256) none x0 x1 _ r l).trans ?_
  rw [constant_apply, Ideal.ofBits_zero_f32, zero_add]
  exact Finset.sum_congr rfl fun k _ => congrArg₂ (fun u v : EReal => u * v) (eq_entry x0 _ _ _ rfl rfl) (eq_entry x1 _ _ _ rfl rfl)

/-- The second half of the product's lanes. -/
theorem half_apply (x0 : Vec Ideal S1024x2048 .bf16) (x1 : Vec Ideal S2048x256 .bf16) (r : Fin 1024) (t : Fin 128) :
    (extractStridedSlice S1024x128 ![0, 128] (k0_pay1 x0 x1) slices_S1024x256_o0_128_S1024x128 (ix2 r t) : EReal) = blk x0 x1 r (128 + t.val) := by
  refine (extractStridedSlice_apply ![0, 128] _ _ (ix2 r t) (ix2 r (⟨128 + t.val, by omega⟩ : Fin 256)) fun a => ?_).trans (product_apply x0 x1 r _)
  match a with
  | ⟨0, _⟩ => exact (Nat.zero_add _).symm
  | ⟨1, _⟩ => rfl

/-- The first half of a block's lanes. -/
theorem low_lanes (x : S1024x256.Idx → EReal) (h : S1024x256.Slices ![0, 0] S1024x128) (r : Fin 1024) (l : Fin 128) (l' : Fin 256) (hl : l'.val = l.val) :
    extractStridedSlice S1024x128 ![0, 0] x h (ix2 r l) = x (ix2 r l') := by
  refine extractStridedSlice_apply ![0, 0] x h (ix2 r l) (ix2 r l') fun a => ?_
  match a with
  | ⟨0, _⟩ => show r.val = 0 + r.val; omega
  | ⟨1, _⟩ => show l'.val = 0 + l.val; omega

/-- The first half of the product's lanes. -/
theorem low_half (x0 : Vec Ideal S1024x2048 .bf16) (x1 : Vec Ideal S2048x256 .bf16) (r : Fin 1024) (l : Fin 128) :
    (extractStridedSlice S1024x128 ![0, 0] (k0_pay1 x0 x1) slices_S1024x256_o0_0_S1024x128 (ix2 r l) : EReal) = blk x0 x1 r l.val := by
  have h := product_apply x0 x1 r (⟨l.val, by omega⟩ : Fin 256)
  rw [low_lanes _ _ r l (⟨l.val, by omega⟩ : Fin 256) rfl, h]

/-- A rotation of the second half by some lanes. -/
theorem roll_apply (x0 : Vec Ideal S1024x2048 .bf16) (x1 : Vec Ideal S2048x256 .bf16) (n : BitVec 32) (k : ℕ) (hk : n.toNat % 128 = k) (r : Fin 1024) (t : Fin 128) :
    (dynamicRotate 1 n none (extractStridedSlice S1024x128 ![0, 128] (k0_pay1 x0 x1) slices_S1024x256_o0_128_S1024x128) rotates_S1024x128_d1 (ix2 r t) : EReal)
      = blk x0 x1 r (128 + (t.val + 128 - k) % 128) := by
  refine (dynamicRotate_apply 1 n _ _ (ix2 r t) (ix2 r (⟨(t.val + 128 - k) % 128, by omega⟩ : Fin 128)) fun a => ?_).trans (half_apply x0 x1 r _)
  match a with
  | ⟨0, _⟩ => rfl
  | ⟨1, _⟩ =>
    show (t.val + 128 - k) % 128 = (t.val + 128 - n.toNat % 128) % 128
    rw [hk]

/-- A rotary tile's lane, from the blocks of the arguments and the tables. -/
def laneA (x0 : Vec Ideal S1024x2048 .bf16) (x1 : Vec Ideal S2048x256 .bf16) (x2 x3 x4 : Vec Ideal S1024x128 .f32) (f : EReal) (r l : ℕ) : EReal :=
  (if l < 128 then blk x0 x1 r l
    else blk x0 x1 r l * entry x2 r (l - 128) + blk x0 x1 r (128 + (l - 128 + 128 - 96) % 128) * entry x3 r (l - 128)
      + blk x0 x1 r (128 + (l - 128 + 128 - 32) % 128) * entry x4 r (l - 128)) * f

/-- An entry of a product of two vectors. -/
theorem mul_at {s : Shape} (a b : FVec Ideal s .f32) (y : s.Idx) {u v : EReal} (ha : (a y : EReal) = u) (hb : (b y : EReal) = v) :
    (mulf a b y : EReal) = u * v := congrArg₂ (fun u v : EReal => u * v) ha hb
/-- An entry of a sum of two vectors. -/
theorem add_at {s : Shape} (a b : FVec Ideal s .f32) (y : s.Idx) {u v : EReal} (ha : (a y : EReal) = u) (hb : (b y : EReal) = v) :
    (addf a b y : EReal) = u + v := congrArg₂ (fun u v : EReal => u + v) ha hb

/-- An entry of a vector stored in the narrow format. -/
theorem trunc_at {s : Shape} (a : FVec Ideal s .f32) (y : s.Idx) {u : EReal} (ha : (a y : EReal) = u) :
    (truncf .bf16 a bitsLt_bf16_f32 y : EReal) = u := ha

/-- The first half of a rotary tile. -/
theorem low_apply (i : grid0.Coords) (x0 : Vec Ideal S1024x2048 .bf16) (x1 : Vec Ideal S2048x256 .bf16) (r : Fin 1024) (l : Fin 128) :
    (k0_pay3 i x0 x1 (ix2 r l) : EReal) = blk x0 x1 r l * (if (i 1).val < 8 then mlaScale else 1) := by
  unfold k0_pay3
  exact trunc_at _ _ (mul_at _ _ _ (low_half x0 x1 r l) (scaleA i))

/-- The second half of a rotary tile. -/
theorem high_apply (i : grid0.Coords) (x0 : Vec Ideal S1024x2048 .bf16) (x1 : Vec Ideal S2048x256 .bf16) (x2 x3 x4 : Vec Ideal S1024x128 .f32) (r : Fin 1024) (t : Fin 128) :
    (k0_pay4 i x0 x1 x2 x3 x4 (ix2 r t) : EReal)
      = (blk x0 x1 r (128 + t.val) * entry x2 r t + blk x0 x1 r (128 + (t.val + 128 - 96) % 128) * entry x3 r t
          + blk x0 x1 r (128 + (t.val + 128 - 32) % 128) * entry x4 r t) * (if (i 1).val < 8 then mlaScale else 1) := by
  unfold k0_pay4
  exact trunc_at _ _ (mul_at _ _ _ (add_at _ _ _ (add_at _ _ _
    (mul_at _ _ _ (half_apply x0 x1 r t) ((congrFun (shapeCast_self x2 _) _).trans (eq_entry x2 _ _ _ rfl rfl)))
    (mul_at _ _ _ (roll_apply x0 x1 96#32 96 (by decide) r t) ((congrFun (shapeCast_self x3 _) _).trans (eq_entry x3 _ _ _ rfl rfl))))
    (mul_at _ _ _ (roll_apply x0 x1 32#32 32 (by decide) r t) ((congrFun (shapeCast_self x4 _) _).trans (eq_entry x4 _ _ _ rfl rfl)))) (scaleA i))

/-- A tile that is not rotated: the product, scaled for the neighbourhood queries. -/
theorem plain_apply (i : grid0.Coords) (x0 : Vec Ideal S1024x2048 .bf16) (x1 : Vec Ideal S2048x256 .bf16) (r : Fin 1024) (l : Fin 256) :
    (k0_pay5 i x0 x1 (ix2 r l) : EReal) = blk x0 x1 r l * (if 11 ≤ (i 1).val ∧ (i 1).val < 15 then naScale else 1) := by
  unfold k0_pay5
  refine congrArg₂ (fun u v : EReal => u * v) (product_apply x0 x1 r l) ?_
  refine (select_of _ (between (i 1)) _ _).trans ?_
  exact if_congr Iff.rfl rfl Ideal.ofBits_one_f32

section
variable (c : Dev nD) (i : grid0.Coords) (arg2 : Memref sig .tc .vmem S1024x2048 .bf16) (harg2 : arg2.IsWhole) (arg3 : Memref sig .tc .vmem S2048x256 .bf16) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S1024x256 .bf16) (harg7 : arg7.IsWhole)
    (x0 : Vec Ideal S1024x2048 .bf16) (x1 : Vec Ideal S2048x256 .bf16) (x2 x3 x4 : Vec Ideal S1024x128 .f32)

/-- A rotary tile's two stores spell its lanes. -/
theorem outA (hc0 : cond0_0 i) (hc1 : ¬ cond0_1 i) (y : S1024x256.Idx) :
    (out0_A_5 c i arg2 harg2 arg3 harg3 arg4 harg4 arg5 harg5 arg6 harg6 arg7 harg7 hc0 hc1 x0 x1 x2 x3 x4 y : EReal) = laneA x0 x1 x2 x3 x4 (if (i 1).val < 8 then mlaScale else 1) (y 0) (y 1) := by
  have hcov := cover0_A_5 c i arg2 harg2 arg3 harg3 arg4 harg4 arg5 harg5 arg6 harg6 arg7 harg7 hc0 hc1 x0 x1 x2 x3 x4
  unfold out0_A_5
  rw [View.read_writes_eq_canon _ _ _ hcov]
  refine View.canon_apply_of_pieces (fun y : S1024x256.Idx => laneA x0 x1 x2 x3 x4 (if (i 1).val < 8 then mlaScale else 1) (y 0) (y 1)) _ ?_ y (hcov y)
  unfold kernelRun0_A
  dsimp only
  sl_unfold_words
  simp only [List.forall_mem_cons, View.readAt_eq_ld, harg2.read_unread, harg3.read_unread, harg4.read_unread, harg5.read_unread, harg6.read_unread,
    View.ld_unit_zero (S := S1024x2048) hz2, View.ld_unit_zero (S := S2048x256) hz2, View.ld_unit_zero (S := S1024x128) hz2]
  refine ⟨fun x => ?_, fun x => ?_, fun p hp => absurd hp List.not_mem_nil⟩
  · obtain ⟨r, t, rfl⟩ : ∃ (r : Fin 1024) (t : Fin 128), x = ix2 r t := ⟨x 0, x 1, eq_ix2 x⟩
    show k0_pay4 i x0 x1 x2 x3 x4 (ix2 r t) = laneA x0 x1 x2 x3 x4 _ (0 + 1 * r.val) (128 + 1 * t.val)
    rw [show 0 + 1 * r.val = r.val by omega, show 128 + 1 * t.val = 128 + t.val by omega]
    refine (high_apply i x0 x1 x2 x3 x4 r t).trans ?_
    unfold laneA
    rw [if_neg (show ¬ 128 + t.val < 128 by omega), Nat.add_sub_cancel_left]
  · obtain ⟨r, l, rfl⟩ : ∃ (r : Fin 1024) (l : Fin 128), x = ix2 r l := ⟨x 0, x 1, eq_ix2 x⟩
    show k0_pay3 i x0 x1 (ix2 r l) = laneA x0 x1 x2 x3 x4 _ (0 + 1 * r.val) (0 + 1 * l.val)
    rw [show 0 + 1 * r.val = r.val by omega, show 0 + 1 * l.val = l.val by omega]
    refine (low_apply i x0 x1 r l).trans ?_
    unfold laneA
    rw [if_pos l.isLt]

/-- Another tile's store. -/
theorem outB (hc0 : ¬ cond0_0 i) (hc1 : cond0_1 i) :
    out0_B_5 c i arg2 harg2 arg3 harg3 arg4 harg4 arg5 harg5 arg6 harg6 arg7 harg7 hc0 hc1 x0 x1 x2 x3 x4 = k0_pay5 i x0 x1 := by
  unfold out0_B_5
  rw [View.read_writes_eq_canon _ _ _ (cover0_B_5 c i arg2 harg2 arg3 harg3 arg4 harg4 arg5 harg5 arg6 harg6 arg7 harg7 hc0 hc1 x0 x1 x2 x3 x4)]
  unfold kernelRun0_B
  dsimp only
  sl_unfold_words
  rw [View.canon_unit_zero hz2]
  simp only [View.readAt_eq_ld, harg2.read_unread, harg3.read_unread, harg4.read_unread, harg5.read_unread, harg6.read_unread,
    View.ld_unit_zero (S := S1024x2048) hz2, View.ld_unit_zero (S := S2048x256) hz2, View.ld_unit_zero (S := S1024x128) hz2]

end

end Cert.RopeIdeal.Value

end
-- ==== Proof.RopeValue.lean ====
/-
  The rotary projection's run: what it leaves in its result array.
-/
module

public import proofs.«01_k».proof.Proof.RopeTiles

@[expose] public section

set_option maxRecDepth 16384

noncomputable section

namespace Cert.RopeIdeal.Value

open Idealize.ShloMosaic hiding ix1 ix2 ix3 ix4 eq_ix2 eq_ix3 eq_ix4
open Cert.RopeIdeal Cert.RopeIdeal.Gen Idealize.ShloMosaic.TcCoe Idealize.SL.Sem
open Idealize.ShloMosaic.ValueIdx Cert.Attention Cert.Rope
open Idealize.ShloMosaic.Pipeline (Dat)

variable (m : (ℓ : Loc nD τ sig) → Buf (Elt Ideal) ℓ) (ρ : Dev nD → PrngReg)

/-- The arguments, as the projection's inputs. -/
abbrev inputs (c : Dev nD) : Rope.Inputs :=
  ⟨m ((c : Thread nD τ).loc main_arg0), m ((c : Thread nD τ).loc main_arg1), m ((c : Thread nD τ).loc main_arg2),
    m ((c : Thread nD τ).loc main_arg3)⟩

/-- Three arrays side by side, the third one zero. -/
theorem three (p q : S2048x32.Idx → EReal) (z : S2048x64.Idx → EReal) (hz : ∀ i, z i = 0) (R : Fin 2048) (l : Fin 128) :
    concatenate S2048x128 1 [⟨S2048x32, p⟩, ⟨S2048x32, q⟩, ⟨S2048x64, z⟩] concatenates_S2048x32_S2048x32_S2048x64_S2048x128_d1 (ix2 R l)
      = if l.val < 32 then entry p R l else if l.val < 64 then entry q R (l - 32) else 0 := by
  have hl := l.isLt
  by_cases h1 : l.val < 32
  · rw [if_pos h1]
    exact (concatenate_apply_piece (t := S2048x128) 1 _ _ (ix2 R l) 0 (by simp) S2048x32 p rfl rfl 0 rfl (ix2 R (⟨l.val, h1⟩ : Fin 32))
      (fun a => match a with | ⟨0, _⟩ => fun _ => rfl | ⟨1, _⟩ => fun h => absurd rfl h) (Nat.zero_add _)).trans (eq_entry p _ _ _ rfl rfl)
  · rw [if_neg h1]
    by_cases h2 : l.val < 64
    · rw [if_pos h2]
      have h3 : l.val - 32 < 32 := by omega
      exact (concatenate_apply_piece (t := S2048x128) 1 _ _ (ix2 R l) 1 (by simp) S2048x32 q rfl rfl 32 rfl (ix2 R (⟨l.val - 32, h3⟩ : Fin 32))
        (fun a => match a with | ⟨0, _⟩ => fun _ => rfl | ⟨1, _⟩ => fun h => absurd rfl h) (by show 32 + (l.val - 32) = l.val; omega)).trans (eq_entry q _ _ _ rfl rfl)
    · rw [if_neg h2]
      have h3 : l.val - 64 < 64 := by omega
      exact (concatenate_apply_piece (t := S2048x128) 1 _ _ (ix2 R l) 2 (by simp) S2048x64 z rfl rfl 64 rfl (ix2 R (⟨l.val - 64, h3⟩ : Fin 64))
        (fun a => match a with | ⟨0, _⟩ => fun _ => rfl | ⟨1, _⟩ => fun h => absurd rfl h) (by show 64 + (l.val - 64) = l.val; omega)).trans (hz _)

/-- Two arrays side by side, the second one zero. -/
theorem two (p : S2048x32.Idx → EReal) (z : S2048x96.Idx → EReal) (hz : ∀ i, z i = 0) (R : Fin 2048) (l : Fin 128) :
    concatenate S2048x128 1 [⟨S2048x32, p⟩, ⟨S2048x96, z⟩] concatenates_S2048x32_S2048x96_S2048x128_d1 (ix2 R l)
      = if l.val < 32 then entry p R l else 0 := by
  have hl := l.isLt
  by_cases h1 : l.val < 32
  · rw [if_pos h1]
    exact (concatenate_apply_piece (t := S2048x128) 1 _ _ (ix2 R l) 0 (by simp) S2048x32 p rfl rfl 0 rfl (ix2 R (⟨l.val, h1⟩ : Fin 32))
      (fun a => match a with | ⟨0, _⟩ => fun _ => rfl | ⟨1, _⟩ => fun h => absurd rfl h) (Nat.zero_add _)).trans (eq_entry p _ _ _ rfl rfl)
  · rw [if_neg h1]
    have h3 : l.val - 32 < 96 := by omega
    exact (concatenate_apply_piece (t := S2048x128) 1 _ _ (ix2 R l) 1 (by simp) S2048x96 z rfl rfl 32 rfl (ix2 R (⟨l.val - 32, h3⟩ : Fin 96))
      (fun a => match a with | ⟨0, _⟩ => fun _ => rfl | ⟨1, _⟩ => fun h => absurd rfl h) (by show 32 + (l.val - 32) = l.val; omega)).trans (hz _)

/-- An array of zeros. -/
abbrev zeros (s : Shape) (h : S_.BroadcastsInDim s ![]) : s.Idx → EReal := broadcastInDim s ![] h (constant (F := Ideal) S_ .f32 0x00000000#32)

/-- Its entries. -/
theorem zeros_apply (s : Shape) (h : S_.BroadcastsInDim s ![]) (i : s.Idx) : zeros s h i = 0 := Ideal.ofBits_zero_f32

/-- The first table as the host leaves it. -/
theorem v1_parts (c : Dev nD) : V m c main_v1
    = concatenate S2048x128 1 [⟨S2048x32, (inputs m c).cs⟩, ⟨S2048x32, (inputs m c).cs⟩, ⟨S2048x64, zeros S2048x64 bcast_S_S2048x64⟩]
        concatenates_S2048x32_S2048x32_S2048x64_S2048x128_d1 := by
  simp only [V, hostOps0]
  after_results_simp <;> rfl

/-- The second table. -/
theorem v4_parts (c : Dev nD) : V m c main_v4
    = concatenate S2048x128 1 [⟨S2048x32, fun i => -(inputs m c).sn i⟩, ⟨S2048x96, zeros S2048x96 bcast_S_S2048x96⟩]
        concatenates_S2048x32_S2048x96_S2048x128_d1 := by
  simp only [V, hostOps0]
  after_results_simp <;> rfl

/-- The third table. -/
theorem v7_parts (c : Dev nD) : V m c main_v7
    = concatenate S2048x128 1 [⟨S2048x32, zeros S2048x32 bcast_S_S2048x32⟩, ⟨S2048x32, (inputs m c).sn⟩, ⟨S2048x64, zeros S2048x64 bcast_S_S2048x64⟩]
        concatenates_S2048x32_S2048x32_S2048x64_S2048x128_d1 := by
  simp only [V, hostOps0]
  after_results_simp <;> rfl

/-- The first table's entries. -/
theorem v1_apply (c : Dev nD) (R : Fin 2048) (l : Fin 128) : (V m c main_v1 (ix2 R l) : EReal) = tableA (entry (inputs m c).cs R) l := by
  rw [v1_parts]
  exact three _ _ _ (zeros_apply _ _) R l

/-- The second table's entries. -/
theorem v4_apply (c : Dev nD) (R : Fin 2048) (l : Fin 128) : (V m c main_v4 (ix2 R l) : EReal) = tableB (entry (inputs m c).sn R) l := by
  rw [v4_parts]
  refine (two _ _ (zeros_apply _ _) R l).trans ?_
  unfold tableB
  by_cases h : l.val < 32
  · rw [if_pos h, if_pos h, ← eq_entry (fun i => -(inputs m c).sn i) (ix2 R (⟨l.val, h⟩ : Fin 32)) R l rfl rfl,
      ← eq_entry (inputs m c).sn (ix2 R (⟨l.val, h⟩ : Fin 32)) R l rfl rfl]
  · rw [if_neg h, if_neg h]

/-- The third table's entries. -/
theorem v7_apply (c : Dev nD) (R : Fin 2048) (l : Fin 128) : (V m c main_v7 (ix2 R l) : EReal) = tableC (entry (inputs m c).sn R) l := by
  rw [v7_parts]
  refine (three _ _ _ (zeros_apply _ _) R l).trans ?_
  unfold tableC
  by_cases h : l.val < 32
  · rw [if_pos h, if_pos h, ← eq_entry (zeros S2048x32 bcast_S_S2048x32) (ix2 R (⟨l.val, h⟩ : Fin 32)) R l rfl rfl]
    exact zeros_apply _ _ _
  · rw [if_neg h, if_neg h]

/-- Which block each window reads or writes at a point: row tile `t / 23`, column tile `t % 23`; the tables repeat every 2048 rows. -/
theorem tiles : ∀ t : Fin cfg0.N,
    (win0_0.index t 0 = t.val / 23 ∧ win0_0.index t 1 = 0) ∧ (win0_1.index t 0 = 0 ∧ win0_1.index t 1 = t.val % 23)
    ∧ (win0_2.index t 0 = t.val / 23 % 2 ∧ win0_2.index t 1 = 0) ∧ (win0_3.index t 0 = t.val / 23 % 2 ∧ win0_3.index t 1 = 0)
    ∧ (win0_4.index t 0 = t.val / 23 % 2 ∧ win0_4.index t 1 = 0) ∧ (win0_5.index t 0 = t.val / 23 ∧ win0_5.index t 1 = t.val % 23)
    ∧ (grid0.coords t 1).val = t.val % 23 :=
  (by decide +kernel : ∀ t : Fin grid0.N,
    (win0_0.index t 0 = t.val / 23 ∧ win0_0.index t 1 = 0) ∧ (win0_1.index t 0 = 0 ∧ win0_1.index t 1 = t.val % 23)
    ∧ (win0_2.index t 0 = t.val / 23 % 2 ∧ win0_2.index t 1 = 0) ∧ (win0_3.index t 0 = t.val / 23 % 2 ∧ win0_3.index t 1 = 0)
    ∧ (win0_4.index t 0 = t.val / 23 % 2 ∧ win0_4.index t 1 = 0) ∧ (win0_5.index t 0 = t.val / 23 ∧ win0_5.index t 1 = t.val % 23)
    ∧ (grid0.coords t 1).val = t.val % 23)

/-- The modulated rows at a point. -/
theorem block0 (c : Dev nD) (t : Fin cfg0.N) (r : Fin 1024) (k : Fin 2048) :
    entry (iblk m c 0 t : Vec Ideal S1024x2048 .bf16) r k = entry (inputs m c).u (t.val / 23 * 1024 + r) k := by
  obtain ⟨⟨h0, h1⟩, -⟩ := tiles t
  rw [← eq_entry (iblk m c 0 t : Vec Ideal S1024x2048 .bf16) (ix2 r k) r k rfl rfl]
  unfold iblk
  rw [View.read_apply]
  show V m c main_arg0 _ = _
  rw [V_main_arg0]
  refine eq_entry (m (c.tc.loc main_arg0)) _ _ _ ?_ ?_
  · show win0_0.index t 0 * 1024 + 1 * r.val = _; rw [h0]; omega
  · show win0_0.index t 1 * 2048 + 1 * k.val = _; rw [h1]; omega

/-- The projection's columns at a point. -/
theorem block1 (c : Dev nD) (t : Fin cfg0.N) (k : Fin 2048) (l : Fin 256) :
    entry (iblk m c 1 t : Vec Ideal S2048x256 .bf16) k l = entry (inputs m c).w k (t.val % 23 * 256 + l) := by
  obtain ⟨-, ⟨h0, h1⟩, -⟩ := tiles t
  rw [← eq_entry (iblk m c 1 t : Vec Ideal S2048x256 .bf16) (ix2 k l) k l rfl rfl]
  unfold iblk
  rw [View.read_apply]
  show V m c main_arg1 _ = _
  rw [V_main_arg1]
  refine eq_entry (m (c.tc.loc main_arg1)) _ _ _ ?_ ?_
  · show win0_1.index t 0 * 2048 + 1 * k.val = _; rw [h0]; omega
  · show win0_1.index t 1 * 256 + 1 * l.val = _; rw [h1]; omega

/-- The first table's rows at a point. -/
theorem block2 (c : Dev nD) (t : Fin cfg0.N) (r : Fin 1024) (l : Fin 128) :
    entry (iblk m c 2 t : Vec Ideal S1024x128 .f32) r l = tableA (entry (inputs m c).cs ((t.val / 23 * 1024 + r) % 2048)) l := by
  obtain ⟨-, -, ⟨h0, h1⟩, -⟩ := tiles t
  have hr := r.isLt
  have hR : (t.val / 23 * 1024 + r.val) % 2048 < 2048 := Nat.mod_lt _ (by norm_num)
  rw [← eq_entry (iblk m c 2 t : Vec Ideal S1024x128 .f32) (ix2 r l) r l rfl rfl]
  unfold iblk
  rw [View.read_apply]
  refine Eq.trans ?_ (v1_apply m c (⟨(t.val / 23 * 1024 + r.val) % 2048, hR⟩ : Fin 2048) l)
  refine congrArg (V m c main_v1) ?_
  funext a
  apply Fin.ext
  match a with
  | ⟨0, _⟩ => show win0_2.index t 0 * 1024 + 1 * r.val = (t.val / 23 * 1024 + r.val) % 2048; rw [h0]; omega
  | ⟨1, _⟩ => show win0_2.index t 1 * 128 + 1 * l.val = l.val; rw [h1]; omega

/-- The second table's rows at a point. -/
theorem block3 (c : Dev nD) (t : Fin cfg0.N) (r : Fin 1024) (l : Fin 128) :
    entry (iblk m c 3 t : Vec Ideal S1024x128 .f32) r l = tableB (entry (inputs m c).sn ((t.val / 23 * 1024 + r) % 2048)) l := by
  obtain ⟨-, -, -, ⟨h0, h1⟩, -⟩ := tiles t
  have hr := r.isLt
  have hR : (t.val / 23 * 1024 + r.val) % 2048 < 2048 := Nat.mod_lt _ (by norm_num)
  rw [← eq_entry (iblk m c 3 t : Vec Ideal S1024x128 .f32) (ix2 r l) r l rfl rfl]
  unfold iblk
  rw [View.read_apply]
  refine Eq.trans ?_ (v4_apply m c (⟨(t.val / 23 * 1024 + r.val) % 2048, hR⟩ : Fin 2048) l)
  refine congrArg (V m c main_v4) ?_
  funext a
  apply Fin.ext
  match a with
  | ⟨0, _⟩ => show win0_3.index t 0 * 1024 + 1 * r.val = (t.val / 23 * 1024 + r.val) % 2048; rw [h0]; omega
  | ⟨1, _⟩ => show win0_3.index t 1 * 128 + 1 * l.val = l.val; rw [h1]; omega

/-- The third table's rows at a point. -/
theorem block4 (c : Dev nD) (t : Fin cfg0.N) (r : Fin 1024) (l : Fin 128) :
    entry (iblk m c 4 t : Vec Ideal S1024x128 .f32) r l = tableC (entry (inputs m c).sn ((t.val / 23 * 1024 + r) % 2048)) l := by
  obtain ⟨-, -, -, -, ⟨h0, h1⟩, -⟩ := tiles t
  have hr := r.isLt
  have hR : (t.val / 23 * 1024 + r.val) % 2048 < 2048 := Nat.mod_lt _ (by norm_num)
  rw [← eq_entry (iblk m c 4 t : Vec Ideal S1024x128 .f32) (ix2 r l) r l rfl rfl]
  unfold iblk
  rw [View.read_apply]
  refine Eq.trans ?_ (v7_apply m c (⟨(t.val / 23 * 1024 + r.val) % 2048, hR⟩ : Fin 2048) l)
  refine congrArg (V m c main_v7) ?_
  funext a
  apply Fin.ext
  match a with
  | ⟨0, _⟩ => show win0_4.index t 0 * 1024 + 1 * r.val = (t.val / 23 * 1024 + r.val) % 2048; rw [h0]; omega
  | ⟨1, _⟩ => show win0_4.index t 1 * 128 + 1 * l.val = l.val; rw [h1]; omega

/-- The product at a point. -/
theorem blk_eq (c : Dev nD) (t : Fin cfg0.N) (r : Fin 1024) (l : ℕ) (hl : l < 256) :
    blk (iblk m c 0 t) (iblk m c 1 t) r l = prod (inputs m c) (t.val / 23 * 1024 + r) (t.val % 23 * 256 + l) := by
  unfold blk prod
  exact Finset.sum_congr rfl fun k _ => congrArg₂ (fun u v : EReal => u * v) (block0 m c t r k) (block1 m c t k (⟨l, hl⟩ : Fin 256))

/-- A rotary tile's lanes at a point. -/
theorem lane_eq (c : Dev nD) (t : Fin cfg0.N) (r : Fin 1024) (l : Fin 256) (h : t.val % 23 < 8 ∨ t.val % 23 = 10) :
    laneA (iblk m c 0 t) (iblk m c 1 t) (iblk m c 2 t) (iblk m c 3 t) (iblk m c 4 t) (if t.val % 23 < 8 then mlaScale else 1) r l
      = tile (inputs m c) (t.val / 23 * 1024 + r) (t.val % 23) l := by
  have hl := l.isLt
  unfold laneA tile
  rw [if_pos h]
  refine congrArg (fun u : EReal => u * (if t.val % 23 < 8 then mlaScale else 1)) ?_
  by_cases h1 : l.val < 128
  · rw [if_pos h1, if_pos h1, blk_eq m c t r l.val l.isLt]
  · rw [if_neg h1, if_neg h1]
    unfold turned
    have h2 : l.val - 128 < 128 := by omega
    rw [← turn_eq _ _ _ (l.val - 128) h2, blk_eq m c t r l.val l.isLt, blk_eq m c t r (128 + (l.val - 128 + 128 - 96) % 128) (by omega),
      blk_eq m c t r (128 + (l.val - 128 + 128 - 32) % 128) (by omega),
      block2 m c t r (⟨l.val - 128, h2⟩ : Fin 128), block3 m c t r (⟨l.val - 128, h2⟩ : Fin 128), block4 m c t r (⟨l.val - 128, h2⟩ : Fin 128)]
    dsimp only
    rw [show t.val % 23 * 256 + 128 + (l.val - 128) = t.val % 23 * 256 + l.val by omega, Nat.add_assoc (t.val % 23 * 256) 128, Nat.add_assoc (t.val % 23 * 256) 128]

/-- The result, as an array. -/
def result (c : Dev nD) : S8192x5888.Idx → EReal := fun i => rotated (inputs m c) (i 0) (i 1)

/-- The result array at an index, by the tile and the lane. -/
theorem result_at (c : Dev nD) (x : S8192x5888.Idx) (n j l : ℕ) (hl : l < 256) (h0 : (x 0).val = n) (h1 : (x 1).val = j * 256 + l) :
    result m c x = tile (inputs m c) n j l := by
  unfold result rotated
  rw [h0, h1, show (j * 256 + l) / 256 = j by omega, show (j * 256 + l) % 256 = l by omega]

/-- Every point writes back its tile of the result. -/
theorem flushed_eq (c : Dev nD) (t : Fin cfg0.N) :
    (dats m 0 c).flushed 5 t = ((cfg0.win 5).blk t).view.read (Elt Ideal) (result m c) := by
  obtain ⟨-, -, -, -, -, ⟨h0, h1⟩, hj⟩ := tiles t
  by_cases h : t.val % 23 = 0 ∨ t.val % 23 = 1 ∨ t.val % 23 = 2 ∨ t.val % 23 = 3 ∨ t.val % 23 = 4 ∨ t.val % 23 = 5 ∨ t.val % 23 = 6 ∨ t.val % 23 = 7 ∨ t.val % 23 = 10
  · rw [flushed5_A m c t h (not_not.mpr h)]
    funext y
    obtain ⟨r, l, rfl⟩ : ∃ (r : Fin 1024) (l : Fin 256), y = ix2 r l := ⟨y 0, y 1, eq_ix2 y⟩
    rw [View.read_apply]
    refine (outA c _ _ _ _ _ _ _ _ _ _ _ _ _ _ _ _ _ _ _ _ (ix2 r l)).trans (Eq.trans ?_ (result_at m c _ (t.val / 23 * 1024 + r.val) (t.val % 23) l l.isLt ?_ ?_).symm)
    · rw [hj]
      exact lane_eq m c t r l (by omega)
    · show win0_5.index t 0 * 1024 + 1 * r.val = _; rw [h0]; omega
    · show win0_5.index t 1 * 256 + 1 * l.val = _; rw [h1]; omega
  · rw [flushed5_B m c t h h, outB]
    funext y
    obtain ⟨r, l, rfl⟩ : ∃ (r : Fin 1024) (l : Fin 256), y = ix2 r l := ⟨y 0, y 1, eq_ix2 y⟩
    rw [View.read_apply]
    refine (plain_apply _ _ _ r l).trans (Eq.trans ?_ (result_at m c _ (t.val / 23 * 1024 + r.val) (t.val % 23) l l.isLt ?_ ?_).symm)
    · rw [hj, blk_eq m c t r l.val l.isLt]
      unfold tile
      rw [if_neg (show ¬ (t.val % 23 < 8 ∨ t.val % 23 = 10) by omega)]
    · show win0_5.index t 0 * 1024 + 1 * r.val = _; rw [h0]; omega
    · show win0_5.index t 1 * 256 + 1 * l.val = _; rw [h1]; omega

/-- Every index lies in the block of one point. -/
theorem covered (i : S8192x5888.Idx) : ∃ t : Fin cfg0.N, (cfg0.win 5).flush t = true ∧ i ∈ ((cfg0.win 5).blk t).view.set := by
  have hi0 : (i 0 : Nat) < 8192 := (i 0).isLt
  have hi1 : (i 1 : Nat) < 5888 := (i 1).isLt
  let t : Fin cfg0.N := ⟨(i 0 : Nat) / 1024 * 23 + (i 1 : Nat) / 256, by rw [show cfg0.N = 184 from N_0]; omega⟩
  have hv : t.val = (i 0 : Nat) / 1024 * 23 + (i 1 : Nat) / 256 := rfl
  obtain ⟨-, -, -, -, -, ⟨h0, h1⟩, -⟩ := tiles t
  refine ⟨t, flush0_5 t, ?_⟩
  show i ∈ ((View.whole main_v8).slice (win0_5.rect t)).set
  rw [View.set_slice_whole, Rect.mem_set_unit]
  intro a
  match a with
  | ⟨0, _⟩ => show win0_5.index t 0 * 1024 ≤ (i 0 : Nat) ∧ (i 0 : Nat) < win0_5.index t 0 * 1024 + 1024
              rw [h0]; omega
  | ⟨1, _⟩ => show win0_5.index t 1 * 256 ≤ (i 1 : Nat) ∧ (i 1 : Nat) < win0_5.index t 1 * 256 + 256
              rw [h1]; omega

/-- The array after the run. -/
theorem final_eq (c : Dev nD) : (dats m 0 c).arrAt 5 cfg0.N = result m c :=
  (dats m 0 c).arrAt_eq_of_cover 5 _ (fun t _ => flushed_eq m c t) covered

end Cert.RopeIdeal.Value

end
-- ==== Proof.RopeReference.lean ====
/-
  The rotary projection's reference, read at an index.
-/
module

public import proofs.«01_k».proof.Proof.Gen.RopeRefIdeal.Read
public import proofs.«01_k».proof.Proof.Rope
public import Idealize.ShloMosaic.Lib.IdealHost
public import Idealize.ShloMosaic.Lib.ValueIdx
public import Idealize.ShloMosaic.Lib.Pipeline.Value

@[expose] public section

set_option maxRecDepth 16384

noncomputable section

namespace Cert.RopeRefIdeal.Read

open Idealize.ShloMosaic
open Cert.RopeRefIdeal Cert.RopeRefIdeal.Gen Idealize.ShloMosaic.ValueIdx Cert.Attention Cert.Rope

variable (x0 : S8192x2048.Idx → EReal) (x1 : S2048x5888.Idx → EReal) (x2 x3 : S2048x32.Idx → EReal)

/-- The arguments, as the projection's inputs. -/
abbrev args : Rope.Inputs := ⟨x0, x1, x2, x3⟩

/-- The projected rows. -/
theorem rows_eq (i : S4x2048x5888.Idx) :
    (val_main_v3 (F := Ideal) x0 x1 i : EReal) = prod (args x0 x1 x2 x3) ((i 0).val * 2048 + (i 1).val) (i 2).val := by
  have h1 : (i 1).val < 2048 := (i 1).isLt
  have h2 : (i 2).val < 5888 := (i 2).isLt
  rw [val_main_v3_apply, val_main_v2_apply]
  unfold prod
  refine Finset.sum_congr rfl fun k _ => congrArg₂ (fun u v : EReal => u * v) (eq_entry x0 _ _ _ ?_ rfl) (eq_entry x1 _ _ _ rfl ?_)
  · show (((i 0).val * 2048 + (i 1).val) * 5888 + (i 2).val) / 5888 = _; omega
  · show (((i 0).val * 2048 + (i 1).val) * 5888 + (i 2).val) % 5888 = _; omega

/-- The key and value latent. -/
theorem cols5_eq (i : S4x2048x512.Idx) :
    (val_main_v5 (F := Ideal) x0 x1 i : EReal) = prod (args x0 x1 x2 x3) ((i 0).val * 2048 + (i 1).val) (2048 + (i 2).val) := by
  rw [val_main_v5_apply]
  exact rows_eq x0 x1 x2 x3 _

/-- The shared key's columns. -/
theorem cols6_eq (i : S4x2048x256.Idx) :
    (val_main_v6 (F := Ideal) x0 x1 i : EReal) = prod (args x0 x1 x2 x3) ((i 0).val * 2048 + (i 1).val) (2560 + (i 2).val) := by
  rw [val_main_v6_apply]
  exact rows_eq x0 x1 x2 x3 _

/-- The neighbourhood queries. -/
theorem cols7_eq (i : S4x2048x1024.Idx) :
    (val_main_v7 (F := Ideal) x0 x1 i : EReal) = prod (args x0 x1 x2 x3) ((i 0).val * 2048 + (i 1).val) (2816 + (i 2).val) := by
  rw [val_main_v7_apply]
  exact rows_eq x0 x1 x2 x3 _

/-- The neighbourhood keys and values. -/
theorem cols8_eq (i : S4x2048x2048.Idx) :
    (val_main_v8 (F := Ideal) x0 x1 i : EReal) = prod (args x0 x1 x2 x3) ((i 0).val * 2048 + (i 1).val) (3840 + (i 2).val) := by
  rw [val_main_v8_apply]
  exact rows_eq x0 x1 x2 x3 _

/-- A rotary head's query columns. -/
theorem head_eq (i : S4x2048x8x256.Idx) :
    (val_main_v9 (F := Ideal) x0 x1 i : EReal) = prod (args x0 x1 x2 x3) ((i 0).val * 2048 + (i 1).val) ((i 2).val * 256 + (i 3).val) := by
  have h1 : (i 1).val < 2048 := (i 1).isLt
  have h2 : (i 2).val < 8 := (i 2).isLt
  have h3 : (i 3).val < 256 := (i 3).isLt
  rw [val_main_v9_apply, val_main_v4_apply]
  refine (rows_eq x0 x1 x2 x3 _).trans (congrArg₂ (prod (args x0 x1 x2 x3)) ?_ ?_)
  · show ((((i 0).val * 2048 + (i 1).val) * 8 + (i 2).val) * 256 + (i 3).val) / 4194304 * 2048
      + ((((i 0).val * 2048 + (i 1).val) * 8 + (i 2).val) * 256 + (i 3).val) / 2048 % 2048 = _
    omega
  · show ((((i 0).val * 2048 + (i 1).val) * 8 + (i 2).val) * 256 + (i 3).val) % 2048 = _
    omega

/-- The part of it to be rotated. -/
theorem qpe_eq (i : S4x2048x8x64.Idx) :
    (val_main_v10 (F := Ideal) x0 x1 i : EReal) = prod (args x0 x1 x2 x3) ((i 0).val * 2048 + (i 1).val) ((i 2).val * 256 + 128 + (i 3).val) := by
  rw [val_main_v10_apply]
  refine (head_eq x0 x1 x2 x3 _).trans (congrArg (prod (args x0 x1 x2 x3) _) ?_)
  show (i 2).val * 256 + (128 + (i 3).val) = _
  omega

/-- The part of the shared key to be rotated. -/
theorem kpe_eq (i : S4x2048x64.Idx) :
    (val_main_v36 (F := Ideal) x0 x1 i : EReal) = prod (args x0 x1 x2 x3) ((i 0).val * 2048 + (i 1).val) (10 * 256 + 128 + (i 2).val) := by
  rw [val_main_v36_apply]
  refine (cols6_eq x0 x1 x2 x3 _).trans (congrArg (prod (args x0 x1 x2 x3) _) ?_)
  show 2560 + (128 + (i 2).val) = _
  omega

/-- The cosines of a query. -/
theorem cosq1 (i : S4x2048x8x32.Idx) : (val_main_v16 (F := Ideal) x2 i : EReal) = entry x2 (i 1).val (i 3).val := by
  rw [val_main_v16_apply, val_main_v15_apply, val_main_v11_apply]
  exact eq_entry x2 _ _ _ rfl rfl

/-- The cosines of a query, again. -/
theorem cosq2 (i : S4x2048x8x32.Idx) : (val_main_v23 (F := Ideal) x2 i : EReal) = entry x2 (i 1).val (i 3).val := by
  rw [val_main_v23_apply, val_main_v22_apply, val_main_v11_apply]
  exact eq_entry x2 _ _ _ rfl rfl

/-- The sines of a query. -/
theorem sinq1 (i : S4x2048x8x32.Idx) : (val_main_v19 (F := Ideal) x3 i : EReal) = entry x3 (i 1).val (i 3).val := by
  rw [val_main_v19_apply, val_main_v18_apply, val_main_v12_apply]
  exact eq_entry x3 _ _ _ rfl rfl

/-- The sines of a query, again. -/
theorem sinq2 (i : S4x2048x8x32.Idx) : (val_main_v26 (F := Ideal) x3 i : EReal) = entry x3 (i 1).val (i 3).val := by
  rw [val_main_v26_apply, val_main_v25_apply, val_main_v12_apply]
  exact eq_entry x3 _ _ _ rfl rfl

/-- The cosines of the shared key. -/
theorem cosk1 (i : S4x2048x32.Idx) : (val_main_v40 (F := Ideal) x2 i : EReal) = entry x2 (i 1).val (i 2).val := by
  rw [val_main_v40_apply, val_main_v39_apply]
  exact eq_entry x2 _ _ _ rfl rfl

/-- The cosines of the shared key, again. -/
theorem cosk2 (i : S4x2048x32.Idx) : (val_main_v47 (F := Ideal) x2 i : EReal) = entry x2 (i 1).val (i 2).val := by
  rw [val_main_v47_apply, val_main_v46_apply]
  exact eq_entry x2 _ _ _ rfl rfl

/-- The sines of the shared key. -/
theorem sink1 (i : S4x2048x32.Idx) : (val_main_v43 (F := Ideal) x3 i : EReal) = entry x3 (i 1).val (i 2).val := by
  rw [val_main_v43_apply, val_main_v42_apply]
  exact eq_entry x3 _ _ _ rfl rfl

/-- The sines of the shared key, again. -/
theorem sink2 (i : S4x2048x32.Idx) : (val_main_v50 (F := Ideal) x3 i : EReal) = entry x3 (i 1).val (i 2).val := by
  rw [val_main_v50_apply, val_main_v49_apply]
  exact eq_entry x3 _ _ _ rfl rfl

/-- A query's rotated lanes. -/
theorem turn29_eq (b : Fin 4) (s : Fin 2048) (j : Fin 8) (l : Fin 64) :
    (val_main_v29 (F := Ideal) x0 x1 x2 x3 (ix4 b s j l) : EReal)
      = turn (fun t => prod (args x0 x1 x2 x3) (b.val * 2048 + s.val) (j.val * 256 + 128 + t)) (entry x2 s.val) (entry x3 s.val) l.val := by
  unfold val_main_v29 turn
  have hl := l.isLt
  by_cases h1 : l.val < 32
  · rw [if_pos h1]
    refine (concatenate_apply_piece (t := S4x2048x8x64) 3 _ _ (ix4 b s j l) 0 (by simp) S4x2048x8x32 (val_main_v21 (F := Ideal) x0 x1 x2 x3) rfl rfl 0 rfl (ix4 b s j (⟨l.val, h1⟩ : Fin 32))
      (fun a => match a with | ⟨0, _⟩ => fun _ => rfl | ⟨1, _⟩ => fun _ => rfl | ⟨2, _⟩ => fun _ => rfl | ⟨3, _⟩ => fun h => absurd rfl h) (Nat.zero_add _)).trans ?_
    refine congrArg₂ (fun u v : EReal => u - v) (congrArg₂ (fun u v : EReal => u * v) ?_ (cosq1 x2 _)) (congrArg₂ (fun u v : EReal => u * v) ?_ (sinq1 x3 _))
    · rw [val_main_v13_apply]
      exact qpe_eq x0 x1 x2 x3 _
    · rw [val_main_v14_apply]
      refine (qpe_eq x0 x1 x2 x3 _).trans (congrArg (prod (args x0 x1 x2 x3) _) ?_)
      show j.val * 256 + 128 + (32 + l.val) = _
      omega
  · rw [if_neg h1, if_pos l.isLt]
    have h3 : l.val - 32 < 32 := by omega
    refine (concatenate_apply_piece (t := S4x2048x8x64) 3 _ _ (ix4 b s j l) 1 (by simp) S4x2048x8x32 (val_main_v28 (F := Ideal) x0 x1 x2 x3) rfl rfl 32 rfl (ix4 b s j (⟨l.val - 32, h3⟩ : Fin 32))
      (fun a => match a with | ⟨0, _⟩ => fun _ => rfl | ⟨1, _⟩ => fun _ => rfl | ⟨2, _⟩ => fun _ => rfl | ⟨3, _⟩ => fun h => absurd rfl h) (by show 32 + (l.val - 32) = l.val; omega)).trans ?_
    refine congrArg₂ (fun u v : EReal => u + v) (congrArg₂ (fun u v : EReal => u * v) ?_ (cosq2 x2 _)) (congrArg₂ (fun u v : EReal => u * v) ?_ (sinq2 x3 _))
    · rw [val_main_v14_apply]
      refine (qpe_eq x0 x1 x2 x3 _).trans (congrArg (prod (args x0 x1 x2 x3) _) ?_)
      show j.val * 256 + 128 + (32 + (l.val - 32)) = _
      omega
    · rw [val_main_v13_apply]
      exact qpe_eq x0 x1 x2 x3 _

/-- The shared key's rotated lanes. -/
theorem turn53_eq (b : Fin 4) (s : Fin 2048) (l : Fin 64) :
    (val_main_v53 (F := Ideal) x0 x1 x2 x3 (ix3 b s l) : EReal)
      = turn (fun t => prod (args x0 x1 x2 x3) (b.val * 2048 + s.val) (10 * 256 + 128 + t)) (entry x2 s.val) (entry x3 s.val) l.val := by
  unfold val_main_v53 turn
  have hl := l.isLt
  by_cases h1 : l.val < 32
  · rw [if_pos h1]
    refine (concatenate_apply_piece (t := S4x2048x64) 2 _ _ (ix3 b s l) 0 (by simp) S4x2048x32 (val_main_v45 (F := Ideal) x0 x1 x2 x3) rfl rfl 0 rfl (ix3 b s (⟨l.val, h1⟩ : Fin 32))
      (fun a => match a with | ⟨0, _⟩ => fun _ => rfl | ⟨1, _⟩ => fun _ => rfl | ⟨2, _⟩ => fun h => absurd rfl h) (Nat.zero_add _)).trans ?_
    refine congrArg₂ (fun u v : EReal => u - v) (congrArg₂ (fun u v : EReal => u * v) ?_ (cosk1 x2 _)) (congrArg₂ (fun u v : EReal => u * v) ?_ (sink1 x3 _))
    · rw [val_main_v37_apply]
      exact kpe_eq x0 x1 x2 x3 _
    · rw [val_main_v38_apply]
      refine (kpe_eq x0 x1 x2 x3 _).trans (congrArg (prod (args x0 x1 x2 x3) _) ?_)
      show 10 * 256 + 128 + (32 + l.val) = _
      omega
  · rw [if_neg h1, if_pos l.isLt]
    have h3 : l.val - 32 < 32 := by omega
    refine (concatenate_apply_piece (t := S4x2048x64) 2 _ _ (ix3 b s l) 1 (by simp) S4x2048x32 (val_main_v52 (F := Ideal) x0 x1 x2 x3) rfl rfl 32 rfl (ix3 b s (⟨l.val - 32, h3⟩ : Fin 32))
      (fun a => match a with | ⟨0, _⟩ => fun _ => rfl | ⟨1, _⟩ => fun _ => rfl | ⟨2, _⟩ => fun h => absurd rfl h) (by show 32 + (l.val - 32) = l.val; omega)).trans ?_
    refine congrArg₂ (fun u v : EReal => u + v) (congrArg₂ (fun u v : EReal => u * v) ?_ (cosk2 x2 _)) (congrArg₂ (fun u v : EReal => u * v) ?_ (sink2 x3 _))
    · rw [val_main_v38_apply]
      refine (kpe_eq x0 x1 x2 x3 _).trans (congrArg (prod (args x0 x1 x2 x3) _) ?_)
      show 10 * 256 + 128 + (32 + (l.val - 32)) = _
      omega
    · rw [val_main_v37_apply]
      exact kpe_eq x0 x1 x2 x3 _

/-- A query's lanes before the scale. -/
theorem tile32_eq (b : Fin 4) (s : Fin 2048) (j : Fin 8) (l : Fin 256) :
    (val_main_v32 (F := Ideal) x0 x1 x2 x3 (ix4 b s j l) : EReal)
      = if l.val < 128 then prod (args x0 x1 x2 x3) (b.val * 2048 + s.val) (j.val * 256 + l.val) else turned (args x0 x1 x2 x3) (b.val * 2048 + s.val) j.val (l.val - 128) := by
  unfold val_main_v32
  have hl := l.isLt
  have hs := s.isLt
  by_cases h1 : l.val < 128
  · rw [if_pos h1]
    refine (concatenate_apply_piece (t := S4x2048x8x256) 3 _ _ (ix4 b s j l) 0 (by simp) S4x2048x8x128 (val_main_v30 (F := Ideal) x0 x1) rfl rfl 0 rfl (ix4 b s j (⟨l.val, h1⟩ : Fin 128))
      (fun a => match a with | ⟨0, _⟩ => fun _ => rfl | ⟨1, _⟩ => fun _ => rfl | ⟨2, _⟩ => fun _ => rfl | ⟨3, _⟩ => fun h => absurd rfl h) (Nat.zero_add _)).trans ?_
    rw [val_main_v30_apply]
    exact head_eq x0 x1 x2 x3 _
  · rw [if_neg h1]
    unfold turned
    rw [show (b.val * 2048 + s.val) % 2048 = s.val by omega]
    by_cases h2 : l.val < 192
    · have h3 : l.val - 128 < 64 := by omega
      exact (concatenate_apply_piece (t := S4x2048x8x256) 3 _ _ (ix4 b s j l) 1 (by simp) S4x2048x8x64 (val_main_v29 (F := Ideal) x0 x1 x2 x3) rfl rfl 128 rfl (ix4 b s j (⟨l.val - 128, h3⟩ : Fin 64))
        (fun a => match a with | ⟨0, _⟩ => fun _ => rfl | ⟨1, _⟩ => fun _ => rfl | ⟨2, _⟩ => fun _ => rfl | ⟨3, _⟩ => fun h => absurd rfl h) (by show 128 + (l.val - 128) = l.val; omega)).trans (turn29_eq x0 x1 x2 x3 b s j (⟨l.val - 128, h3⟩ : Fin 64))
    · have h3 : l.val - 192 < 64 := by omega
      refine (concatenate_apply_piece (t := S4x2048x8x256) 3 _ _ (ix4 b s j l) 2 (by simp) S4x2048x8x64 (val_main_v31 (F := Ideal)) rfl rfl 192 rfl (ix4 b s j (⟨l.val - 192, h3⟩ : Fin 64))
        (fun a => match a with | ⟨0, _⟩ => fun _ => rfl | ⟨1, _⟩ => fun _ => rfl | ⟨2, _⟩ => fun _ => rfl | ⟨3, _⟩ => fun h => absurd rfl h) (by show 192 + (l.val - 192) = l.val; omega)).trans ?_
      unfold turn
      rw [if_neg (show ¬ l.val - 128 < 32 by omega), if_neg (show ¬ l.val - 128 < 64 by omega), val_main_v31_apply]
      exact Ideal.ofBits_zero_f32

/-- The shared key's lanes. -/
theorem tile56_eq (b : Fin 4) (s : Fin 2048) (l : Fin 256) :
    (val_main_v56 (F := Ideal) x0 x1 x2 x3 (ix3 b s l) : EReal)
      = if l.val < 128 then prod (args x0 x1 x2 x3) (b.val * 2048 + s.val) (10 * 256 + l.val) else turned (args x0 x1 x2 x3) (b.val * 2048 + s.val) 10 (l.val - 128) := by
  unfold val_main_v56
  have hl := l.isLt
  have hs := s.isLt
  by_cases h1 : l.val < 128
  · rw [if_pos h1]
    refine (concatenate_apply_piece (t := S4x2048x256) 2 _ _ (ix3 b s l) 0 (by simp) S4x2048x128 (val_main_v54 (F := Ideal) x0 x1) rfl rfl 0 rfl (ix3 b s (⟨l.val, h1⟩ : Fin 128))
      (fun a => match a with | ⟨0, _⟩ => fun _ => rfl | ⟨1, _⟩ => fun _ => rfl | ⟨2, _⟩ => fun h => absurd rfl h) (Nat.zero_add _)).trans ?_
    rw [val_main_v54_apply]
    exact cols6_eq x0 x1 x2 x3 _
  · rw [if_neg h1]
    unfold turned
    rw [show (b.val * 2048 + s.val) % 2048 = s.val by omega]
    by_cases h2 : l.val < 192
    · have h3 : l.val - 128 < 64 := by omega
      exact (concatenate_apply_piece (t := S4x2048x256) 2 _ _ (ix3 b s l) 1 (by simp) S4x2048x64 (val_main_v53 (F := Ideal) x0 x1 x2 x3) rfl rfl 128 rfl (ix3 b s (⟨l.val - 128, h3⟩ : Fin 64))
        (fun a => match a with | ⟨0, _⟩ => fun _ => rfl | ⟨1, _⟩ => fun _ => rfl | ⟨2, _⟩ => fun h => absurd rfl h) (by show 128 + (l.val - 128) = l.val; omega)).trans (turn53_eq x0 x1 x2 x3 b s (⟨l.val - 128, h3⟩ : Fin 64))
    · have h3 : l.val - 192 < 64 := by omega
      refine (concatenate_apply_piece (t := S4x2048x256) 2 _ _ (ix3 b s l) 2 (by simp) S4x2048x64 (val_main_v55 (F := Ideal)) rfl rfl 192 rfl (ix3 b s (⟨l.val - 192, h3⟩ : Fin 64))
        (fun a => match a with | ⟨0, _⟩ => fun _ => rfl | ⟨1, _⟩ => fun _ => rfl | ⟨2, _⟩ => fun h => absurd rfl h) (by show 192 + (l.val - 192) = l.val; omega)).trans ?_
      unfold turn
      rw [if_neg (show ¬ l.val - 128 < 32 by omega), if_neg (show ¬ l.val - 128 < 64 by omega), val_main_v55_apply]
      exact Ideal.ofBits_zero_f32

/-- The scaled queries. -/
theorem queries_eq (b : Fin 4) (s : Fin 2048) (n : Fin 2048) :
    (val_main_v60 (F := Ideal) x0 x1 x2 x3 (ix3 b s n) : EReal) = tile (args x0 x1 x2 x3) (b.val * 2048 + s.val) (n.val / 256) (n.val % 256) := by
  have hb := b.isLt
  have hs := s.isLt
  have hn := n.isLt
  have hj : n.val / 256 < 8 := by omega
  have hl : n.val % 256 < 256 := Nat.mod_lt _ (by norm_num)
  have hi : idx_main_v60 (ix3 b s n) = ix4 b s (⟨n.val / 256, hj⟩ : Fin 8) (⟨n.val % 256, hl⟩ : Fin 256) := by
    funext a
    apply Fin.ext
    match a with
    | ⟨0, _⟩ => show ((b.val * 2048 + s.val) * 2048 + n.val) / 4194304 = b.val; omega
    | ⟨1, _⟩ => show ((b.val * 2048 + s.val) * 2048 + n.val) / 2048 % 2048 = s.val; omega
    | ⟨2, _⟩ => show ((b.val * 2048 + s.val) * 2048 + n.val) / 256 % 8 = n.val / 256; omega
    | ⟨3, _⟩ => show ((b.val * 2048 + s.val) * 2048 + n.val) % 256 = n.val % 256; omega
  rw [val_main_v60_apply, hi, val_main_v35_apply, val_main_v34_apply, val_main_v33_apply, val_main_cst_0_apply]
  refine (div192 _).trans ?_
  rw [tile32_eq]
  unfold tile
  rw [if_pos (Or.inl hj), if_pos hj]

/-- The scaled neighbourhood queries. -/
theorem naQueries_eq (i : S4x2048x1024.Idx) :
    (val_main_v59 (F := Ideal) x0 x1 i : EReal) = prod (args x0 x1 x2 x3) ((i 0).val * 2048 + (i 1).val) (2816 + (i 2).val) * naScale := by
  rw [val_main_v59_apply, val_main_v58_apply, val_main_v57_apply, val_main_cst_2_apply]
  refine (div128 _).trans ?_
  rw [cols7_eq x0 x1 x2 x3]

/-- The whole row. -/
theorem row_eq (b : Fin 4) (s : Fin 2048) (n : Fin 5888) :
    (val_main_v61 (F := Ideal) x0 x1 x2 x3 (ix3 b s n) : EReal) = rotated (args x0 x1 x2 x3) (b.val * 2048 + s.val) n.val := by
  have hn := n.isLt
  unfold val_main_v61 rotated
  by_cases h0 : n.val < 2048
  · exact (concatenate_apply_piece (t := S4x2048x5888) 2 _ _ (ix3 b s n) 0 (by simp) S4x2048x2048 (val_main_v60 (F := Ideal) x0 x1 x2 x3) rfl rfl 0 rfl (ix3 b s (⟨n.val, h0⟩ : Fin 2048))
      (fun a => match a with | ⟨0, _⟩ => fun _ => rfl | ⟨1, _⟩ => fun _ => rfl | ⟨2, _⟩ => fun h => absurd rfl h) (Nat.zero_add _)).trans (queries_eq x0 x1 x2 x3 b s (⟨n.val, h0⟩ : Fin 2048))
  by_cases h1 : n.val < 2560
  · have h : n.val - 2048 < 512 := by omega
    refine (concatenate_apply_piece (t := S4x2048x5888) 2 _ _ (ix3 b s n) 1 (by simp) S4x2048x512 (val_main_v5 (F := Ideal) x0 x1) rfl rfl 2048 rfl (ix3 b s (⟨n.val - 2048, h⟩ : Fin 512))
      (fun a => match a with | ⟨0, _⟩ => fun _ => rfl | ⟨1, _⟩ => fun _ => rfl | ⟨2, _⟩ => fun h => absurd rfl h) (by show 2048 + (n.val - 2048) = n.val; omega)).trans ?_
    refine (cols5_eq x0 x1 x2 x3 _).trans ?_
    unfold tile
    rw [if_neg (show ¬ (n.val / 256 < 8 ∨ n.val / 256 = 10) by omega), if_neg (show ¬ (11 ≤ n.val / 256 ∧ n.val / 256 < 15) by omega), mul_one]
    refine congrArg (prod (args x0 x1 x2 x3) _) ?_
    show 2048 + (n.val - 2048) = _
    omega
  by_cases h2 : n.val < 2816
  · have h : n.val - 2560 < 256 := by omega
    refine (concatenate_apply_piece (t := S4x2048x5888) 2 _ _ (ix3 b s n) 2 (by simp) S4x2048x256 (val_main_v56 (F := Ideal) x0 x1 x2 x3) rfl rfl 2560 rfl (ix3 b s (⟨n.val - 2560, h⟩ : Fin 256))
      (fun a => match a with | ⟨0, _⟩ => fun _ => rfl | ⟨1, _⟩ => fun _ => rfl | ⟨2, _⟩ => fun h => absurd rfl h) (by show 2560 + (n.val - 2560) = n.val; omega)).trans ?_
    refine (tile56_eq x0 x1 x2 x3 b s _).trans ?_
    unfold tile
    rw [show n.val / 256 = 10 by omega, show n.val % 256 = n.val - 2560 by omega, if_pos (Or.inr rfl), if_neg (show ¬ 10 < 8 by omega), mul_one]
  by_cases h3 : n.val < 3840
  · have h : n.val - 2816 < 1024 := by omega
    refine (concatenate_apply_piece (t := S4x2048x5888) 2 _ _ (ix3 b s n) 3 (by simp) S4x2048x1024 (val_main_v59 (F := Ideal) x0 x1) rfl rfl 2816 rfl (ix3 b s (⟨n.val - 2816, h⟩ : Fin 1024))
      (fun a => match a with | ⟨0, _⟩ => fun _ => rfl | ⟨1, _⟩ => fun _ => rfl | ⟨2, _⟩ => fun h => absurd rfl h) (by show 2816 + (n.val - 2816) = n.val; omega)).trans ?_
    refine (naQueries_eq x0 x1 x2 x3 _).trans ?_
    unfold tile
    rw [if_neg (show ¬ (n.val / 256 < 8 ∨ n.val / 256 = 10) by omega), if_pos (show 11 ≤ n.val / 256 ∧ n.val / 256 < 15 by omega)]
    refine congrArg (fun u : EReal => u * naScale) (congrArg (prod (args x0 x1 x2 x3) _) ?_)
    show 2816 + (n.val - 2816) = _
    omega
  · have h : n.val - 3840 < 2048 := by omega
    refine (concatenate_apply_piece (t := S4x2048x5888) 2 _ _ (ix3 b s n) 4 (by simp) S4x2048x2048 (val_main_v8 (F := Ideal) x0 x1) rfl rfl 3840 rfl (ix3 b s (⟨n.val - 3840, h⟩ : Fin 2048))
      (fun a => match a with | ⟨0, _⟩ => fun _ => rfl | ⟨1, _⟩ => fun _ => rfl | ⟨2, _⟩ => fun h => absurd rfl h) (by show 3840 + (n.val - 3840) = n.val; omega)).trans ?_
    refine (cols8_eq x0 x1 x2 x3 _).trans ?_
    unfold tile
    rw [if_neg (show ¬ (n.val / 256 < 8 ∨ n.val / 256 = 10) by omega), if_neg (show ¬ (11 ≤ n.val / 256 ∧ n.val / 256 < 15) by omega), mul_one]
    refine congrArg (prod (args x0 x1 x2 x3) _) ?_
    show 3840 + (n.val - 3840) = _
    omega

/-- The reference's result at an index. -/
theorem result_eq (r : Fin 8192) (n : Fin 5888) :
    (val_main_v63 (F := Ideal) x0 x1 x2 x3 (ix2 r n) : EReal) = rotated (args x0 x1 x2 x3) r.val n.val := by
  have hr := r.isLt
  have hn := n.isLt
  have hb : r.val / 2048 < 4 := by omega
  have hs : r.val % 2048 < 2048 := Nat.mod_lt _ (by norm_num)
  have hi : idx_main_v62 (ix2 r n) = ix3 (⟨r.val / 2048, hb⟩ : Fin 4) (⟨r.val % 2048, hs⟩ : Fin 2048) n := by
    funext a
    apply Fin.ext
    match a with
    | ⟨0, _⟩ => show (r.val * 5888 + n.val) / 12058624 = r.val / 2048; omega
    | ⟨1, _⟩ => show (r.val * 5888 + n.val) / 5888 % 2048 = r.val % 2048; omega
    | ⟨2, _⟩ => show (r.val * 5888 + n.val) % 5888 = n.val; omega
  rw [val_main_v63_apply, val_main_v62_apply, hi]
  refine (row_eq x0 x1 x2 x3 _ _ n).trans (congrArg (fun k => rotated (args x0 x1 x2 x3) k n.val) ?_)
  show r.val / 2048 * 2048 + r.val % 2048 = r.val
  omega

end Cert.RopeRefIdeal.Read

end
-- ==== Proof.Mixing.lean ====
/-
  Products along the positions of a sequence, spelt on entries of the arguments.
-/
module

public import proofs.«01_k».proof.Proof.Moe
public import proofs.«01_k».proof.Proof.Attention
public import proofs.«01_k».proof.Proof.PostNorm
public import proofs.«01_k».proof.Proof.CombineTiles
public import Idealize.ShloMosaic.Lib.IdealHost
public import Idealize.ShloMosaic.Lib.ValueIdx
public import Idealize.ShloMosaic.Lib.ValueLayout

@[expose] public section

set_option maxRecDepth 16384

noncomputable section

namespace Cert.Mixing

open Idealize.ShloMosaic Cert.Attention Cert.Moe Cert.PostNorm

/-- A row of a matrix of positions with a column of 2048 entries. -/
def along (a : (⟨2, ![2048, 2048]⟩ : Shape).Idx → EReal) (b : ℕ → EReal) (t : ℕ) : EReal :=
  ∑ k : Fin 2048, entry a t k * b k

/-- The column of one sequence: channel `d` of the rows of sequence `s`. -/
def column (z : (⟨2, ![8192, 1024]⟩ : Shape).Idx → EReal) (s d k : ℕ) : EReal := entry z (s * 2048 + k) d

/-- Two products along the positions of the row's sequence, added. -/
def mixed (a1 a2 : (⟨2, ![2048, 2048]⟩ : Shape).Idx → EReal) (b1 b2 : (⟨2, ![8192, 1024]⟩ : Shape).Idx → EReal) (n d : ℕ) : EReal :=
  along a1 (column b1 (n / 2048) d) (n % 2048) + along a2 (column b2 (n / 2048) d) (n % 2048)

/-- A sequence's two transformed planes brought back, the skipped signal added, and the gate. -/
def inverted (gc gs : (⟨2, ![2048, 2048]⟩ : Shape).Idx → EReal) (y : (⟨4, ![4, 2, 2048, 1024]⟩ : Shape).Idx → EReal)
    (s : (⟨2, ![8192, 2048]⟩ : Shape).Idx → EReal) (z : (⟨2, ![8192, 1024]⟩ : Shape).Idx → EReal) (k : (⟨2, ![1, 1024]⟩ : Shape).Idx → EReal)
    (n d : ℕ) : EReal :=
  entry s n d * (along gc (fun p => entry4 y (n / 2048) 0 p d) (n % 2048) + along gs (fun p => entry4 y (n / 2048) 1 p d) (n % 2048)
    + entry k 0 d * entry z n d)

/-- The real plane: a complex product's real part, and at frequency zero the product of the real parts alone. -/
def realPlane (fc fs : (⟨2, ![2048, 2048]⟩ : Shape).Idx → EReal) (z : (⟨2, ![8192, 1024]⟩ : Shape).Idx → EReal)
    (h : (⟨4, ![1, 2, 2048, 2048]⟩ : Shape).Idx → EReal) (s t d : ℕ) : EReal :=
  along fc (column z s d) t * entry4 h 0 0 t d - if t = 0 then 0 else along fs (column z s d) t * entry4 h 0 1 t d

/-- The imaginary plane: a complex product's imaginary part, and at frequency zero the product at the highest frequency. -/
def imagPlane (fc fs : (⟨2, ![2048, 2048]⟩ : Shape).Idx → EReal) (z : (⟨2, ![8192, 1024]⟩ : Shape).Idx → EReal)
    (h : (⟨4, ![1, 2, 2048, 2048]⟩ : Shape).Idx → EReal) (q : (⟨2, ![1, 2048]⟩ : Shape).Idx → EReal) (s t d : ℕ) : EReal :=
  if t = 0 then along fs (column z s d) t * entry q 0 d
  else along fc (column z s d) t * entry4 h 0 1 t d + along fs (column z s d) t * entry4 h 0 0 t d

/-- The number of latent lanes, as a constant word. -/
def lanes : EReal := Ideal.ofBits .f32 0x44000000#32

/-- A latent row over the root of its mean square, times the gain. -/
def scaledRow (p : (⟨2, ![8192, 5888]⟩ : Shape).Idx → EReal) (g : ℕ → EReal) (n k : ℕ) : EReal :=
  entry p n (2048 + k) * Ideal.rsqrt (Ideal.div (∑ j : Fin 512, entry p n (2048 + j) * entry p n (2048 + j)) lanes + eps) * g k

/-- The scaled row's product with the up-projection. -/
def raised (p : (⟨2, ![8192, 5888]⟩ : Shape).Idx → EReal) (g : ℕ → EReal) (w : (⟨2, ![512, 2048]⟩ : Shape).Idx → EReal) (n d : ℕ) : EReal :=
  ∑ k : Fin 512, scaledRow p g n k * entry w k d

/-- A matrix with two leading unit axes, read without them. -/
theorem planar {a b : ℕ} (x : (⟨4, ![1, 1, a, b]⟩ : Shape).Idx → EReal) (h : (⟨4, ![1, 1, a, b]⟩ : Shape).ShapeCasts ⟨2, ![a, b]⟩) (r : Fin a) (l : Fin b) :
    shapeCast ⟨2, ![a, b]⟩ x h (ValueIdx.ix2 r l) = x (ValueIdx.ix4 (0 : Fin 1) (0 : Fin 1) r l) :=
  shapeCast_apply x h _ _ (by
    rw [Shape.rowMajor_val_four, Shape.rowMajor_val_two]
    show ((0 * 1 + 0) * a + r.val) * b + l.val = r.val * b + l.val
    rw [Nat.zero_mul, Nat.zero_add])

/-- A matrix given two leading unit axes. -/
theorem stacked {a b : ℕ} (x : (⟨2, ![a, b]⟩ : Shape).Idx → EReal) (h : (⟨2, ![a, b]⟩ : Shape).ShapeCasts ⟨4, ![1, 1, a, b]⟩) (r : Fin a) (l : Fin b) :
    shapeCast ⟨4, ![1, 1, a, b]⟩ x h (ValueIdx.ix4 (0 : Fin 1) (0 : Fin 1) r l) = x (ValueIdx.ix2 r l) :=
  shapeCast_apply x h _ _ (by
    rw [Shape.rowMajor_val_four, Shape.rowMajor_val_two]
    show r.val * b + l.val = ((0 * 1 + 0) * a + r.val) * b + l.val
    rw [Nat.zero_mul, Nat.zero_add])

/-- A choice by comparing a position's word with zero is the choice by the position. -/
theorem select_first (t : ℕ) (ht : t < 2048) (x y : EReal) :
    Scalar.select (IntOp.cmpi .eq (BitVec.ofNat 32 t) 0#32) x y = if t = 0 then x else y := by
  rw [CombineIdeal.Value.select_eq]
  by_cases h : t = 0
  · rw [if_pos h, if_pos (by rw [h])]
  · rw [if_neg h, if_neg fun e => h ?_]
    have e' := congrArg BitVec.toNat e
    rw [BitVec.toNat_ofNat, Nat.mod_eq_of_lt (by omega)] at e'
    exact e'

/-- The gain of a latent lane. -/
def gain (x : (⟨1, ![512]⟩ : Shape).Idx → EReal) (k : ℕ) : EReal := if h : k < 512 then x (ValueIdx.ix1 ⟨k, h⟩) else 0

/-- An entry of the gain's array, by its lane. -/
theorem eq_gain (x : (⟨1, ![512]⟩ : Shape).Idx → EReal) (i : (⟨1, ![512]⟩ : Shape).Idx) (k : ℕ) (h : (i 0).val = k) : x i = gain x k := by
  subst h
  have hi : (i 0).val < 512 := (i 0).isLt
  unfold gain
  rw [dif_pos hi]
  exact congrArg x (ValueIdx.eq_ix1 i)

end Cert.Mixing

end
-- ==== Proof.MixValue.lean ====
/-
  The sequence mixing: the tiled kernel's result and the reference's, index by index.
-/
module

public import proofs.«01_k».proof.Proof.Gen.MixIdeal.Value
public import proofs.«01_k».proof.Proof.Gen.MixRefIdeal.Read
public import proofs.«01_k».proof.Proof.Mixing
public import proofs.«01_k».proof.Proof.CombineTiles
public import proofs.«01_k».proof.Proof.RopeTiles
public import Idealize.ShloMosaic.Lib.MatmulPlain
public import Idealize.ShloMosaic.Lib.ValueIdx
public import Idealize.ShloMosaic.Lib.ValueLayoutCasts
public import Idealize.ShloMosaic.Lib.IdealHost
public import Idealize.ShloMosaic.Lib.KernelVsHost
public import Idealize.ShloMosaic.Lib.Pipeline.Value
public import Idealize.ShloMosaic.Lib.Pipeline.FrameBody

@[expose] public section

set_option maxRecDepth 16384

noncomputable section

namespace Cert.MixIdeal.Value

open Idealize.ShloMosaic hiding ix1 ix2 ix3 ix4 eq_ix2 eq_ix3 eq_ix4
open Cert.MixIdeal Cert.MixIdeal.Gen Idealize.ShloMosaic.TcCoe Idealize.ShloMosaic.Tactic Idealize.SL.Sem
open Idealize.ShloMosaic.ValueIdx Cert.Attention Cert.Moe Cert.Mixing
open Cert.CombineIdeal.Value (hz2 hz4)
open Idealize.ShloMosaic.Pipeline (Dat)

variable (m : (ℓ : Loc nD τ sig) → Buf (Elt Ideal) ℓ) (ρ : Dev nD → PrngReg)

/-- Which block each window reads or writes at a point. -/
theorem tiles : ∀ t : Fin cfg0.N,
    (win0_0.index t 0 = t.val % 4 ∧ win0_0.index t 1 = 0)
    ∧ (win0_1.index t 0 = t.val % 4 ∧ win0_1.index t 1 = 0)
    ∧ (win0_2.index t 0 = t.val / 8 ∧ win0_2.index t 1 = t.val / 4 % 2)
    ∧ (win0_3.index t 0 = t.val / 8 ∧ win0_3.index t 1 = t.val / 4 % 2)
    ∧ (win0_4.index t 0 = t.val / 8 * 4 + t.val % 4 ∧ win0_4.index t 1 = t.val / 4 % 2) :=
  (by decide +kernel : ∀ t : Fin grid0.N,
    (win0_0.index t 0 = t.val % 4 ∧ win0_0.index t 1 = 0)
    ∧ (win0_1.index t 0 = t.val % 4 ∧ win0_1.index t 1 = 0)
    ∧ (win0_2.index t 0 = t.val / 8 ∧ win0_2.index t 1 = t.val / 4 % 2)
    ∧ (win0_3.index t 0 = t.val / 8 ∧ win0_3.index t 1 = t.val / 4 % 2)
    ∧ (win0_4.index t 0 = t.val / 8 * 4 + t.val % 4 ∧ win0_4.index t 1 = t.val / 4 % 2))

/-- A tile of rows of a matrix of positions. -/
theorem block0 (c : Dev nD) (t : Fin cfg0.N) (r : Fin 512) (k : Fin 2048) :
    ((iblk m c 0 t : Vec Ideal S512x2048 .bf16) (ix2 r k) : EReal) = entry (m ((c : Thread nD τ).loc main_arg0)) (t.val % 4 * 512 + r.val) (k.val) := by
  obtain ⟨⟨h0, h1⟩, -⟩ := tiles t
  unfold iblk
  rw [View.read_apply]
  show V m c main_arg0 _ = _
  unfold V
  refine eq_entry (m (c.tc.loc main_arg0)) _ _ _ ?_ ?_
  · show win0_0.index t 0 * 512 + 1 * r.val = _; rw [h0]; omega
  · show win0_0.index t 1 * 2048 + 1 * k.val = _; rw [h1]; omega

/-- A tile of rows of a matrix of positions. -/
theorem block1 (c : Dev nD) (t : Fin cfg0.N) (r : Fin 512) (k : Fin 2048) :
    ((iblk m c 1 t : Vec Ideal S512x2048 .bf16) (ix2 r k) : EReal) = entry (m ((c : Thread nD τ).loc main_arg1)) (t.val % 4 * 512 + r.val) (k.val) := by
  obtain ⟨-, ⟨h0, h1⟩, -⟩ := tiles t
  unfold iblk
  rw [View.read_apply]
  show V m c main_arg1 _ = _
  unfold V
  refine eq_entry (m (c.tc.loc main_arg1)) _ _ _ ?_ ?_
  · show win0_1.index t 0 * 512 + 1 * r.val = _; rw [h0]; omega
  · show win0_1.index t 1 * 2048 + 1 * k.val = _; rw [h1]; omega

/-- A tile of channels of one sequence. -/
theorem block2 (c : Dev nD) (t : Fin cfg0.N) (k : Fin 2048) (l : Fin 512) :
    ((iblk m c 2 t : Vec Ideal S2048x512 .bf16) (ix2 k l) : EReal) = entry (m ((c : Thread nD τ).loc main_arg2)) (t.val / 8 * 2048 + k.val) (t.val / 4 % 2 * 512 + l.val) := by
  obtain ⟨-, -, ⟨h0, h1⟩, -⟩ := tiles t
  unfold iblk
  rw [View.read_apply]
  show V m c main_arg2 _ = _
  unfold V
  refine eq_entry (m (c.tc.loc main_arg2)) _ _ _ ?_ ?_
  · show win0_2.index t 0 * 2048 + 1 * k.val = _; rw [h0]; omega
  · show win0_2.index t 1 * 512 + 1 * l.val = _; rw [h1]; omega

/-- A tile of channels of one sequence. -/
theorem block3 (c : Dev nD) (t : Fin cfg0.N) (k : Fin 2048) (l : Fin 512) :
    ((iblk m c 3 t : Vec Ideal S2048x512 .bf16) (ix2 k l) : EReal) = entry (m ((c : Thread nD τ).loc main_arg3)) (t.val / 8 * 2048 + k.val) (t.val / 4 % 2 * 512 + l.val) := by
  obtain ⟨-, -, -, ⟨h0, h1⟩, -⟩ := tiles t
  unfold iblk
  rw [View.read_apply]
  show V m c main_arg3 _ = _
  unfold V
  refine eq_entry (m (c.tc.loc main_arg3)) _ _ _ ?_ ?_
  · show win0_3.index t 0 * 2048 + 1 * k.val = _; rw [h0]; omega
  · show win0_3.index t 1 * 512 + 1 * l.val = _; rw [h1]; omega

/-- A tile's product. -/
theorem product_apply (x : Vec Ideal S512x2048 .bf16) (w : Vec Ideal S2048x512 .bf16) (r l : Fin 512) :
    (matmul (φ₁ := .bf16) (φ₂ := .bf16) dot_S512x2048_S2048x512_S512x512_1_0_0_1_n_n none x w (constant (F := Ideal) S512x512 .f32 0x00000000#32) (ix2 r l) : EReal)
      = ∑ k : Fin 2048, (x (ix2 r k) : EReal) * (w (ix2 k l) : EReal) := by
  refine (Ideal.matmul_plain_apply (M := 512) (K := 2048) (N := 512) none x w _ r l).trans ?_
  rw [constant_apply, Ideal.ofBits_zero_f32, zero_add]

/-- What the body leaves: two products, added. -/
theorem body_apply (x0 x1 : Vec Ideal S512x2048 .bf16) (x2 x3 : Vec Ideal S2048x512 .bf16) (r l : Fin 512) :
    (out0_4 x0 x1 x2 x3 (ix2 r l) : EReal)
      = ∑ k : Fin 2048, (x0 (ix2 r k) : EReal) * (x2 (ix2 k l) : EReal) + ∑ k : Fin 2048, (x1 (ix2 r k) : EReal) * (x3 (ix2 k l) : EReal) := by
  unfold out0_4
  rw [View.canon_unit_zero hz2]
  unfold k0_pay1
  simp only [View.ld_unit_zero (S := S512x2048) hz2, View.ld_unit_zero (S := S2048x512) hz2]
  exact RopeIdeal.Value.trunc_at _ _ (RopeIdeal.Value.add_at _ _ _ (product_apply x0 x2 r l) (product_apply x1 x3 r l))

/-- The result, as an array. -/
def result (c : Dev nD) : S8192x1024.Idx → EReal := fun i =>
  mixed (m ((c : Thread nD τ).loc main_arg0)) (m ((c : Thread nD τ).loc main_arg1)) (m ((c : Thread nD τ).loc main_arg2))
    (m ((c : Thread nD τ).loc main_arg3)) (i 0) (i 1)

/-- Every point writes back its tile of the result. -/
theorem flushed_eq (c : Dev nD) (t : Fin cfg0.N) :
    (dats m 0 c).flushed 4 t = ((cfg0.win 4).blk t).view.read (Elt Ideal) (result m c) := by
  rw [flushed4]
  have ht : t.val < 32 := t.isLt
  obtain ⟨-, -, -, -, h0, h1⟩ := tiles t
  funext y
  obtain ⟨r, l, rfl⟩ : ∃ (r l : Fin 512), y = ix2 r l := ⟨y 0, y 1, eq_ix2 y⟩
  have hr := r.isLt
  rw [View.read_apply]
  show out0_4 (iblk m c 0 t) (iblk m c 1 t) (iblk m c 2 t) (iblk m c 3 t) (ix2 r l)
    = mixed _ _ _ _ (win0_4.index t 0 * 512 + 1 * r.val) (win0_4.index t 1 * 512 + 1 * l.val)
  rw [body_apply, h0, h1]
  unfold mixed along column
  rw [show ((t.val / 8 * 4 + t.val % 4) * 512 + 1 * r.val) / 2048 = t.val / 8 by omega,
    show ((t.val / 8 * 4 + t.val % 4) * 512 + 1 * r.val) % 2048 = t.val % 4 * 512 + r.val by omega, Nat.one_mul]
  exact congrArg₂ (fun u v : EReal => u + v)
    (Finset.sum_congr rfl fun k _ => congrArg₂ (fun u v : EReal => u * v) (block0 m c t r k) (block2 m c t k l))
    (Finset.sum_congr rfl fun k _ => congrArg₂ (fun u v : EReal => u * v) (block1 m c t r k) (block3 m c t k l))

/-- Every index lies in the block of one point. -/
theorem covered (i : S8192x1024.Idx) : ∃ t : Fin cfg0.N, (cfg0.win 4).flush t = true ∧ i ∈ ((cfg0.win 4).blk t).view.set := by
  have hi0 : (i 0 : Nat) < 8192 := (i 0).isLt
  have hi1 : (i 1 : Nat) < 1024 := (i 1).isLt
  let t : Fin cfg0.N := ⟨(i 0 : Nat) / 2048 * 8 + (i 1 : Nat) / 512 * 4 + (i 0 : Nat) / 512 % 4, by rw [show cfg0.N = 32 from N_0]; omega⟩
  have hv : t.val = (i 0 : Nat) / 2048 * 8 + (i 1 : Nat) / 512 * 4 + (i 0 : Nat) / 512 % 4 := rfl
  obtain ⟨-, -, -, -, h0, h1⟩ := tiles t
  refine ⟨t, flush0_4 t, ?_⟩
  show i ∈ ((View.whole main_v0).slice (win0_4.rect t)).set
  rw [View.set_slice_whole, Rect.mem_set_unit]
  intro a
  match a with
  | ⟨0, _⟩ => show win0_4.index t 0 * 512 ≤ (i 0 : Nat) ∧ (i 0 : Nat) < win0_4.index t 0 * 512 + 512
              rw [h0]; omega
  | ⟨1, _⟩ => show win0_4.index t 1 * 512 ≤ (i 1 : Nat) ∧ (i 1 : Nat) < win0_4.index t 1 * 512 + 512
              rw [h1]; omega

/-- The array after the run. -/
theorem final_eq (c : Dev nD) : (dats m 0 c).arrAt 4 cfg0.N = result m c :=
  (dats m 0 c).arrAt_eq_of_cover 4 _ (fun t _ => flushed_eq m c t) covered

end Cert.MixIdeal.Value

namespace Cert.MixRefIdeal.Read

open Cert.MixRefIdeal Idealize.ShloMosaic Idealize.ShloMosaic.ValueIdx Cert.Attention Cert.Mixing

variable (x0 x1 : S2048x2048.Idx → EReal) (x2 x3 : S8192x1024.Idx → EReal)

/-- The first product along the positions. -/
theorem first_eq (i : S4x2048x1024.Idx) : (val_main_v5 (F := Ideal) x0 x2 i : EReal) = along x0 (column x2 (i 0) (i 2)) (i 1) := by
  have h0 : (i 0).val < 4 := (i 0).isLt; have h1 : (i 1).val < 2048 := (i 1).isLt; have h2 : (i 2).val < 1024 := (i 2).isLt
  rw [val_main_v5_apply, val_main_v4_apply]
  unfold along column
  refine Finset.sum_congr rfl fun k _ => (mul_comm (_ : EReal) _).trans (congrArg₂ (fun u v : EReal => u * v) (eq_entry x0 _ _ _ rfl rfl) ?_)
  rw [val_main_v3_apply, val_main_v0_apply]
  have hk := k.isLt
  refine eq_entry x2 _ _ _ ?_ ?_
  · show (((i 0).val * 2048 + k.val) * 1024 + (i 2).val) / 1024 = _; omega
  · show (((i 0).val * 2048 + k.val) * 1024 + (i 2).val) % 1024 = _; omega

/-- The second product along the positions. -/
theorem second_eq (i : S4x2048x1024.Idx) : (val_main_v9 (F := Ideal) x1 x3 i : EReal) = along x1 (column x3 (i 0) (i 2)) (i 1) := by
  have h0 : (i 0).val < 4 := (i 0).isLt; have h1 : (i 1).val < 2048 := (i 1).isLt; have h2 : (i 2).val < 1024 := (i 2).isLt
  rw [val_main_v9_apply, val_main_v8_apply]
  unfold along column
  refine Finset.sum_congr rfl fun k _ => (mul_comm (_ : EReal) _).trans (congrArg₂ (fun u v : EReal => u * v) (eq_entry x1 _ _ _ rfl rfl) ?_)
  rw [val_main_v7_apply, val_main_v1_apply]
  have hk := k.isLt
  refine eq_entry x3 _ _ _ ?_ ?_
  · show (((i 0).val * 2048 + k.val) * 1024 + (i 2).val) / 1024 = _; omega
  · show (((i 0).val * 2048 + k.val) * 1024 + (i 2).val) % 1024 = _; omega

/-- The reference's result. -/
theorem result_eq (i : S8192x1024.Idx) : (val_main_v12 (F := Ideal) x0 x1 x2 x3 i : EReal) = mixed x0 x1 x2 x3 (i 0) (i 1) := by
  have h0 : (i 0).val < 8192 := (i 0).isLt; have h1 : (i 1).val < 1024 := (i 1).isLt
  have e0 : ((i 0).val * 1024 + (i 1).val) / 2097152 = (i 0).val / 2048 := by omega
  have e1 : ((i 0).val * 1024 + (i 1).val) / 1024 % 2048 = (i 0).val % 2048 := by omega
  have e2 : ((i 0).val * 1024 + (i 1).val) % 1024 = (i 1).val := by omega
  have hf := first_eq x0 x2 (idx_main_v11 i)
  have hs := second_eq x1 x3 (idx_main_v11 i)
  rw [val_main_v12_apply, val_main_v11_apply, val_main_v10_apply]
  unfold mixed
  refine congrArg₂ (fun u v : EReal => u + v) (hf.trans ?_) (hs.trans ?_)
  · show along x0 (column x2 (((i 0).val * 1024 + (i 1).val) / 2097152) (((i 0).val * 1024 + (i 1).val) % 1024)) (((i 0).val * 1024 + (i 1).val) / 1024 % 2048) = _
    rw [e0, e1, e2]
  · show along x1 (column x3 (((i 0).val * 1024 + (i 1).val) / 2097152) (((i 0).val * 1024 + (i 1).val) % 1024)) (((i 0).val * 1024 + (i 1).val) / 1024 % 2048) = _
    rw [e0, e1, e2]

end Cert.MixRefIdeal.Read

end
-- ==== Proof.InverseValue.lean ====
/-
  The inverse transform: the tiled kernel's result and the reference's, index by index.
-/
module

public import proofs.«01_k».proof.Proof.Gen.InverseIdeal.Value
public import proofs.«01_k».proof.Proof.Gen.InverseRefIdeal.Read
public import proofs.«01_k».proof.Proof.Mixing
public import proofs.«01_k».proof.Proof.CombineTiles
public import proofs.«01_k».proof.Proof.RopeTiles
public import Idealize.ShloMosaic.Lib.MatmulPlain
public import Idealize.ShloMosaic.Lib.ValueIdx
public import Idealize.ShloMosaic.Lib.ValueLayoutCasts
public import Idealize.ShloMosaic.Lib.IdealHost
public import Idealize.ShloMosaic.Lib.KernelVsHost
public import Idealize.ShloMosaic.Lib.Pipeline.Value
public import Idealize.ShloMosaic.Lib.Pipeline.FrameBody

@[expose] public section

set_option maxRecDepth 16384

noncomputable section

namespace Cert.InverseIdeal.Value

open Idealize.ShloMosaic hiding ix1 ix2 ix3 ix4 eq_ix2 eq_ix3 eq_ix4
open Cert.InverseIdeal Cert.InverseIdeal.Gen Idealize.ShloMosaic.TcCoe Idealize.ShloMosaic.Tactic Idealize.SL.Sem
open Idealize.ShloMosaic.ValueIdx Cert.Attention Cert.Moe Cert.Mixing
open Cert.CombineIdeal.Value (hz2 hz4)
open Idealize.ShloMosaic.Pipeline (Dat)

variable (m : (ℓ : Loc nD τ sig) → Buf (Elt Ideal) ℓ) (ρ : Dev nD → PrngReg)

/-- Which block each window reads or writes at a point. -/
theorem tiles : ∀ t : Fin cfg0.N,
    (win0_0.index t 0 = t.val % 4 ∧ win0_0.index t 1 = 0)
    ∧ (win0_1.index t 0 = t.val % 4 ∧ win0_1.index t 1 = 0)
    ∧ (win0_2.index t 0 = t.val / 8 ∧ win0_2.index t 1 = 0 ∧ win0_2.index t 2 = 0 ∧ win0_2.index t 3 = t.val / 4 % 2)
    ∧ (win0_3.index t 0 = t.val / 8 ∧ win0_3.index t 1 = 1 ∧ win0_3.index t 2 = 0 ∧ win0_3.index t 3 = t.val / 4 % 2)
    ∧ (win0_4.index t 0 = t.val / 8 * 4 + t.val % 4 ∧ win0_4.index t 1 = t.val / 4 % 2)
    ∧ (win0_5.index t 0 = t.val / 8 * 4 + t.val % 4 ∧ win0_5.index t 1 = t.val / 4 % 2)
    ∧ (win0_6.index t 0 = 0 ∧ win0_6.index t 1 = t.val / 4 % 2)
    ∧ (win0_7.index t 0 = t.val / 8 * 4 + t.val % 4 ∧ win0_7.index t 1 = t.val / 4 % 2) :=
  (by decide +kernel : ∀ t : Fin grid0.N,
    (win0_0.index t 0 = t.val % 4 ∧ win0_0.index t 1 = 0)
    ∧ (win0_1.index t 0 = t.val % 4 ∧ win0_1.index t 1 = 0)
    ∧ (win0_2.index t 0 = t.val / 8 ∧ win0_2.index t 1 = 0 ∧ win0_2.index t 2 = 0 ∧ win0_2.index t 3 = t.val / 4 % 2)
    ∧ (win0_3.index t 0 = t.val / 8 ∧ win0_3.index t 1 = 1 ∧ win0_3.index t 2 = 0 ∧ win0_3.index t 3 = t.val / 4 % 2)
    ∧ (win0_4.index t 0 = t.val / 8 * 4 + t.val % 4 ∧ win0_4.index t 1 = t.val / 4 % 2)
    ∧ (win0_5.index t 0 = t.val / 8 * 4 + t.val % 4 ∧ win0_5.index t 1 = t.val / 4 % 2)
    ∧ (win0_6.index t 0 = 0 ∧ win0_6.index t 1 = t.val / 4 % 2)
    ∧ (win0_7.index t 0 = t.val / 8 * 4 + t.val % 4 ∧ win0_7.index t 1 = t.val / 4 % 2))

/-- A tile of rows of a matrix of positions. -/
theorem block0 (c : Dev nD) (t : Fin cfg0.N) (r : Fin 512) (k : Fin 2048) :
    ((iblk m c 0 t : Vec Ideal S512x2048 .bf16) (ix2 r k) : EReal) = entry (m ((c : Thread nD τ).loc main_arg0)) (t.val % 4 * 512 + r.val) (k.val) := by
  obtain ⟨⟨h0, h1⟩, -⟩ := tiles t
  unfold iblk
  rw [View.read_apply]
  show V m c main_arg0 _ = _
  unfold V
  refine eq_entry (m (c.tc.loc main_arg0)) _ _ _ ?_ ?_
  · show win0_0.index t 0 * 512 + 1 * r.val = _; rw [h0]; omega
  · show win0_0.index t 1 * 2048 + 1 * k.val = _; rw [h1]; omega

/-- A tile of rows of a matrix of positions. -/
theorem block1 (c : Dev nD) (t : Fin cfg0.N) (r : Fin 512) (k : Fin 2048) :
    ((iblk m c 1 t : Vec Ideal S512x2048 .bf16) (ix2 r k) : EReal) = entry (m ((c : Thread nD τ).loc main_arg1)) (t.val % 4 * 512 + r.val) (k.val) := by
  obtain ⟨-, ⟨h0, h1⟩, -⟩ := tiles t
  unfold iblk
  rw [View.read_apply]
  show V m c main_arg1 _ = _
  unfold V
  refine eq_entry (m (c.tc.loc main_arg1)) _ _ _ ?_ ?_
  · show win0_1.index t 0 * 512 + 1 * r.val = _; rw [h0]; omega
  · show win0_1.index t 1 * 2048 + 1 * k.val = _; rw [h1]; omega

/-- A tile of channels of one transformed plane. -/
theorem block2 (c : Dev nD) (t : Fin cfg0.N) (u : Fin 1) (v : Fin 1) (k : Fin 2048) (l : Fin 512) :
    ((iblk m c 2 t : Vec Ideal S1x1x2048x512 .bf16) (ix4 u v k l) : EReal) = entry4 (m ((c : Thread nD τ).loc main_arg2)) (t.val / 8) (0) (k.val) (t.val / 4 % 2 * 512 + l.val) := by
  obtain ⟨-, -, ⟨h0, h1, h2, h3⟩, -⟩ := tiles t
  unfold iblk
  rw [View.read_apply]
  show V m c main_arg2 _ = _
  unfold V
  refine eq_entry4 (m (c.tc.loc main_arg2)) _ _ _ _ _ ?_ ?_ ?_ ?_
  · show win0_2.index t 0 * 1 + 1 * u.val = _; rw [h0]; omega
  · show win0_2.index t 1 * 1 + 1 * v.val = _; rw [h1]; omega
  · show win0_2.index t 2 * 2048 + 1 * k.val = _; rw [h2]; omega
  · show win0_2.index t 3 * 512 + 1 * l.val = _; rw [h3]; omega

/-- A tile of channels of one transformed plane. -/
theorem block3 (c : Dev nD) (t : Fin cfg0.N) (u : Fin 1) (v : Fin 1) (k : Fin 2048) (l : Fin 512) :
    ((iblk m c 3 t : Vec Ideal S1x1x2048x512 .bf16) (ix4 u v k l) : EReal) = entry4 (m ((c : Thread nD τ).loc main_arg2)) (t.val / 8) (1) (k.val) (t.val / 4 % 2 * 512 + l.val) := by
  obtain ⟨-, -, -, ⟨h0, h1, h2, h3⟩, -⟩ := tiles t
  unfold iblk
  rw [View.read_apply]
  show V m c main_arg2 _ = _
  unfold V
  refine eq_entry4 (m (c.tc.loc main_arg2)) _ _ _ _ _ ?_ ?_ ?_ ?_
  · show win0_3.index t 0 * 1 + 1 * u.val = _; rw [h0]; omega
  · show win0_3.index t 1 * 1 + 1 * v.val = _; rw [h1]; omega
  · show win0_3.index t 2 * 2048 + 1 * k.val = _; rw [h2]; omega
  · show win0_3.index t 3 * 512 + 1 * l.val = _; rw [h3]; omega

/-- A tile of the gate. -/
theorem block4 (c : Dev nD) (t : Fin cfg0.N) (r : Fin 512) (l : Fin 512) :
    ((iblk m c 4 t : Vec Ideal S512x512 .f32) (ix2 r l) : EReal) = entry (m ((c : Thread nD τ).loc main_arg3)) ((t.val / 8 * 4 + t.val % 4) * 512 + r.val) (t.val / 4 % 2 * 512 + l.val) := by
  obtain ⟨-, -, -, -, ⟨h0, h1⟩, -⟩ := tiles t
  unfold iblk
  rw [View.read_apply]
  show V m c main_arg3 _ = _
  unfold V
  refine eq_entry (m (c.tc.loc main_arg3)) _ _ _ ?_ ?_
  · show win0_4.index t 0 * 512 + 1 * r.val = _; rw [h0]; omega
  · show win0_4.index t 1 * 512 + 1 * l.val = _; rw [h1]; omega

/-- A tile of the skipped signal. -/
theorem block5 (c : Dev nD) (t : Fin cfg0.N) (r : Fin 512) (l : Fin 512) :
    ((iblk m c 5 t : Vec Ideal S512x512 .bf16) (ix2 r l) : EReal) = entry (m ((c : Thread nD τ).loc main_arg4)) ((t.val / 8 * 4 + t.val % 4) * 512 + r.val) (t.val / 4 % 2 * 512 + l.val) := by
  obtain ⟨-, -, -, -, -, ⟨h0, h1⟩, -⟩ := tiles t
  unfold iblk
  rw [View.read_apply]
  show V m c main_arg4 _ = _
  unfold V
  refine eq_entry (m (c.tc.loc main_arg4)) _ _ _ ?_ ?_
  · show win0_5.index t 0 * 512 + 1 * r.val = _; rw [h0]; omega
  · show win0_5.index t 1 * 512 + 1 * l.val = _; rw [h1]; omega

/-- A tile of the skip weights. -/
theorem block6 (c : Dev nD) (t : Fin cfg0.N) (u : Fin 1) (l : Fin 512) :
    ((iblk m c 6 t : Vec Ideal S1x512 .f32) (ix2 u l) : EReal) = entry (m ((c : Thread nD τ).loc main_arg5)) (0) (t.val / 4 % 2 * 512 + l.val) := by
  obtain ⟨-, -, -, -, -, -, ⟨h0, h1⟩, -⟩ := tiles t
  unfold iblk
  rw [View.read_apply]
  show V m c main_arg5 _ = _
  unfold V
  refine eq_entry (m (c.tc.loc main_arg5)) _ _ _ ?_ ?_
  · show win0_6.index t 0 * 1 + 1 * u.val = _; rw [h0]; omega
  · show win0_6.index t 1 * 512 + 1 * l.val = _; rw [h1]; omega

/-- A tile's product. -/
theorem product_apply (x : Vec Ideal S512x2048 .bf16) (w : Vec Ideal S2048x512 .bf16) (r l : Fin 512) :
    (matmul (φ₁ := .bf16) (φ₂ := .bf16) dot_S512x2048_S2048x512_S512x512_1_0_0_1_n_n none x w (constant (F := Ideal) S512x512 .f32 0x00000000#32) (ix2 r l) : EReal)
      = ∑ k : Fin 2048, (x (ix2 r k) : EReal) * (w (ix2 k l) : EReal) := by
  refine (Ideal.matmul_plain_apply (M := 512) (K := 2048) (N := 512) none x w _ r l).trans ?_
  rw [constant_apply, Ideal.ofBits_zero_f32, zero_add]

/-- What the body leaves: the gate times the sum of two products and the weighted skip. -/
theorem body_apply (x0 x1 : Vec Ideal S512x2048 .bf16) (x2 x3 : Vec Ideal S1x1x2048x512 .bf16) (x4 : Vec Ideal S512x512 .f32) (x5 : Vec Ideal S512x512 .bf16)
    (x6 : Vec Ideal S1x512 .f32) (r l : Fin 512) :
    (out0_7 x0 x1 x2 x3 x4 x5 x6 (ix2 r l) : EReal)
      = (x4 (ix2 r l) : EReal) * (∑ k : Fin 2048, (x0 (ix2 r k) : EReal) * (x2 (ix4 (0 : Fin 1) (0 : Fin 1) k l) : EReal)
          + ∑ k : Fin 2048, (x1 (ix2 r k) : EReal) * (x3 (ix4 (0 : Fin 1) (0 : Fin 1) k l) : EReal) + (x6 (ix2 (0 : Fin 1) l) : EReal) * (x5 (ix2 r l) : EReal)) := by
  unfold out0_7
  rw [View.canon_unit_zero hz2]
  unfold k0_pay1
  simp only [View.ld_unit_zero (S := S512x2048) hz2, View.ld_unit_zero (S := S1x1x2048x512) hz4, View.ld_unit_zero (S := S512x512) hz2, View.ld_unit_zero (S := S1x512) hz2]
  refine RopeIdeal.Value.trunc_at _ _ (RopeIdeal.Value.mul_at _ _ _ rfl (RopeIdeal.Value.add_at _ _ _ (RopeIdeal.Value.add_at _ _ _ ?_ ?_)
    (RopeIdeal.Value.mul_at _ _ _ (CombineIdeal.Value.row_apply _ _ (by decide) r l) rfl)))
  · refine (product_apply x0 _ r l).trans (Finset.sum_congr rfl fun k _ => congrArg₂ (fun u v : EReal => u * v) rfl ?_)
    exact planar (a := 2048) (b := 512) x2 _ k l
  · refine (product_apply x1 _ r l).trans (Finset.sum_congr rfl fun k _ => congrArg₂ (fun u v : EReal => u * v) rfl ?_)
    exact planar (a := 2048) (b := 512) x3 _ k l

/-- The result, as an array. -/
def result (c : Dev nD) : S8192x1024.Idx → EReal := fun i =>
  inverted (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (i 0) (i 1)

/-- Every point writes back its tile of the result. -/
theorem flushed_eq (c : Dev nD) (t : Fin cfg0.N) :
    (dats m 0 c).flushed 7 t = ((cfg0.win 7).blk t).view.read (Elt Ideal) (result m c) := by
  rw [flushed7]
  have ht : t.val < 32 := t.isLt
  obtain ⟨-, -, -, -, -, -, -, h0, h1⟩ := tiles t
  funext y
  obtain ⟨r, l, rfl⟩ : ∃ (r l : Fin 512), y = ix2 r l := ⟨y 0, y 1, eq_ix2 y⟩
  have hr := r.isLt
  rw [View.read_apply]
  show out0_7 (iblk m c 0 t) (iblk m c 1 t) (iblk m c 2 t) (iblk m c 3 t) (iblk m c 4 t) (iblk m c 5 t) (iblk m c 6 t) (ix2 r l)
    = inverted _ _ _ _ _ _ (win0_7.index t 0 * 512 + 1 * r.val) (win0_7.index t 1 * 512 + 1 * l.val)
  rw [body_apply, h0, h1]
  unfold inverted along
  rw [show ((t.val / 8 * 4 + t.val % 4) * 512 + 1 * r.val) / 2048 = t.val / 8 by omega,
    show ((t.val / 8 * 4 + t.val % 4) * 512 + 1 * r.val) % 2048 = t.val % 4 * 512 + r.val by omega, Nat.one_mul, Nat.one_mul]
  exact congrArg₂ (fun u v : EReal => u * v) (block4 m c t r l) (congrArg₂ (fun u v : EReal => u + v) (congrArg₂ (fun u v : EReal => u + v)
    (Finset.sum_congr rfl fun k _ => congrArg₂ (fun u v : EReal => u * v) (block0 m c t r k) (block2 m c t 0 0 k l))
    (Finset.sum_congr rfl fun k _ => congrArg₂ (fun u v : EReal => u * v) (block1 m c t r k) (block3 m c t 0 0 k l)))
    (congrArg₂ (fun u v : EReal => u * v) (block6 m c t 0 l) (block5 m c t r l)))

/-- Every index lies in the block of one point. -/
theorem covered (i : S8192x1024.Idx) : ∃ t : Fin cfg0.N, (cfg0.win 7).flush t = true ∧ i ∈ ((cfg0.win 7).blk t).view.set := by
  have hi0 : (i 0 : Nat) < 8192 := (i 0).isLt
  have hi1 : (i 1 : Nat) < 1024 := (i 1).isLt
  let t : Fin cfg0.N := ⟨(i 0 : Nat) / 2048 * 8 + (i 1 : Nat) / 512 * 4 + (i 0 : Nat) / 512 % 4, by rw [show cfg0.N = 32 from N_0]; omega⟩
  have hv : t.val = (i 0 : Nat) / 2048 * 8 + (i 1 : Nat) / 512 * 4 + (i 0 : Nat) / 512 % 4 := rfl
  obtain ⟨-, -, -, -, -, -, -, h0, h1⟩ := tiles t
  refine ⟨t, flush0_7 t, ?_⟩
  show i ∈ ((View.whole main_v0).slice (win0_7.rect t)).set
  rw [View.set_slice_whole, Rect.mem_set_unit]
  intro a
  match a with
  | ⟨0, _⟩ => show win0_7.index t 0 * 512 ≤ (i 0 : Nat) ∧ (i 0 : Nat) < win0_7.index t 0 * 512 + 512
              rw [h0]; omega
  | ⟨1, _⟩ => show win0_7.index t 1 * 512 ≤ (i 1 : Nat) ∧ (i 1 : Nat) < win0_7.index t 1 * 512 + 512
              rw [h1]; omega

/-- The array after the run. -/
theorem final_eq (c : Dev nD) : (dats m 0 c).arrAt 7 cfg0.N = result m c :=
  (dats m 0 c).arrAt_eq_of_cover 7 _ (fun t _ => flushed_eq m c t) covered

end Cert.InverseIdeal.Value

namespace Cert.InverseRefIdeal.Read

open Cert.InverseRefIdeal Idealize.ShloMosaic Idealize.ShloMosaic.ValueIdx Cert.Attention Cert.Moe Cert.Mixing

variable (x0 x1 : S2048x2048.Idx → EReal) (x2 : S4x2x2048x1024.Idx → EReal) (x3 : S8192x2048.Idx → EReal) (x4 : S8192x1024.Idx → EReal) (x5 : S1x1024.Idx → EReal)

/-- The first plane brought back along the positions. -/
theorem first_eq (i : S4x2048x1024.Idx) : (val_main_v5 (F := Ideal) x0 x2 i : EReal) = along x0 (fun p => entry4 x2 (i 0) 0 p (i 2)) (i 1) := by
  have h0 : (i 0).val < 4 := (i 0).isLt; have h1 : (i 1).val < 2048 := (i 1).isLt; have h2 : (i 2).val < 1024 := (i 2).isLt
  rw [val_main_v5_apply, val_main_v4_apply]
  unfold along
  refine Finset.sum_congr rfl fun k _ => (mul_comm (_ : EReal) _).trans (congrArg₂ (fun u v : EReal => u * v) (eq_entry x0 _ _ _ rfl rfl) ?_)
  rw [val_main_v3_apply, val_main_v1_apply, val_main_v0_apply]
  have hk := k.isLt
  refine eq_entry4 x2 _ _ _ _ _ ?_ rfl ?_ ?_
  · show (((i 0).val * 2048 + k.val) * 1024 + (i 2).val) / 2097152 = _; omega
  · show (((i 0).val * 2048 + k.val) * 1024 + (i 2).val) / 1024 % 2048 = _; omega
  · show (((i 0).val * 2048 + k.val) * 1024 + (i 2).val) % 1024 = _; omega

/-- The second plane brought back along the positions. -/
theorem second_eq (i : S4x2048x1024.Idx) : (val_main_v11 (F := Ideal) x1 x2 i : EReal) = along x1 (fun p => entry4 x2 (i 0) 1 p (i 2)) (i 1) := by
  have h0 : (i 0).val < 4 := (i 0).isLt; have h1 : (i 1).val < 2048 := (i 1).isLt; have h2 : (i 2).val < 1024 := (i 2).isLt
  rw [val_main_v11_apply, val_main_v10_apply]
  unfold along
  refine Finset.sum_congr rfl fun k _ => (mul_comm (_ : EReal) _).trans (congrArg₂ (fun u v : EReal => u * v) (eq_entry x1 _ _ _ rfl rfl) ?_)
  rw [val_main_v9_apply, val_main_v7_apply, val_main_v6_apply]
  have hk := k.isLt
  refine eq_entry4 x2 _ _ _ _ _ ?_ rfl ?_ ?_
  · show (((i 0).val * 2048 + k.val) * 1024 + (i 2).val) / 2097152 = _; omega
  · show (((i 0).val * 2048 + k.val) * 1024 + (i 2).val) / 1024 % 2048 = _; omega
  · show (((i 0).val * 2048 + k.val) * 1024 + (i 2).val) % 1024 = _; omega

/-- The reference's result. -/
theorem result_eq (i : S8192x1024.Idx) : (val_main_v20 (F := Ideal) x0 x1 x2 x3 x4 x5 i : EReal) = inverted x0 x1 x2 x3 x4 x5 (i 0) (i 1) := by
  have h0 : (i 0).val < 8192 := (i 0).isLt; have h1 : (i 1).val < 1024 := (i 1).isLt
  have e0 : ((i 0).val * 1024 + (i 1).val) / 2097152 = (i 0).val / 2048 := by omega
  have e1 : ((i 0).val * 1024 + (i 1).val) / 1024 % 2048 = (i 0).val % 2048 := by omega
  have e2 : ((i 0).val * 1024 + (i 1).val) % 1024 = (i 1).val := by omega
  have hf := first_eq x0 x2 (idx_main_v13 i)
  have hs := second_eq x1 x2 (idx_main_v13 i)
  rw [val_main_v20_apply, val_main_v19_apply, val_main_v17_apply, val_main_v18_apply, val_main_v13_apply, val_main_v12_apply, val_main_v16_apply, val_main_v15_apply]
  unfold inverted
  refine congrArg₂ (fun u v : EReal => u * v) (eq_entry x3 _ _ _ rfl rfl) (congrArg₂ (fun u v : EReal => u + v) (congrArg₂ (fun u v : EReal => u + v) (hf.trans ?_) (hs.trans ?_))
    ((mul_comm (_ : EReal) _).trans (congrArg₂ (fun u v : EReal => u * v) (eq_entry x5 _ _ _ rfl rfl) (eq_entry x4 _ _ _ rfl rfl))))
  · show along x0 (fun p => entry4 x2 (((i 0).val * 1024 + (i 1).val) / 2097152) 0 p (((i 0).val * 1024 + (i 1).val) % 1024)) (((i 0).val * 1024 + (i 1).val) / 1024 % 2048) = _
    rw [e0, e1, e2]
  · show along x1 (fun p => entry4 x2 (((i 0).val * 1024 + (i 1).val) / 2097152) 1 p (((i 0).val * 1024 + (i 1).val) % 1024)) (((i 0).val * 1024 + (i 1).val) / 1024 % 2048) = _
    rw [e0, e1, e2]

end Cert.InverseRefIdeal.Read

end
-- ==== Proof.ForwardValue.lean ====
/-
  The forward transform: the tiled kernel's result and the reference's, index by index.
-/
module

public import proofs.«01_k».proof.Proof.Gen.ForwardIdeal.Value
public import proofs.«01_k».proof.Proof.Gen.ForwardRefIdeal.Read
public import proofs.«01_k».proof.Proof.Mixing
public import proofs.«01_k».proof.Proof.CombineTiles
public import proofs.«01_k».proof.Proof.RopeTiles
public import Idealize.ShloMosaic.Lib.Pipeline.ValueKit.Tiles
public import Idealize.ShloMosaic.Lib.MatmulPlain
public import Idealize.ShloMosaic.Lib.ValueIdx
public import Idealize.ShloMosaic.Lib.ValueLayoutCasts
public import Idealize.ShloMosaic.Lib.IdealHost
public import Idealize.ShloMosaic.Lib.KernelVsHost
public import Idealize.ShloMosaic.Lib.Pipeline.Value
public import Idealize.ShloMosaic.Lib.Pipeline.FrameBody

@[expose] public section

set_option maxRecDepth 16384

noncomputable section

namespace Cert.ForwardIdeal.Value

open Idealize.ShloMosaic hiding ix1 ix2 ix3 ix4 eq_ix2 eq_ix3 eq_ix4
open Cert.ForwardIdeal Cert.ForwardIdeal.Gen Idealize.ShloMosaic.TcCoe Idealize.ShloMosaic.Tactic Idealize.SL.Sem
open Idealize.ShloMosaic.ValueIdx Cert.Attention Cert.Moe Cert.Mixing
open Cert.CombineIdeal.Value (hz2 hz4)
open Idealize.ShloMosaic.Pipeline (Dat)

variable (m : (ℓ : Loc nD τ sig) → Buf (Elt Ideal) ℓ) (ρ : Dev nD → PrngReg)

/-- Which block each window reads or writes at a point. -/
theorem tiles : ∀ t : Fin cfg0.N,
    (win0_0.index t 0 = t.val % 4 ∧ win0_0.index t 1 = 0)
    ∧ (win0_1.index t 0 = t.val % 4 ∧ win0_1.index t 1 = 0)
    ∧ (win0_2.index t 0 = t.val / 8 ∧ win0_2.index t 1 = t.val / 4 % 2)
    ∧ (win0_3.index t 0 = t.val / 8 ∧ win0_3.index t 1 = t.val / 4 % 2)
    ∧ (win0_4.index t 0 = 0 ∧ win0_4.index t 1 = 0 ∧ win0_4.index t 2 = t.val % 4 ∧ win0_4.index t 3 = t.val / 4 % 2)
    ∧ (win0_5.index t 0 = 0 ∧ win0_5.index t 1 = t.val / 4 % 2)
    ∧ (win0_6.index t 0 = t.val / 8 ∧ win0_6.index t 1 = 0 ∧ win0_6.index t 2 = t.val % 4 ∧ win0_6.index t 3 = t.val / 4 % 2)
    ∧ (grid0.coords t 2).val = t.val % 4 :=
  (by decide +kernel : ∀ t : Fin grid0.N,
    (win0_0.index t 0 = t.val % 4 ∧ win0_0.index t 1 = 0)
    ∧ (win0_1.index t 0 = t.val % 4 ∧ win0_1.index t 1 = 0)
    ∧ (win0_2.index t 0 = t.val / 8 ∧ win0_2.index t 1 = t.val / 4 % 2)
    ∧ (win0_3.index t 0 = t.val / 8 ∧ win0_3.index t 1 = t.val / 4 % 2)
    ∧ (win0_4.index t 0 = 0 ∧ win0_4.index t 1 = 0 ∧ win0_4.index t 2 = t.val % 4 ∧ win0_4.index t 3 = t.val / 4 % 2)
    ∧ (win0_5.index t 0 = 0 ∧ win0_5.index t 1 = t.val / 4 % 2)
    ∧ (win0_6.index t 0 = t.val / 8 ∧ win0_6.index t 1 = 0 ∧ win0_6.index t 2 = t.val % 4 ∧ win0_6.index t 3 = t.val / 4 % 2)
    ∧ (grid0.coords t 2).val = t.val % 4)

/-- A tile of rows of a matrix of positions. -/
theorem block0 (c : Dev nD) (t : Fin cfg0.N) (r : Fin 512) (k : Fin 2048) :
    ((iblk m c 0 t : Vec Ideal S512x2048 .bf16) (ix2 r k) : EReal) = entry (m ((c : Thread nD τ).loc main_arg0)) (t.val % 4 * 512 + r.val) (k.val) := by
  obtain ⟨⟨h0, h1⟩, -⟩ := tiles t
  unfold iblk
  rw [View.read_apply]
  show V m c main_arg0 _ = _
  unfold V
  refine eq_entry (m (c.tc.loc main_arg0)) _ _ _ ?_ ?_
  · show win0_0.index t 0 * 512 + 1 * r.val = _; rw [h0]; omega
  · show win0_0.index t 1 * 2048 + 1 * k.val = _; rw [h1]; omega

/-- A tile of rows of a matrix of positions. -/
theorem block1 (c : Dev nD) (t : Fin cfg0.N) (r : Fin 512) (k : Fin 2048) :
    ((iblk m c 1 t : Vec Ideal S512x2048 .bf16) (ix2 r k) : EReal) = entry (m ((c : Thread nD τ).loc main_arg1)) (t.val % 4 * 512 + r.val) (k.val) := by
  obtain ⟨-, ⟨h0, h1⟩, -⟩ := tiles t
  unfold iblk
  rw [View.read_apply]
  show V m c main_arg1 _ = _
  unfold V
  refine eq_entry (m (c.tc.loc main_arg1)) _ _ _ ?_ ?_
  · show win0_1.index t 0 * 512 + 1 * r.val = _; rw [h0]; omega
  · show win0_1.index t 1 * 2048 + 1 * k.val = _; rw [h1]; omega

/-- A tile of channels of one sequence. -/
theorem block2 (c : Dev nD) (t : Fin cfg0.N) (k : Fin 2048) (l : Fin 512) :
    ((iblk m c 2 t : Vec Ideal S2048x512 .bf16) (ix2 k l) : EReal) = entry (m ((c : Thread nD τ).loc main_arg2)) (t.val / 8 * 2048 + k.val) (t.val / 4 % 2 * 512 + l.val) := by
  obtain ⟨-, -, ⟨h0, h1⟩, -⟩ := tiles t
  unfold iblk
  rw [View.read_apply]
  show V m c main_arg2 _ = _
  unfold V
  refine eq_entry (m (c.tc.loc main_arg2)) _ _ _ ?_ ?_
  · show win0_2.index t 0 * 2048 + 1 * k.val = _; rw [h0]; omega
  · show win0_2.index t 1 * 512 + 1 * l.val = _; rw [h1]; omega

/-- A tile of channels of one sequence. -/
theorem block3 (c : Dev nD) (t : Fin cfg0.N) (k : Fin 2048) (l : Fin 512) :
    ((iblk m c 3 t : Vec Ideal S2048x512 .bf16) (ix2 k l) : EReal) = entry (m ((c : Thread nD τ).loc main_arg2)) (t.val / 8 * 2048 + k.val) (t.val / 4 % 2 * 512 + l.val) := by
  obtain ⟨-, -, -, ⟨h0, h1⟩, -⟩ := tiles t
  unfold iblk
  rw [View.read_apply]
  show V m c main_arg2 _ = _
  unfold V
  refine eq_entry (m (c.tc.loc main_arg2)) _ _ _ ?_ ?_
  · show win0_3.index t 0 * 2048 + 1 * k.val = _; rw [h0]; omega
  · show win0_3.index t 1 * 512 + 1 * l.val = _; rw [h1]; omega

/-- A tile of the filter's two planes. -/
theorem block4 (c : Dev nD) (t : Fin cfg0.N) (u : Fin 1) (p : Fin 2) (r : Fin 512) (l : Fin 512) :
    ((iblk m c 4 t : Vec Ideal S1x2x512x512 .f32) (ix4 u p r l) : EReal) = entry4 (m ((c : Thread nD τ).loc main_arg3)) (0) (p.val) (t.val % 4 * 512 + r.val) (t.val / 4 % 2 * 512 + l.val) := by
  obtain ⟨-, -, -, -, ⟨h0, h1, h2, h3⟩, -⟩ := tiles t
  unfold iblk
  rw [View.read_apply]
  show V m c main_arg3 _ = _
  unfold V
  refine eq_entry4 (m (c.tc.loc main_arg3)) _ _ _ _ _ ?_ ?_ ?_ ?_
  · show win0_4.index t 0 * 1 + 1 * u.val = _; rw [h0]; omega
  · show win0_4.index t 1 * 2 + 1 * p.val = _; rw [h1]; omega
  · show win0_4.index t 2 * 512 + 1 * r.val = _; rw [h2]; omega
  · show win0_4.index t 3 * 512 + 1 * l.val = _; rw [h3]; omega

/-- A tile of the filter at the highest frequency. -/
theorem block5 (c : Dev nD) (t : Fin cfg0.N) (u : Fin 1) (l : Fin 512) :
    ((iblk m c 5 t : Vec Ideal S1x512 .f32) (ix2 u l) : EReal) = entry (m ((c : Thread nD τ).loc main_arg4)) (0) (t.val / 4 % 2 * 512 + l.val) := by
  obtain ⟨-, -, -, -, -, ⟨h0, h1⟩, -⟩ := tiles t
  unfold iblk
  rw [View.read_apply]
  show V m c main_arg4 _ = _
  unfold V
  refine eq_entry (m (c.tc.loc main_arg4)) _ _ _ ?_ ?_
  · show win0_5.index t 0 * 1 + 1 * u.val = _; rw [h0]; omega
  · show win0_5.index t 1 * 512 + 1 * l.val = _; rw [h1]; omega

/-- A tile's product. -/
theorem product_apply (x : Vec Ideal S512x2048 .bf16) (w : Vec Ideal S2048x512 .bf16) (r l : Fin 512) :
    (matmul (φ₁ := .bf16) (φ₂ := .bf16) dot_S512x2048_S2048x512_S512x512_1_0_0_1_n_n none x w (constant (F := Ideal) S512x512 .f32 0x00000000#32) (ix2 r l) : EReal)
      = ∑ k : Fin 2048, (x (ix2 r k) : EReal) * (w (ix2 k l) : EReal) := by
  refine (Ideal.matmul_plain_apply (M := 512) (K := 2048) (N := 512) none x w _ r l).trans ?_
  rw [constant_apply, Ideal.ofBits_zero_f32, zero_add]

/-- A row of a tile of positions with a column of a tile of channels. -/
def dot (x : S512x2048.Idx → EReal) (w : S2048x512.Idx → EReal) (r l : Fin 512) : EReal := ∑ k : Fin 2048, x (ix2 r k) * w (ix2 k l)

/-- A tile of the real plane. -/
def tileRe (q : ℕ) (x0 x1 : S512x2048.Idx → EReal) (x2 x3 : S2048x512.Idx → EReal) (x4 : S1x2x512x512.Idx → EReal) (r l : Fin 512) : EReal :=
  dot x0 x2 r l * x4 (ix4 (0 : Fin 1) (0 : Fin 2) r l) - if q * 512 + r.val = 0 then 0 else dot x1 x3 r l * x4 (ix4 (0 : Fin 1) (1 : Fin 2) r l)

/-- A tile of the imaginary plane. -/
def tileIm (q : ℕ) (x0 x1 : S512x2048.Idx → EReal) (x2 x3 : S2048x512.Idx → EReal) (x4 : S1x2x512x512.Idx → EReal) (x5 : S1x512.Idx → EReal) (r l : Fin 512) : EReal :=
  if q * 512 + r.val = 0 then dot x1 x3 r l * x5 (ix2 (0 : Fin 1) l)
  else dot x0 x2 r l * x4 (ix4 (0 : Fin 1) (1 : Fin 2) r l) + dot x1 x3 r l * x4 (ix4 (0 : Fin 1) (0 : Fin 2) r l)

/-- The word of a row's frequency. -/
theorem row_word : ∀ (q : Fin 4) (r : Fin 512), IntOp.addi (Scalar.muli (BitVec.ofNat 32 q.val) 512#32) (BitVec.ofNat 32 (0 * 512 + r.val)) = BitVec.ofNat 32 (q.val * 512 + r.val) := by
  decide +kernel

/-- The choice at frequency zero. -/
theorem choose (i : grid0.Coords) (r l : Fin 512) (x y : EReal) :
    Scalar.select (k0_pay7 i (ix2 r l)) x y = if (i 2).val * 512 + r.val = 0 then x else y := by
  have hi : (i 2).val < 4 := (i 2).isLt
  have hr := r.isLt
  refine Eq.trans ?_ (select_first ((i 2).val * 512 + r.val) (by omega) x y)
  rw [← row_word ⟨(i 2).val, hi⟩ r]
  rfl

/-- The filter's real plane in a tile. -/
theorem plane0 (x4 : Vec Ideal S1x2x512x512 .f32) (r l : Fin 512) : (k0_pay5 (View.ld x4 r0_2) (ix2 r l) : EReal) = x4 (ix4 (0 : Fin 1) (0 : Fin 2) r l) := by
  unfold k0_pay5
  refine (planar (a := 512) (b := 512) _ _ r l).trans (View.ld_unit_apply_of _ _ _ _ _ _ fun a => ?_)
  match a with
  | ⟨0, _⟩ => rfl
  | ⟨1, _⟩ => rfl
  | ⟨2, _⟩ => exact (Nat.zero_add _).symm
  | ⟨3, _⟩ => exact (Nat.zero_add _).symm

/-- The filter's imaginary plane in a tile. -/
theorem plane1 (x4 : Vec Ideal S1x2x512x512 .f32) (r l : Fin 512) : (k0_pay6 (View.ld x4 r0_3) (ix2 r l) : EReal) = x4 (ix4 (0 : Fin 1) (1 : Fin 2) r l) := by
  unfold k0_pay6
  refine (planar (a := 512) (b := 512) _ _ r l).trans (View.ld_unit_apply_of _ _ _ _ _ _ fun a => ?_)
  match a with
  | ⟨0, _⟩ => rfl
  | ⟨1, _⟩ => rfl
  | ⟨2, _⟩ => exact (Nat.zero_add _).symm
  | ⟨3, _⟩ => exact (Nat.zero_add _).symm

/-- The body's real tile. -/
theorem re_apply (i : grid0.Coords) (x0 x1 : Vec Ideal S512x2048 .bf16) (x2 x3 : Vec Ideal S2048x512 .bf16) (x4 : Vec Ideal S1x2x512x512 .f32) (r l : Fin 512) :
    (k0_pay9 i x0 x2 x1 x3 (View.ld x4 r0_2) (View.ld x4 r0_3) (ix2 r l) : EReal) = tileRe (i 2).val x0 x1 x2 x3 x4 r l := by
  unfold k0_pay9 tileRe
  refine congrArg₂ (fun u v : EReal => u - v) (RopeIdeal.Value.mul_at _ _ _ (product_apply x0 x2 r l) (plane0 x4 r l)) ?_
  refine (choose i r l _ _).trans ?_
  refine congrArg₂ (fun u v : EReal => if (i 2).val * 512 + r.val = 0 then u else v) Ideal.ofBits_zero_f32 ?_
  exact RopeIdeal.Value.mul_at _ _ _ (product_apply x1 x3 r l) (plane1 x4 r l)

/-- The body's imaginary tile. -/
theorem im_apply (i : grid0.Coords) (x0 x1 : Vec Ideal S512x2048 .bf16) (x2 x3 : Vec Ideal S2048x512 .bf16) (x4 : Vec Ideal S1x2x512x512 .f32) (x5 : Vec Ideal S1x512 .f32) (r l : Fin 512) :
    (k0_pay8 i x0 x2 x1 x3 (View.ld x4 r0_2) (View.ld x4 r0_3) x5 (ix2 r l) : EReal) = tileIm (i 2).val x0 x1 x2 x3 x4 x5 r l := by
  unfold k0_pay8 tileIm
  refine (choose i r l _ _).trans ?_
  refine congrArg₂ (fun u v : EReal => if (i 2).val * 512 + r.val = 0 then u else v) ?_ ?_
  · exact RopeIdeal.Value.mul_at _ _ _ (product_apply x1 x3 r l) (CombineIdeal.Value.row_apply _ _ (by decide) r l)
  · exact RopeIdeal.Value.add_at _ _ _ (RopeIdeal.Value.mul_at _ _ _ (product_apply x0 x2 r l) (plane1 x4 r l))
      (RopeIdeal.Value.mul_at _ _ _ (product_apply x1 x3 r l) (plane0 x4 r l))

/-- What the body leaves: both planes' tiles. -/
theorem body_apply (i : grid0.Coords) (x0 x1 : Vec Ideal S512x2048 .bf16) (x2 x3 : Vec Ideal S2048x512 .bf16) (x4 : Vec Ideal S1x2x512x512 .f32) (x5 : Vec Ideal S1x512 .f32)
    (y : S1x2x512x512.Idx) :
    (out0_6 i x0 x1 x2 x3 x4 x5 y : EReal) = if (y 1).val = 0 then tileRe (i 2).val x0 x1 x2 x3 x4 (y 2) (y 3) else tileIm (i 2).val x0 x1 x2 x3 x4 x5 (y 2) (y 3) := by
  unfold out0_6
  refine View.canon_apply_of_pieces (Val := Elt Ideal) (e := .bf16) (fun y : S1x2x512x512.Idx => (if (y 1).val = 0 then tileRe (i 2).val x0 x1 x2 x3 x4 (y 2) (y 3) else tileIm (i 2).val x0 x1 x2 x3 x4 x5 (y 2) (y 3) : EReal)) _ ?_ y (cover0_6 _ _ y)
  simp only [List.forall_mem_cons, View.ld_unit_zero (S := S512x2048) hz2, View.ld_unit_zero (S := S2048x512) hz2, View.ld_unit_zero (S := S1x512) hz2]
  refine ⟨fun x => ?_, fun x => ?_, fun p hp => absurd hp List.not_mem_nil⟩
  · obtain ⟨r, l, rfl⟩ : ∃ (r l : Fin 512), x = ix4 (0 : Fin 1) (0 : Fin 1) r l :=
      ⟨x 2, x 3, (eq_ix4 x).trans (by rw [show x 0 = (0 : Fin 1) from Subsingleton.elim (α := Fin 1) _ _, show x 1 = (0 : Fin 1) from Subsingleton.elim (α := Fin 1) _ _]; rfl)⟩
    have e2 : (r0_3.emb (ix4 (0 : Fin 1) (0 : Fin 1) r l)) 2 = r := Fin.ext (by show 0 + 1 * r.val = r.val; omega)
    have e3 : (r0_3.emb (ix4 (0 : Fin 1) (0 : Fin 1) r l)) 3 = l := Fin.ext (by show 0 + 1 * l.val = l.val; omega)
    unfold k0_pay2
    refine ((stacked (a := 512) (b := 512) _ _ r l).trans (im_apply i x0 x1 x2 x3 x4 x5 r l)).trans ?_
    exact ((if_neg (show ¬ (1 + 1 * 0 = 0) by omega)).trans (congrArg₂ (tileIm (i 2).val x0 x1 x2 x3 x4 x5) e2 e3)).symm
  · obtain ⟨r, l, rfl⟩ : ∃ (r l : Fin 512), x = ix4 (0 : Fin 1) (0 : Fin 1) r l :=
      ⟨x 2, x 3, (eq_ix4 x).trans (by rw [show x 0 = (0 : Fin 1) from Subsingleton.elim (α := Fin 1) _ _, show x 1 = (0 : Fin 1) from Subsingleton.elim (α := Fin 1) _ _]; rfl)⟩
    have e2 : (r0_2.emb (ix4 (0 : Fin 1) (0 : Fin 1) r l)) 2 = r := Fin.ext (by show 0 + 1 * r.val = r.val; omega)
    have e3 : (r0_2.emb (ix4 (0 : Fin 1) (0 : Fin 1) r l)) 3 = l := Fin.ext (by show 0 + 1 * l.val = l.val; omega)
    unfold k0_pay1
    refine ((stacked (a := 512) (b := 512) _ _ r l).trans (re_apply i x0 x1 x2 x3 x4 r l)).trans ?_
    exact ((if_pos (show (0 + 1 * 0 = 0) by omega)).trans (congrArg₂ (tileRe (i 2).val x0 x1 x2 x3 x4) e2 e3)).symm

/-- The result, as an array. -/
def result (c : Dev nD) : S4x2x2048x1024.Idx → EReal := fun i =>
  if (i 1).val = 0 then realPlane (m ((c : Thread nD τ).loc main_arg0)) (m ((c : Thread nD τ).loc main_arg1)) (m ((c : Thread nD τ).loc main_arg2))
    (m ((c : Thread nD τ).loc main_arg3)) (i 0) (i 2) (i 3)
  else imagPlane (m ((c : Thread nD τ).loc main_arg0)) (m ((c : Thread nD τ).loc main_arg1)) (m ((c : Thread nD τ).loc main_arg2))
    (m ((c : Thread nD τ).loc main_arg3)) (m ((c : Thread nD τ).loc main_arg4)) (i 0) (i 2) (i 3)

/-- Every point writes back its tile of the result. -/
theorem flushed_eq (c : Dev nD) (t : Fin cfg0.N) :
    (dats m 0 c).flushed 6 t = ((cfg0.win 6).blk t).view.read (Elt Ideal) (result m c) := by
  rw [flushed6]
  have ht : t.val < 32 := t.isLt
  obtain ⟨-, -, -, -, -, -, ⟨h0, h1, h2, h3⟩, h4⟩ := tiles t
  funext y
  obtain ⟨u, p, r, l, rfl⟩ : ∃ (u : Fin 1) (p : Fin 2) (r l : Fin 512), y = ix4 u p r l := ⟨y 0, y 1, y 2, y 3, eq_ix4 y⟩
  have hu := u.isLt
  have hr := r.isLt
  rw [View.read_apply]
  show out0_6 (grid0.coords t) (iblk m c 0 t) (iblk m c 1 t) (iblk m c 2 t) (iblk m c 3 t) (iblk m c 4 t) (iblk m c 5 t) (ix4 u p r l)
    = if win0_6.index t 1 * 2 + 1 * p.val = 0 then
        realPlane _ _ _ _ (win0_6.index t 0 * 1 + 1 * u.val) (win0_6.index t 2 * 512 + 1 * r.val) (win0_6.index t 3 * 512 + 1 * l.val)
      else imagPlane _ _ _ _ _ (win0_6.index t 0 * 1 + 1 * u.val) (win0_6.index t 2 * 512 + 1 * r.val) (win0_6.index t 3 * 512 + 1 * l.val)
  rw [body_apply, h0, h1, h2, h3, h4, show t.val / 8 * 1 + 1 * u.val = t.val / 8 by omega, show 0 * 2 + 1 * p.val = p.val by omega, Nat.one_mul, Nat.one_mul]
  have d0 : dot (iblk m c 0 t) (iblk m c 2 t) r l = along (m ((c : Thread nD τ).loc main_arg0)) (column (m ((c : Thread nD τ).loc main_arg2)) (t.val / 8) (t.val / 4 % 2 * 512 + l.val)) (t.val % 4 * 512 + r.val) :=
    Finset.sum_congr rfl fun k _ => congrArg₂ (fun u v : EReal => u * v) (block0 m c t r k) (block2 m c t k l)
  have d1 : dot (iblk m c 1 t) (iblk m c 3 t) r l = along (m ((c : Thread nD τ).loc main_arg1)) (column (m ((c : Thread nD τ).loc main_arg2)) (t.val / 8) (t.val / 4 % 2 * 512 + l.val)) (t.val % 4 * 512 + r.val) :=
    Finset.sum_congr rfl fun k _ => congrArg₂ (fun u v : EReal => u * v) (block1 m c t r k) (block3 m c t k l)
  have g0 := block4 m c t 0 0 r l
  have g1 := block4 m c t 0 1 r l
  have g2 := block5 m c t 0 l
  show (if p.val = 0 then tileRe (t.val % 4) _ _ _ _ _ r l else tileIm (t.val % 4) _ _ _ _ _ _ r l) = _
  refine congrArg₂ (fun u v : EReal => if p.val = 0 then u else v) ?_ ?_
  · unfold tileRe realPlane
    rw [d0, d1]
    exact congrArg₂ (fun u v : EReal => u - v) (congrArg _ g0) (congrArg (fun v : EReal => if t.val % 4 * 512 + r.val = 0 then 0 else v) (congrArg _ g1))
  · unfold tileIm imagPlane
    rw [d0, d1]
    exact congrArg₂ (fun u v : EReal => if t.val % 4 * 512 + r.val = 0 then u else v) (congrArg _ g2) (congrArg₂ (fun u v : EReal => u + v) (congrArg _ g1) (congrArg _ g0))

/-- Every index lies in the block of one point. -/
theorem covered (i : S4x2x2048x1024.Idx) : ∃ t : Fin cfg0.N, (cfg0.win 6).flush t = true ∧ i ∈ ((cfg0.win 6).blk t).view.set := by
  have hi0 : (i 0 : Nat) < 4 := (i 0).isLt
  have hi1 : (i 1 : Nat) < 2 := (i 1).isLt
  have hi2 : (i 2 : Nat) < 2048 := (i 2).isLt
  have hi3 : (i 3 : Nat) < 1024 := (i 3).isLt
  let t : Fin cfg0.N := ⟨(i 0 : Nat) * 8 + (i 3 : Nat) / 512 * 4 + (i 2 : Nat) / 512, by rw [show cfg0.N = 32 from N_0]; omega⟩
  have hv : t.val = (i 0 : Nat) * 8 + (i 3 : Nat) / 512 * 4 + (i 2 : Nat) / 512 := rfl
  obtain ⟨-, -, -, -, -, -, ⟨h0, h1, h2, h3⟩, -⟩ := tiles t
  refine ⟨t, flush0_6 t, ?_⟩
  show i ∈ ((View.whole main_v0).slice (win0_6.rect t)).set
  rw [View.set_slice_whole, Rect.mem_set_unit]
  intro a
  match a with
  | ⟨0, _⟩ => show win0_6.index t 0 * 1 ≤ (i 0 : Nat) ∧ (i 0 : Nat) < win0_6.index t 0 * 1 + 1
              rw [h0]; omega
  | ⟨1, _⟩ => show win0_6.index t 1 * 2 ≤ (i 1 : Nat) ∧ (i 1 : Nat) < win0_6.index t 1 * 2 + 2
              rw [h1]; omega
  | ⟨2, _⟩ => show win0_6.index t 2 * 512 ≤ (i 2 : Nat) ∧ (i 2 : Nat) < win0_6.index t 2 * 512 + 512
              rw [h2]; omega
  | ⟨3, _⟩ => show win0_6.index t 3 * 512 ≤ (i 3 : Nat) ∧ (i 3 : Nat) < win0_6.index t 3 * 512 + 512
              rw [h3]; omega

/-- The array after the run. -/
theorem final_eq (c : Dev nD) : (dats m 0 c).arrAt 6 cfg0.N = result m c :=
  (dats m 0 c).arrAt_eq_of_cover 6 _ (fun t _ => flushed_eq m c t) covered

end Cert.ForwardIdeal.Value

namespace Cert.ForwardRefIdeal.Read

open Cert.ForwardRefIdeal Idealize.ShloMosaic Idealize.ShloMosaic.ValueIdx Cert.Attention Cert.Moe Cert.Mixing

variable (x0 x1 : S2048x2048.Idx → EReal) (x2 : S8192x1024.Idx → EReal) (x3 : S1x2x2048x2048.Idx → EReal) (x4 : S1x2048.Idx → EReal)

/-- The first transform along the positions. -/
theorem first_eq (i : S4x2048x1024.Idx) : (val_main_v4 (F := Ideal) x0 x2 i : EReal) = along x0 (column x2 (i 0) (i 2)) (i 1) := by
  have h0 : (i 0).val < 4 := (i 0).isLt; have h1 : (i 1).val < 2048 := (i 1).isLt; have h2 : (i 2).val < 1024 := (i 2).isLt
  rw [val_main_v4_apply, val_main_v3_apply]
  unfold along column
  refine Finset.sum_congr rfl fun k _ => (mul_comm (_ : EReal) _).trans (congrArg₂ (fun u v : EReal => u * v) (eq_entry x0 _ _ _ rfl rfl) ?_)
  rw [val_main_v2_apply, val_main_v0_apply]
  have hk := k.isLt
  refine eq_entry x2 _ _ _ ?_ ?_
  · show (((i 0).val * 2048 + k.val) * 1024 + (i 2).val) / 1024 = _; omega
  · show (((i 0).val * 2048 + k.val) * 1024 + (i 2).val) % 1024 = _; omega

/-- The second transform along the positions. -/
theorem second_eq (i : S4x2048x1024.Idx) : (val_main_v8 (F := Ideal) x1 x2 i : EReal) = along x1 (column x2 (i 0) (i 2)) (i 1) := by
  have h0 : (i 0).val < 4 := (i 0).isLt; have h1 : (i 1).val < 2048 := (i 1).isLt; have h2 : (i 2).val < 1024 := (i 2).isLt
  rw [val_main_v8_apply, val_main_v7_apply]
  unfold along column
  refine Finset.sum_congr rfl fun k _ => (mul_comm (_ : EReal) _).trans (congrArg₂ (fun u v : EReal => u * v) (eq_entry x1 _ _ _ rfl rfl) ?_)
  rw [val_main_v6_apply, val_main_v0_apply]
  have hk := k.isLt
  refine eq_entry x2 _ _ _ ?_ ?_
  · show (((i 0).val * 2048 + k.val) * 1024 + (i 2).val) / 1024 = _; omega
  · show (((i 0).val * 2048 + k.val) * 1024 + (i 2).val) % 1024 = _; omega

/-- The filter's real plane. -/
theorem plane0 (i : S2048x1024.Idx) : (val_main_v10 (F := Ideal) x3 i : EReal) = entry4 x3 0 0 (i 0) (i 1) := by
  have h0 : (i 0).val < 2048 := (i 0).isLt; have h1 : (i 1).val < 1024 := (i 1).isLt
  rw [val_main_v10_apply, val_main_v9_apply]
  refine eq_entry4 x3 _ _ _ _ _ rfl rfl ?_ ?_
  · show ((i 0).val * 1024 + (i 1).val) / 1024 % 2048 = _; omega
  · show ((i 0).val * 1024 + (i 1).val) % 1024 = _; omega

/-- The filter's imaginary plane. -/
theorem plane1 (i : S2048x1024.Idx) : (val_main_v12 (F := Ideal) x3 i : EReal) = entry4 x3 0 1 (i 0) (i 1) := by
  have h0 : (i 0).val < 2048 := (i 0).isLt; have h1 : (i 1).val < 1024 := (i 1).isLt
  rw [val_main_v12_apply, val_main_v11_apply]
  refine eq_entry4 x3 _ _ _ _ _ rfl rfl ?_ ?_
  · show ((i 0).val * 1024 + (i 1).val) / 1024 % 2048 = _; omega
  · show ((i 0).val * 1024 + (i 1).val) % 1024 = _; omega

/-- The reference's real plane. -/
theorem real_eq (i : S4x2048x1024.Idx) : (val_main_v27 (F := Ideal) x0 x1 x2 x3 i : EReal) = realPlane x0 x1 x2 x3 (i 0) (i 1) (i 2) := by
  have e19 : (val_main_v19 (F := Ideal) x0 x2 x3 i : EReal) = along x0 (column x2 (i 0) (i 2)) (i 1) * entry4 x3 0 0 (i 1) (i 2) := by
    rw [val_main_v19_apply, val_main_v18_apply, val_main_v17_apply]
    exact congrArg₂ (fun u v : EReal => u * v) (first_eq x0 x2 i) (plane0 x3 _)
  have e22 : (val_main_v22 (F := Ideal) x0 x2 x3 i : EReal) = along x0 (column x2 (i 0) (i 2)) (i 1) * entry4 x3 0 0 (i 1) (i 2) := by
    rw [val_main_v22_apply, val_main_v21_apply, val_main_v20_apply]
    exact congrArg₂ (fun u v : EReal => u * v) (first_eq x0 x2 i) (plane0 x3 _)
  have e25 : (val_main_v25 (F := Ideal) x1 x2 x3 i : EReal) = along x1 (column x2 (i 0) (i 2)) (i 1) * entry4 x3 0 1 (i 1) (i 2) := by
    rw [val_main_v25_apply, val_main_v24_apply, val_main_v23_apply]
    exact congrArg₂ (fun u v : EReal => u * v) (second_eq x1 x2 i) (plane1 x3 _)
  rw [val_main_v27_apply, val_main_call0_v0_apply, val_main_v16_apply, val_main_v15_apply]
  refine (select_first (i 1).val (i 1).isLt _ _).trans ?_
  unfold realPlane
  by_cases h : (i 1).val = 0
  · rw [if_pos h, if_pos h, sub_zero]
    exact e19
  · rw [if_neg h, if_neg h]
    exact congrArg₂ (fun u v : EReal => u - v) e22 e25

/-- The reference's imaginary plane. -/
theorem imag_eq (i : S4x2048x1024.Idx) : (val_main_v39 (F := Ideal) x0 x1 x2 x3 x4 i : EReal) = imagPlane x0 x1 x2 x3 x4 (i 0) (i 1) (i 2) := by
  rw [val_main_v39_apply, val_main_call1_v0_apply, val_main_v16_apply, val_main_v15_apply]
  refine (select_first (i 1).val (i 1).isLt _ _).trans ?_
  unfold imagPlane
  refine congrArg₂ (fun u v : EReal => if (i 1).val = 0 then u else v) ?_ ?_
  · rw [val_main_v31_apply, val_main_v30_apply, val_main_v29_apply, val_main_v28_apply]
    exact congrArg₂ (fun u v : EReal => u * v) (second_eq x1 x2 i) (eq_entry x4 _ _ _ rfl rfl)
  · rw [val_main_v38_apply, val_main_v34_apply, val_main_v33_apply, val_main_v32_apply, val_main_v37_apply, val_main_v36_apply, val_main_v35_apply]
    exact congrArg₂ (fun u v : EReal => u + v) (congrArg₂ (fun u v : EReal => u * v) (first_eq x0 x2 i) (plane1 x3 _))
      (congrArg₂ (fun u v : EReal => u * v) (second_eq x1 x2 i) (plane0 x3 _))

/-- The reference's result. -/
theorem result_eq (i : S4x2x2048x1024.Idx) : (val_main_v43 (F := Ideal) x0 x1 x2 x3 x4 i : EReal)
    = if (i 1).val = 0 then realPlane x0 x1 x2 x3 (i 0) (i 2) (i 3) else imagPlane x0 x1 x2 x3 x4 (i 0) (i 2) (i 3) := by
  obtain ⟨b, p, t, d, rfl⟩ : ∃ (b : Fin 4) (p : Fin 2) (t : Fin 2048) (d : Fin 1024), i = ValueIdx.ix4 b p t d := ⟨i 0, i 1, i 2, i 3, ValueIdx.eq_ix4 i⟩
  rw [val_main_v43_apply]
  unfold val_main_v42
  show (concatenate _ _ _ _ (ValueIdx.ix4 b p t d) : EReal) = if p.val = 0 then realPlane x0 x1 x2 x3 b t d else imagPlane x0 x1 x2 x3 x4 b t d
  have hp := p.isLt
  by_cases h : p.val = 0
  · rw [if_pos h]
    refine (concatenate_apply_piece (t := S4x2x2048x1024) 1 _ _ (ValueIdx.ix4 b p t d) 0 (by simp) S4x1x2048x1024 (val_main_v40 (F := Ideal) x0 x1 x2 x3) rfl rfl 0 rfl (ValueIdx.ix4 b (0 : Fin 1) t d)
      (fun a => match a with | ⟨0, _⟩ => fun _ => rfl | ⟨1, _⟩ => fun h => absurd rfl h | ⟨2, _⟩ => fun _ => rfl | ⟨3, _⟩ => fun _ => rfl) h.symm).trans ?_
    rw [val_main_v40_apply]
    exact real_eq x0 x1 x2 x3 _
  · rw [if_neg h]
    refine (concatenate_apply_piece (t := S4x2x2048x1024) 1 _ _ (ValueIdx.ix4 b p t d) 1 (by simp) S4x1x2048x1024 (val_main_v41 (F := Ideal) x0 x1 x2 x3 x4) rfl rfl 1 rfl (ValueIdx.ix4 b (0 : Fin 1) t d)
      (fun a => match a with | ⟨0, _⟩ => fun _ => rfl | ⟨1, _⟩ => fun h => absurd rfl h | ⟨2, _⟩ => fun _ => rfl | ⟨3, _⟩ => fun _ => rfl) (by show 1 + 0 = p.val; omega)).trans ?_
    rw [val_main_v41_apply]
    exact imag_eq x0 x1 x2 x3 x4 _

end Cert.ForwardRefIdeal.Read

end
-- ==== Proof.LatentValue.lean ====
/-
  The latent's up-projection: the tiled kernel's result and the reference's, index by index.
-/
module

public import proofs.«01_k».proof.Proof.Gen.LatentIdeal.Value
public import proofs.«01_k».proof.Proof.Gen.LatentRefIdeal.Read
public import proofs.«01_k».proof.Proof.Mixing
public import proofs.«01_k».proof.Proof.CombineTiles
public import proofs.«01_k».proof.Proof.RopeTiles
public import Idealize.ShloMosaic.Lib.MatmulPlain
public import Idealize.ShloMosaic.Lib.ValueIdx
public import Idealize.ShloMosaic.Lib.ValueLayoutCasts
public import Idealize.ShloMosaic.Lib.IdealHost
public import Idealize.ShloMosaic.Lib.KernelVsHost
public import Idealize.ShloMosaic.Lib.Pipeline.Value
public import Idealize.ShloMosaic.Lib.Pipeline.FrameBody

@[expose] public section

set_option maxRecDepth 16384

noncomputable section

namespace Cert.LatentIdeal.Value

open Idealize.ShloMosaic hiding ix1 ix2 ix3 ix4 eq_ix2 eq_ix3 eq_ix4
open Cert.LatentIdeal Cert.LatentIdeal.Gen Idealize.ShloMosaic.TcCoe Idealize.ShloMosaic.Tactic Idealize.SL.Sem
open Idealize.ShloMosaic.ValueIdx Cert.Attention Cert.Moe Cert.Mixing
open Cert.CombineIdeal.Value (hz2 hz4)
open Idealize.ShloMosaic.Pipeline (Dat)

variable (m : (ℓ : Loc nD τ sig) → Buf (Elt Ideal) ℓ) (ρ : Dev nD → PrngReg)

/-- Which block each window reads or writes at a point. -/
theorem tiles : ∀ t : Fin cfg0.N,
    (win0_0.index t 0 = t.val ∧ win0_0.index t 1 = 4)
    ∧ (win0_1.index t 0 = 0 ∧ win0_1.index t 1 = 0)
    ∧ (win0_2.index t 0 = 0 ∧ win0_2.index t 1 = 0)
    ∧ (win0_3.index t 0 = t.val ∧ win0_3.index t 1 = 0) :=
  (by decide +kernel : ∀ t : Fin grid0.N,
    (win0_0.index t 0 = t.val ∧ win0_0.index t 1 = 4)
    ∧ (win0_1.index t 0 = 0 ∧ win0_1.index t 1 = 0)
    ∧ (win0_2.index t 0 = 0 ∧ win0_2.index t 1 = 0)
    ∧ (win0_3.index t 0 = t.val ∧ win0_3.index t 1 = 0))

/-- A tile of latent columns: no block of the first window is cut. -/
theorem block0 (c : Dev nD) (t : Fin cfg0.N) (r k : Fin 512) :
    ((X0_0 m c t : Vec Ideal S512x512 .bf16) (ix2 r k) : EReal) = entry (m ((c : Thread nD τ).loc main_arg0)) (t.val * 512 + r.val) (2048 + k.val) := by
  obtain ⟨⟨h0, h1⟩, -⟩ := tiles t
  unfold X0_0 Pipeline.Window.fill
  rw [dif_pos (moved0_0 t (ix2 r k))]
  unfold iblk
  rw [View.read_apply]
  show V m c main_arg0 _ = _
  rw [V_main_arg0]
  refine eq_entry (m (c.tc.loc main_arg0)) _ _ _ ?_ ?_
  · show win0_0.index t 0 * 512 + 1 * r.val = _; rw [h0]; omega
  · show win0_0.index t 1 * 512 + 1 * k.val = _; rw [h1]; omega

/-- The gain as a row, as the host leaves it. -/
theorem gain_row (c : Dev nD) : V m c main_v0 = shapeCast S1x512 (m ((c : Thread nD τ).loc main_arg1)) shapeCasts_S512_S1x512 := by
  simp only [V, hostOps0]
  after_results_simp <;> rfl

/-- The gain's block. -/
theorem block1 (c : Dev nD) (t : Fin cfg0.N) (k : Fin 512) :
    ((iblk m c 1 t : Vec Ideal S1x512 .f32) (ix2 (0 : Fin 1) k) : EReal) = gain (m ((c : Thread nD τ).loc main_arg1)) k.val := by
  obtain ⟨-, ⟨h0, h1⟩, -⟩ := tiles t
  unfold iblk
  rw [View.read_apply]
  show V m c main_v0 _ = _
  rw [gain_row]
  refine (shapeCast_apply (s := S512) (t := S1x512) (m (c.tc.loc main_arg1)) shapeCasts_S512_S1x512 _ (ix1 k) ?_).trans (eq_gain _ _ _ rfl)
  rw [Shape.rowMajor_val_two, Shape.rowMajor_val_one]
  show k.val = (win0_1.index t 0 * 1 + 1 * 0) * 512 + (win0_1.index t 1 * 512 + 1 * k.val)
  rw [h0, h1]; omega

/-- The up-projection's block, all of it. -/
theorem block2 (c : Dev nD) (t : Fin cfg0.N) (k : Fin 512) (d : Fin 2048) :
    ((iblk m c 2 t : Vec Ideal S512x2048 .bf16) (ix2 k d) : EReal) = entry (m ((c : Thread nD τ).loc main_arg2)) k.val d.val := by
  obtain ⟨-, -, ⟨h0, h1⟩, -⟩ := tiles t
  unfold iblk
  rw [View.read_apply]
  show V m c main_arg2 _ = _
  rw [V_main_arg2]
  refine eq_entry (m (c.tc.loc main_arg2)) _ _ _ ?_ ?_
  · show win0_2.index t 0 * 512 + 1 * k.val = _; rw [h0]; omega
  · show win0_2.index t 1 * 2048 + 1 * d.val = _; rw [h1]; omega

/-- The named word added to the mean square. -/
theorem eps_named : (Named.named (F := Ideal) (φ := .f32) κ "eps" 0x358637BD#32 : EReal) = PostNorm.eps := rfl

/-- A row over the root of its mean square. -/
theorem scaled_apply (x : FVec Ideal S512x512 .f32) (r k : Fin 512) :
    (mulf x (broadcastTo S512x512 (rsqrt (addf (divf (shapeCast S512x1 (multiReduction .add [1] S512 (mulf x x) 0x00000000#32 reduces_S512x512_S512 (.inl rfl) rfl) shapeCasts_S512_S512x1)
        (broadcast S512x1 (Scalar.ofBits (F := Ideal) .f32 0x44000000#32))) (broadcast S512x1 (Named.named (F := Ideal) (φ := .f32) κ "eps" 0x358637BD#32)))) broadcasts_S512x1_S512x512) (ix2 r k) : EReal)
      = (x (ix2 r k) : EReal) * Ideal.rsqrt (Ideal.div (∑ j : Fin 512, (x (ix2 r j) : EReal) * (x (ix2 r j) : EReal)) lanes + PostNorm.eps) := by
  refine RopeIdeal.Value.mul_at _ _ _ rfl ((Rows.column_apply _ broadcasts_S512x1_S512x512 r k).trans ?_)
  refine congrArg₂ (fun u v : EReal => Ideal.rsqrt (u + v)) (congrArg₂ Ideal.div ?_ rfl) eps_named
  exact (shapeCast_a_a1_apply _ _ r 0).trans (Rows.rowSum (mulf x x) _ reduces_S512x512_S512 _ _ r)

/-- What the body leaves: the scaled rows times the up-projection. -/
theorem body_apply (x0 : Vec Ideal S512x512 .bf16) (x1 : Vec Ideal S1x512 .f32) (x2 : Vec Ideal S512x2048 .bf16) (r : Fin 512) (d : Fin 2048) :
    (k0_pay1 x0 x1 x2 (ix2 r d) : EReal)
      = ∑ k : Fin 512, (x0 (ix2 r k) : EReal) * Ideal.rsqrt (Ideal.div (∑ j : Fin 512, (x0 (ix2 r j) : EReal) * (x0 (ix2 r j) : EReal)) lanes + PostNorm.eps)
          * (x1 (ix2 (0 : Fin 1) k) : EReal) * (x2 (ix2 k d) : EReal) := by
  unfold k0_pay1
  refine RopeIdeal.Value.trunc_at _ _ ?_
  refine (Ideal.matmul_plain_apply (M := 512) (K := 512) (N := 2048) none _ x2 _ r d).trans ?_
  rw [constant_apply, Ideal.ofBits_zero_f32, zero_add]
  refine Finset.sum_congr rfl fun k _ => congrArg₂ (fun u v : EReal => u * v) ?_ rfl
  refine RopeIdeal.Value.trunc_at _ _ (RopeIdeal.Value.mul_at _ _ _ (scaled_apply _ r k) ?_)
  refine (CombineIdeal.Value.row_apply _ _ (by decide) r k).trans ?_
  exact congrFun (shapeCast_self x1 _) _

section
variable (c : Dev nD) (i : grid0.Coords) (arg1 : Memref sig .tc .vmem S512x512 .bf16) (harg1 : arg1.IsWhole) (arg2 : Memref sig .tc .vmem S1x512 .f32) (harg2 : arg2.IsWhole)
    (arg3 : Memref sig .tc .vmem S512x2048 .bf16) (harg3 : arg3.IsWhole) (arg4 : Memref sig .tc .vmem S512x2048 .bf16) (harg4 : arg4.IsWhole)
    (x0 : Vec Ideal S512x512 .bf16) (x1 : Vec Ideal S1x512 .f32) (x2 : Vec Ideal S512x2048 .bf16)

/-- The body's one store. -/
theorem outA : out0_A_3 c i arg1 harg1 arg2 harg2 arg3 harg3 arg4 harg4 x0 x1 x2 = k0_pay1 x0 x1 x2 := by
  unfold out0_A_3
  rw [View.read_writes_eq_canon _ _ _ (cover0_A_3 c i arg1 harg1 arg2 harg2 arg3 harg3 arg4 harg4 x0 x1 x2)]
  unfold kernelRun0_A
  dsimp only
  sl_unfold_words
  rw [View.canon_unit_zero hz2]
  simp only [View.readAt_eq_ld, harg1.read_unread, harg2.read_unread, harg3.read_unread,
    View.ld_unit_zero (S := S512x512) hz2, View.ld_unit_zero (S := S1x512) hz2, View.ld_unit_zero (S := S512x2048) hz2]

end

/-- The result, as an array. -/
def result (c : Dev nD) : S8192x2048.Idx → EReal := fun i =>
  raised (m ((c : Thread nD τ).loc main_arg0)) (gain (m ((c : Thread nD τ).loc main_arg1))) (m ((c : Thread nD τ).loc main_arg2)) (i 0) (i 1)

/-- Every point writes back its tile of the result. -/
theorem flushed_eq (c : Dev nD) (t : Fin cfg0.N) :
    (dats m 0 c).flushed 3 t = ((cfg0.win 3).blk t).view.read (Elt Ideal) (result m c) := by
  rw [flushed3_A, outA]
  obtain ⟨-, -, -, h0, h1⟩ := tiles t
  funext y
  obtain ⟨r, d, rfl⟩ : ∃ (r : Fin 512) (d : Fin 2048), y = ix2 r d := ⟨y 0, y 1, eq_ix2 y⟩
  rw [View.read_apply]
  refine (body_apply _ _ _ r d).trans ?_
  show _ = raised _ _ _ (win0_3.index t 0 * 512 + 1 * r.val) (win0_3.index t 1 * 2048 + 1 * d.val)
  rw [h0, h1, Nat.one_mul, show 0 * 2048 + 1 * d.val = d.val by omega]
  unfold raised scaledRow
  refine Finset.sum_congr rfl fun k _ => congrArg₂ (fun u v : EReal => u * v) (congrArg₂ (fun u v : EReal => u * v)
    (congrArg₂ (fun u v : EReal => u * Ideal.rsqrt (Ideal.div v lanes + PostNorm.eps)) (block0 m c t r k) ?_) (block1 m c t k)) (block2 m c t k d)
  exact Finset.sum_congr rfl fun j _ => congrArg₂ (fun u v : EReal => u * v) (block0 m c t r j) (block0 m c t r j)

/-- Every index lies in the block of one point. -/
theorem covered (i : S8192x2048.Idx) : ∃ t : Fin cfg0.N, (cfg0.win 3).flush t = true ∧ i ∈ ((cfg0.win 3).blk t).view.set := by
  have hi0 : (i 0 : Nat) < 8192 := (i 0).isLt
  have hi1 : (i 1 : Nat) < 2048 := (i 1).isLt
  let t : Fin cfg0.N := ⟨(i 0 : Nat) / 512, by rw [show cfg0.N = 16 from N_0]; omega⟩
  have hv : t.val = (i 0 : Nat) / 512 := rfl
  obtain ⟨-, -, -, h0, h1⟩ := tiles t
  refine ⟨t, flush0_3 t, ?_⟩
  show i ∈ ((View.whole main_v1).slice (win0_3.rect t)).set
  rw [View.set_slice_whole, Rect.mem_set_unit]
  intro a
  match a with
  | ⟨0, _⟩ => show win0_3.index t 0 * 512 ≤ (i 0 : Nat) ∧ (i 0 : Nat) < win0_3.index t 0 * 512 + 512
              rw [h0]; omega
  | ⟨1, _⟩ => show win0_3.index t 1 * 2048 ≤ (i 1 : Nat) ∧ (i 1 : Nat) < win0_3.index t 1 * 2048 + 2048
              rw [h1]; omega

/-- The array after the run. -/
theorem final_eq (c : Dev nD) : (dats m 0 c).arrAt 3 cfg0.N = result m c :=
  (dats m 0 c).arrAt_eq_of_cover 3 _ (fun t _ => flushed_eq m c t) covered

end Cert.LatentIdeal.Value

namespace Cert.LatentRefIdeal.Read

open Cert.LatentRefIdeal Idealize.ShloMosaic Idealize.ShloMosaic.ValueIdx Cert.Attention Cert.Moe Cert.Mixing

variable (x0 : S8192x5888.Idx → EReal) (x1 : S512.Idx → EReal) (x2 : S512x2048.Idx → EReal)

/-- The latent columns. -/
theorem latent_eq (i : S8192x512.Idx) : (val_main_v1 (F := Ideal) x0 i : EReal) = entry x0 (i 0) (2048 + (i 1).val) := by
  rw [val_main_v1_apply, val_main_v0_apply]
  exact eq_entry x0 _ _ _ rfl rfl

/-- A row's mean square. -/
theorem square_eq (i : S8192x1.Idx) : (val_main_v7 (F := Ideal) x0 i : EReal) = Ideal.div (∑ j : Fin 512, entry x0 (i 0) (2048 + j) * entry x0 (i 0) (2048 + j)) lanes := by
  rw [val_main_v7_apply, val_main_v5_apply, val_main_v4_apply, val_main_v6_apply, val_main_cst_2_apply, val_main_cst_1_apply]
  refine congrArg₂ Ideal.div ((congrArg (fun z : EReal => z + _) Ideal.ofBits_zero_f32).trans ((zero_add _).trans ?_)) rfl
  refine Finset.sum_congr rfl fun k _ => ?_
  rw [val_main_v3_apply]
  exact congrArg₂ (fun u v : EReal => u * v) (latent_eq x0 _) (latent_eq x0 _)

/-- The rows over the root of their mean square, times the gain. -/
theorem scaled_eq (i : S8192x512.Idx) : (val_main_v15 (F := Ideal) x0 x1 i : EReal) = scaledRow x0 (gain x1) (i 0) (i 1) := by
  rw [val_main_v15_apply, val_main_v12_apply, val_main_v11_apply, val_main_v10_apply, val_main_v9_apply, val_main_v8_apply, val_main_v2_apply,
    val_main_v14_apply, val_main_v13_apply, val_main_cst_apply, val_main_cst_0_apply]
  unfold scaledRow
  refine congrArg₂ (fun u v : EReal => u * v) (congrArg₂ (fun u v : EReal => u * v) (latent_eq x0 i) ?_) (eq_gain x1 _ _ rfl)
  exact congrArg₂ (fun u v : EReal => Ideal.rsqrt (u + v)) (square_eq x0 _) PostNorm.eps_host

/-- The reference's result. -/
theorem result_eq (i : S8192x2048.Idx) : (val_main_v18 (F := Ideal) x0 x1 x2 i : EReal) = raised x0 (gain x1) x2 (i 0) (i 1) := by
  rw [val_main_v18_apply]
  refine (val_main_v17_apply x0 x1 x2 i).trans ?_
  unfold raised
  refine Finset.sum_congr rfl fun k _ => congrArg₂ (fun u v : EReal => u * v) (scaled_eq x0 x1 _) ?_
  rw [val_main_v16_apply]
  exact eq_entry x2 _ _ _ rfl rfl

end Cert.LatentRefIdeal.Read

end
-- ==== Proof.OutNorm.lean ====
/-
  The attention output projected, gated onto the residual, post-normed and modulated, and the router's logits of it.
-/
module

public import proofs.«01_k».proof.Proof.PostNorm
public import proofs.«01_k».proof.Proof.Attention
public import proofs.«01_k».proof.Proof.Moe

@[expose] public section

set_option maxRecDepth 16384

noncomputable section

namespace Cert.OutNorm

open Idealize.ShloMosaic Idealize.ShloMosaic.ValueIdx Cert.Attention Cert.Moe Cert.PostNorm

/-- The arguments: the two halves of the attention's output, the projection, the residual, the gate, shift and scale, the norm's parameters and the router. -/
structure Inputs where
  a1 : (⟨2, ![8192, 1024]⟩ : Shape).Idx → EReal
  a2 : (⟨2, ![8192, 1024]⟩ : Shape).Idx → EReal
  w : (⟨2, ![2048, 2048]⟩ : Shape).Idx → EReal
  h : (⟨2, ![8192, 2048]⟩ : Shape).Idx → EReal
  mod : (⟨3, ![4, 3, 2048]⟩ : Shape).Idx → EReal
  ln : (⟨2, ![2, 2048]⟩ : Shape).Idx → EReal
  router : (⟨2, ![2048, 16]⟩ : Shape).Idx → EReal

/-- The projection of the attention's output, its two halves side by side. -/
def projected (I : Inputs) (n d : ℕ) : EReal :=
  ∑ k : Fin 1024, entry I.a1 n k * entry I.w k d + ∑ k : Fin 1024, entry I.a2 n k * entry I.w (1024 + k) d

/-- The residual stream with the gated projection added. -/
def stream (I : Inputs) (n d : ℕ) : EReal := alpha * entry I.h n d + entry3 I.mod (n / 2048) 0 d * projected I n d

/-- The post-norm of the residual stream: the first result. -/
def normed (I : Inputs) (n : ℕ) (d : Fin 2048) : EReal :=
  normal (fun k : Fin 2048 => stream I n k) d * entry I.ln 0 d + entry I.ln 1 d

/-- The first result scaled and shifted: the second result. -/
def modulated (I : Inputs) (n : ℕ) (d : Fin 2048) : EReal :=
  normed I n d * (1 + entry3 I.mod (n / 2048) 2 d) + entry3 I.mod (n / 2048) 1 d

/-- The router's logits, zero past the sixteen experts: the third result. -/
def logits (I : Inputs) (n e : ℕ) : EReal := ∑ k : Fin 2048, modulated I n k * entry I.router k e

/-- A number that is real. -/
def IsReal (x : EReal) : Prop := ∃ r : ℝ, x = (r : EReal)

/-- A number that is neither infinity is real. -/
theorem real_of (x : EReal) (h : x ≠ ⊤ ∧ x ≠ ⊥) : IsReal x := ⟨x.toReal, (EReal.coe_toReal h.1 h.2).symm⟩

/-- Zero is real. -/
theorem real_zero : IsReal 0 := ⟨0, rfl⟩

/-- One is real. -/
theorem real_one : IsReal 1 := ⟨1, rfl⟩

/-- A sum of two reals is real. -/
theorem real_add {x y : EReal} (hx : IsReal x) (hy : IsReal y) : IsReal (x + y) := by
  obtain ⟨r, rfl⟩ := hx
  obtain ⟨s, rfl⟩ := hy
  exact ⟨r + s, (EReal.coe_add r s).symm⟩

/-- A product of two reals is real. -/
theorem real_mul {x y : EReal} (hx : IsReal x) (hy : IsReal y) : IsReal (x * y) := by
  obtain ⟨r, rfl⟩ := hx
  obtain ⟨s, rfl⟩ := hy
  exact ⟨r * s, (EReal.coe_mul r s).symm⟩

/-- A sum of reals is the real sum. -/
theorem coe_sum {n : ℕ} (f : Fin n → ℝ) : ∑ k, ((f k : ℝ) : EReal) = ((∑ k, f k : ℝ) : EReal) := by
  have h : ∀ S : Finset (Fin n), ∑ k ∈ S, ((f k : ℝ) : EReal) = ((∑ k ∈ S, f k : ℝ) : EReal) := by
    intro S
    induction S using Finset.induction with
    | empty => rfl
    | insert a S ha ih => rw [Finset.sum_insert ha, Finset.sum_insert ha, ih, EReal.coe_add]
  exact h Finset.univ

/-- A sum of reals is real. -/
theorem real_sum {n : ℕ} (f : Fin n → EReal) (h : ∀ k, IsReal (f k)) : IsReal (∑ k, f k) := by
  choose g hg using h
  exact ⟨∑ k, g k, by rw [← coe_sum]; exact Finset.sum_congr rfl fun k _ => hg k⟩

/-- A real less itself is zero. -/
theorem real_sub_self {x : EReal} (h : IsReal x) : x - x = 0 := by
  obtain ⟨r, rfl⟩ := h
  rw [← EReal.coe_sub, sub_self]
  rfl

/-- An entry of a matrix without infinities is real. -/
theorem entry_real {a b : ℕ} (A : (⟨2, ![a, b]⟩ : Shape).Idx → EReal) (h : ∀ x, A x ≠ ⊤ ∧ A x ≠ ⊥) (i j : ℕ) : IsReal (entry A i j) := by
  unfold entry
  split_ifs
  · exact real_of _ (h _)
  · exact real_zero

/-- The same for a rank-three array. -/
theorem entry3_real {a b c : ℕ} (A : (⟨3, ![a, b, c]⟩ : Shape).Idx → EReal) (h : ∀ x, A x ≠ ⊤ ∧ A x ≠ ⊥) (e i j : ℕ) :
    IsReal (entry3 A e i j) := by
  unfold entry3
  split_ifs
  · exact real_of _ (h _)
  · exact real_zero

/-- A row of reals brought to mean zero and variance one is real. -/
theorem normal_real {b : ℕ} (x : Fin b → EReal) (h : ∀ k, IsReal (x k)) (d : Fin b) : IsReal (normal x d) := by
  choose f hf using h
  have hm : mean x = (((∑ k, f k) * (1 / 2048) : ℝ) : EReal) := by
    unfold mean
    rw [Finset.sum_congr rfl (fun k _ => hf k), coe_sum, width_eq, Ideal.div_coe (by norm_num), ← EReal.coe_mul]
  have hc : ∀ k, x k - mean x = ((f k - (∑ k, f k) * (1 / 2048) : ℝ) : EReal) := fun k => by
    rw [hm, hf k, EReal.coe_sub]
  have hv : variance x = (((∑ k, (f k - (∑ k, f k) * (1 / 2048)) * (f k - (∑ k, f k) * (1 / 2048))) * (1 / 2048) : ℝ) : EReal) := by
    unfold variance
    rw [Finset.sum_congr rfl (fun k _ => by rw [hc k, ← EReal.coe_mul]), coe_sum, width_eq, Ideal.div_coe (by norm_num), ← EReal.coe_mul]
  have hn : (0 : ℝ) ≤ (∑ k, (f k - (∑ k, f k) * (1 / 2048)) * (f k - (∑ k, f k) * (1 / 2048))) * (1 / 2048) :=
    mul_nonneg (Finset.sum_nonneg fun k _ => mul_self_nonneg _) (by norm_num)
  unfold normal
  refine real_mul ⟨_, hc d⟩ ?_
  rw [hv]
  unfold eps
  rw [← EReal.coe_add, Ideal.rsqrt_coe, if_neg (by linarith), if_neg (by linarith)]
  exact ⟨_, rfl⟩

/-- No argument has an infinite entry. -/
structure Finite (I : Inputs) : Prop where
  a1 : ∀ x, I.a1 x ≠ ⊤ ∧ I.a1 x ≠ ⊥
  a2 : ∀ x, I.a2 x ≠ ⊤ ∧ I.a2 x ≠ ⊥
  w : ∀ x, I.w x ≠ ⊤ ∧ I.w x ≠ ⊥
  h : ∀ x, I.h x ≠ ⊤ ∧ I.h x ≠ ⊥
  mod : ∀ x, I.mod x ≠ ⊤ ∧ I.mod x ≠ ⊥
  ln : ∀ x, I.ln x ≠ ⊤ ∧ I.ln x ≠ ⊥
  router : ∀ x, I.router x ≠ ⊤ ∧ I.router x ≠ ⊥

/-- Finite arguments have a finite modulated row. -/
theorem modulated_real (I : Inputs) (hf : Finite I) (n : ℕ) (d : Fin 2048) : IsReal (modulated I n d) := by
  have hp : ∀ k : Fin 2048, IsReal (stream I n k) := fun k =>
    real_add (real_mul ⟨_, rfl⟩ (entry_real _ hf.h _ _)) (real_mul (entry3_real _ hf.mod _ _ _)
      (real_add (real_sum _ fun j => real_mul (entry_real _ hf.a1 _ _) (entry_real _ hf.w _ _))
        (real_sum _ fun j => real_mul (entry_real _ hf.a2 _ _) (entry_real _ hf.w _ _))))
  exact real_add (real_mul (real_add (real_mul (normal_real _ hp d) (entry_real _ hf.ln _ _)) (entry_real _ hf.ln _ _))
    (real_add real_one (entry3_real _ hf.mod _ _ _))) (entry3_real _ hf.mod _ _ _)

/-- The logits of a product split in a high and a low part, whose low parts are zero. -/
theorem logits_split (I : Inputs) (hf : Finite I) (n e : ℕ) (y z : Fin 2048 → EReal) (hz : ∀ k, z k = 0) :
    ∑ k : Fin 2048, modulated I n k * entry I.router k e
      + ∑ k : Fin 2048, (modulated I n k - modulated I n k) * y k + ∑ k : Fin 2048, modulated I n k * z k = logits I n e := by
  have h1 : ∑ k : Fin 2048, (modulated I n k - modulated I n k) * y k = 0 :=
    Finset.sum_eq_zero fun k _ => by rw [real_sub_self (modulated_real I hf n k), zero_mul]
  have h2 : ∑ k : Fin 2048, modulated I n k * z k = 0 := Finset.sum_eq_zero fun k _ => by rw [hz k, mul_zero]
  rw [h1, h2, add_zero, add_zero]
  rfl

end Cert.OutNorm

end
-- ==== Proof.FiniteInputs.lean ====
/-
  What the precondition of the output projection says: no argument has an infinite entry.
-/
module

public import proofs.«01_k».proof.Pre_finite_inputs
public import proofs.«01_k».proof.Proof.OutNorm
public import proofs.«01_k».proof.Proof.FiniteScores

@[expose] public section

set_option maxRecDepth 16384

noncomputable section

namespace Cert.FiniteInputs

open Idealize.ShloMosaic Idealize.ShloMosaic.ValueIdx Cert.FiniteScores

/-- Where the absolute value of an array is below `+∞`, the array's entry is finite. -/
theorem finite_at {s : Shape} (A : FVec Ideal s .f32) (hc : (⟨0, ![]⟩ : Shape).BroadcastsInDim s ![])
    (h : cmpf .olt (Host.absf A : FVec Ideal s .f32) (broadcastInDim s ![] hc (constant (F := Ideal) ⟨0, ![]⟩ .f32 0x7F800000#32)) = fun _ => 1#1)
    (x : s.Idx) : (A x : EReal) ≠ ⊤ ∧ (A x : EReal) ≠ ⊥ := by
  refine finite_of_abs ?_
  have ht : Ideal.ofBits .f32 0x7F800000#32 = ⊤ := by simp [Ideal.ofBits, Ideal.ieee]
  have h2 : Ideal.cmp .olt (max (A x) (-(A x))) (Ideal.ofBits .f32 0x7F800000#32) = 1#1 := congrFun h x
  rw [ht] at h2
  unfold Ideal.cmp at h2
  by_contra hn
  simp [hn] at h2

open Cert.Pre_finite_inputs

variable [Cert.Pre_finite_inputs.Facts]

/-- The precondition, at seven arrays, says that none has an infinite entry. -/
theorem finite (a1 a2 : FVec Ideal S8192x1024 .bf16) (w : FVec Ideal S2048x2048 .bf16) (h : FVec Ideal S8192x2048 .f32) (mod : FVec Ideal S4x3x2048 .f32)
    (ln : FVec Ideal S2x2048 .f32) (router : FVec Ideal S2048x16 .f32)
    (hp : (fn (F := Ideal) a1 a2 w h mod ln router).1 = (fun _ => 1#1)
      ∧ (fn (F := Ideal) a1 a2 w h mod ln router).2.1 = (fun _ => 1#1)
      ∧ (fn (F := Ideal) a1 a2 w h mod ln router).2.2.1 = (fun _ => 1#1)
      ∧ (fn (F := Ideal) a1 a2 w h mod ln router).2.2.2.1 = (fun _ => 1#1)
      ∧ (fn (F := Ideal) a1 a2 w h mod ln router).2.2.2.2.1 = (fun _ => 1#1)
      ∧ (fn (F := Ideal) a1 a2 w h mod ln router).2.2.2.2.2.1 = (fun _ => 1#1)
      ∧ (fn (F := Ideal) a1 a2 w h mod ln router).2.2.2.2.2.2 = (fun _ => 1#1)) :
    OutNorm.Finite ⟨a1, a2, w, h, mod, ln, router⟩ := by
  obtain ⟨h0, h1, h2, h3, h4, h5, h6⟩ := hp
  exact ⟨finite_at (extf .f32 a1 (by decide)) _ h0, finite_at (extf .f32 a2 (by decide)) _ h1, finite_at (extf .f32 w (by decide)) _ h2,
    finite_at h _ h3, finite_at mod _ h4, finite_at ln _ h5, finite_at router _ h6⟩

end Cert.FiniteInputs

end
-- ==== Proof.OutProjTiles.lean ====
/-
  The output projection's body: what its stores leave in the three output blocks.
-/
module

public import proofs.«01_k».proof.Proof.Gen.OutProjIdeal.Value
public import proofs.«01_k».proof.Proof.OutNorm
public import proofs.«01_k».proof.Proof.CombineTiles
public import Idealize.ShloMosaic.Lib.MatmulPlain

@[expose] public section

set_option maxRecDepth 16384

noncomputable section

namespace Cert.OutProjIdeal.Value

open Idealize.ShloMosaic hiding ix1 ix2 ix3 ix4 eq_ix2 eq_ix3 eq_ix4
open Cert.OutProjIdeal Cert.OutProjIdeal.Gen Idealize.ShloMosaic.TcCoe Idealize.SL.Sem
open Idealize.ShloMosaic.ValueIdx Cert.Attention Cert.Moe Cert.PostNorm
open Cert.CombineIdeal.Value (row_apply)

/-- The named word of the residual's weight. -/
theorem alpha_named : (Named.named (F := Ideal) (φ := .f32) κ "alpha" 0x3FB504F3#32 : EReal) = alpha := rfl

/-- The named word added to the variance. -/
theorem eps_named : (Named.named (F := Ideal) (φ := .f32) κ "eps" 0x358637BD#32 : EReal) = eps := rfl

/-- A row held in a block of rank three, repeated over the rows of a matrix. -/
theorem modRow_apply (v : FVec Ideal S1x1x2048 .f32) (r : Fin 256) (d : Fin 2048) :
    (broadcastTo S256x2048 (shapeCast S1x2048 v shapeCasts_S1x1x2048_S1x2048) broadcasts_S1x2048_S256x2048 (ix2 r d) : EReal)
      = v (ix3 (0 : Fin 1) (0 : Fin 1) d) :=
  (row_apply _ _ (by decide) r d).trans (shapeCast_1ab_ab_apply (a := 1) (b := 2048) _ _ 0 d)

/-- The block's normalised residual stream. -/
theorem normal_block (x0 x1 : Vec Ideal S256x1024 .bf16) (w0 w1 : Vec Ideal S1024x2048 .bf16) (x3 : Vec Ideal S256x2048 .f32) (g : Vec Ideal S1x1x2048 .f32)
    (r : Fin 256) (d : Fin 2048) : (k0_pay1 x0 w0 x1 w1 x3 g (ix2 r d) : EReal)
      = normal (fun k : Fin 2048 => alpha * (x3 (ix2 r k) : EReal) + (g (ix3 (0 : Fin 1) (0 : Fin 1) k) : EReal)
          * (∑ j : Fin 1024, (x0 (ix2 r j) : EReal) * (w0 (ix2 j k) : EReal) + ∑ j : Fin 1024, (x1 (ix2 r j) : EReal) * (w1 (ix2 j k) : EReal))) d := by
  unfold k0_pay1
  refine (normal_apply _ _ _ _ _ _ (fun r l => centred_apply _ _ _ _ r l) eps_named r d).trans ?_
  refine congrArg (fun f => normal f d) (funext fun k => ?_)
  refine congrArg₂ (fun u v : EReal => u + v) (congrArg₂ (fun u v : EReal => u * v) alpha_named rfl) ?_
  refine congrArg₂ (fun u v : EReal => u * v) (modRow_apply g r k) (congrArg₂ (fun u v : EReal => u + v) ?_ ?_)
  · exact (Ideal.matmul_plain_apply (M := 256) (K := 1024) (N := 2048) none x0 w0 _ r k).trans (by rw [constant_apply, Ideal.ofBits_zero_f32, zero_add])
  · exact (Ideal.matmul_plain_apply (M := 256) (K := 1024) (N := 2048) none x1 w1 _ r k).trans (by rw [constant_apply, Ideal.ofBits_zero_f32, zero_add])

/-- The first output block: the normalised stream scaled and shifted by the norm's parameters. -/
theorem first_block (b : Vec Ideal S1x2048 .f32) (p : FVec Ideal S256x2048 .f32) (g : Vec Ideal S1x2048 .f32) (r : Fin 256) (d : Fin 2048) :
    (k0_pay3 b p (k0_pay2 g) (ix2 r d) : EReal) = (p (ix2 r d) : EReal) * (g (ix2 (0 : Fin 1) d) : EReal) + (b (ix2 (0 : Fin 1) d) : EReal) := by
  unfold k0_pay3 k0_pay2
  exact congrArg₂ (fun u v : EReal => u + v) (congrArg (fun u : EReal => (p (ix2 r d) : EReal) * u) (row_apply _ _ (by decide) r d)) (row_apply _ _ (by decide) r d)

/-- The modulated block, before its cast. -/
theorem second_block (b : Vec Ideal S1x2048 .f32) (p q : FVec Ideal S256x2048 .f32) (sc sh : Vec Ideal S1x1x2048 .f32) (r : Fin 256) (d : Fin 2048) :
    (k0_pay4 b p q sc sh (ix2 r d) : EReal)
      = (k0_pay3 b p q (ix2 r d) : EReal) * (1 + (sc (ix3 (0 : Fin 1) (0 : Fin 1) d) : EReal)) + (sh (ix3 (0 : Fin 1) (0 : Fin 1) d) : EReal) := by
  unfold k0_pay4
  refine congrArg₂ (fun u v : EReal => u + v) (congrArg (fun u : EReal => (k0_pay3 b p q (ix2 r d) : EReal) * u) ?_) (modRow_apply sh r d)
  refine (row_apply _ _ (by decide) r d).trans ?_
  exact congrArg₂ (fun u v : EReal => u + v) Ideal.ofBits_one_f32 (shapeCast_1ab_ab_apply (a := 1) (b := 2048) _ _ 0 d)

/-- A product with one part of the router. -/
theorem router_apply (x : FVec Ideal S256x2048 .bf16) (v : Vec Ideal S1x2048x128 .bf16) (r : Fin 256) (e : Fin 128) :
    (matmul dot_S256x2048_S2048x128_S256x128_1_0_0_1_n_n none x (shapeCast S2048x128 v shapeCasts_S1x2048x128_S2048x128 : FVec Ideal S2048x128 .bf16) (constant S256x128 .f32 0x00000000#32) (ix2 r e) : EReal)
      = ∑ k : Fin 2048, (x (ix2 r k) : EReal) * (v (ix3 (0 : Fin 1) k e) : EReal) := by
  refine (Ideal.matmul_plain_apply (M := 256) (K := 2048) (N := 128) none x _ _ r e).trans ?_
  rw [constant_apply, Ideal.ofBits_zero_f32, zero_add]
  exact Finset.sum_congr rfl fun k _ => congrArg (fun u : EReal => (x (ix2 r k) : EReal) * u) (shapeCast_1ab_ab_apply (a := 2048) (b := 128) v _ k e)

/-- The third output block: the modulated block and its remainder times the two parts of the router. -/
theorem third_block (b : Vec Ideal S1x2048 .f32) (p q : FVec Ideal S256x2048 .f32) (sc sh : Vec Ideal S1x1x2048 .f32) (v0 v1 v2 : Vec Ideal S1x2048x128 .bf16)
    (r : Fin 256) (e : Fin 128) : (k0_pay6 b p q sc sh v0 v1 v2 (ix2 r e) : EReal)
      = ∑ k : Fin 2048, (k0_pay4 b p q sc sh (ix2 r k) : EReal) * (v0 (ix3 (0 : Fin 1) k e) : EReal)
        + ∑ k : Fin 2048, ((k0_pay4 b p q sc sh (ix2 r k) : EReal) - (k0_pay4 b p q sc sh (ix2 r k) : EReal)) * (v1 (ix3 (0 : Fin 1) k e) : EReal)
        + ∑ k : Fin 2048, (k0_pay4 b p q sc sh (ix2 r k) : EReal) * (v2 (ix3 (0 : Fin 1) k e) : EReal) := by
  unfold k0_pay6
  exact congrArg₂ (fun u v : EReal => u + v) (congrArg₂ (fun u v : EReal => u + v) (router_apply _ v0 r e) (router_apply _ v1 r e)) (router_apply _ v2 r e)

end Cert.OutProjIdeal.Value

end
-- ==== Proof.PadEntry.lean ====
/-
  A matrix padded with zero columns.
-/
module

public import proofs.«01_k».proof.Proof.OutNorm
public import Idealize.ShloMosaic.Lib.KernelVsHost

@[expose] public section

set_option maxRecDepth 16384

noncomputable section

namespace Cert.OutNorm

open Idealize.ShloMosaic
open Idealize.ShloMosaic.ValueIdx Cert.Attention

/-- A matrix padded with zero columns on the right has the matrix's entries, zero outside it. -/
theorem pad_entry {a b b' p : ℕ} (x : (⟨2, ![a, b]⟩ : Shape).Idx → EReal) (v : (⟨0, ![]⟩ : Shape).Idx → EReal)
    (hp : (⟨2, ![a, b]⟩ : Shape).Pads ![0, 0] ![0, p] ![0, 0] ⟨2, ![a, b']⟩) (hu : 0 < (⟨0, ![]⟩ : Shape).numel)
    (hv : v (Shape.Idx.first hu) = 0) (k : Fin a) (e : Fin b') :
    pad ⟨2, ![a, b']⟩ ![0, 0] ![0, p] ![0, 0] x v hp hu (ix2 k e) = entry x k e := by
  by_cases h : e.val < b
  · refine (pad_apply_of_inside _ _ _ x v hp hu (ix2 k e) (ix2 k (⟨e.val, h⟩ : Fin b)) fun ax => ?_).trans (eq_entry x _ _ _ rfl rfl)
    match ax with
    | ⟨0, _⟩ => show k.val = 0 + k.val * (0 + 1); omega
    | ⟨1, _⟩ => show e.val = 0 + e.val * (0 + 1); omega
  · refine (pad_apply_of_not_inside _ _ _ x v hp hu (ix2 k e) (1 : Fin 2) ?_).trans (hv.trans ?_)
    · show ¬(0 ≤ e.val ∧ (e.val - 0) % (0 + 1) = 0 ∧ (e.val - 0) / (0 + 1) < b)
      rw [Nat.sub_zero, Nat.zero_add, Nat.div_one]
      exact fun hh => h hh.2.2
    · unfold entry
      rw [dif_neg fun hh => h hh.2]

end Cert.OutNorm

end
-- ==== Proof.OutProjValue.lean ====
/-
  The output projection's run: what it leaves in its three result arrays.
-/
module

public import proofs.«01_k».proof.Proof.OutProjTiles
public import proofs.«01_k».proof.Proof.PadEntry

@[expose] public section

set_option maxRecDepth 16384

noncomputable section

namespace Cert.OutProjIdeal.Value

open Idealize.ShloMosaic hiding ix1 ix2 ix3 ix4 eq_ix2 eq_ix3 eq_ix4
open Cert.OutProjIdeal Cert.OutProjIdeal.Gen Idealize.ShloMosaic.TcCoe Idealize.SL.Sem
open Idealize.ShloMosaic.ValueIdx Cert.Attention Cert.Moe Cert.PostNorm Cert.OutNorm
open Cert.CombineIdeal.Value (hz2)
open Idealize.ShloMosaic.Pipeline (Dat)

variable (m : (ℓ : Loc nD τ sig) → Buf (Elt Ideal) ℓ) (ρ : Dev nD → PrngReg)

/-- The arguments, as the projection's inputs. -/
abbrev inputs (c : Dev nD) : OutNorm.Inputs :=
  ⟨m ((c : Thread nD τ).loc main_arg0), m ((c : Thread nD τ).loc main_arg1), m ((c : Thread nD τ).loc main_arg2),
    m ((c : Thread nD τ).loc main_arg3), m ((c : Thread nD τ).loc main_arg4), m ((c : Thread nD τ).loc main_arg5),
    m ((c : Thread nD τ).loc main_arg6)⟩

/-- The router with zero columns on the right. -/
abbrev padded (c : Dev nD) : FVec Ideal S2048x128 .f32 :=
  pad S2048x128 ![0, 0] ![0, 112] ![0, 0] (inputs m c).router (sitofp (F := Ideal) .f32 (constantI S_ 32 0#32)) pads_S2048x16_S2048x128_000_01120 h_S_

/-- The host's operations before the kernel leave the router's two parts, stacked. -/
theorem router_parts (c : Dev nD) : V m c main_v7
    = concatenate S2x2048x128 0
        [⟨S1x2048x128, broadcastInDim S1x2048x128 ![1, 2] bcast_S2048x128_S1x2048x128_1_2 (padded m c)⟩,
          ⟨S1x2048x128, broadcastInDim S1x2048x128 ![1, 2] bcast_S2048x128_S1x2048x128_1_2 (fun i => (padded m c i : EReal) - (padded m c i : EReal))⟩]
        concatenates_S1x2048x128_S1x2048x128_S2x2048x128_d0 := by
  simp only [V, hostOps0, hostOps0_1, hostOps0_2, List.flatten_cons, List.flatten_nil, List.append_nil, List.cons_append, List.nil_append,
    StableHlo.TRef.binary, StableHlo.TRef.unary, StableHlo.TRef.toBuf, StableHlo.TRef.ofBuf, cast_eq]
  after_results_simp <;> rfl

/-- The padded router's entries. -/
theorem padded_apply (c : Dev nD) (k : Fin 2048) (e : Fin 128) : (padded m c (ix2 k e) : EReal) = entry (inputs m c).router k e := by
  refine pad_entry (inputs m c).router _ _ _ ?_ k e
  show (((0#32 : BitVec 32).toInt : ℝ) : EReal) = 0
  simp

/-- The first part is the router. -/
theorem part0 (c : Dev nD) (k : Fin 2048) (e : Fin 128) : (V m c main_v7 (ix3 (0 : Fin 2) k e) : EReal) = entry (inputs m c).router k e := by
  rw [router_parts]
  refine (concatenate_pair_apply_left (t := S2x2048x128) (s₁ := S1x2048x128) (s₂ := S1x2048x128) 0 _ _ _ (ix3 (0 : Fin 2) k e) rfl (ix3 (0 : Fin 1) k e) (fun a => match a with
    | ⟨0, _⟩ => rfl | ⟨1, _⟩ => rfl | ⟨2, _⟩ => rfl)).trans ?_
  refine (broadcastInDim_apply _ _ _ _ (ix2 k e) (fun a => match a with | ⟨0, _⟩ => rfl | ⟨1, _⟩ => rfl)).trans ?_
  exact padded_apply m c k e

/-- The second part is what the first leaves of the router. -/
theorem part1 (c : Dev nD) (k : Fin 2048) (e : Fin 128) :
    (V m c main_v7 (ix3 (1 : Fin 2) k e) : EReal) = entry (inputs m c).router k e - entry (inputs m c).router k e := by
  rw [router_parts]
  refine (concatenate_pair_apply_right (t := S2x2048x128) (s₁ := S1x2048x128) (s₂ := S1x2048x128) 0 _ _ _ (ix3 (1 : Fin 2) k e) rfl rfl (ix3 (0 : Fin 1) k e) (fun a ha => match a with
    | ⟨0, _⟩ => absurd rfl ha | ⟨1, _⟩ => rfl | ⟨2, _⟩ => rfl) rfl).trans ?_
  refine (broadcastInDim_apply _ _ _ _ (ix2 k e) (fun a => match a with | ⟨0, _⟩ => rfl | ⟨1, _⟩ => rfl)).trans ?_
  exact congrArg₂ (fun u v : EReal => u - v) (padded_apply m c k e) (padded_apply m c k e)

/-- Which block each window reads or writes at a point: row block `t`, sequence `t / 8`. -/
theorem tiles : ∀ t : Fin cfg0.N,
    (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = t.val ∧ win0_3.index t 1 = 0)
    ∧ (win0_4.index t 0 = t.val / 8 ∧ win0_4.index t 1 = 0 ∧ win0_4.index t 2 = 0)
    ∧ (win0_5.index t 0 = 0 ∧ win0_5.index t 1 = 0)
    ∧ (win0_6.index t 0 = 0 ∧ win0_6.index t 1 = 0 ∧ win0_6.index t 2 = 0)
    ∧ (win0_7.index t 0 = t.val ∧ win0_7.index t 1 = 0) ∧ (win0_8.index t 0 = t.val ∧ win0_8.index t 1 = 0)
    ∧ (win0_9.index t 0 = t.val ∧ win0_9.index t 1 = 0) :=
  (by decide +kernel : ∀ t : Fin grid0.N,
    (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = t.val ∧ win0_3.index t 1 = 0)
    ∧ (win0_4.index t 0 = t.val / 8 ∧ win0_4.index t 1 = 0 ∧ win0_4.index t 2 = 0)
    ∧ (win0_5.index t 0 = 0 ∧ win0_5.index t 1 = 0)
    ∧ (win0_6.index t 0 = 0 ∧ win0_6.index t 1 = 0 ∧ win0_6.index t 2 = 0)
    ∧ (win0_7.index t 0 = t.val ∧ win0_7.index t 1 = 0) ∧ (win0_8.index t 0 = t.val ∧ win0_8.index t 1 = 0)
    ∧ (win0_9.index t 0 = t.val ∧ win0_9.index t 1 = 0))

/-- The first half's rows at a point. -/
theorem block0 (c : Dev nD) (t : Fin cfg0.N) (r : Fin 256) (d : Fin 1024) :
    ((iblk m c 0 t : Vec Ideal S256x1024 .bf16) (ix2 r d) : EReal) = entry (inputs m c).a1 (t.val * 256 + r) d := by
  obtain ⟨⟨h0, h1⟩, -⟩ := tiles t
  unfold iblk
  rw [View.read_apply]
  show V m c main_arg0 _ = _
  rw [V_main_arg0]
  refine eq_entry (m (c.tc.loc main_arg0)) _ _ _ ?_ ?_
  · show win0_0.index t 0 * 256 + 1 * r.val = _; rw [h0]; omega
  · show win0_0.index t 1 * 1024 + 1 * d.val = _; rw [h1]; omega

/-- The second half's rows at a point. -/
theorem block1 (c : Dev nD) (t : Fin cfg0.N) (r : Fin 256) (d : Fin 1024) :
    ((iblk m c 1 t : Vec Ideal S256x1024 .bf16) (ix2 r d) : EReal) = entry (inputs m c).a2 (t.val * 256 + r) d := by
  obtain ⟨-, ⟨h0, h1⟩, -⟩ := tiles t
  unfold iblk
  rw [View.read_apply]
  show V m c main_arg1 _ = _
  rw [V_main_arg1]
  refine eq_entry (m (c.tc.loc main_arg1)) _ _ _ ?_ ?_
  · show win0_1.index t 0 * 256 + 1 * r.val = _; rw [h0]; omega
  · show win0_1.index t 1 * 1024 + 1 * d.val = _; rw [h1]; omega

/-- The projection is the whole array at every point. -/
theorem block2 (c : Dev nD) (t : Fin cfg0.N) (r : Fin 2048) (d : Fin 2048) :
    ((iblk m c 2 t : Vec Ideal S2048x2048 .bf16) (ix2 r d) : EReal) = entry (inputs m c).w (r) d := by
  obtain ⟨-, -, ⟨h0, h1⟩, -⟩ := tiles t
  unfold iblk
  rw [View.read_apply]
  show V m c main_arg2 _ = _
  rw [V_main_arg2]
  refine eq_entry (m (c.tc.loc main_arg2)) _ _ _ ?_ ?_
  · show win0_2.index t 0 * 2048 + 1 * r.val = _; rw [h0]; omega
  · show win0_2.index t 1 * 2048 + 1 * d.val = _; rw [h1]; omega

/-- The residual's rows at a point. -/
theorem block3 (c : Dev nD) (t : Fin cfg0.N) (r : Fin 256) (d : Fin 2048) :
    ((iblk m c 3 t : Vec Ideal S256x2048 .f32) (ix2 r d) : EReal) = entry (inputs m c).h (t.val * 256 + r) d := by
  obtain ⟨-, -, -, ⟨h0, h1⟩, -⟩ := tiles t
  unfold iblk
  rw [View.read_apply]
  show V m c main_arg3 _ = _
  rw [V_main_arg3]
  refine eq_entry (m (c.tc.loc main_arg3)) _ _ _ ?_ ?_
  · show win0_3.index t 0 * 256 + 1 * r.val = _; rw [h0]; omega
  · show win0_3.index t 1 * 2048 + 1 * d.val = _; rw [h1]; omega

/-- The gate, shift and scale of the point's sequence. -/
theorem block4 (c : Dev nD) (t : Fin cfg0.N) (r : Fin 3) (d : Fin 2048) :
    ((iblk m c 4 t : Vec Ideal S1x3x2048 .f32) (ix3 (0 : Fin 1) r d) : EReal) = entry3 (inputs m c).mod (t.val / 8) r d := by
  obtain ⟨-, -, -, -, ⟨h0, h1, h2⟩, -⟩ := tiles t
  unfold iblk
  rw [View.read_apply]
  show V m c main_arg4 _ = _
  rw [V_main_arg4]
  refine eq_entry3 (m (c.tc.loc main_arg4)) _ _ _ _ ?_ ?_ ?_
  · show win0_4.index t 0 * 1 + 1 * 0 = _; rw [h0]; omega
  · show win0_4.index t 1 * 3 + 1 * r.val = _; rw [h1]; omega
  · show win0_4.index t 2 * 2048 + 1 * d.val = _; rw [h2]; omega

/-- The norm's parameters are the whole array at every point. -/
theorem block5 (c : Dev nD) (t : Fin cfg0.N) (r : Fin 2) (d : Fin 2048) :
    ((iblk m c 5 t : Vec Ideal S2x2048 .f32) (ix2 r d) : EReal) = entry (inputs m c).ln (r) d := by
  obtain ⟨-, -, -, -, -, ⟨h0, h1⟩, -⟩ := tiles t
  unfold iblk
  rw [View.read_apply]
  show V m c main_arg5 _ = _
  rw [V_main_arg5]
  refine eq_entry (m (c.tc.loc main_arg5)) _ _ _ ?_ ?_
  · show win0_5.index t 0 * 2 + 1 * r.val = _; rw [h0]; omega
  · show win0_5.index t 1 * 2048 + 1 * d.val = _; rw [h1]; omega

/-- The router's parts are the whole array at every point. -/
theorem block6 (c : Dev nD) (t : Fin cfg0.N) (p : Fin 2) (k : Fin 2048) (e : Fin 128) :
    ((iblk m c 6 t : Vec Ideal S2x2048x128 .bf16) (ix3 p k e) : EReal) = V m c main_v7 (ix3 p k e) := by
  obtain ⟨-, -, -, -, -, -, ⟨h0, h1, h2⟩, -⟩ := tiles t
  unfold iblk
  rw [View.read_apply]
  show V m c main_v7 _ = _
  refine congrArg (V m c main_v7) ?_
  funext a
  apply Fin.ext
  match a with
  | ⟨0, _⟩ => show win0_6.index t 0 * 2 + 1 * p.val = p.val; rw [h0]; omega
  | ⟨1, _⟩ => show win0_6.index t 1 * 2048 + 1 * k.val = k.val; rw [h1]; omega
  | ⟨2, _⟩ => show win0_6.index t 2 * 128 + 1 * e.val = e.val; rw [h2]; omega

section
variable (x2 : Vec Ideal S2048x2048 .bf16) (x4 : Vec Ideal S1x3x2048 .f32) (x5 : Vec Ideal S2x2048 .f32) (x6 : Vec Ideal S2x2048x128 .bf16)

/-- The projection's upper half. -/
theorem ld_w0 (j : Fin 1024) (k : Fin 2048) : View.ld x2 r0_1 (ix2 j k) = x2 (ix2 (⟨j.val, by omega⟩ : Fin 2048) k) :=
  congrArg x2 (funext fun a => Fin.ext (match a with
    | ⟨0, _⟩ => by show 0 + 1 * j.val = j.val; omega
    | ⟨1, _⟩ => by show 0 + 1 * k.val = k.val; omega))

/-- The projection's lower half. -/
theorem ld_w1 (j : Fin 1024) (k : Fin 2048) : View.ld x2 r0_2 (ix2 j k) = x2 (ix2 (⟨1024 + j.val, by omega⟩ : Fin 2048) k) :=
  congrArg x2 (funext fun a => Fin.ext (match a with
    | ⟨0, _⟩ => by show 1024 + 1 * j.val = 1024 + j.val; omega
    | ⟨1, _⟩ => by show 0 + 1 * k.val = k.val; omega))

/-- The gate. -/
theorem ld_gate (k : Fin 2048) : View.ld x4 r0_4 (ix3 (0 : Fin 1) (0 : Fin 1) k) = x4 (ix3 (0 : Fin 1) (0 : Fin 3) k) :=
  congrArg x4 (funext fun a => Fin.ext (match a with
    | ⟨0, _⟩ => rfl
    | ⟨1, _⟩ => rfl
    | ⟨2, _⟩ => by show 0 + 1 * k.val = k.val; omega))

/-- The scale. -/
theorem ld_scale (k : Fin 2048) : View.ld x4 r0_7 (ix3 (0 : Fin 1) (0 : Fin 1) k) = x4 (ix3 (0 : Fin 1) (2 : Fin 3) k) :=
  congrArg x4 (funext fun a => Fin.ext (match a with
    | ⟨0, _⟩ => rfl
    | ⟨1, _⟩ => rfl
    | ⟨2, _⟩ => by show 0 + 1 * k.val = k.val; omega))

/-- The shift. -/
theorem ld_shift (k : Fin 2048) : View.ld x4 r0_8 (ix3 (0 : Fin 1) (0 : Fin 1) k) = x4 (ix3 (0 : Fin 1) (1 : Fin 3) k) :=
  congrArg x4 (funext fun a => Fin.ext (match a with
    | ⟨0, _⟩ => rfl
    | ⟨1, _⟩ => rfl
    | ⟨2, _⟩ => by show 0 + 1 * k.val = k.val; omega))

/-- The norm's first row. -/
theorem ld_ln0 (k : Fin 2048) : View.ld x5 r0_5 (ix2 (0 : Fin 1) k) = x5 (ix2 (0 : Fin 2) k) :=
  congrArg x5 (funext fun a => Fin.ext (match a with
    | ⟨0, _⟩ => rfl
    | ⟨1, _⟩ => by show 0 + 1 * k.val = k.val; omega))

/-- The norm's second row. -/
theorem ld_ln1 (k : Fin 2048) : View.ld x5 r0_6 (ix2 (0 : Fin 1) k) = x5 (ix2 (1 : Fin 2) k) :=
  congrArg x5 (funext fun a => Fin.ext (match a with
    | ⟨0, _⟩ => rfl
    | ⟨1, _⟩ => by show 0 + 1 * k.val = k.val; omega))

/-- The router's first part. -/
theorem ld_r0 (k : Fin 2048) (e : Fin 128) : View.ld x6 r0_9 (ix3 (0 : Fin 1) k e) = x6 (ix3 (0 : Fin 2) k e) :=
  congrArg x6 (funext fun a => Fin.ext (match a with
    | ⟨0, _⟩ => rfl
    | ⟨1, _⟩ => by show 0 + 1 * k.val = k.val; omega
    | ⟨2, _⟩ => by show 0 + 1 * e.val = e.val; omega))

/-- The router's second part. -/
theorem ld_r1 (k : Fin 2048) (e : Fin 128) : View.ld x6 r0_10 (ix3 (0 : Fin 1) k e) = x6 (ix3 (1 : Fin 2) k e) :=
  congrArg x6 (funext fun a => Fin.ext (match a with
    | ⟨0, _⟩ => rfl
    | ⟨1, _⟩ => by show 0 + 1 * k.val = k.val; omega
    | ⟨2, _⟩ => by show 0 + 1 * e.val = e.val; omega))

end

/-- A point's first block. -/
abbrev first (c : Dev nD) (t : Fin cfg0.N) : FVec Ideal S256x2048 .f32 :=
  k0_pay3 (View.ld (iblk m c 5 t : Vec Ideal S2x2048 .f32) r0_6)
    (k0_pay7 (iblk m c 0 t) (iblk m c 1 t) (iblk m c 2 t) (iblk m c 3 t) (iblk m c 4 t) (iblk m c 5 t) (iblk m c 6 t))
    (k0_pay8 (iblk m c 0 t) (iblk m c 1 t) (iblk m c 2 t) (iblk m c 3 t) (iblk m c 4 t) (iblk m c 5 t) (iblk m c 6 t))

/-- A point's modulated block. -/
abbrev second (c : Dev nD) (t : Fin cfg0.N) : FVec Ideal S256x2048 .f32 :=
  k0_pay4 (View.ld (iblk m c 5 t : Vec Ideal S2x2048 .f32) r0_6)
    (k0_pay7 (iblk m c 0 t) (iblk m c 1 t) (iblk m c 2 t) (iblk m c 3 t) (iblk m c 4 t) (iblk m c 5 t) (iblk m c 6 t))
    (k0_pay8 (iblk m c 0 t) (iblk m c 1 t) (iblk m c 2 t) (iblk m c 3 t) (iblk m c 4 t) (iblk m c 5 t) (iblk m c 6 t))
    (View.ld (iblk m c 4 t : Vec Ideal S1x3x2048 .f32) r0_7) (View.ld (iblk m c 4 t : Vec Ideal S1x3x2048 .f32) r0_8)

/-- The first block holds the normed rows. -/
theorem first_apply (c : Dev nD) (t : Fin cfg0.N) (r : Fin 256) (d : Fin 2048) :
    (first m c t (ix2 r d) : EReal) = normed (inputs m c) (t.val * 256 + r) d := by
  have ht : t.val < 32 := t.isLt
  have hr := r.isLt
  have hb : (t.val * 256 + r.val) / 2048 = t.val / 8 := by omega
  unfold first k0_pay8
  refine (first_block _ _ _ r d).trans ?_
  unfold k0_pay7
  rw [normal_block, View.ld_unit_zero (S := S256x1024) hz2, View.ld_unit_zero (S := S256x1024) hz2, View.ld_unit_zero (S := S256x2048) hz2, ld_ln0, ld_ln1, block5, block5]
  unfold normed
  refine congrArg (fun u : EReal => u * entry (inputs m c).ln 0 d + entry (inputs m c).ln 1 d) (congrArg (fun f => normal f d) (funext fun k => ?_))
  unfold stream projected
  rw [block3, ld_gate, block4, hb]
  refine congrArg (fun u : EReal => alpha * entry (inputs m c).h (t.val * 256 + r.val) k + entry3 (inputs m c).mod (t.val / 8) 0 k * u) ?_
  refine congrArg₂ (fun u v : EReal => u + v) (Finset.sum_congr rfl fun j _ => ?_) (Finset.sum_congr rfl fun j _ => ?_)
  · rw [ld_w0, block0, block2]
  · rw [ld_w1, block1, block2]

/-- The second block holds the modulated rows. -/
theorem second_apply (c : Dev nD) (t : Fin cfg0.N) (r : Fin 256) (d : Fin 2048) :
    (second m c t (ix2 r d) : EReal) = modulated (inputs m c) (t.val * 256 + r) d := by
  have ht : t.val < 32 := t.isLt
  have hr := r.isLt
  have hb : (t.val * 256 + r.val) / 2048 = t.val / 8 := by omega
  refine (second_block _ _ _ _ _ r d).trans ?_
  rw [ld_scale, ld_shift, block4, block4]
  unfold modulated
  rw [hb]
  exact congrArg (fun u : EReal => u * (1 + entry3 (inputs m c).mod (t.val / 8) 2 d) + entry3 (inputs m c).mod (t.val / 8) 1 d) (first_apply m c t r d)

/-- The third block holds the logits, when the arguments are finite. -/
theorem third_apply (c : Dev nD) (hf : OutNorm.Finite (inputs m c)) (t : Fin cfg0.N) (r : Fin 256) (e : Fin 128) :
    (k0_pay6 (View.ld (iblk m c 5 t : Vec Ideal S2x2048 .f32) r0_6)
      (k0_pay7 (iblk m c 0 t) (iblk m c 1 t) (iblk m c 2 t) (iblk m c 3 t) (iblk m c 4 t) (iblk m c 5 t) (iblk m c 6 t))
      (k0_pay8 (iblk m c 0 t) (iblk m c 1 t) (iblk m c 2 t) (iblk m c 3 t) (iblk m c 4 t) (iblk m c 5 t) (iblk m c 6 t))
      (View.ld (iblk m c 4 t : Vec Ideal S1x3x2048 .f32) r0_7) (View.ld (iblk m c 4 t : Vec Ideal S1x3x2048 .f32) r0_8)
      (View.ld (iblk m c 6 t : Vec Ideal S2x2048x128 .bf16) r0_9) (View.ld (iblk m c 6 t : Vec Ideal S2x2048x128 .bf16) r0_9)
      (View.ld (iblk m c 6 t : Vec Ideal S2x2048x128 .bf16) r0_10) (ix2 r e) : EReal) = logits (inputs m c) (t.val * 256 + r) e := by
  refine (third_block _ _ _ _ _ _ _ _ r e).trans ?_
  refine Eq.trans ?_ (logits_split (inputs m c) hf (t.val * 256 + r.val) e (fun k => entry (inputs m c).router k e)
    (fun k => entry (inputs m c).router k e - entry (inputs m c).router k e) fun k => real_sub_self (entry_real _ hf.router _ _))
  have h0 : ∀ k : Fin 2048, (View.ld (iblk m c 6 t : Vec Ideal S2x2048x128 .bf16) r0_9 (ix3 (0 : Fin 1) k e) : EReal) = entry (inputs m c).router k e := fun k => by
    rw [ld_r0, block6, part0]
  have h1 : ∀ k : Fin 2048, (View.ld (iblk m c 6 t : Vec Ideal S2x2048x128 .bf16) r0_10 (ix3 (0 : Fin 1) k e) : EReal)
      = entry (inputs m c).router k e - entry (inputs m c).router k e := fun k => by
    rw [ld_r1, block6, part1]
  refine congrArg₂ (fun u v : EReal => u + v) (congrArg₂ (fun u v : EReal => u + v) ?_ ?_) ?_
  · exact Finset.sum_congr rfl fun k _ => congrArg₂ (fun u v : EReal => u * v) (second_apply m c t r k) (h0 k)
  · exact Finset.sum_congr rfl fun k _ => congrArg₂ (fun u v : EReal => u * v)
      (congrArg₂ (fun u v : EReal => u - v) (second_apply m c t r k) (second_apply m c t r k)) (h0 k)
  · exact Finset.sum_congr rfl fun k _ => congrArg₂ (fun u v : EReal => u * v) (second_apply m c t r k) (h1 k)

/-- The normed stream, as an array. -/
abbrev normedArray (c : Dev nD) : S8192x2048.Idx → EReal := fun i => normed (inputs m c) (i 0).val (i 1)

/-- A point writes back its rows of it. -/
theorem flushed7_eq (c : Dev nD) (t : Fin cfg0.N) :
    (dats m 0 c).flushed 7 t = ((cfg0.win 7).blk t).view.read (Elt Ideal) (normedArray m c) := by
  rw [flushed7]
  have ht : t.val < 32 := t.isLt
  obtain ⟨-, -, -, -, -, -, -, ⟨h0, h1⟩, -⟩ := tiles t
  funext j
  obtain ⟨r, l, rfl⟩ : ∃ (r : Fin 256) (l : Fin 2048), j = ix2 r l := ⟨j 0, j 1, eq_ix2 j⟩
  rw [View.read_apply]
  show out0_7 (iblk m c 0 t) (iblk m c 1 t) (iblk m c 2 t) (iblk m c 3 t) (iblk m c 4 t) (iblk m c 5 t) (iblk m c 6 t) (ix2 r l) = normedArray m c _
  unfold out0_7
  rw [View.canon_unit_zero hz2]
  refine (first_apply m c t r l).trans ?_
  refine congrArg₂ (normed (inputs m c)) ?_ (Fin.ext ?_)
  · show t.val * 256 + r.val = win0_7.index t 0 * 256 + 1 * r.val
    rw [h0]; omega
  · show l.val = win0_7.index t 1 * 2048 + 1 * l.val
    rw [h1]; omega

/-- Every index of it lies in the block of one point. -/
theorem covered7 (i : S8192x2048.Idx) : ∃ t : Fin cfg0.N, (cfg0.win 7).flush t = true ∧ i ∈ ((cfg0.win 7).blk t).view.set := by
  have hi0 : (i 0 : Nat) < 8192 := (i 0).isLt
  have hi1 : (i 1 : Nat) < 2048 := (i 1).isLt
  let t : Fin cfg0.N := ⟨(i 0 : Nat) / 256, by rw [show cfg0.N = 32 from N_0]; omega⟩
  have hv : t.val = (i 0 : Nat) / 256 := rfl
  obtain ⟨-, -, -, -, -, -, -, ⟨h0, h1⟩, -⟩ := tiles t
  refine ⟨t, flush0_7 t, ?_⟩
  show i ∈ ((View.whole main_v8_0).slice (win0_7.rect t)).set
  rw [View.set_slice_whole, Rect.mem_set_unit]
  intro a
  match a with
  | ⟨0, _⟩ => show win0_7.index t 0 * 256 ≤ (i 0 : Nat) ∧ (i 0 : Nat) < win0_7.index t 0 * 256 + 256
              rw [h0]; omega
  | ⟨1, _⟩ => show win0_7.index t 1 * 2048 ≤ (i 1 : Nat) ∧ (i 1 : Nat) < win0_7.index t 1 * 2048 + 2048
              rw [h1]; omega

/-- The array after the run. -/
theorem final7_eq (c : Dev nD) : (dats m 0 c).arrAt 7 cfg0.N = normedArray m c :=
  (dats m 0 c).arrAt_eq_of_cover 7 _ (fun t _ => flushed7_eq m c t) covered7

/-- The modulated stream, as an array. -/
abbrev modulatedArray (c : Dev nD) : S8192x2048.Idx → EReal := fun i => modulated (inputs m c) (i 0).val (i 1)

/-- A point writes back its rows of it. -/
theorem flushed8_eq (c : Dev nD) (t : Fin cfg0.N) :
    (dats m 0 c).flushed 8 t = ((cfg0.win 8).blk t).view.read (Elt Ideal) (modulatedArray m c) := by
  rw [flushed8]
  have ht : t.val < 32 := t.isLt
  obtain ⟨-, -, -, -, -, -, -, -, ⟨h0, h1⟩, -⟩ := tiles t
  funext j
  obtain ⟨r, l, rfl⟩ : ∃ (r : Fin 256) (l : Fin 2048), j = ix2 r l := ⟨j 0, j 1, eq_ix2 j⟩
  rw [View.read_apply]
  show out0_8 (iblk m c 0 t) (iblk m c 1 t) (iblk m c 2 t) (iblk m c 3 t) (iblk m c 4 t) (iblk m c 5 t) (iblk m c 6 t) (ix2 r l) = modulatedArray m c _
  unfold out0_8
  rw [View.canon_unit_zero hz2]
  refine (second_apply m c t r l).trans ?_
  refine congrArg₂ (modulated (inputs m c)) ?_ (Fin.ext ?_)
  · show t.val * 256 + r.val = win0_8.index t 0 * 256 + 1 * r.val
    rw [h0]; omega
  · show l.val = win0_8.index t 1 * 2048 + 1 * l.val
    rw [h1]; omega

/-- Every index of it lies in the block of one point. -/
theorem covered8 (i : S8192x2048.Idx) : ∃ t : Fin cfg0.N, (cfg0.win 8).flush t = true ∧ i ∈ ((cfg0.win 8).blk t).view.set := by
  have hi0 : (i 0 : Nat) < 8192 := (i 0).isLt
  have hi1 : (i 1 : Nat) < 2048 := (i 1).isLt
  let t : Fin cfg0.N := ⟨(i 0 : Nat) / 256, by rw [show cfg0.N = 32 from N_0]; omega⟩
  have hv : t.val = (i 0 : Nat) / 256 := rfl
  obtain ⟨-, -, -, -, -, -, -, -, ⟨h0, h1⟩, -⟩ := tiles t
  refine ⟨t, flush0_8 t, ?_⟩
  show i ∈ ((View.whole main_v8_1).slice (win0_8.rect t)).set
  rw [View.set_slice_whole, Rect.mem_set_unit]
  intro a
  match a with
  | ⟨0, _⟩ => show win0_8.index t 0 * 256 ≤ (i 0 : Nat) ∧ (i 0 : Nat) < win0_8.index t 0 * 256 + 256
              rw [h0]; omega
  | ⟨1, _⟩ => show win0_8.index t 1 * 2048 ≤ (i 1 : Nat) ∧ (i 1 : Nat) < win0_8.index t 1 * 2048 + 2048
              rw [h1]; omega

/-- The array after the run. -/
theorem final8_eq (c : Dev nD) : (dats m 0 c).arrAt 8 cfg0.N = modulatedArray m c :=
  (dats m 0 c).arrAt_eq_of_cover 8 _ (fun t _ => flushed8_eq m c t) covered8

/-- The logits, as an array. -/
abbrev logitsArray (c : Dev nD) : S8192x128.Idx → EReal := fun i => logits (inputs m c) (i 0).val (i 1).val

/-- A point writes back its rows of it. -/
theorem flushed9_eq (c : Dev nD) (hf : OutNorm.Finite (inputs m c)) (t : Fin cfg0.N) :
    (dats m 0 c).flushed 9 t = ((cfg0.win 9).blk t).view.read (Elt Ideal) (logitsArray m c) := by
  rw [flushed9]
  have ht : t.val < 32 := t.isLt
  obtain ⟨-, -, -, -, -, -, -, -, -, ⟨h0, h1⟩⟩ := tiles t
  funext j
  obtain ⟨r, l, rfl⟩ : ∃ (r : Fin 256) (l : Fin 128), j = ix2 r l := ⟨j 0, j 1, eq_ix2 j⟩
  rw [View.read_apply]
  show out0_9 (iblk m c 0 t) (iblk m c 1 t) (iblk m c 2 t) (iblk m c 3 t) (iblk m c 4 t) (iblk m c 5 t) (iblk m c 6 t) (ix2 r l) = logitsArray m c _
  unfold out0_9
  rw [View.canon_unit_zero hz2]
  refine (third_apply m c hf t r l).trans ?_
  refine congrArg₂ (logits (inputs m c)) ?_ ?_
  · show t.val * 256 + r.val = win0_9.index t 0 * 256 + 1 * r.val
    rw [h0]; omega
  · show l.val = win0_9.index t 1 * 128 + 1 * l.val
    rw [h1]; omega

/-- Every index of it lies in the block of one point. -/
theorem covered9 (i : S8192x128.Idx) : ∃ t : Fin cfg0.N, (cfg0.win 9).flush t = true ∧ i ∈ ((cfg0.win 9).blk t).view.set := by
  have hi0 : (i 0 : Nat) < 8192 := (i 0).isLt
  have hi1 : (i 1 : Nat) < 128 := (i 1).isLt
  let t : Fin cfg0.N := ⟨(i 0 : Nat) / 256, by rw [show cfg0.N = 32 from N_0]; omega⟩
  have hv : t.val = (i 0 : Nat) / 256 := rfl
  obtain ⟨-, -, -, -, -, -, -, -, -, ⟨h0, h1⟩⟩ := tiles t
  refine ⟨t, flush0_9 t, ?_⟩
  show i ∈ ((View.whole main_v8_2).slice (win0_9.rect t)).set
  rw [View.set_slice_whole, Rect.mem_set_unit]
  intro a
  match a with
  | ⟨0, _⟩ => show win0_9.index t 0 * 256 ≤ (i 0 : Nat) ∧ (i 0 : Nat) < win0_9.index t 0 * 256 + 256
              rw [h0]; omega
  | ⟨1, _⟩ => show win0_9.index t 1 * 128 ≤ (i 1 : Nat) ∧ (i 1 : Nat) < win0_9.index t 1 * 128 + 128
              rw [h1]; omega

/-- The array after the run. -/
theorem final9_eq (c : Dev nD) (hf : OutNorm.Finite (inputs m c)) : (dats m 0 c).arrAt 9 cfg0.N = logitsArray m c :=
  (dats m 0 c).arrAt_eq_of_cover 9 _ (fun t _ => flushed9_eq m c hf t) covered9

end Cert.OutProjIdeal.Value

end
-- ==== Proof.OutProjReference.lean ====
/-
  The output projection's reference, read at an index.
-/
module

public import proofs.«01_k».proof.Proof.Gen.OutProjRefIdeal.Read
public import proofs.«01_k».proof.Proof.PadEntry
public import Idealize.ShloMosaic.Lib.IdealHost
public import Idealize.ShloMosaic.Lib.ValueIdx
public import Idealize.ShloMosaic.Lib.Pipeline.Value

@[expose] public section

set_option maxRecDepth 16384

noncomputable section

namespace Cert.OutProjRefIdeal.Read

open Idealize.ShloMosaic
open Cert.OutProjRefIdeal Cert.OutProjRefIdeal.Gen Idealize.ShloMosaic.ValueIdx Cert.Attention Cert.Moe Cert.PostNorm

variable (x0 x1 : S8192x1024.Idx → EReal) (x2 : S2048x2048.Idx → EReal) (x3 : S8192x2048.Idx → EReal) (x4 : S4x3x2048.Idx → EReal)
    (x5 : S2x2048.Idx → EReal) (x6 : S2048x16.Idx → EReal)

/-- The arguments, as the projection's inputs. -/
abbrev inputs : OutNorm.Inputs := ⟨x0, x1, x2, x3, x4, x5, x6⟩

/-- The left half of the two parts side by side. -/
theorem left_eq (n : Fin 8192) (k : Fin 1024) (K : Fin 2048) (hK : K.val = k.val) :
    (val_main_v2 (F := Ideal) x0 x1 (ix2 n K) : EReal) = entry x0 n k := by
  unfold val_main_v2
  refine (concatenate_pair_apply_left (t := S8192x2048) (s₁ := S8192x1024) (s₂ := S8192x1024) 1 _ _ _ (ix2 n K) rfl (ix2 n k) (fun a => match a with
    | ⟨0, _⟩ => rfl | ⟨1, _⟩ => hK.symm)).trans ?_
  exact eq_entry x0 _ _ _ rfl rfl

/-- The right half. -/
theorem right_eq (n : Fin 8192) (k : Fin 1024) (K : Fin 2048) (hK : K.val = 1024 + k.val) :
    (val_main_v2 (F := Ideal) x0 x1 (ix2 n K) : EReal) = entry x1 n k := by
  unfold val_main_v2
  refine (concatenate_pair_apply_right (t := S8192x2048) (s₁ := S8192x1024) (s₂ := S8192x1024) 1 _ _ _ (ix2 n K) rfl rfl (ix2 n k) (fun a ha => match a with
    | ⟨0, _⟩ => rfl | ⟨1, _⟩ => absurd rfl ha) (by show k.val + 1024 = K.val; omega)).trans ?_
  exact eq_entry x1 _ _ _ rfl rfl

/-- The projection of the attention's output. -/
theorem projected_eq (i : S8192x2048.Idx) :
    (val_main_v4 (F := Ideal) x0 x1 x2 i : EReal) = OutNorm.projected (inputs x0 x1 x2 x3 x4 x5 x6) (i 0) (i 1) := by
  rw [val_main_v4_apply]
  refine (Fin.sum_univ_add (a := 1024) (b := 1024) _).trans ?_
  unfold OutNorm.projected
  refine congrArg₂ (fun u v : EReal => u + v) (Finset.sum_congr rfl fun k _ => ?_) (Finset.sum_congr rfl fun k _ => ?_)
  · refine congrArg₂ (fun u v : EReal => u * v) ?_ ?_
    · exact (congrArg (val_main_v2 (F := Ideal) x0 x1) (eq_ix2 _)).trans (left_eq x0 x1 (i 0) k _ rfl)
    · rw [val_main_v3_apply]
      exact eq_entry x2 _ _ _ rfl rfl
  · refine congrArg₂ (fun u v : EReal => u * v) ?_ ?_
    · exact (congrArg (val_main_v2 (F := Ideal) x0 x1) (eq_ix2 _)).trans (right_eq x0 x1 (i 0) k _ rfl)
    · rw [val_main_v3_apply]
      exact eq_entry x2 _ _ _ rfl rfl

/-- The residual stream with the gated projection added. -/
theorem stream_eq (i : S4x2048x2048.Idx) :
    val_main_v21 (F := Ideal) x0 x1 x2 x3 x4 i = OutNorm.stream (inputs x0 x1 x2 x3 x4 x5 x6) ((i 0).val * 2048 + (i 1).val) (i 2) := by
  have h1 : (i 1).val < 2048 := (i 1).isLt; have h2 : (i 2).val < 2048 := (i 2).isLt
  have e0 : ((i 0).val * 2048 + (i 1).val) / 2048 = (i 0).val := by omega
  unfold OutNorm.stream
  rw [val_main_v21_apply, val_main_v18_apply, val_main_v20_apply, val_main_v17_apply, val_main_v15_apply, val_main_v14_apply,
    val_main_cst_apply, val_main_v8_apply, val_main_v19_apply, val_main_v5_apply, val_main_v9_apply, projected_eq x0 x1 x2 x3 x4 x5 x6, e0]
  refine congrArg₂ (fun u v : EReal => u + v) (congrArg₂ (fun u v : EReal => u * v) alpha_host ?_) (congrArg₂ (fun u v : EReal => u * v) ?_ ?_)
  · refine eq_entry x3 _ _ _ ?_ ?_
    · show (((i 0).val * 2048 + (i 1).val) * 2048 + (i 2).val) / 2048 = _; omega
    · show (((i 0).val * 2048 + (i 1).val) * 2048 + (i 2).val) % 2048 = _; omega
  · exact eq_entry3 x4 _ _ _ _ rfl rfl rfl
  · refine congrArg₂ (OutNorm.projected (inputs x0 x1 x2 x3 x4 x5 x6)) ?_ ?_
    · show (((i 0).val * 2048 + (i 1).val) * 2048 + (i 2).val) / 2048 = _; omega
    · show (((i 0).val * 2048 + (i 1).val) * 2048 + (i 2).val) % 2048 = _; omega

/-- The row of the residual stream an index lies in. -/
abbrev row (b t : ℕ) : Fin 2048 → EReal := fun k => OutNorm.stream (inputs x0 x1 x2 x3 x4 x5 x6) (b * 2048 + t) k

/-- The rows' means. -/
theorem mean_eq (i : S4x2048x1.Idx) : val_main_v25 (F := Ideal) x0 x1 x2 x3 x4 i = mean (row x0 x1 x2 x3 x4 x5 x6 (i 0) (i 1)) := by
  rw [val_main_v25_apply, val_main_v23_apply, val_main_v22_apply, val_main_v24_apply, val_main_cst_3_apply, val_main_cst_2_apply]
  refine congrArg₂ Ideal.div ((congrArg (fun z : EReal => z + _) Ideal.ofBits_zero_f32).trans ((zero_add _).trans ?_)) rfl
  exact Finset.sum_congr rfl fun k _ => stream_eq x0 x1 x2 x3 x4 x5 x6 _

/-- The rows without their means. -/
theorem centred_eq (i : S4x2048x2048.Idx) : val_main_v27 (F := Ideal) x0 x1 x2 x3 x4 i
    = row x0 x1 x2 x3 x4 x5 x6 (i 0) (i 1) (i 2) - mean (row x0 x1 x2 x3 x4 x5 x6 (i 0) (i 1)) := by
  rw [val_main_v27_apply, stream_eq x0 x1 x2 x3 x4 x5 x6, val_main_v26_apply, mean_eq x0 x1 x2 x3 x4 x5 x6]
  rfl

/-- The rows' variances. -/
theorem variance_eq (i : S4x2048x1.Idx) : val_main_v32 (F := Ideal) x0 x1 x2 x3 x4 i = variance (row x0 x1 x2 x3 x4 x5 x6 (i 0) (i 1)) := by
  rw [val_main_v32_apply, val_main_v30_apply, val_main_v29_apply, val_main_v31_apply, val_main_cst_5_apply, val_main_cst_4_apply]
  refine congrArg₂ Ideal.div ((congrArg (fun z : EReal => z + _) Ideal.ofBits_zero_f32).trans ((zero_add _).trans ?_)) rfl
  refine Finset.sum_congr rfl fun k _ => ?_
  rw [val_main_v28_apply, centred_eq x0 x1 x2 x3 x4 x5 x6]
  rfl

/-- The rows brought to mean zero and variance one. -/
theorem normal_eq (i : S4x2048x2048.Idx) :
    val_main_v39 (F := Ideal) x0 x1 x2 x3 x4 i = normal (row x0 x1 x2 x3 x4 x5 x6 (i 0) (i 1)) (i 2) := by
  rw [val_main_v39_apply, val_main_v34_apply, stream_eq x0 x1 x2 x3 x4 x5 x6, val_main_v33_apply, mean_eq x0 x1 x2 x3 x4 x5 x6,
    val_main_v38_apply, val_main_v37_apply, val_main_v36_apply, variance_eq x0 x1 x2 x3 x4 x5 x6, val_main_v35_apply, val_main_v16_apply,
    val_main_cst_0_apply, val_main_cst_1_apply]
  exact congrArg (fun z : EReal => (row x0 x1 x2 x3 x4 x5 x6 (i 0) (i 1) (i 2) - mean (row x0 x1 x2 x3 x4 x5 x6 (i 0) (i 1)))
    * Ideal.rsqrt (variance (row x0 x1 x2 x3 x4 x5 x6 (i 0) (i 1)) + z)) eps_host

/-- The norm's first row of parameters, repeated over the rows. -/
theorem scale_eq (i : S4x2048x2048.Idx) : val_main_v41 (F := Ideal) x5 i = entry x5 0 (i 2) := by
  have h2 : (i 2).val < 2048 := (i 2).isLt
  rw [val_main_v41_apply, val_main_v40_apply, val_main_v11_apply, val_main_v10_apply]
  exact eq_entry x5 _ _ _ rfl (by show (i 2).val % 2048 = _; omega)

/-- The norm's second row of parameters, repeated over the rows. -/
theorem shift_eq (i : S4x2048x2048.Idx) : val_main_v44 (F := Ideal) x5 i = entry x5 1 (i 2) := by
  have h2 : (i 2).val < 2048 := (i 2).isLt
  rw [val_main_v44_apply, val_main_v43_apply, val_main_v13_apply, val_main_v12_apply]
  exact eq_entry x5 _ _ _ rfl (by show (i 2).val % 2048 = _; omega)

/-- The post-norm of the residual stream. -/
theorem normed_eq (i : S4x2048x2048.Idx) :
    (val_main_v45 (F := Ideal) x0 x1 x2 x3 x4 x5 i : EReal) = OutNorm.normed (inputs x0 x1 x2 x3 x4 x5 x6) ((i 0).val * 2048 + (i 1).val) (i 2) := by
  rw [val_main_v45_apply, val_main_v42_apply, normal_eq x0 x1 x2 x3 x4 x5 x6, scale_eq, shift_eq]
  rfl

/-- The stream scaled and shifted. -/
theorem modulated_eq (i : S4x2048x2048.Idx) :
    (val_main_v51 (F := Ideal) x0 x1 x2 x3 x4 x5 i : EReal) = OutNorm.modulated (inputs x0 x1 x2 x3 x4 x5 x6) ((i 0).val * 2048 + (i 1).val) (i 2) := by
  have h1 : (i 1).val < 2048 := (i 1).isLt
  have e0 : ((i 0).val * 2048 + (i 1).val) / 2048 = (i 0).val := by omega
  rw [val_main_v51_apply, val_main_v49_apply, normed_eq x0 x1 x2 x3 x4 x5 x6, val_main_v48_apply, val_main_v47_apply, val_main_v46_apply,
    val_main_cst_6_apply, val_main_v7_apply, val_main_v50_apply, val_main_v6_apply]
  unfold OutNorm.modulated
  rw [e0]
  refine congrArg₂ (fun u v : EReal => u + v) (congrArg (fun u : EReal => OutNorm.normed (inputs x0 x1 x2 x3 x4 x5 x6) ((i 0).val * 2048 + (i 1).val) (i 2) * u)
    (congrArg₂ (fun u v : EReal => u + v) Ideal.ofBits_one_f32 ?_)) ?_
  · exact eq_entry3 x4 _ _ _ _ rfl rfl rfl
  · exact eq_entry3 x4 _ _ _ _ rfl rfl rfl

/-- The first result. -/
theorem first_eq (n : Fin 8192) (d : Fin 2048) :
    (val_main_v55 (F := Ideal) x0 x1 x2 x3 x4 x5 (ix2 n d) : EReal) = OutNorm.normed (inputs x0 x1 x2 x3 x4 x5 x6) n d := by
  have hn := n.isLt; have hd := d.isLt
  rw [val_main_v55_apply, normed_eq x0 x1 x2 x3 x4 x5 x6]
  refine congrArg₂ (OutNorm.normed (inputs x0 x1 x2 x3 x4 x5 x6)) ?_ (Fin.ext ?_)
  · show (n.val * 2048 + d.val) / 4194304 * 2048 + (n.val * 2048 + d.val) / 2048 % 2048 = n.val; omega
  · show (n.val * 2048 + d.val) % 2048 = d.val; omega

/-- The stream scaled and shifted, by row. -/
theorem rows_eq (n : Fin 8192) (d : Fin 2048) :
    (val_main_v52 (F := Ideal) x0 x1 x2 x3 x4 x5 (ix2 n d) : EReal) = OutNorm.modulated (inputs x0 x1 x2 x3 x4 x5 x6) n d := by
  have hn := n.isLt; have hd := d.isLt
  rw [val_main_v52_apply, modulated_eq x0 x1 x2 x3 x4 x5 x6]
  refine congrArg₂ (OutNorm.modulated (inputs x0 x1 x2 x3 x4 x5 x6)) ?_ (Fin.ext ?_)
  · show (n.val * 2048 + d.val) / 4194304 * 2048 + (n.val * 2048 + d.val) / 2048 % 2048 = n.val; omega
  · show (n.val * 2048 + d.val) % 2048 = d.val; omega

/-- The second result. -/
theorem second_eq (n : Fin 8192) (d : Fin 2048) :
    (val_main_v56 (F := Ideal) x0 x1 x2 x3 x4 x5 (ix2 n d) : EReal) = OutNorm.modulated (inputs x0 x1 x2 x3 x4 x5 x6) n d :=
  (val_main_v56_apply (F := Ideal) x0 x1 x2 x3 x4 x5 (ix2 n d)).trans (rows_eq x0 x1 x2 x3 x4 x5 x6 n d)

/-- The product with the router. -/
theorem product_eq (n : Fin 8192) (e : Fin 16) :
    (val_main_v53 (F := Ideal) x0 x1 x2 x3 x4 x5 x6 (ix2 n e) : EReal) = OutNorm.logits (inputs x0 x1 x2 x3 x4 x5 x6) n e := by
  rw [val_main_v53_apply]
  refine Finset.sum_congr rfl fun k _ => congrArg₂ (fun u v : EReal => u * v) ?_ (eq_entry x6 _ _ _ rfl rfl)
  exact (congrArg (val_main_v52 (F := Ideal) x0 x1 x2 x3 x4 x5) (eq_ix2 _)).trans (rows_eq x0 x1 x2 x3 x4 x5 x6 n k)

/-- The third result. -/
theorem third_eq (n : Fin 8192) (e : Fin 128) :
    (val_main_v54 (F := Ideal) x0 x1 x2 x3 x4 x5 x6 (ix2 n e) : EReal) = OutNorm.logits (inputs x0 x1 x2 x3 x4 x5 x6) n e := by
  unfold val_main_v54
  refine (OutNorm.pad_entry (val_main_v53 (F := Ideal) x0 x1 x2 x3 x4 x5 x6) _ _ _ ?_ n e).trans ?_
  · show (((0#32 : BitVec 32).toInt : ℝ) : EReal) = 0
    simp
  · by_cases h : e.val < 16
    · refine (eq_entry (val_main_v53 (F := Ideal) x0 x1 x2 x3 x4 x5 x6) (ix2 n (⟨e.val, h⟩ : Fin 16)) _ _ rfl rfl).symm.trans ?_
      exact product_eq x0 x1 x2 x3 x4 x5 x6 n ⟨e.val, h⟩
    · unfold OutNorm.logits
      unfold entry
      rw [dif_neg fun hh => h hh.2]
      refine (Finset.sum_eq_zero fun k _ => ?_).symm
      rw [dif_neg fun hh => h hh.2, mul_zero]

end Cert.OutProjRefIdeal.Read

end
-- ==== Proof.lean ====
/-
  The claims of this certificate, proved: the programs' frames from the generated runs, and the algebraic claims from the
  values of the kernels and of the references (the modules under Proof/).
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Experts
public import proofs.«01_k».proof.Proof.Gen.Experts.Frame
public import proofs.«01_k».proof.Proof.Gen.ExpertsIdeal
public import proofs.«01_k».proof.Proof.Gen.ExpertsIdeal.Frame
public import proofs.«01_k».proof.Proof.Gen.ExpertsIdeal.Value
public import proofs.«01_k».proof.Proof.Gen.ExpertsRefIdeal
public import proofs.«01_k».proof.Proof.Gen.ExpertsRefIdeal.Run
public import proofs.«01_k».proof.Proof.Gen.ExpertsRefIdeal.Read
public import proofs.«01_k».proof.Proof.Gen.Project
public import proofs.«01_k».proof.Proof.Gen.Project.Frame
public import proofs.«01_k».proof.Proof.Gen.ProjectIdeal
public import proofs.«01_k».proof.Proof.Gen.ProjectIdeal.Frame
public import proofs.«01_k».proof.Proof.Gen.ProjectIdeal.Value
public import proofs.«01_k».proof.Proof.Gen.ProjectRefIdeal
public import proofs.«01_k».proof.Proof.Gen.ProjectRefIdeal.Run
public import proofs.«01_k».proof.Proof.Gen.ProjectRefIdeal.Read
public import proofs.«01_k».proof.Proof.Gen.Combine
public import proofs.«01_k».proof.Proof.Gen.Combine.Frame
public import proofs.«01_k».proof.Proof.Gen.CombineIdeal
public import proofs.«01_k».proof.Proof.Gen.CombineIdeal.Frame
public import proofs.«01_k».proof.Proof.Gen.CombineIdeal.Value
public import proofs.«01_k».proof.Proof.Gen.CombineRefIdeal
public import proofs.«01_k».proof.Proof.Gen.CombineRefIdeal.Run
public import proofs.«01_k».proof.Proof.Gen.CombineRefIdeal.Read
public import proofs.«01_k».proof.Proof.Gen.OutProj
public import proofs.«01_k».proof.Proof.Gen.OutProj.Frame
public import proofs.«01_k».proof.Proof.Gen.OutProjIdeal
public import proofs.«01_k».proof.Proof.Gen.OutProjIdeal.Frame
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.OutProjRefIdeal.Read
public import proofs.«01_k».proof.Proof.Gen.Rope
public import proofs.«01_k».proof.Proof.Gen.Rope.Frame
public import proofs.«01_k».proof.Proof.Gen.RopeIdeal
public import proofs.«01_k».proof.Proof.Gen.RopeIdeal.Frame
public import proofs.«01_k».proof.Proof.Gen.RopeIdeal.Value
public import proofs.«01_k».proof.Proof.Gen.RopeRefIdeal
public import proofs.«01_k».proof.Proof.Gen.RopeRefIdeal.Run
public import proofs.«01_k».proof.Proof.Gen.RopeRefIdeal.Read
public import proofs.«01_k».proof.Proof.Gen.Mix
public import proofs.«01_k».proof.Proof.Gen.Mix.Frame
public import proofs.«01_k».proof.Proof.Gen.MixIdeal
public import proofs.«01_k».proof.Proof.Gen.MixIdeal.Frame
public import proofs.«01_k».proof.Proof.Gen.MixIdeal.Value
public import proofs.«01_k».proof.Proof.Gen.MixRefIdeal
public import proofs.«01_k».proof.Proof.Gen.MixRefIdeal.Run
public import proofs.«01_k».proof.Proof.Gen.MixRefIdeal.Read
public import proofs.«01_k».proof.Proof.Gen.Inverse
public import proofs.«01_k».proof.Proof.Gen.Inverse.Frame
public import proofs.«01_k».proof.Proof.Gen.InverseIdeal
public import proofs.«01_k».proof.Proof.Gen.InverseIdeal.Frame
public import proofs.«01_k».proof.Proof.Gen.InverseIdeal.Value
public import proofs.«01_k».proof.Proof.Gen.InverseRefIdeal
public import proofs.«01_k».proof.Proof.Gen.InverseRefIdeal.Run
public import proofs.«01_k».proof.Proof.Gen.InverseRefIdeal.Read
public import proofs.«01_k».proof.Proof.Gen.Forward
public import proofs.«01_k».proof.Proof.Gen.Forward.Frame
public import proofs.«01_k».proof.Proof.Gen.ForwardIdeal
public import proofs.«01_k».proof.Proof.Gen.ForwardIdeal.Frame
public import proofs.«01_k».proof.Proof.Gen.ForwardIdeal.Value
public import proofs.«01_k».proof.Proof.Gen.ForwardRefIdeal
public import proofs.«01_k».proof.Proof.Gen.ForwardRefIdeal.Run
public import proofs.«01_k».proof.Proof.Gen.ForwardRefIdeal.Read
public import proofs.«01_k».proof.Proof.Gen.Latent
public import proofs.«01_k».proof.Proof.Gen.Latent.Frame
public import proofs.«01_k».proof.Proof.Gen.LatentIdeal
public import proofs.«01_k».proof.Proof.Gen.LatentIdeal.Frame
public import proofs.«01_k».proof.Proof.Gen.LatentIdeal.Value
public import proofs.«01_k».proof.Proof.Gen.LatentRefIdeal
public import proofs.«01_k».proof.Proof.Gen.LatentRefIdeal.Run
public import proofs.«01_k».proof.Proof.Gen.LatentRefIdeal.Read
public import proofs.«01_k».proof.Proof.Gen.Pre_finite_scores
public import proofs.«01_k».proof.Proof.Gen.Pre_finite_inputs
public import proofs.«01_k».proof.Proof.KernelValue
public import proofs.«01_k».proof.Proof.ReferenceValue
public import proofs.«01_k».proof.Proof.FiniteScores
public import proofs.«01_k».proof.Proof.ProjectValue
public import proofs.«01_k».proof.Proof.MoeValue
public import proofs.«01_k».proof.Proof.MoeReference
public import proofs.«01_k».proof.Proof.CombineValue
public import proofs.«01_k».proof.Proof.CombineReference
public import proofs.«01_k».proof.Proof.RopeValue
public import proofs.«01_k».proof.Proof.RopeReference
public import proofs.«01_k».proof.Proof.MixValue
public import proofs.«01_k».proof.Proof.InverseValue
public import proofs.«01_k».proof.Proof.ForwardValue
public import proofs.«01_k».proof.Proof.LatentValue
public import proofs.«01_k».proof.Proof.FiniteInputs
public import proofs.«01_k».proof.Proof.OutProjValue
public import proofs.«01_k».proof.Proof.OutProjReference
public import Idealize.ShloMosaic.Adequacy
public import Idealize.ShloMosaic.Init

@[expose] public section

noncomputable section

namespace Cert.Proof

open Idealize.ShloMosaic Idealize.SL.Sem

/-- The MLA attention reference runs, keeps its arguments and has no semaphore to leave raised. -/
theorem frame_ReferenceIdeal : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The experts reference runs, keeps its arguments and has no semaphore to leave raised. -/
theorem frame_ExpertsRefIdeal : Cert.quiescent_ExpertsRefIdeal (hExpertsRefIdeal := Cert.ExpertsRefIdeal.Gen.facts) := fun m ρ _ =>
  (θ_run Cert.ExpertsRefIdeal.defs _ _).mono (fun r h => ⟨fun c => (h c).2, sem_eq_zero_of_no_sems (by decide) r.2⟩)
    (Cert.ExpertsRefIdeal.Value.run (F := Ideal) m ρ)

/-- The projection reference runs, keeps its arguments and has no semaphore to leave raised. -/
theorem frame_ProjectRefIdeal : Cert.quiescent_ProjectRefIdeal (hProjectRefIdeal := Cert.ProjectRefIdeal.Gen.facts) := fun m ρ _ =>
  (θ_run Cert.ProjectRefIdeal.defs _ _).mono (fun r h => ⟨fun c => (h c).2, sem_eq_zero_of_no_sems (by decide) r.2⟩)
    (Cert.ProjectRefIdeal.Value.run (F := Ideal) m ρ)

/-- The combination reference runs, keeps its arguments and has no semaphore to leave raised. -/
theorem frame_CombineRefIdeal : Cert.quiescent_CombineRefIdeal (hCombineRefIdeal := Cert.CombineRefIdeal.Gen.facts) := fun m ρ _ =>
  (θ_run Cert.CombineRefIdeal.defs _ _).mono (fun r h => ⟨fun c => (h c).2, sem_eq_zero_of_no_sems (by decide) r.2⟩)
    (Cert.CombineRefIdeal.Value.run (F := Ideal) m ρ)

/-- The output projection reference runs, keeps its arguments and has no semaphore to leave raised. -/
theorem frame_OutProjRefIdeal : Cert.quiescent_OutProjRefIdeal (hOutProjRefIdeal := Cert.OutProjRefIdeal.Gen.facts) := fun m ρ _ =>
  (θ_run Cert.OutProjRefIdeal.defs _ _).mono (fun r h => ⟨fun c => (h c).2.2.2, sem_eq_zero_of_no_sems (by decide) r.2⟩)
    (Cert.OutProjRefIdeal.Value.run (F := Ideal) m ρ)

/-- The rotary projection reference runs, keeps its arguments and has no semaphore to leave raised. -/
theorem frame_RopeRefIdeal : Cert.quiescent_RopeRefIdeal (hRopeRefIdeal := Cert.RopeRefIdeal.Gen.facts) := fun m ρ _ =>
  (θ_run Cert.RopeRefIdeal.defs _ _).mono (fun r h => ⟨fun c => (h c).2, sem_eq_zero_of_no_sems (by decide) r.2⟩)
    (Cert.RopeRefIdeal.Value.run (F := Ideal) m ρ)

/-- The sequence mixing reference runs, keeps its arguments and has no semaphore to leave raised. -/
theorem frame_MixRefIdeal : Cert.quiescent_MixRefIdeal (hMixRefIdeal := Cert.MixRefIdeal.Gen.facts) := fun m ρ _ =>
  (θ_run Cert.MixRefIdeal.defs _ _).mono (fun r h => ⟨fun c => (h c).2, sem_eq_zero_of_no_sems (by decide) r.2⟩)
    (Cert.MixRefIdeal.Value.run (F := Ideal) m ρ)

/-- The inverse transform reference runs, keeps its arguments and has no semaphore to leave raised. -/
theorem frame_InverseRefIdeal : Cert.quiescent_InverseRefIdeal (hInverseRefIdeal := Cert.InverseRefIdeal.Gen.facts) := fun m ρ _ =>
  (θ_run Cert.InverseRefIdeal.defs _ _).mono (fun r h => ⟨fun c => (h c).2, sem_eq_zero_of_no_sems (by decide) r.2⟩)
    (Cert.InverseRefIdeal.Value.run (F := Ideal) m ρ)

/-- The forward transform reference runs, keeps its arguments and has no semaphore to leave raised. -/
theorem frame_ForwardRefIdeal : Cert.quiescent_ForwardRefIdeal (hForwardRefIdeal := Cert.ForwardRefIdeal.Gen.facts) := fun m ρ _ =>
  (θ_run Cert.ForwardRefIdeal.defs _ _).mono (fun r h => ⟨fun c => (h c).2, sem_eq_zero_of_no_sems (by decide) r.2⟩)
    (Cert.ForwardRefIdeal.Value.run (F := Ideal) m ρ)

/-- The latent up-projection reference runs, keeps its arguments and has no semaphore to leave raised. -/
theorem frame_LatentRefIdeal : Cert.quiescent_LatentRefIdeal (hLatentRefIdeal := Cert.LatentRefIdeal.Gen.facts) := fun m ρ _ =>
  (θ_run Cert.LatentRefIdeal.defs _ _).mono (fun r h => ⟨fun c => (h c).2, sem_eq_zero_of_no_sems (by decide) r.2⟩)
    (Cert.LatentRefIdeal.Value.run (F := Ideal) m ρ)

/-- The MLA attention: kernel and reference end with the attention's result, where the scores' inputs are finite. -/
theorem algebraic_attention :
    Cert.algebraic_KernelIdeal_ReferenceIdeal_pre_finite_scores (hKernelIdeal := Cert.KernelIdeal.Gen.facts)
      (hReferenceIdeal := Cert.ReferenceIdeal.Gen.facts) (hPre_finite_scores := Cert.Pre_finite_scores.Gen.facts) := by
  intro m ρ m' ρ' hpre hag
  refine ⟨fun c => Cert.KernelIdeal.Value.attention m c, ?_, ?_⟩
  · exact (θ_run Cert.KernelIdeal.defs _ _).mono
      (fun _ h c => ⟨(h c).1.trans (Cert.KernelIdeal.Value.final_eq m c), (h c).2⟩) (Cert.KernelIdeal.Value.run_blocks m ρ)
  · refine (θ_run Cert.ReferenceIdeal.defs _ _).mono (fun _ h c => ⟨(h c).1.trans ?_, (h c).2⟩)
      (Cert.ReferenceIdeal.Value.run m' ρ')
    have hf := Cert.FiniteScores.finite _ _ _ _ (hpre c)
    obtain ⟨h0, h1, h2, h3⟩ := hag c
    rw [Cert.ReferenceIdeal.Read.val_main_v48_eq m' c, h0, h1, h2, h3]
    exact funext fun i => Cert.ReferenceIdeal.Read.result_eq _ _ _ _ hf i

/-- The projection: kernel and reference end with the matrix product. -/
theorem algebraic_projection :
    Cert.algebraic_ProjectIdeal_ProjectRefIdeal (hProjectIdeal := Cert.ProjectIdeal.Gen.facts)
      (hProjectRefIdeal := Cert.ProjectRefIdeal.Gen.facts) := by
  intro m ρ m' ρ' _ hag
  refine ⟨fun c => Cert.ProjectIdeal.Value.product m c, ?_, ?_⟩
  · exact (θ_run Cert.ProjectIdeal.defs _ _).mono
      (fun _ h c => ⟨(h c).1.trans (Cert.ProjectIdeal.Value.final_eq m c), (h c).2⟩) (Cert.ProjectIdeal.Value.run_blocks m ρ)
  · refine (θ_run Cert.ProjectRefIdeal.defs _ _).mono (fun _ h c => ⟨(h c).1.trans ?_, (h c).2⟩)
      (Cert.ProjectRefIdeal.Value.run m' ρ')
    obtain ⟨h0, h1⟩ := hag c
    rw [h0, h1]
    exact funext fun i => Cert.ProjectRefIdeal.Read.product_eq _ _ i

/-- The experts: kernel and reference end with every expert's output. -/
theorem algebraic_experts :
    Cert.algebraic_ExpertsIdeal_ExpertsRefIdeal (hExpertsIdeal := Cert.ExpertsIdeal.Gen.facts)
      (hExpertsRefIdeal := Cert.ExpertsRefIdeal.Gen.facts) := by
  intro m ρ m' ρ' _ hag
  refine ⟨fun c => Cert.ExpertsIdeal.Value.experts m c, ?_, ?_⟩
  · exact (θ_run Cert.ExpertsIdeal.defs _ _).mono
      (fun _ h c => ⟨(h c).1.trans (Cert.ExpertsIdeal.Value.final_eq m c), (h c).2⟩) (Cert.ExpertsIdeal.Value.run_blocks m ρ)
  · refine (θ_run Cert.ExpertsRefIdeal.defs _ _).mono (fun _ h c => ⟨(h c).1.trans ?_, (h c).2⟩)
      (Cert.ExpertsRefIdeal.Value.run m' ρ')
    obtain ⟨h0, h1, h2, h3⟩ := hag c
    rw [h0, h1, h2, h3]
    exact funext fun i => Cert.ExpertsRefIdeal.Read.experts_eq _ _ _ _ i

/-- The combination: kernel and reference end with the layer's result. -/
theorem algebraic_combination :
    Cert.algebraic_CombineIdeal_CombineRefIdeal (hCombineIdeal := Cert.CombineIdeal.Gen.facts)
      (hCombineRefIdeal := Cert.CombineRefIdeal.Gen.facts) := by
  intro m ρ m' ρ' _ hag
  refine ⟨fun c => Cert.CombineIdeal.Value.result m c, ?_, ?_⟩
  · exact (θ_run Cert.CombineIdeal.defs _ _).mono
      (fun _ h c => ⟨(h c).1.trans (Cert.CombineIdeal.Value.final_eq m c), (h c).2⟩) (Cert.CombineIdeal.Value.run_blocks m ρ)
  · refine (θ_run Cert.CombineRefIdeal.defs _ _).mono (fun _ h c => ⟨(h c).1.trans ?_, (h c).2⟩)
      (Cert.CombineRefIdeal.Value.run m' ρ')
    obtain ⟨h0, h1, h2, h3, h4, h5⟩ := hag c
    rw [Cert.CombineRefIdeal.Read.val_main_v54_eq m' c, h0, h1, h2, h3, h4, h5]
    exact funext fun i => (congrArg _ (ValueIdx.eq_ix2 i)).trans (Cert.CombineRefIdeal.Read.result_eq _ _ _ _ _ _ (i 0) (i 1))

/-- The output projection: kernel and reference end with the normed stream, the modulated stream and the logits, where the arguments are finite. -/
theorem algebraic_outproj :
    Cert.algebraic_OutProjIdeal_OutProjRefIdeal_pre_finite_inputs (hOutProjIdeal := Cert.OutProjIdeal.Gen.facts)
      (hOutProjRefIdeal := Cert.OutProjRefIdeal.Gen.facts) (hPre_finite_inputs := Cert.Pre_finite_inputs.Gen.facts) := by
  intro m ρ m' ρ' hpre hag
  refine ⟨fun c => Cert.OutProjIdeal.Value.normedArray m c, fun c => Cert.OutProjIdeal.Value.modulatedArray m c,
    fun c => Cert.OutProjIdeal.Value.logitsArray m c, ?_, ?_⟩
  · refine (θ_run Cert.OutProjIdeal.defs _ _).mono (fun _ h c => ?_) (Cert.OutProjIdeal.Value.run_blocks m ρ)
    have hf := Cert.FiniteInputs.finite _ _ _ _ _ _ _ (hpre c)
    exact ⟨(h c).1.trans (Cert.OutProjIdeal.Value.final7_eq m c), (h c).2.1.trans (Cert.OutProjIdeal.Value.final8_eq m c),
      (h c).2.2.1.trans (Cert.OutProjIdeal.Value.final9_eq m c hf), (h c).2.2.2⟩
  · refine (θ_run Cert.OutProjRefIdeal.defs _ _).mono (fun _ h c => ⟨(h c).1.trans ?_, (h c).2.1.trans ?_, (h c).2.2.1.trans ?_, (h c).2.2.2⟩)
      (Cert.OutProjRefIdeal.Value.run m' ρ')
    · obtain ⟨h0, h1, h2, h3, h4, h5, h6⟩ := hag c
      rw [Cert.OutProjRefIdeal.Read.val_main_v55_eq m' c, h0, h1, h2, h3, h4, h5]
      exact funext fun i => (congrArg _ (ValueIdx.eq_ix2 i)).trans (Cert.OutProjRefIdeal.Read.first_eq _ _ _ _ _ _ (m (c.tc.loc Cert.OutProjIdeal.main_arg6)) (i 0) (i 1))
    · obtain ⟨h0, h1, h2, h3, h4, h5, h6⟩ := hag c
      rw [Cert.OutProjRefIdeal.Read.val_main_v56_eq m' c, h0, h1, h2, h3, h4, h5]
      exact funext fun i => (congrArg _ (ValueIdx.eq_ix2 i)).trans (Cert.OutProjRefIdeal.Read.second_eq _ _ _ _ _ _ (m (c.tc.loc Cert.OutProjIdeal.main_arg6)) (i 0) (i 1))
    · obtain ⟨h0, h1, h2, h3, h4, h5, h6⟩ := hag c
      rw [Cert.OutProjRefIdeal.Read.val_main_v54_eq m' c, h0, h1, h2, h3, h4, h5, h6]
      exact funext fun i => (congrArg _ (ValueIdx.eq_ix2 i)).trans (Cert.OutProjRefIdeal.Read.third_eq _ _ _ _ _ _ _ (i 0) (i 1))

/-- The rotary projection: kernel and reference end with the projected and rotated array. -/
theorem algebraic_rope :
    Cert.algebraic_RopeIdeal_RopeRefIdeal (hRopeIdeal := Cert.RopeIdeal.Gen.facts)
      (hRopeRefIdeal := Cert.RopeRefIdeal.Gen.facts) := by
  intro m ρ m' ρ' _ hag
  refine ⟨fun c => Cert.RopeIdeal.Value.result m c, ?_, ?_⟩
  · exact (θ_run Cert.RopeIdeal.defs _ _).mono
      (fun _ h c => ⟨(h c).1.trans (Cert.RopeIdeal.Value.final_eq m c), (h c).2⟩) (Cert.RopeIdeal.Value.run_blocks m ρ)
  · refine (θ_run Cert.RopeRefIdeal.defs _ _).mono (fun _ h c => ⟨(h c).1.trans ?_, (h c).2⟩)
      (Cert.RopeRefIdeal.Value.run m' ρ')
    obtain ⟨h0, h1, h2, h3⟩ := hag c
    rw [Cert.RopeRefIdeal.Read.val_main_v63_eq m' c, h0, h1, h2, h3]
    exact funext fun i => (congrArg _ (ValueIdx.eq_ix2 i)).trans (Cert.RopeRefIdeal.Read.result_eq _ _ _ _ (i 0) (i 1))

/-- The combination's two named constants: the printed words round the square root of two and one millionth. -/
theorem preserves_Combine : Cert.preserves_Combine_CombineIdeal :=
  ⟨IdealRules.named_const.statement Cert.CombineIdeal.κ "alpha" .f32 0x3FB504F3#32 ((Real.sqrt 2 : ℝ) : EReal) rfl,
    IdealRules.named_const.statement Cert.CombineIdeal.κ "eps" .f32 0x358637BD#32 ((1 / 1000000 : ℝ) : EReal) rfl⟩

/-- The output projection's two named constants: the printed words round the square root of two and one millionth. -/
theorem preserves_OutProj : Cert.preserves_OutProj_OutProjIdeal :=
  ⟨IdealRules.named_const.statement Cert.OutProjIdeal.κ "alpha" .f32 0x3FB504F3#32 ((Real.sqrt 2 : ℝ) : EReal) rfl,
    IdealRules.named_const.statement Cert.OutProjIdeal.κ "eps" .f32 0x358637BD#32 ((1 / 1000000 : ℝ) : EReal) rfl⟩

/-- The rotary projection's two named constants: the printed words round the reciprocal roots of 192 and 128. -/
theorem preserves_Rope : Cert.preserves_Rope_RopeIdeal :=
  ⟨IdealRules.named_const.statement Cert.RopeIdeal.κ "mla_scale" .f32 0x3D93CD3A#32 (((Real.sqrt 192)⁻¹ : ℝ) : EReal) rfl,
    IdealRules.named_const.statement Cert.RopeIdeal.κ "na_scale" .f32 0x3DB504F3#32 (((Real.sqrt 128)⁻¹ : ℝ) : EReal) rfl⟩

/-- The sequence mixing: kernel and reference end with the same array. -/
theorem algebraic_Mix :
    Cert.algebraic_MixIdeal_MixRefIdeal (hMixIdeal := Cert.MixIdeal.Gen.facts)
      (hMixRefIdeal := Cert.MixRefIdeal.Gen.facts) := by
  intro m ρ m' ρ' _ hag
  refine ⟨fun c => Cert.MixIdeal.Value.result m c, ?_, ?_⟩
  · exact (θ_run Cert.MixIdeal.defs _ _).mono
      (fun _ h c => ⟨(h c).1.trans (Cert.MixIdeal.Value.final_eq m c), (h c).2⟩) (Cert.MixIdeal.Value.run_blocks m ρ)
  · refine (θ_run Cert.MixRefIdeal.defs _ _).mono (fun _ h c => ⟨(h c).1.trans ?_, (h c).2⟩)
      (Cert.MixRefIdeal.Value.run m' ρ')
    obtain ⟨h0, h1, h2, h3⟩ := hag c
    rw [h0, h1, h2, h3]
    exact funext fun i => Cert.MixRefIdeal.Read.result_eq _ _ _ _ i

/-- The inverse transform: kernel and reference end with the same array. -/
theorem algebraic_Inverse :
    Cert.algebraic_InverseIdeal_InverseRefIdeal (hInverseIdeal := Cert.InverseIdeal.Gen.facts)
      (hInverseRefIdeal := Cert.InverseRefIdeal.Gen.facts) := by
  intro m ρ m' ρ' _ hag
  refine ⟨fun c => Cert.InverseIdeal.Value.result m c, ?_, ?_⟩
  · exact (θ_run Cert.InverseIdeal.defs _ _).mono
      (fun _ h c => ⟨(h c).1.trans (Cert.InverseIdeal.Value.final_eq m c), (h c).2⟩) (Cert.InverseIdeal.Value.run_blocks m ρ)
  · refine (θ_run Cert.InverseRefIdeal.defs _ _).mono (fun _ h c => ⟨(h c).1.trans ?_, (h c).2⟩)
      (Cert.InverseRefIdeal.Value.run m' ρ')
    obtain ⟨h0, h1, h2, h3, h4, h5⟩ := hag c
    rw [h0, h1, h2, h3, h4, h5]
    exact funext fun i => Cert.InverseRefIdeal.Read.result_eq _ _ _ _ _ _ i

/-- The forward transform: kernel and reference end with the same array. -/
theorem algebraic_Forward :
    Cert.algebraic_ForwardIdeal_ForwardRefIdeal (hForwardIdeal := Cert.ForwardIdeal.Gen.facts)
      (hForwardRefIdeal := Cert.ForwardRefIdeal.Gen.facts) := by
  intro m ρ m' ρ' _ hag
  refine ⟨fun c => Cert.ForwardIdeal.Value.result m c, ?_, ?_⟩
  · exact (θ_run Cert.ForwardIdeal.defs _ _).mono
      (fun _ h c => ⟨(h c).1.trans (Cert.ForwardIdeal.Value.final_eq m c), (h c).2⟩) (Cert.ForwardIdeal.Value.run_blocks m ρ)
  · refine (θ_run Cert.ForwardRefIdeal.defs _ _).mono (fun _ h c => ⟨(h c).1.trans ?_, (h c).2⟩)
      (Cert.ForwardRefIdeal.Value.run m' ρ')
    obtain ⟨h0, h1, h2, h3, h4⟩ := hag c
    rw [Cert.ForwardRefIdeal.Read.val_main_v43_eq m' c, h0, h1, h2, h3, h4]
    exact funext fun i => Cert.ForwardRefIdeal.Read.result_eq _ _ _ _ _ i

/-- The latent up-projection: kernel and reference end with the same array. -/
theorem algebraic_Latent :
    Cert.algebraic_LatentIdeal_LatentRefIdeal (hLatentIdeal := Cert.LatentIdeal.Gen.facts)
      (hLatentRefIdeal := Cert.LatentRefIdeal.Gen.facts) := by
  intro m ρ m' ρ' _ hag
  refine ⟨fun c => Cert.LatentIdeal.Value.result m c, ?_, ?_⟩
  · exact (θ_run Cert.LatentIdeal.defs _ _).mono
      (fun _ h c => ⟨(h c).1.trans (Cert.LatentIdeal.Value.final_eq m c), (h c).2⟩) (Cert.LatentIdeal.Value.run_blocks m ρ)
  · refine (θ_run Cert.LatentRefIdeal.defs _ _).mono (fun _ h c => ⟨(h c).1.trans ?_, (h c).2⟩)
      (Cert.LatentRefIdeal.Value.run m' ρ')
    obtain ⟨h0, h1, h2⟩ := hag c
    rw [h0, h1, h2]
    exact funext fun i => Cert.LatentRefIdeal.Read.result_eq _ _ _ i

/-- The latent up-projection's named constant: the printed word rounds one millionth. -/
theorem preserves_Latent : Cert.preserves_Latent_LatentIdeal :=
  IdealRules.named_const.statement Cert.LatentIdeal.κ "eps" .f32 0x358637BD#32 ((1 / 1000000 : ℝ) : EReal) rfl

/-- Every claim of the certificate. -/
theorem claim : Cert.Claim :=
  ⟨Cert.Kernel.Gen.facts, Cert.KernelIdeal.Gen.facts, Cert.ReferenceIdeal.Gen.facts, Cert.Experts.Gen.facts, Cert.ExpertsIdeal.Gen.facts, Cert.ExpertsRefIdeal.Gen.facts, Cert.Project.Gen.facts, Cert.ProjectIdeal.Gen.facts, Cert.ProjectRefIdeal.Gen.facts, Cert.Combine.Gen.facts, Cert.CombineIdeal.Gen.facts, Cert.CombineRefIdeal.Gen.facts, Cert.OutProj.Gen.facts, Cert.OutProjIdeal.Gen.facts, Cert.OutProjRefIdeal.Gen.facts, Cert.Rope.Gen.facts, Cert.RopeIdeal.Gen.facts, Cert.RopeRefIdeal.Gen.facts, Cert.Mix.Gen.facts, Cert.MixIdeal.Gen.facts, Cert.MixRefIdeal.Gen.facts, Cert.Inverse.Gen.facts, Cert.InverseIdeal.Gen.facts, Cert.InverseRefIdeal.Gen.facts, Cert.Forward.Gen.facts, Cert.ForwardIdeal.Gen.facts, Cert.ForwardRefIdeal.Gen.facts, Cert.Latent.Gen.facts, Cert.LatentIdeal.Gen.facts, Cert.LatentRefIdeal.Gen.facts, Cert.Pre_finite_scores.Gen.facts, Cert.Pre_finite_inputs.Gen.facts,
    fun m ρ _ => Cert.Kernel.Gen.frame m ρ, fun m ρ _ => Cert.KernelIdeal.Gen.frame m ρ, fun m ρ _ => Cert.KernelIdeal.Gen.frame m ρ,
    frame_ReferenceIdeal, fun m ρ _ => frame_ReferenceIdeal m ρ trivial,
    fun m ρ _ => Cert.Experts.Gen.frame m ρ, fun m ρ _ => Cert.ExpertsIdeal.Gen.frame m ρ, frame_ExpertsRefIdeal,
    fun m ρ _ => Cert.Project.Gen.frame m ρ, fun m ρ _ => Cert.ProjectIdeal.Gen.frame m ρ, frame_ProjectRefIdeal,
    fun m ρ _ => Cert.Combine.Gen.frame m ρ, fun m ρ _ => Cert.CombineIdeal.Gen.frame m ρ, frame_CombineRefIdeal,
    fun m ρ _ => Cert.OutProj.Gen.frame m ρ, fun m ρ _ => Cert.OutProjIdeal.Gen.frame m ρ, fun m ρ _ => Cert.OutProjIdeal.Gen.frame m ρ,
    frame_OutProjRefIdeal, fun m ρ _ => frame_OutProjRefIdeal m ρ trivial,
    fun m ρ _ => Cert.Rope.Gen.frame m ρ, fun m ρ _ => Cert.RopeIdeal.Gen.frame m ρ, frame_RopeRefIdeal,
    fun m ρ _ => Cert.Mix.Gen.frame m ρ, fun m ρ _ => Cert.MixIdeal.Gen.frame m ρ, frame_MixRefIdeal,
    fun m ρ _ => Cert.Inverse.Gen.frame m ρ, fun m ρ _ => Cert.InverseIdeal.Gen.frame m ρ, frame_InverseRefIdeal,
    fun m ρ _ => Cert.Forward.Gen.frame m ρ, fun m ρ _ => Cert.ForwardIdeal.Gen.frame m ρ, frame_ForwardRefIdeal,
    fun m ρ _ => Cert.Latent.Gen.frame m ρ, fun m ρ _ => Cert.LatentIdeal.Gen.frame m ρ, frame_LatentRefIdeal,
    trivial, algebraic_attention, trivial, algebraic_experts, trivial, algebraic_projection,
    preserves_Combine, algebraic_combination,
    preserves_OutProj, algebraic_outproj,
    preserves_Rope, algebraic_rope,
    trivial, algebraic_Mix,
    trivial, algebraic_Inverse,
    trivial, algebraic_Forward,
    preserves_Latent, algebraic_Latent⟩

end Cert.Proof

end
